-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_are_bits [hPre_labels_are_bits : Cert.Pre_labels_are_bits.Facts] (m : (ℓ : Loc Cert.KernelIdeal.nD Cert.KernelIdeal.τ Cert.KernelIdeal.sig) → Buf (Elt Ideal) ℓ) : Prop :=
  ∀ c : Dev Cert.KernelIdeal.nD,
    (Cert.Pre_labels_are_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_are_bits [hPre_labels_are_bits : Cert.Pre_labels_are_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_are_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_are_bits [hKernelIdeal : Cert.KernelIdeal.Facts] [hPre_labels_are_bits : Cert.Pre_labels_are_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_are_bits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_are_bits [hReferenceIdeal : Cert.ReferenceIdeal.Facts] [hPre_labels_are_bits : Cert.Pre_labels_are_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_are_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_are_bits [hKernelIdeal : Cert.KernelIdeal.Facts] [hReferenceIdeal : Cert.ReferenceIdeal.Facts] [hPre_labels_are_bits : Cert.Pre_labels_are_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_are_bits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_are_bits : Cert.Pre_labels_are_bits.Facts),
    quiescent_Kernel (hKernel := hKernel)
    ∧ quiescent_KernelIdeal (hKernelIdeal := hKernelIdeal)
    ∧ quiescent_KernelIdeal_pre_labels_are_bits (hKernelIdeal := hKernelIdeal) (hPre_labels_are_bits := hPre_labels_are_bits)
    ∧ quiescent_ReferenceIdeal (hReferenceIdeal := hReferenceIdeal)
    ∧ quiescent_ReferenceIdeal_pre_labels_are_bits (hReferenceIdeal := hReferenceIdeal) (hPre_labels_are_bits := hPre_labels_are_bits)
    ∧ preserves_Kernel_KernelIdeal
    ∧ algebraic_KernelIdeal_ReferenceIdeal_pre_labels_are_bits (hKernelIdeal := hKernelIdeal) (hReferenceIdeal := hReferenceIdeal) (hPre_labels_are_bits := hPre_labels_are_bits)
-- ==== Pre_labels_are_bits.lean ====
abbrev S16x512x512 : Shape := ⟨3, ![16, 512, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x512x512 .f32) (main_arg1 : IVec S16x512x512 32) : IVec S_ 1 :=
  let main_c : IVec S_ 32 := constantI S_ 32 0#32
  let main_v0 : IVec S16x512x512 32 := broadcastInDim S16x512x512 ![] bcast_S_S16x512x512 main_c
  let main_v1 : IVec S16x512x512 1 := cmpi .sge main_arg1 main_v0
  let main_c_0 : IVec S_ 32 := constantI S_ 32 1#32
  let main_v2 : IVec S16x512x512 32 := broadcastInDim S16x512x512 ![] bcast_S_S16x512x512 main_c_0
  let main_v3 : IVec S16x512x512 1 := cmpi .sle main_arg1 main_v2
  let main_v4 : IVec S16x512x512 1 := andi main_v1 main_v3
  let main_c_1 : IVec S_ 1 := constantI S_ 1 1#1
  let main_v5 : IVec S_ 1 := (fun x v => Host.reduce IntOp.andi x v reducesTo_S16x512x512_S_d0_1_2 h_S_) main_v4 main_c_1
  main_v5
-- ==== Kernel.lean ====
abbrev S16x512x512 : Shape := ⟨3, ![16, 512, 512]⟩
abbrev S32x32x128 : Shape := ⟨3, ![32, 32, 128]⟩
abbrev S32x16 : Shape := ⟨2, ![32, 16]⟩
abbrev S65552 : Shape := ⟨1, ![65552]⟩
abbrev S16x512 : Shape := ⟨2, ![16, 512]⟩
abbrev S32x128 : Shape := ⟨2, ![32, 128]⟩
abbrev S16 : Shape := ⟨1, ![16]⟩
abbrev S_ : Shape := ⟨0, ![]⟩
abbrev S1x16x512 : Shape := ⟨3, ![1, 16, 512]⟩
abbrev S1x16 : Shape := ⟨2, ![1, 16]⟩
abbrev S1x32x128 : Shape := ⟨3, ![1, 32, 128]⟩
abbrev S8x128 : Shape := ⟨2, ![8, 128]⟩
abbrev S128x128 : Shape := ⟨2, ![128, 128]⟩
abbrev S32x32 : Shape := ⟨2, ![32, 32]⟩
abbrev S1x32x16 : Shape := ⟨3, ![1, 32, 16]⟩
abbrev S1 : Shape := ⟨1, ![1]⟩
abbrev S1x1x1 : Shape := ⟨3, ![1, 1, 1]⟩
abbrev S1x1 : Shape := ⟨2, ![1, 1]⟩

abbrev nBuf : Table → Nat
  | .hbm => 8
  | .local .tc .vmem => 4
  | .local .scVector .vmem => 8
  | _ => 0

abbrev bufTy : (tb : Table) → Fin (nBuf tb) → BufTy
  | .hbm, ⟨0, _⟩ => ⟨S16x512x512, .f32⟩
  | .hbm, ⟨1, _⟩ => ⟨S16x512x512, .i32⟩
  | .hbm, ⟨2, _⟩ => ⟨S32x32x128, .i32⟩
  | .hbm, ⟨3, _⟩ => ⟨S32x32x128, .i32⟩
  | .hbm, ⟨4, _⟩ => ⟨S32x16, .i32⟩
  | .hbm, ⟨5, _⟩ => ⟨S8x128, .f32⟩
  | .hbm, ⟨6, _⟩ => ⟨S1x1, .f32⟩
  | .hbm, ⟨7, _⟩ => ⟨S_, .f32⟩
  | .local .tc .vmem, ⟨0, _⟩ => ⟨S32x32x128, .i32⟩
  | .local .tc .vmem, ⟨1, _⟩ => ⟨S32x32x128, .i32⟩
  | .local .tc .vmem, ⟨2, _⟩ => ⟨S32x16, .i32⟩
  | .local .tc .vmem, ⟨3, _⟩ => ⟨S8x128, .f32⟩
  | .local .scVector .vmem, ⟨0, _⟩ => ⟨S65552, .i32⟩
  | .local .scVector .vmem, ⟨1, _⟩ => ⟨S16x512, .f32⟩
  | .local .scVector .vmem, ⟨2, _⟩ => ⟨S16x512, .i32⟩
  | .local .scVector .vmem, ⟨3, _⟩ => ⟨S16x512, .f32⟩
  | .local .scVector .vmem, ⟨4, _⟩ => ⟨S16x512, .i32⟩
  | .local .scVector .vmem, ⟨5, _⟩ => ⟨S32x128, .i32⟩
  | .local .scVector .vmem, ⟨6, _⟩ => ⟨S32x128, .i32⟩
  | .local .scVector .vmem, ⟨7, _⟩ => ⟨S16, .i32⟩
  | _, _ => ⟨S16x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 7
abbrev cc1_sem1_0 : DmaSem sig := 8
abbrev cc1_sem2_0 : DmaSem sig := 9
abbrev cc1_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c4097_i32 : BitVec 32 := 4097#32
  let v4 : BitVec 32 := Scalar.addi c0_i32_1 c4097_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  let c16_i32_357 : BitVec 32 := 16#32
  let v346 : BitVec 32 := Scalar.muli arg19 c16_i32_357
  let v347 : Index := Scalar.indexCast v346
  ![v347.toNat]
def k0_off2 (i : grid0.Coords) (c0_i32_4 : BitVec 32) : Fin 3 → Nat :=
  let arg1 : BitVec 32 := BitVec.ofNat 32 (i 1).val
  let arg0 : BitVec 32 := BitVec.ofNat 32 (i 0).val
  let c256_i32 : BitVec 32 := 256#32
  let v2 : BitVec 32 := Scalar.muli arg0 c256_i32
  let v8 : BitVec 32 := Scalar.addi v2 c0_i32_4
  let c0_i32_5 : BitVec 32 := 0#32
  ![arg1.toNat, v8.toNat, 0]
@[reducible] def k0_t2_loop : Scf.Loop 32 :=
  let c0_i32_18 : BitVec 32 := 0#32
  let c32_i32 : BitVec 32 := 32#32
  let v35 : BitVec 32 := Scalar.addi c0_i32_18 c32_i32
  let c1_i32_19 : BitVec 32 := 1#32
  ⟨c0_i32_18, v35, c1_i32_19⟩
def k0_off3 (k0_t2 : Fin k0_t2_loop.trips) : Fin 2 → Nat :=
  let c0_i32_358 : BitVec 32 := 0#32
  let v347 : Index := Scalar.indexCast c0_i32_358
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v348 : Index := Scalar.indexCast v346
  ![0, v348.toNat]

def k0_chk1 (v374 : IVec S16 32) : Prop :=
  (∀ a x, ((![v374] : Fin 1 → IVec S16 32) a x).toNat < S65552.size a)
theorem k0_idx1_inb : ∀ (v374 : IVec S16 32) (k0_hw1 : k0_chk1 v374), ∀ a x, ((![v374] : Fin 1 → IVec S16 32) a x).toNat < S65552.size a := fun v374 k0_hw1 => k0_hw1
def k0_off4 (k0_t2 : Fin k0_t2_loop.trips) : Fin 2 → Nat :=
  let c1_i32_367 : BitVec 32 := 1#32
  let v375 : Index := Scalar.indexCast c1_i32_367
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v376 : Index := Scalar.indexCast v346
  ![1, v376.toNat]

def k0_chk2 (v402 : IVec S16 32) : Prop :=
  (∀ a x, ((![v402] : Fin 1 → IVec S16 32) a x).toNat < S65552.size a)
theorem k0_idx2_inb : ∀ (v402 : IVec S16 32) (k0_hw2 : k0_chk2 v402), ∀ a x, ((![v402] : Fin 1 → IVec S16 32) a x).toNat < S65552.size a := fun v402 k0_hw2 => k0_hw2
def k0_off5 (k0_t2 : Fin k0_t2_loop.trips) : Fin 2 → Nat :=
  let c2_i32_378 : BitVec 32 := 2#32
  let v403 : Index := Scalar.indexCast c2_i32_378
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v404 : Index := Scalar.indexCast v346
  ![2, v404.toNat]

def k0_chk3 (v430 : IVec S16 32) : Prop :=
  (∀ a x, ((![v430] : Fin 1 → IVec S16 32) a x).toNat < S65552.size a)
theorem k0_idx3_inb : ∀ (v430 : IVec S16 32) (k0_hw3 : k0_chk3 v430), ∀ a x, ((![v430] : Fin 1 → IVec S16 32) a x).toNat < S65552.size a := fun v430 k0_hw3 => k0_hw3
def k0_off6 (k0_t2 : Fin k0_t2_loop.trips) : Fin 2 → Nat :=
  let c3_i32 : BitVec 32 := 3#32
  let v431 : Index := Scalar.indexCast c3_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v432 : Index := Scalar.indexCast v346
  ![3, v432.toNat]

def k0_chk4 (v458 : IVec S16 32) : Prop :=
  (∀ a x, ((![v458] : Fin 1 → IVec S16 32) a x).toNat < S65552.size a)
theorem k0_idx4_inb : ∀ (v458 : IVec S16 32) (k0_hw4 : k0_chk4 v458), ∀ a x, ((![v458] : Fin 1 → IVec S16 32) a x).toNat < S65552.size a := fun v458 k0_hw4 => k0_hw4
def k0_off7 (k0_t2 : Fin k0_t2_loop.trips) : Fin 2 → Nat :=
  let c4_i32 : BitVec 32 := 4#32
  let v459 : Index := Scalar.indexCast c4_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v460 : Index := Scalar.indexCast v346
  ![4, v460.toNat]

def k0_chk5 (v486 : IVec S16 32) : Prop :=
  (∀ a x, ((![v486] : Fin 1 → IVec S16 32) a x).toNat < S65552.size a)
theorem k0_idx5_inb : ∀ (v486 : IVec S16 32) (k0_hw5 : k0_chk5 v486), ∀ a x, ((![v486] : Fin 1 → IVec S16 32) a x).toNat < S65552.size a := fun v486 k0_hw5 => k0_hw5
def k0_off8 (k0_t2 : Fin k0_t2_loop.trips) : Fin 2 → Nat :=
  let c5_i32 : BitVec 32 := 5#32
  let v487 : Index := Scalar.indexCast c5_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v488 : Index := Scalar.indexCast v346
  ![5, v488.toNat]

def k0_chk6 (v514 : IVec S16 32) : Prop :=
  (∀ a x, ((![v514] : Fin 1 → IVec S16 32) a x).toNat < S65552.size a)
theorem k0_idx6_inb : ∀ (v514 : IVec S16 32) (k0_hw6 : k0_chk6 v514), ∀ a x, ((![v514] : Fin 1 → IVec S16 32) a x).toNat < S65552.size a := fun v514 k0_hw6 => k0_hw6
def k0_off9 (k0_t2 : Fin k0_t2_loop.trips) : Fin 2 → Nat :=
  let c6_i32 : BitVec 32 := 6#32
  let v515 : Index := Scalar.indexCast c6_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v516 : Index := Scalar.indexCast v346
  ![6, v516.toNat]

def k0_chk7 (v542 : IVec S16 32) : Prop :=
  (∀ a x, ((![v542] : Fin 1 → IVec S16 32) a x).toNat < S65552.size a)
theorem k0_idx7_inb : ∀ (v542 : IVec S16 32) (k0_hw7 : k0_chk7 v542), ∀ a x, ((![v542] : Fin 1 → IVec S16 32) a x).toNat < S65552.size a := fun v542 k0_hw7 => k0_hw7
def k0_off10 (k0_t2 : Fin k0_t2_loop.trips) : Fin 2 → Nat :=
  let c7_i32 : BitVec 32 := 7#32
  let v543 : Index := Scalar.indexCast c7_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v544 : Index := Scalar.indexCast v346
  ![7, v544.toNat]

def k0_chk8 (v570 : IVec S16 32) : Prop :=
  (∀ a x, ((![v570] : Fin 1 → IVec S16 32) a x).toNat < S65552.size a)
theorem k0_idx8_inb : ∀ (v570 : IVec S16 32) (k0_hw8 : k0_chk8 v570), ∀ a x, ((![v570] : Fin 1 → IVec S16 32) a x).toNat < S65552.size a := fun v570 k0_hw8 => k0_hw8
def k0_off11 (k0_t2 : Fin k0_t2_loop.trips) : Fin 2 → Nat :=
  let c8_i32_439 : BitVec 32 := 8#32
  let v571 : Index := Scalar.indexCast c8_i32_439
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v572 : Index := Scalar.indexCast v346
  ![8, v572.toNat]

def k0_chk9 (v598 : IVec S16 32) : Prop :=
  (∀ a x, ((![v598] : Fin 1 → IVec S16 32) a x).toNat < S65552.size a)
theorem k0_idx9_inb : ∀ (v598 : IVec S16 32) (k0_hw9 : k0_chk9 v598), ∀ a x, ((![v598] : Fin 1 → IVec S16 32) a x).toNat < S65552.size a := fun v598 k0_hw9 => k0_hw9
def k0_off12 (k0_t2 : Fin k0_t2_loop.trips) : Fin 2 → Nat :=
  let c9_i32 : BitVec 32 := 9#32
  let v599 : Index := Scalar.indexCast c9_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v600 : Index := Scalar.indexCast v346
  ![9, v600.toNat]

def k0_chk10 (v626 : IVec S16 32) : Prop :=
  (∀ a x, ((![v626] : Fin 1 → IVec S16 32) a x).toNat < S65552.size a)
theorem k0_idx10_inb : ∀ (v626 : IVec S16 32) (k0_hw10 : k0_chk10 v626), ∀ a x, ((![v626] : Fin 1 → IVec S16 32) a x).toNat < S65552.size a := fun v626 k0_hw10 => k0_hw10
def k0_off13 (k0_t2 : Fin k0_t2_loop.trips) : Fin 2 → Nat :=
  let c10_i32 : BitVec 32 := 10#32
  let v627 : Index := Scalar.indexCast c10_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v628 : Index := Scalar.indexCast v346
  ![10, v628.toNat]

def k0_chk11 (v654 : IVec S16 32) : Prop :=
  (∀ a x, ((![v654] : Fin 1 → IVec S16 32) a x).toNat < S65552.size a)
theorem k0_idx11_inb : ∀ (v654 : IVec S16 32) (k0_hw11 : k0_chk11 v654), ∀ a x, ((![v654] : Fin 1 → IVec S16 32) a x).toNat < S65552.size a := fun v654 k0_hw11 => k0_hw11
def k0_off14 (k0_t2 : Fin k0_t2_loop.trips) : Fin 2 → Nat :=
  let c11_i32 : BitVec 32 := 11#32
  let v655 : Index := Scalar.indexCast c11_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v656 : Index := Scalar.indexCast v346
  ![11, v656.toNat]

def k0_chk12 (v682 : IVec S16 32) : Prop :=
  (∀ a x, ((![v682] : Fin 1 → IVec S16 32) a x).toNat < S65552.size a)
theorem k0_idx12_inb : ∀ (v682 : IVec S16 32) (k0_hw12 : k0_chk12 v682), ∀ a x, ((![v682] : Fin 1 → IVec S16 32) a x).toNat < S65552.size a := fun v682 k0_hw12 => k0_hw12
def k0_off15 (k0_t2 : Fin k0_t2_loop.trips) : Fin 2 → Nat :=
  let c12_i32 : BitVec 32 := 12#32
  let v683 : Index := Scalar.indexCast c12_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v684 : Index := Scalar.indexCast v346
  ![12, v684.toNat]

def k0_chk13 (v710 : IVec S16 32) : Prop :=
  (∀ a x, ((![v710] : Fin 1 → IVec S16 32) a x).toNat < S65552.size a)
theorem k0_idx13_inb : ∀ (v710 : IVec S16 32) (k0_hw13 : k0_chk13 v710), ∀ a x, ((![v710] : Fin 1 → IVec S16 32) a x).toNat < S65552.size a := fun v710 k0_hw13 => k0_hw13
def k0_off16 (k0_t2 : Fin k0_t2_loop.trips) : Fin 2 → Nat :=
  let c13_i32 : BitVec 32 := 13#32
  let v711 : Index := Scalar.indexCast c13_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v712 : Index := Scalar.indexCast v346
  ![13, v712.toNat]

def k0_chk14 (v738 : IVec S16 32) : Prop :=
  (∀ a x, ((![v738] : Fin 1 → IVec S16 32) a x).toNat < S65552.size a)
theorem k0_idx14_inb : ∀ (v738 : IVec S16 32) (k0_hw14 : k0_chk14 v738), ∀ a x, ((![v738] : Fin 1 → IVec S16 32) a x).toNat < S65552.size a := fun v738 k0_hw14 => k0_hw14
def k0_off17 (k0_t2 : Fin k0_t2_loop.trips) : Fin 2 → Nat :=
  let c14_i32 : BitVec 32 := 14#32
  let v739 : Index := Scalar.indexCast c14_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v740 : Index := Scalar.indexCast v346
  ![14, v740.toNat]

def k0_chk15 (v766 : IVec S16 32) : Prop :=
  (∀ a x, ((![v766] : Fin 1 → IVec S16 32) a x).toNat < S65552.size a)
theorem k0_idx15_inb : ∀ (v766 : IVec S16 32) (k0_hw15 : k0_chk15 v766), ∀ a x, ((![v766] : Fin 1 → IVec S16 32) a x).toNat < S65552.size a := fun v766 k0_hw15 => k0_hw15
def k0_off18 (k0_t2 : Fin k0_t2_loop.trips) : Fin 2 → Nat :=
  let c15_i32 : BitVec 32 := 15#32
  let v767 : Index := Scalar.indexCast c15_i32
  let c0_i32_18 : BitVec 32 := 0#32
  let c1_i32_19 : BitVec 32 := 1#32
  let arg19 : BitVec 32 := Scf.iv c0_i32_18 c1_i32_19 k0_t2
  let c16_i32_357 : BitVec 32 := 16#32
  let v346 : BitVec 32 := Scalar.muli arg19 c16_i32_357
  let v768 : Index := Scalar.indexCast v346
  ![15, v768.toNat]

def k0_chk16 (v794 : IVec S16 32) : Prop :=
  (∀ a x, ((![v794] : Fin 1 → IVec S16 32) a x).toNat < S65552.size a)
theorem k0_idx16_inb : ∀ (v794 : IVec S16 32) (k0_hw16 : k0_chk16 v794), ∀ a x, ((![v794] : Fin 1 → IVec S16 32) a x).toNat < S65552.size a := fun v794 k0_hw16 => k0_hw16
@[reducible] def k0_t3_loop : Scf.Loop 32 :=
  let c0_i32_30 : BitVec 32 := 0#32
  let c32_i32_31 : BitVec 32 := 32#32
  let v54 : BitVec 32 := Scalar.addi c0_i32_30 c32_i32_31
  let c1_i32_32 : BitVec 32 := 1#32
  ⟨c0_i32_30, v54, c1_i32_32⟩
def k0_off19 (k0_t3 : Fin k0_t3_loop.trips) : Fin 2 → Nat :=
  let c0_i32_358 : BitVec 32 := 0#32
  let v347 : Index := Scalar.indexCast c0_i32_358
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v348 : Index := Scalar.indexCast v346
  ![0, v348.toNat]

def k0_chk17 (v374 : IVec S16 32) : Prop :=
  (∀ a x, ((![v374] : Fin 1 → IVec S16 32) a x).toNat < S65552.size a)
theorem k0_idx17_inb : ∀ (v374 : IVec S16 32) (k0_hw17 : k0_chk17 v374), ∀ a x, ((![v374] : Fin 1 → IVec S16 32) a x).toNat < S65552.size a := fun v374 k0_hw17 => k0_hw17
def k0_off20 (k0_t3 : Fin k0_t3_loop.trips) : Fin 2 → Nat :=
  let c1_i32_367 : BitVec 32 := 1#32
  let v375 : Index := Scalar.indexCast c1_i32_367
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v376 : Index := Scalar.indexCast v346
  ![1, v376.toNat]

def k0_chk18 (v402 : IVec S16 32) : Prop :=
  (∀ a x, ((![v402] : Fin 1 → IVec S16 32) a x).toNat < S65552.size a)
theorem k0_idx18_inb : ∀ (v402 : IVec S16 32) (k0_hw18 : k0_chk18 v402), ∀ a x, ((![v402] : Fin 1 → IVec S16 32) a x).toNat < S65552.size a := fun v402 k0_hw18 => k0_hw18
def k0_off21 (k0_t3 : Fin k0_t3_loop.trips) : Fin 2 → Nat :=
  let c2_i32_378 : BitVec 32 := 2#32
  let v403 : Index := Scalar.indexCast c2_i32_378
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v404 : Index := Scalar.indexCast v346
  ![2, v404.toNat]

def k0_chk19 (v430 : IVec S16 32) : Prop :=
  (∀ a x, ((![v430] : Fin 1 → IVec S16 32) a x).toNat < S65552.size a)
theorem k0_idx19_inb : ∀ (v430 : IVec S16 32) (k0_hw19 : k0_chk19 v430), ∀ a x, ((![v430] : Fin 1 → IVec S16 32) a x).toNat < S65552.size a := fun v430 k0_hw19 => k0_hw19
def k0_off22 (k0_t3 : Fin k0_t3_loop.trips) : Fin 2 → Nat :=
  let c3_i32 : BitVec 32 := 3#32
  let v431 : Index := Scalar.indexCast c3_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v432 : Index := Scalar.indexCast v346
  ![3, v432.toNat]

def k0_chk20 (v458 : IVec S16 32) : Prop :=
  (∀ a x, ((![v458] : Fin 1 → IVec S16 32) a x).toNat < S65552.size a)
theorem k0_idx20_inb : ∀ (v458 : IVec S16 32) (k0_hw20 : k0_chk20 v458), ∀ a x, ((![v458] : Fin 1 → IVec S16 32) a x).toNat < S65552.size a := fun v458 k0_hw20 => k0_hw20
def k0_off23 (k0_t3 : Fin k0_t3_loop.trips) : Fin 2 → Nat :=
  let c4_i32 : BitVec 32 := 4#32
  let v459 : Index := Scalar.indexCast c4_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v460 : Index := Scalar.indexCast v346
  ![4, v460.toNat]

def k0_chk21 (v486 : IVec S16 32) : Prop :=
  (∀ a x, ((![v486] : Fin 1 → IVec S16 32) a x).toNat < S65552.size a)
theorem k0_idx21_inb : ∀ (v486 : IVec S16 32) (k0_hw21 : k0_chk21 v486), ∀ a x, ((![v486] : Fin 1 → IVec S16 32) a x).toNat < S65552.size a := fun v486 k0_hw21 => k0_hw21
def k0_off24 (k0_t3 : Fin k0_t3_loop.trips) : Fin 2 → Nat :=
  let c5_i32 : BitVec 32 := 5#32
  let v487 : Index := Scalar.indexCast c5_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v488 : Index := Scalar.indexCast v346
  ![5, v488.toNat]

def k0_chk22 (v514 : IVec S16 32) : Prop :=
  (∀ a x, ((![v514] : Fin 1 → IVec S16 32) a x).toNat < S65552.size a)
theorem k0_idx22_inb : ∀ (v514 : IVec S16 32) (k0_hw22 : k0_chk22 v514), ∀ a x, ((![v514] : Fin 1 → IVec S16 32) a x).toNat < S65552.size a := fun v514 k0_hw22 => k0_hw22
def k0_off25 (k0_t3 : Fin k0_t3_loop.trips) : Fin 2 → Nat :=
  let c6_i32 : BitVec 32 := 6#32
  let v515 : Index := Scalar.indexCast c6_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v516 : Index := Scalar.indexCast v346
  ![6, v516.toNat]

def k0_chk23 (v542 : IVec S16 32) : Prop :=
  (∀ a x, ((![v542] : Fin 1 → IVec S16 32) a x).toNat < S65552.size a)
theorem k0_idx23_inb : ∀ (v542 : IVec S16 32) (k0_hw23 : k0_chk23 v542), ∀ a x, ((![v542] : Fin 1 → IVec S16 32) a x).toNat < S65552.size a := fun v542 k0_hw23 => k0_hw23
def k0_off26 (k0_t3 : Fin k0_t3_loop.trips) : Fin 2 → Nat :=
  let c7_i32 : BitVec 32 := 7#32
  let v543 : Index := Scalar.indexCast c7_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v544 : Index := Scalar.indexCast v346
  ![7, v544.toNat]

def k0_chk24 (v570 : IVec S16 32) : Prop :=
  (∀ a x, ((![v570] : Fin 1 → IVec S16 32) a x).toNat < S65552.size a)
theorem k0_idx24_inb : ∀ (v570 : IVec S16 32) (k0_hw24 : k0_chk24 v570), ∀ a x, ((![v570] : Fin 1 → IVec S16 32) a x).toNat < S65552.size a := fun v570 k0_hw24 => k0_hw24
def k0_off27 (k0_t3 : Fin k0_t3_loop.trips) : Fin 2 → Nat :=
  let c8_i32_439 : BitVec 32 := 8#32
  let v571 : Index := Scalar.indexCast c8_i32_439
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v572 : Index := Scalar.indexCast v346
  ![8, v572.toNat]

def k0_chk25 (v598 : IVec S16 32) : Prop :=
  (∀ a x, ((![v598] : Fin 1 → IVec S16 32) a x).toNat < S65552.size a)
theorem k0_idx25_inb : ∀ (v598 : IVec S16 32) (k0_hw25 : k0_chk25 v598), ∀ a x, ((![v598] : Fin 1 → IVec S16 32) a x).toNat < S65552.size a := fun v598 k0_hw25 => k0_hw25
def k0_off28 (k0_t3 : Fin k0_t3_loop.trips) : Fin 2 → Nat :=
  let c9_i32 : BitVec 32 := 9#32
  let v599 : Index := Scalar.indexCast c9_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v600 : Index := Scalar.indexCast v346
  ![9, v600.toNat]

def k0_chk26 (v626 : IVec S16 32) : Prop :=
  (∀ a x, ((![v626] : Fin 1 → IVec S16 32) a x).toNat < S65552.size a)
theorem k0_idx26_inb : ∀ (v626 : IVec S16 32) (k0_hw26 : k0_chk26 v626), ∀ a x, ((![v626] : Fin 1 → IVec S16 32) a x).toNat < S65552.size a := fun v626 k0_hw26 => k0_hw26
def k0_off29 (k0_t3 : Fin k0_t3_loop.trips) : Fin 2 → Nat :=
  let c10_i32 : BitVec 32 := 10#32
  let v627 : Index := Scalar.indexCast c10_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v628 : Index := Scalar.indexCast v346
  ![10, v628.toNat]

def k0_chk27 (v654 : IVec S16 32) : Prop :=
  (∀ a x, ((![v654] : Fin 1 → IVec S16 32) a x).toNat < S65552.size a)
theorem k0_idx27_inb : ∀ (v654 : IVec S16 32) (k0_hw27 : k0_chk27 v654), ∀ a x, ((![v654] : Fin 1 → IVec S16 32) a x).toNat < S65552.size a := fun v654 k0_hw27 => k0_hw27
def k0_off30 (k0_t3 : Fin k0_t3_loop.trips) : Fin 2 → Nat :=
  let c11_i32 : BitVec 32 := 11#32
  let v655 : Index := Scalar.indexCast c11_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v656 : Index := Scalar.indexCast v346
  ![11, v656.toNat]

def k0_chk28 (v682 : IVec S16 32) : Prop :=
  (∀ a x, ((![v682] : Fin 1 → IVec S16 32) a x).toNat < S65552.size a)
theorem k0_idx28_inb : ∀ (v682 : IVec S16 32) (k0_hw28 : k0_chk28 v682), ∀ a x, ((![v682] : Fin 1 → IVec S16 32) a x).toNat < S65552.size a := fun v682 k0_hw28 => k0_hw28
def k0_off31 (k0_t3 : Fin k0_t3_loop.trips) : Fin 2 → Nat :=
  let c12_i32 : BitVec 32 := 12#32
  let v683 : Index := Scalar.indexCast c12_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v684 : Index := Scalar.indexCast v346
  ![12, v684.toNat]

def k0_chk29 (v710 : IVec S16 32) : Prop :=
  (∀ a x, ((![v710] : Fin 1 → IVec S16 32) a x).toNat < S65552.size a)
theorem k0_idx29_inb : ∀ (v710 : IVec S16 32) (k0_hw29 : k0_chk29 v710), ∀ a x, ((![v710] : Fin 1 → IVec S16 32) a x).toNat < S65552.size a := fun v710 k0_hw29 => k0_hw29
def k0_off32 (k0_t3 : Fin k0_t3_loop.trips) : Fin 2 → Nat :=
  let c13_i32 : BitVec 32 := 13#32
  let v711 : Index := Scalar.indexCast c13_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v712 : Index := Scalar.indexCast v346
  ![13, v712.toNat]

def k0_chk30 (v738 : IVec S16 32) : Prop :=
  (∀ a x, ((![v738] : Fin 1 → IVec S16 32) a x).toNat < S65552.size a)
theorem k0_idx30_inb : ∀ (v738 : IVec S16 32) (k0_hw30 : k0_chk30 v738), ∀ a x, ((![v738] : Fin 1 → IVec S16 32) a x).toNat < S65552.size a := fun v738 k0_hw30 => k0_hw30
def k0_off33 (k0_t3 : Fin k0_t3_loop.trips) : Fin 2 → Nat :=
  let c14_i32 : BitVec 32 := 14#32
  let v739 : Index := Scalar.indexCast c14_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v740 : Index := Scalar.indexCast v346
  ![14, v740.toNat]

def k0_chk31 (v766 : IVec S16 32) : Prop :=
  (∀ a x, ((![v766] : Fin 1 → IVec S16 32) a x).toNat < S65552.size a)
theorem k0_idx31_inb : ∀ (v766 : IVec S16 32) (k0_hw31 : k0_chk31 v766), ∀ a x, ((![v766] : Fin 1 → IVec S16 32) a x).toNat < S65552.size a := fun v766 k0_hw31 => k0_hw31
def k0_off34 (k0_t3 : Fin k0_t3_loop.trips) : Fin 2 → Nat :=
  let c15_i32 : BitVec 32 := 15#32
  let v767 : Index := Scalar.indexCast c15_i32
  let c0_i32_30 : BitVec 32 := 0#32
  let c1_i32_32 : BitVec 32 := 1#32
  let arg19 : BitVec 32 := Scf.iv c0_i32_30 c1_i32_32 k0_t3
  let c16_i32_357 : BitVec 32 := 16#32
  let v346 : BitVec 32 := Scalar.muli arg19 c16_i32_357
  let v768 : Index := Scalar.indexCast v346
  ![15, v768.toNat]

def k0_chk32 (v794 : IVec S16 32) : Prop :=
  (∀ a x, ((![v794] : Fin 1 → IVec S16 32) a x).toNat < S65552.size a)
theorem k0_idx32_inb : ∀ (v794 : IVec S16 32) (k0_hw32 : k0_chk32 v794), ∀ a x, ((![v794] : Fin 1 → IVec S16 32) a x).toNat < S65552.size a := fun v794 k0_hw32 => k0_hw32
@[reducible] def k0_t4_loop : Scf.Loop 32 :=
  let c0_i32_42 : BitVec 32 := 0#32
  let c32_i32_43 : BitVec 32 := 32#32
  let v73 : BitVec 32 := Scalar.addi c0_i32_42 c32_i32_43
  let c1_i32_44 : BitVec 32 := 1#32
  ⟨c0_i32_42, v73, c1_i32_44⟩
def k0_off35 (k0_t4 : Fin k0_t4_loop.trips) : Fin 2 → Nat :=
  let c0_i32_358 : BitVec 32 := 0#32
  let v347 : Index := Scalar.indexCast c0_i32_358
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v348 : Index := Scalar.indexCast v346
  ![0, v348.toNat]

def k0_chk33 (v374 : IVec S16 32) : Prop :=
  (∀ a x, ((![v374] : Fin 1 → IVec S16 32) a x).toNat < S65552.size a)
theorem k0_idx33_inb : ∀ (v374 : IVec S16 32) (k0_hw33 : k0_chk33 v374), ∀ a x, ((![v374] : Fin 1 → IVec S16 32) a x).toNat < S65552.size a := fun v374 k0_hw33 => k0_hw33
def k0_off36 (k0_t4 : Fin k0_t4_loop.trips) : Fin 2 → Nat :=
  let c1_i32_367 : BitVec 32 := 1#32
  let v375 : Index := Scalar.indexCast c1_i32_367
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v376 : Index := Scalar.indexCast v346
  ![1, v376.toNat]

def k0_chk34 (v402 : IVec S16 32) : Prop :=
  (∀ a x, ((![v402] : Fin 1 → IVec S16 32) a x).toNat < S65552.size a)
theorem k0_idx34_inb : ∀ (v402 : IVec S16 32) (k0_hw34 : k0_chk34 v402), ∀ a x, ((![v402] : Fin 1 → IVec S16 32) a x).toNat < S65552.size a := fun v402 k0_hw34 => k0_hw34
def k0_off37 (k0_t4 : Fin k0_t4_loop.trips) : Fin 2 → Nat :=
  let c2_i32_378 : BitVec 32 := 2#32
  let v403 : Index := Scalar.indexCast c2_i32_378
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v404 : Index := Scalar.indexCast v346
  ![2, v404.toNat]

def k0_chk35 (v430 : IVec S16 32) : Prop :=
  (∀ a x, ((![v430] : Fin 1 → IVec S16 32) a x).toNat < S65552.size a)
theorem k0_idx35_inb : ∀ (v430 : IVec S16 32) (k0_hw35 : k0_chk35 v430), ∀ a x, ((![v430] : Fin 1 → IVec S16 32) a x).toNat < S65552.size a := fun v430 k0_hw35 => k0_hw35
def k0_off38 (k0_t4 : Fin k0_t4_loop.trips) : Fin 2 → Nat :=
  let c3_i32 : BitVec 32 := 3#32
  let v431 : Index := Scalar.indexCast c3_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v432 : Index := Scalar.indexCast v346
  ![3, v432.toNat]

def k0_chk36 (v458 : IVec S16 32) : Prop :=
  (∀ a x, ((![v458] : Fin 1 → IVec S16 32) a x).toNat < S65552.size a)
theorem k0_idx36_inb : ∀ (v458 : IVec S16 32) (k0_hw36 : k0_chk36 v458), ∀ a x, ((![v458] : Fin 1 → IVec S16 32) a x).toNat < S65552.size a := fun v458 k0_hw36 => k0_hw36
def k0_off39 (k0_t4 : Fin k0_t4_loop.trips) : Fin 2 → Nat :=
  let c4_i32 : BitVec 32 := 4#32
  let v459 : Index := Scalar.indexCast c4_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v460 : Index := Scalar.indexCast v346
  ![4, v460.toNat]

def k0_chk37 (v486 : IVec S16 32) : Prop :=
  (∀ a x, ((![v486] : Fin 1 → IVec S16 32) a x).toNat < S65552.size a)
theorem k0_idx37_inb : ∀ (v486 : IVec S16 32) (k0_hw37 : k0_chk37 v486), ∀ a x, ((![v486] : Fin 1 → IVec S16 32) a x).toNat < S65552.size a := fun v486 k0_hw37 => k0_hw37
def k0_off40 (k0_t4 : Fin k0_t4_loop.trips) : Fin 2 → Nat :=
  let c5_i32 : BitVec 32 := 5#32
  let v487 : Index := Scalar.indexCast c5_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v488 : Index := Scalar.indexCast v346
  ![5, v488.toNat]

def k0_chk38 (v514 : IVec S16 32) : Prop :=
  (∀ a x, ((![v514] : Fin 1 → IVec S16 32) a x).toNat < S65552.size a)
theorem k0_idx38_inb : ∀ (v514 : IVec S16 32) (k0_hw38 : k0_chk38 v514), ∀ a x, ((![v514] : Fin 1 → IVec S16 32) a x).toNat < S65552.size a := fun v514 k0_hw38 => k0_hw38
def k0_off41 (k0_t4 : Fin k0_t4_loop.trips) : Fin 2 → Nat :=
  let c6_i32 : BitVec 32 := 6#32
  let v515 : Index := Scalar.indexCast c6_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v516 : Index := Scalar.indexCast v346
  ![6, v516.toNat]

def k0_chk39 (v542 : IVec S16 32) : Prop :=
  (∀ a x, ((![v542] : Fin 1 → IVec S16 32) a x).toNat < S65552.size a)
theorem k0_idx39_inb : ∀ (v542 : IVec S16 32) (k0_hw39 : k0_chk39 v542), ∀ a x, ((![v542] : Fin 1 → IVec S16 32) a x).toNat < S65552.size a := fun v542 k0_hw39 => k0_hw39
def k0_off42 (k0_t4 : Fin k0_t4_loop.trips) : Fin 2 → Nat :=
  let c7_i32 : BitVec 32 := 7#32
  let v543 : Index := Scalar.indexCast c7_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v544 : Index := Scalar.indexCast v346
  ![7, v544.toNat]

def k0_chk40 (v570 : IVec S16 32) : Prop :=
  (∀ a x, ((![v570] : Fin 1 → IVec S16 32) a x).toNat < S65552.size a)
theorem k0_idx40_inb : ∀ (v570 : IVec S16 32) (k0_hw40 : k0_chk40 v570), ∀ a x, ((![v570] : Fin 1 → IVec S16 32) a x).toNat < S65552.size a := fun v570 k0_hw40 => k0_hw40
def k0_off43 (k0_t4 : Fin k0_t4_loop.trips) : Fin 2 → Nat :=
  let c8_i32_439 : BitVec 32 := 8#32
  let v571 : Index := Scalar.indexCast c8_i32_439
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v572 : Index := Scalar.indexCast v346
  ![8, v572.toNat]

def k0_chk41 (v598 : IVec S16 32) : Prop :=
  (∀ a x, ((![v598] : Fin 1 → IVec S16 32) a x).toNat < S65552.size a)
theorem k0_idx41_inb : ∀ (v598 : IVec S16 32) (k0_hw41 : k0_chk41 v598), ∀ a x, ((![v598] : Fin 1 → IVec S16 32) a x).toNat < S65552.size a := fun v598 k0_hw41 => k0_hw41
def k0_off44 (k0_t4 : Fin k0_t4_loop.trips) : Fin 2 → Nat :=
  let c9_i32 : BitVec 32 := 9#32
  let v599 : Index := Scalar.indexCast c9_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v600 : Index := Scalar.indexCast v346
  ![9, v600.toNat]

def k0_chk42 (v626 : IVec S16 32) : Prop :=
  (∀ a x, ((![v626] : Fin 1 → IVec S16 32) a x).toNat < S65552.size a)
theorem k0_idx42_inb : ∀ (v626 : IVec S16 32) (k0_hw42 : k0_chk42 v626), ∀ a x, ((![v626] : Fin 1 → IVec S16 32) a x).toNat < S65552.size a := fun v626 k0_hw42 => k0_hw42
def k0_off45 (k0_t4 : Fin k0_t4_loop.trips) : Fin 2 → Nat :=
  let c10_i32 : BitVec 32 := 10#32
  let v627 : Index := Scalar.indexCast c10_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v628 : Index := Scalar.indexCast v346
  ![10, v628.toNat]

def k0_chk43 (v654 : IVec S16 32) : Prop :=
  (∀ a x, ((![v654] : Fin 1 → IVec S16 32) a x).toNat < S65552.size a)
theorem k0_idx43_inb : ∀ (v654 : IVec S16 32) (k0_hw43 : k0_chk43 v654), ∀ a x, ((![v654] : Fin 1 → IVec S16 32) a x).toNat < S65552.size a := fun v654 k0_hw43 => k0_hw43
def k0_off46 (k0_t4 : Fin k0_t4_loop.trips) : Fin 2 → Nat :=
  let c11_i32 : BitVec 32 := 11#32
  let v655 : Index := Scalar.indexCast c11_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v656 : Index := Scalar.indexCast v346
  ![11, v656.toNat]

def k0_chk44 (v682 : IVec S16 32) : Prop :=
  (∀ a x, ((![v682] : Fin 1 → IVec S16 32) a x).toNat < S65552.size a)
theorem k0_idx44_inb : ∀ (v682 : IVec S16 32) (k0_hw44 : k0_chk44 v682), ∀ a x, ((![v682] : Fin 1 → IVec S16 32) a x).toNat < S65552.size a := fun v682 k0_hw44 => k0_hw44
def k0_off47 (k0_t4 : Fin k0_t4_loop.trips) : Fin 2 → Nat :=
  let c12_i32 : BitVec 32 := 12#32
  let v683 : Index := Scalar.indexCast c12_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v684 : Index := Scalar.indexCast v346
  ![12, v684.toNat]

def k0_chk45 (v710 : IVec S16 32) : Prop :=
  (∀ a x, ((![v710] : Fin 1 → IVec S16 32) a x).toNat < S65552.size a)
theorem k0_idx45_inb : ∀ (v710 : IVec S16 32) (k0_hw45 : k0_chk45 v710), ∀ a x, ((![v710] : Fin 1 → IVec S16 32) a x).toNat < S65552.size a := fun v710 k0_hw45 => k0_hw45
def k0_off48 (k0_t4 : Fin k0_t4_loop.trips) : Fin 2 → Nat :=
  let c13_i32 : BitVec 32 := 13#32
  let v711 : Index := Scalar.indexCast c13_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v712 : Index := Scalar.indexCast v346
  ![13, v712.toNat]

def k0_chk46 (v738 : IVec S16 32) : Prop :=
  (∀ a x, ((![v738] : Fin 1 → IVec S16 32) a x).toNat < S65552.size a)
theorem k0_idx46_inb : ∀ (v738 : IVec S16 32) (k0_hw46 : k0_chk46 v738), ∀ a x, ((![v738] : Fin 1 → IVec S16 32) a x).toNat < S65552.size a := fun v738 k0_hw46 => k0_hw46
def k0_off49 (k0_t4 : Fin k0_t4_loop.trips) : Fin 2 → Nat :=
  let c14_i32 : BitVec 32 := 14#32
  let v739 : Index := Scalar.indexCast c14_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v740 : Index := Scalar.indexCast v346
  ![14, v740.toNat]

def k0_chk47 (v766 : IVec S16 32) : Prop :=
  (∀ a x, ((![v766] : Fin 1 → IVec S16 32) a x).toNat < S65552.size a)
theorem k0_idx47_inb : ∀ (v766 : IVec S16 32) (k0_hw47 : k0_chk47 v766), ∀ a x, ((![v766] : Fin 1 → IVec S16 32) a x).toNat < S65552.size a := fun v766 k0_hw47 => k0_hw47
def k0_off50 (k0_t4 : Fin k0_t4_loop.trips) : Fin 2 → Nat :=
  let c15_i32 : BitVec 32 := 15#32
  let v767 : Index := Scalar.indexCast c15_i32
  let c0_i32_42 : BitVec 32 := 0#32
  let c1_i32_44 : BitVec 32 := 1#32
  let arg19 : BitVec 32 := Scf.iv c0_i32_42 c1_i32_44 k0_t4
  let c16_i32_357 : BitVec 32 := 16#32
  let v346 : BitVec 32 := Scalar.muli arg19 c16_i32_357
  let v768 : Index := Scalar.indexCast v346
  ![15, v768.toNat]

def k0_chk48 (v794 : IVec S16 32) : Prop :=
  (∀ a x, ((![v794] : Fin 1 → IVec S16 32) a x).toNat < S65552.size a)
theorem k0_idx48_inb : ∀ (v794 : IVec S16 32) (k0_hw48 : k0_chk48 v794), ∀ a x, ((![v794] : Fin 1 → IVec S16 32) a x).toNat < S65552.size a := fun v794 k0_hw48 => k0_hw48
@[reducible] def k0_t5_loop : Scf.Loop 32 :=
  let c0_i32_54 : BitVec 32 := 0#32
  let c32_i32_55 : BitVec 32 := 32#32
  let v92 : BitVec 32 := Scalar.addi c0_i32_54 c32_i32_55
  let c1_i32_56 : BitVec 32 := 1#32
  ⟨c0_i32_54, v92, c1_i32_56⟩
def k0_off51 (k0_t5 : Fin k0_t5_loop.trips) : Fin 2 → Nat :=
  let c0_i32_358 : BitVec 32 := 0#32
  let v347 : Index := Scalar.indexCast c0_i32_358
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v348 : Index := Scalar.indexCast v346
  ![0, v348.toNat]

def k0_chk49 (v374 : IVec S16 32) : Prop :=
  (∀ a x, ((![v374] : Fin 1 → IVec S16 32) a x).toNat < S65552.size a)
theorem k0_idx49_inb : ∀ (v374 : IVec S16 32) (k0_hw49 : k0_chk49 v374), ∀ a x, ((![v374] : Fin 1 → IVec S16 32) a x).toNat < S65552.size a := fun v374 k0_hw49 => k0_hw49
def k0_off52 (k0_t5 : Fin k0_t5_loop.trips) : Fin 2 → Nat :=
  let c1_i32_367 : BitVec 32 := 1#32
  let v375 : Index := Scalar.indexCast c1_i32_367
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v376 : Index := Scalar.indexCast v346
  ![1, v376.toNat]

def k0_chk50 (v402 : IVec S16 32) : Prop :=
  (∀ a x, ((![v402] : Fin 1 → IVec S16 32) a x).toNat < S65552.size a)
theorem k0_idx50_inb : ∀ (v402 : IVec S16 32) (k0_hw50 : k0_chk50 v402), ∀ a x, ((![v402] : Fin 1 → IVec S16 32) a x).toNat < S65552.size a := fun v402 k0_hw50 => k0_hw50
def k0_off53 (k0_t5 : Fin k0_t5_loop.trips) : Fin 2 → Nat :=
  let c2_i32_378 : BitVec 32 := 2#32
  let v403 : Index := Scalar.indexCast c2_i32_378
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v404 : Index := Scalar.indexCast v346
  ![2, v404.toNat]

def k0_chk51 (v430 : IVec S16 32) : Prop :=
  (∀ a x, ((![v430] : Fin 1 → IVec S16 32) a x).toNat < S65552.size a)
theorem k0_idx51_inb : ∀ (v430 : IVec S16 32) (k0_hw51 : k0_chk51 v430), ∀ a x, ((![v430] : Fin 1 → IVec S16 32) a x).toNat < S65552.size a := fun v430 k0_hw51 => k0_hw51
def k0_off54 (k0_t5 : Fin k0_t5_loop.trips) : Fin 2 → Nat :=
  let c3_i32 : BitVec 32 := 3#32
  let v431 : Index := Scalar.indexCast c3_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v432 : Index := Scalar.indexCast v346
  ![3, v432.toNat]

def k0_chk52 (v458 : IVec S16 32) : Prop :=
  (∀ a x, ((![v458] : Fin 1 → IVec S16 32) a x).toNat < S65552.size a)
theorem k0_idx52_inb : ∀ (v458 : IVec S16 32) (k0_hw52 : k0_chk52 v458), ∀ a x, ((![v458] : Fin 1 → IVec S16 32) a x).toNat < S65552.size a := fun v458 k0_hw52 => k0_hw52
def k0_off55 (k0_t5 : Fin k0_t5_loop.trips) : Fin 2 → Nat :=
  let c4_i32 : BitVec 32 := 4#32
  let v459 : Index := Scalar.indexCast c4_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v460 : Index := Scalar.indexCast v346
  ![4, v460.toNat]

def k0_chk53 (v486 : IVec S16 32) : Prop :=
  (∀ a x, ((![v486] : Fin 1 → IVec S16 32) a x).toNat < S65552.size a)
theorem k0_idx53_inb : ∀ (v486 : IVec S16 32) (k0_hw53 : k0_chk53 v486), ∀ a x, ((![v486] : Fin 1 → IVec S16 32) a x).toNat < S65552.size a := fun v486 k0_hw53 => k0_hw53
def k0_off56 (k0_t5 : Fin k0_t5_loop.trips) : Fin 2 → Nat :=
  let c5_i32 : BitVec 32 := 5#32
  let v487 : Index := Scalar.indexCast c5_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v488 : Index := Scalar.indexCast v346
  ![5, v488.toNat]

def k0_chk54 (v514 : IVec S16 32) : Prop :=
  (∀ a x, ((![v514] : Fin 1 → IVec S16 32) a x).toNat < S65552.size a)
theorem k0_idx54_inb : ∀ (v514 : IVec S16 32) (k0_hw54 : k0_chk54 v514), ∀ a x, ((![v514] : Fin 1 → IVec S16 32) a x).toNat < S65552.size a := fun v514 k0_hw54 => k0_hw54
def k0_off57 (k0_t5 : Fin k0_t5_loop.trips) : Fin 2 → Nat :=
  let c6_i32 : BitVec 32 := 6#32
  let v515 : Index := Scalar.indexCast c6_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v516 : Index := Scalar.indexCast v346
  ![6, v516.toNat]

def k0_chk55 (v542 : IVec S16 32) : Prop :=
  (∀ a x, ((![v542] : Fin 1 → IVec S16 32) a x).toNat < S65552.size a)
theorem k0_idx55_inb : ∀ (v542 : IVec S16 32) (k0_hw55 : k0_chk55 v542), ∀ a x, ((![v542] : Fin 1 → IVec S16 32) a x).toNat < S65552.size a := fun v542 k0_hw55 => k0_hw55
def k0_off58 (k0_t5 : Fin k0_t5_loop.trips) : Fin 2 → Nat :=
  let c7_i32 : BitVec 32 := 7#32
  let v543 : Index := Scalar.indexCast c7_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v544 : Index := Scalar.indexCast v346
  ![7, v544.toNat]

def k0_chk56 (v570 : IVec S16 32) : Prop :=
  (∀ a x, ((![v570] : Fin 1 → IVec S16 32) a x).toNat < S65552.size a)
theorem k0_idx56_inb : ∀ (v570 : IVec S16 32) (k0_hw56 : k0_chk56 v570), ∀ a x, ((![v570] : Fin 1 → IVec S16 32) a x).toNat < S65552.size a := fun v570 k0_hw56 => k0_hw56
def k0_off59 (k0_t5 : Fin k0_t5_loop.trips) : Fin 2 → Nat :=
  let c8_i32_439 : BitVec 32 := 8#32
  let v571 : Index := Scalar.indexCast c8_i32_439
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v572 : Index := Scalar.indexCast v346
  ![8, v572.toNat]

def k0_chk57 (v598 : IVec S16 32) : Prop :=
  (∀ a x, ((![v598] : Fin 1 → IVec S16 32) a x).toNat < S65552.size a)
theorem k0_idx57_inb : ∀ (v598 : IVec S16 32) (k0_hw57 : k0_chk57 v598), ∀ a x, ((![v598] : Fin 1 → IVec S16 32) a x).toNat < S65552.size a := fun v598 k0_hw57 => k0_hw57
def k0_off60 (k0_t5 : Fin k0_t5_loop.trips) : Fin 2 → Nat :=
  let c9_i32 : BitVec 32 := 9#32
  let v599 : Index := Scalar.indexCast c9_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v600 : Index := Scalar.indexCast v346
  ![9, v600.toNat]

def k0_chk58 (v626 : IVec S16 32) : Prop :=
  (∀ a x, ((![v626] : Fin 1 → IVec S16 32) a x).toNat < S65552.size a)
theorem k0_idx58_inb : ∀ (v626 : IVec S16 32) (k0_hw58 : k0_chk58 v626), ∀ a x, ((![v626] : Fin 1 → IVec S16 32) a x).toNat < S65552.size a := fun v626 k0_hw58 => k0_hw58
def k0_off61 (k0_t5 : Fin k0_t5_loop.trips) : Fin 2 → Nat :=
  let c10_i32 : BitVec 32 := 10#32
  let v627 : Index := Scalar.indexCast c10_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v628 : Index := Scalar.indexCast v346
  ![10, v628.toNat]

def k0_chk59 (v654 : IVec S16 32) : Prop :=
  (∀ a x, ((![v654] : Fin 1 → IVec S16 32) a x).toNat < S65552.size a)
theorem k0_idx59_inb : ∀ (v654 : IVec S16 32) (k0_hw59 : k0_chk59 v654), ∀ a x, ((![v654] : Fin 1 → IVec S16 32) a x).toNat < S65552.size a := fun v654 k0_hw59 => k0_hw59
def k0_off62 (k0_t5 : Fin k0_t5_loop.trips) : Fin 2 → Nat :=
  let c11_i32 : BitVec 32 := 11#32
  let v655 : Index := Scalar.indexCast c11_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v656 : Index := Scalar.indexCast v346
  ![11, v656.toNat]

def k0_chk60 (v682 : IVec S16 32) : Prop :=
  (∀ a x, ((![v682] : Fin 1 → IVec S16 32) a x).toNat < S65552.size a)
theorem k0_idx60_inb : ∀ (v682 : IVec S16 32) (k0_hw60 : k0_chk60 v682), ∀ a x, ((![v682] : Fin 1 → IVec S16 32) a x).toNat < S65552.size a := fun v682 k0_hw60 => k0_hw60
def k0_off63 (k0_t5 : Fin k0_t5_loop.trips) : Fin 2 → Nat :=
  let c12_i32 : BitVec 32 := 12#32
  let v683 : Index := Scalar.indexCast c12_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v684 : Index := Scalar.indexCast v346
  ![12, v684.toNat]

def k0_chk61 (v710 : IVec S16 32) : Prop :=
  (∀ a x, ((![v710] : Fin 1 → IVec S16 32) a x).toNat < S65552.size a)
theorem k0_idx61_inb : ∀ (v710 : IVec S16 32) (k0_hw61 : k0_chk61 v710), ∀ a x, ((![v710] : Fin 1 → IVec S16 32) a x).toNat < S65552.size a := fun v710 k0_hw61 => k0_hw61
def k0_off64 (k0_t5 : Fin k0_t5_loop.trips) : Fin 2 → Nat :=
  let c13_i32 : BitVec 32 := 13#32
  let v711 : Index := Scalar.indexCast c13_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v712 : Index := Scalar.indexCast v346
  ![13, v712.toNat]

def k0_chk62 (v738 : IVec S16 32) : Prop :=
  (∀ a x, ((![v738] : Fin 1 → IVec S16 32) a x).toNat < S65552.size a)
theorem k0_idx62_inb : ∀ (v738 : IVec S16 32) (k0_hw62 : k0_chk62 v738), ∀ a x, ((![v738] : Fin 1 → IVec S16 32) a x).toNat < S65552.size a := fun v738 k0_hw62 => k0_hw62
def k0_off65 (k0_t5 : Fin k0_t5_loop.trips) : Fin 2 → Nat :=
  let c14_i32 : BitVec 32 := 14#32
  let v739 : Index := Scalar.indexCast c14_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v740 : Index := Scalar.indexCast v346
  ![14, v740.toNat]

def k0_chk63 (v766 : IVec S16 32) : Prop :=
  (∀ a x, ((![v766] : Fin 1 → IVec S16 32) a x).toNat < S65552.size a)
theorem k0_idx63_inb : ∀ (v766 : IVec S16 32) (k0_hw63 : k0_chk63 v766), ∀ a x, ((![v766] : Fin 1 → IVec S16 32) a x).toNat < S65552.size a := fun v766 k0_hw63 => k0_hw63
def k0_off66 (k0_t5 : Fin k0_t5_loop.trips) : Fin 2 → Nat :=
  let c15_i32 : BitVec 32 := 15#32
  let v767 : Index := Scalar.indexCast c15_i32
  let c0_i32_54 : BitVec 32 := 0#32
  let c1_i32_56 : BitVec 32 := 1#32
  let arg19 : BitVec 32 := Scf.iv c0_i32_54 c1_i32_56 k0_t5
  let c16_i32_357 : BitVec 32 := 16#32
  let v346 : BitVec 32 := Scalar.muli arg19 c16_i32_357
  let v768 : Index := Scalar.indexCast v346
  ![15, v768.toNat]

def k0_chk64 (v794 : IVec S16 32) : Prop :=
  (∀ a x, ((![v794] : Fin 1 → IVec S16 32) a x).toNat < S65552.size a)
theorem k0_idx64_inb : ∀ (v794 : IVec S16 32) (k0_hw64 : k0_chk64 v794), ∀ a x, ((![v794] : Fin 1 → IVec S16 32) a x).toNat < S65552.size a := fun v794 k0_hw64 => k0_hw64
@[reducible] def k0_t6_loop : Scf.Loop 32 :=
  let c0_i32_66 : BitVec 32 := 0#32
  let c32_i32_67 : BitVec 32 := 32#32
  let v111 : BitVec 32 := Scalar.addi c0_i32_66 c32_i32_67
  let c1_i32_68 : BitVec 32 := 1#32
  ⟨c0_i32_66, v111, c1_i32_68⟩
def k0_off67 (k0_t6 : Fin k0_t6_loop.trips) : Fin 2 → Nat :=
  let c0_i32_358 : BitVec 32 := 0#32
  let v347 : Index := Scalar.indexCast c0_i32_358
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v348 : Index := Scalar.indexCast v346
  ![0, v348.toNat]

def k0_chk65 (v374 : IVec S16 32) : Prop :=
  (∀ a x, ((![v374] : Fin 1 → IVec S16 32) a x).toNat < S65552.size a)
theorem k0_idx65_inb : ∀ (v374 : IVec S16 32) (k0_hw65 : k0_chk65 v374), ∀ a x, ((![v374] : Fin 1 → IVec S16 32) a x).toNat < S65552.size a := fun v374 k0_hw65 => k0_hw65
def k0_off68 (k0_t6 : Fin k0_t6_loop.trips) : Fin 2 → Nat :=
  let c1_i32_367 : BitVec 32 := 1#32
  let v375 : Index := Scalar.indexCast c1_i32_367
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v376 : Index := Scalar.indexCast v346
  ![1, v376.toNat]

def k0_chk66 (v402 : IVec S16 32) : Prop :=
  (∀ a x, ((![v402] : Fin 1 → IVec S16 32) a x).toNat < S65552.size a)
theorem k0_idx66_inb : ∀ (v402 : IVec S16 32) (k0_hw66 : k0_chk66 v402), ∀ a x, ((![v402] : Fin 1 → IVec S16 32) a x).toNat < S65552.size a := fun v402 k0_hw66 => k0_hw66
def k0_off69 (k0_t6 : Fin k0_t6_loop.trips) : Fin 2 → Nat :=
  let c2_i32_378 : BitVec 32 := 2#32
  let v403 : Index := Scalar.indexCast c2_i32_378
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v404 : Index := Scalar.indexCast v346
  ![2, v404.toNat]

def k0_chk67 (v430 : IVec S16 32) : Prop :=
  (∀ a x, ((![v430] : Fin 1 → IVec S16 32) a x).toNat < S65552.size a)
theorem k0_idx67_inb : ∀ (v430 : IVec S16 32) (k0_hw67 : k0_chk67 v430), ∀ a x, ((![v430] : Fin 1 → IVec S16 32) a x).toNat < S65552.size a := fun v430 k0_hw67 => k0_hw67
def k0_off70 (k0_t6 : Fin k0_t6_loop.trips) : Fin 2 → Nat :=
  let c3_i32 : BitVec 32 := 3#32
  let v431 : Index := Scalar.indexCast c3_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v432 : Index := Scalar.indexCast v346
  ![3, v432.toNat]

def k0_chk68 (v458 : IVec S16 32) : Prop :=
  (∀ a x, ((![v458] : Fin 1 → IVec S16 32) a x).toNat < S65552.size a)
theorem k0_idx68_inb : ∀ (v458 : IVec S16 32) (k0_hw68 : k0_chk68 v458), ∀ a x, ((![v458] : Fin 1 → IVec S16 32) a x).toNat < S65552.size a := fun v458 k0_hw68 => k0_hw68
def k0_off71 (k0_t6 : Fin k0_t6_loop.trips) : Fin 2 → Nat :=
  let c4_i32 : BitVec 32 := 4#32
  let v459 : Index := Scalar.indexCast c4_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v460 : Index := Scalar.indexCast v346
  ![4, v460.toNat]

def k0_chk69 (v486 : IVec S16 32) : Prop :=
  (∀ a x, ((![v486] : Fin 1 → IVec S16 32) a x).toNat < S65552.size a)
theorem k0_idx69_inb : ∀ (v486 : IVec S16 32) (k0_hw69 : k0_chk69 v486), ∀ a x, ((![v486] : Fin 1 → IVec S16 32) a x).toNat < S65552.size a := fun v486 k0_hw69 => k0_hw69
def k0_off72 (k0_t6 : Fin k0_t6_loop.trips) : Fin 2 → Nat :=
  let c5_i32 : BitVec 32 := 5#32
  let v487 : Index := Scalar.indexCast c5_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v488 : Index := Scalar.indexCast v346
  ![5, v488.toNat]

def k0_chk70 (v514 : IVec S16 32) : Prop :=
  (∀ a x, ((![v514] : Fin 1 → IVec S16 32) a x).toNat < S65552.size a)
theorem k0_idx70_inb : ∀ (v514 : IVec S16 32) (k0_hw70 : k0_chk70 v514), ∀ a x, ((![v514] : Fin 1 → IVec S16 32) a x).toNat < S65552.size a := fun v514 k0_hw70 => k0_hw70
def k0_off73 (k0_t6 : Fin k0_t6_loop.trips) : Fin 2 → Nat :=
  let c6_i32 : BitVec 32 := 6#32
  let v515 : Index := Scalar.indexCast c6_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v516 : Index := Scalar.indexCast v346
  ![6, v516.toNat]

def k0_chk71 (v542 : IVec S16 32) : Prop :=
  (∀ a x, ((![v542] : Fin 1 → IVec S16 32) a x).toNat < S65552.size a)
theorem k0_idx71_inb : ∀ (v542 : IVec S16 32) (k0_hw71 : k0_chk71 v542), ∀ a x, ((![v542] : Fin 1 → IVec S16 32) a x).toNat < S65552.size a := fun v542 k0_hw71 => k0_hw71
def k0_off74 (k0_t6 : Fin k0_t6_loop.trips) : Fin 2 → Nat :=
  let c7_i32 : BitVec 32 := 7#32
  let v543 : Index := Scalar.indexCast c7_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v544 : Index := Scalar.indexCast v346
  ![7, v544.toNat]

def k0_chk72 (v570 : IVec S16 32) : Prop :=
  (∀ a x, ((![v570] : Fin 1 → IVec S16 32) a x).toNat < S65552.size a)
theorem k0_idx72_inb : ∀ (v570 : IVec S16 32) (k0_hw72 : k0_chk72 v570), ∀ a x, ((![v570] : Fin 1 → IVec S16 32) a x).toNat < S65552.size a := fun v570 k0_hw72 => k0_hw72
def k0_off75 (k0_t6 : Fin k0_t6_loop.trips) : Fin 2 → Nat :=
  let c8_i32_439 : BitVec 32 := 8#32
  let v571 : Index := Scalar.indexCast c8_i32_439
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v572 : Index := Scalar.indexCast v346
  ![8, v572.toNat]

def k0_chk73 (v598 : IVec S16 32) : Prop :=
  (∀ a x, ((![v598] : Fin 1 → IVec S16 32) a x).toNat < S65552.size a)
theorem k0_idx73_inb : ∀ (v598 : IVec S16 32) (k0_hw73 : k0_chk73 v598), ∀ a x, ((![v598] : Fin 1 → IVec S16 32) a x).toNat < S65552.size a := fun v598 k0_hw73 => k0_hw73
def k0_off76 (k0_t6 : Fin k0_t6_loop.trips) : Fin 2 → Nat :=
  let c9_i32 : BitVec 32 := 9#32
  let v599 : Index := Scalar.indexCast c9_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v600 : Index := Scalar.indexCast v346
  ![9, v600.toNat]

def k0_chk74 (v626 : IVec S16 32) : Prop :=
  (∀ a x, ((![v626] : Fin 1 → IVec S16 32) a x).toNat < S65552.size a)
theorem k0_idx74_inb : ∀ (v626 : IVec S16 32) (k0_hw74 : k0_chk74 v626), ∀ a x, ((![v626] : Fin 1 → IVec S16 32) a x).toNat < S65552.size a := fun v626 k0_hw74 => k0_hw74
def k0_off77 (k0_t6 : Fin k0_t6_loop.trips) : Fin 2 → Nat :=
  let c10_i32 : BitVec 32 := 10#32
  let v627 : Index := Scalar.indexCast c10_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v628 : Index := Scalar.indexCast v346
  ![10, v628.toNat]

def k0_chk75 (v654 : IVec S16 32) : Prop :=
  (∀ a x, ((![v654] : Fin 1 → IVec S16 32) a x).toNat < S65552.size a)
theorem k0_idx75_inb : ∀ (v654 : IVec S16 32) (k0_hw75 : k0_chk75 v654), ∀ a x, ((![v654] : Fin 1 → IVec S16 32) a x).toNat < S65552.size a := fun v654 k0_hw75 => k0_hw75
def k0_off78 (k0_t6 : Fin k0_t6_loop.trips) : Fin 2 → Nat :=
  let c11_i32 : BitVec 32 := 11#32
  let v655 : Index := Scalar.indexCast c11_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v656 : Index := Scalar.indexCast v346
  ![11, v656.toNat]

def k0_chk76 (v682 : IVec S16 32) : Prop :=
  (∀ a x, ((![v682] : Fin 1 → IVec S16 32) a x).toNat < S65552.size a)
theorem k0_idx76_inb : ∀ (v682 : IVec S16 32) (k0_hw76 : k0_chk76 v682), ∀ a x, ((![v682] : Fin 1 → IVec S16 32) a x).toNat < S65552.size a := fun v682 k0_hw76 => k0_hw76
def k0_off79 (k0_t6 : Fin k0_t6_loop.trips) : Fin 2 → Nat :=
  let c12_i32 : BitVec 32 := 12#32
  let v683 : Index := Scalar.indexCast c12_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v684 : Index := Scalar.indexCast v346
  ![12, v684.toNat]

def k0_chk77 (v710 : IVec S16 32) : Prop :=
  (∀ a x, ((![v710] : Fin 1 → IVec S16 32) a x).toNat < S65552.size a)
theorem k0_idx77_inb : ∀ (v710 : IVec S16 32) (k0_hw77 : k0_chk77 v710), ∀ a x, ((![v710] : Fin 1 → IVec S16 32) a x).toNat < S65552.size a := fun v710 k0_hw77 => k0_hw77
def k0_off80 (k0_t6 : Fin k0_t6_loop.trips) : Fin 2 → Nat :=
  let c13_i32 : BitVec 32 := 13#32
  let v711 : Index := Scalar.indexCast c13_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v712 : Index := Scalar.indexCast v346
  ![13, v712.toNat]

def k0_chk78 (v738 : IVec S16 32) : Prop :=
  (∀ a x, ((![v738] : Fin 1 → IVec S16 32) a x).toNat < S65552.size a)
theorem k0_idx78_inb : ∀ (v738 : IVec S16 32) (k0_hw78 : k0_chk78 v738), ∀ a x, ((![v738] : Fin 1 → IVec S16 32) a x).toNat < S65552.size a := fun v738 k0_hw78 => k0_hw78
def k0_off81 (k0_t6 : Fin k0_t6_loop.trips) : Fin 2 → Nat :=
  let c14_i32 : BitVec 32 := 14#32
  let v739 : Index := Scalar.indexCast c14_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v740 : Index := Scalar.indexCast v346
  ![14, v740.toNat]

def k0_chk79 (v766 : IVec S16 32) : Prop :=
  (∀ a x, ((![v766] : Fin 1 → IVec S16 32) a x).toNat < S65552.size a)
theorem k0_idx79_inb : ∀ (v766 : IVec S16 32) (k0_hw79 : k0_chk79 v766), ∀ a x, ((![v766] : Fin 1 → IVec S16 32) a x).toNat < S65552.size a := fun v766 k0_hw79 => k0_hw79
def k0_off82 (k0_t6 : Fin k0_t6_loop.trips) : Fin 2 → Nat :=
  let c15_i32 : BitVec 32 := 15#32
  let v767 : Index := Scalar.indexCast c15_i32
  let c0_i32_66 : BitVec 32 := 0#32
  let c1_i32_68 : BitVec 32 := 1#32
  let arg19 : BitVec 32 := Scf.iv c0_i32_66 c1_i32_68 k0_t6
  let c16_i32_357 : BitVec 32 := 16#32
  let v346 : BitVec 32 := Scalar.muli arg19 c16_i32_357
  let v768 : Index := Scalar.indexCast v346
  ![15, v768.toNat]

def k0_chk80 (v794 : IVec S16 32) : Prop :=
  (∀ a x, ((![v794] : Fin 1 → IVec S16 32) a x).toNat < S65552.size a)
theorem k0_idx80_inb : ∀ (v794 : IVec S16 32) (k0_hw80 : k0_chk80 v794), ∀ a x, ((![v794] : Fin 1 → IVec S16 32) a x).toNat < S65552.size a := fun v794 k0_hw80 => k0_hw80
@[reducible] def k0_t7_loop : Scf.Loop 32 :=
  let c0_i32_78 : BitVec 32 := 0#32
  let c32_i32_79 : BitVec 32 := 32#32
  let v130 : BitVec 32 := Scalar.addi c0_i32_78 c32_i32_79
  let c1_i32_80 : BitVec 32 := 1#32
  ⟨c0_i32_78, v130, c1_i32_80⟩
def k0_off83 (k0_t7 : Fin k0_t7_loop.trips) : Fin 2 → Nat :=
  let c0_i32_358 : BitVec 32 := 0#32
  let v347 : Index := Scalar.indexCast c0_i32_358
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v348 : Index := Scalar.indexCast v346
  ![0, v348.toNat]

def k0_chk81 (v374 : IVec S16 32) : Prop :=
  (∀ a x, ((![v374] : Fin 1 → IVec S16 32) a x).toNat < S65552.size a)
theorem k0_idx81_inb : ∀ (v374 : IVec S16 32) (k0_hw81 : k0_chk81 v374), ∀ a x, ((![v374] : Fin 1 → IVec S16 32) a x).toNat < S65552.size a := fun v374 k0_hw81 => k0_hw81
def k0_off84 (k0_t7 : Fin k0_t7_loop.trips) : Fin 2 → Nat :=
  let c1_i32_367 : BitVec 32 := 1#32
  let v375 : Index := Scalar.indexCast c1_i32_367
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v376 : Index := Scalar.indexCast v346
  ![1, v376.toNat]

def k0_chk82 (v402 : IVec S16 32) : Prop :=
  (∀ a x, ((![v402] : Fin 1 → IVec S16 32) a x).toNat < S65552.size a)
theorem k0_idx82_inb : ∀ (v402 : IVec S16 32) (k0_hw82 : k0_chk82 v402), ∀ a x, ((![v402] : Fin 1 → IVec S16 32) a x).toNat < S65552.size a := fun v402 k0_hw82 => k0_hw82
def k0_off85 (k0_t7 : Fin k0_t7_loop.trips) : Fin 2 → Nat :=
  let c2_i32_378 : BitVec 32 := 2#32
  let v403 : Index := Scalar.indexCast c2_i32_378
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v404 : Index := Scalar.indexCast v346
  ![2, v404.toNat]

def k0_chk83 (v430 : IVec S16 32) : Prop :=
  (∀ a x, ((![v430] : Fin 1 → IVec S16 32) a x).toNat < S65552.size a)
theorem k0_idx83_inb : ∀ (v430 : IVec S16 32) (k0_hw83 : k0_chk83 v430), ∀ a x, ((![v430] : Fin 1 → IVec S16 32) a x).toNat < S65552.size a := fun v430 k0_hw83 => k0_hw83
def k0_off86 (k0_t7 : Fin k0_t7_loop.trips) : Fin 2 → Nat :=
  let c3_i32 : BitVec 32 := 3#32
  let v431 : Index := Scalar.indexCast c3_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v432 : Index := Scalar.indexCast v346
  ![3, v432.toNat]

def k0_chk84 (v458 : IVec S16 32) : Prop :=
  (∀ a x, ((![v458] : Fin 1 → IVec S16 32) a x).toNat < S65552.size a)
theorem k0_idx84_inb : ∀ (v458 : IVec S16 32) (k0_hw84 : k0_chk84 v458), ∀ a x, ((![v458] : Fin 1 → IVec S16 32) a x).toNat < S65552.size a := fun v458 k0_hw84 => k0_hw84
def k0_off87 (k0_t7 : Fin k0_t7_loop.trips) : Fin 2 → Nat :=
  let c4_i32 : BitVec 32 := 4#32
  let v459 : Index := Scalar.indexCast c4_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v460 : Index := Scalar.indexCast v346
  ![4, v460.toNat]

def k0_chk85 (v486 : IVec S16 32) : Prop :=
  (∀ a x, ((![v486] : Fin 1 → IVec S16 32) a x).toNat < S65552.size a)
theorem k0_idx85_inb : ∀ (v486 : IVec S16 32) (k0_hw85 : k0_chk85 v486), ∀ a x, ((![v486] : Fin 1 → IVec S16 32) a x).toNat < S65552.size a := fun v486 k0_hw85 => k0_hw85
def k0_off88 (k0_t7 : Fin k0_t7_loop.trips) : Fin 2 → Nat :=
  let c5_i32 : BitVec 32 := 5#32
  let v487 : Index := Scalar.indexCast c5_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v488 : Index := Scalar.indexCast v346
  ![5, v488.toNat]

def k0_chk86 (v514 : IVec S16 32) : Prop :=
  (∀ a x, ((![v514] : Fin 1 → IVec S16 32) a x).toNat < S65552.size a)
theorem k0_idx86_inb : ∀ (v514 : IVec S16 32) (k0_hw86 : k0_chk86 v514), ∀ a x, ((![v514] : Fin 1 → IVec S16 32) a x).toNat < S65552.size a := fun v514 k0_hw86 => k0_hw86
def k0_off89 (k0_t7 : Fin k0_t7_loop.trips) : Fin 2 → Nat :=
  let c6_i32 : BitVec 32 := 6#32
  let v515 : Index := Scalar.indexCast c6_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v516 : Index := Scalar.indexCast v346
  ![6, v516.toNat]

def k0_chk87 (v542 : IVec S16 32) : Prop :=
  (∀ a x, ((![v542] : Fin 1 → IVec S16 32) a x).toNat < S65552.size a)
theorem k0_idx87_inb : ∀ (v542 : IVec S16 32) (k0_hw87 : k0_chk87 v542), ∀ a x, ((![v542] : Fin 1 → IVec S16 32) a x).toNat < S65552.size a := fun v542 k0_hw87 => k0_hw87
def k0_off90 (k0_t7 : Fin k0_t7_loop.trips) : Fin 2 → Nat :=
  let c7_i32 : BitVec 32 := 7#32
  let v543 : Index := Scalar.indexCast c7_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v544 : Index := Scalar.indexCast v346
  ![7, v544.toNat]

def k0_chk88 (v570 : IVec S16 32) : Prop :=
  (∀ a x, ((![v570] : Fin 1 → IVec S16 32) a x).toNat < S65552.size a)
theorem k0_idx88_inb : ∀ (v570 : IVec S16 32) (k0_hw88 : k0_chk88 v570), ∀ a x, ((![v570] : Fin 1 → IVec S16 32) a x).toNat < S65552.size a := fun v570 k0_hw88 => k0_hw88
def k0_off91 (k0_t7 : Fin k0_t7_loop.trips) : Fin 2 → Nat :=
  let c8_i32_439 : BitVec 32 := 8#32
  let v571 : Index := Scalar.indexCast c8_i32_439
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v572 : Index := Scalar.indexCast v346
  ![8, v572.toNat]

def k0_chk89 (v598 : IVec S16 32) : Prop :=
  (∀ a x, ((![v598] : Fin 1 → IVec S16 32) a x).toNat < S65552.size a)
theorem k0_idx89_inb : ∀ (v598 : IVec S16 32) (k0_hw89 : k0_chk89 v598), ∀ a x, ((![v598] : Fin 1 → IVec S16 32) a x).toNat < S65552.size a := fun v598 k0_hw89 => k0_hw89
def k0_off92 (k0_t7 : Fin k0_t7_loop.trips) : Fin 2 → Nat :=
  let c9_i32 : BitVec 32 := 9#32
  let v599 : Index := Scalar.indexCast c9_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v600 : Index := Scalar.indexCast v346
  ![9, v600.toNat]

def k0_chk90 (v626 : IVec S16 32) : Prop :=
  (∀ a x, ((![v626] : Fin 1 → IVec S16 32) a x).toNat < S65552.size a)
theorem k0_idx90_inb : ∀ (v626 : IVec S16 32) (k0_hw90 : k0_chk90 v626), ∀ a x, ((![v626] : Fin 1 → IVec S16 32) a x).toNat < S65552.size a := fun v626 k0_hw90 => k0_hw90
def k0_off93 (k0_t7 : Fin k0_t7_loop.trips) : Fin 2 → Nat :=
  let c10_i32 : BitVec 32 := 10#32
  let v627 : Index := Scalar.indexCast c10_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v628 : Index := Scalar.indexCast v346
  ![10, v628.toNat]

def k0_chk91 (v654 : IVec S16 32) : Prop :=
  (∀ a x, ((![v654] : Fin 1 → IVec S16 32) a x).toNat < S65552.size a)
theorem k0_idx91_inb : ∀ (v654 : IVec S16 32) (k0_hw91 : k0_chk91 v654), ∀ a x, ((![v654] : Fin 1 → IVec S16 32) a x).toNat < S65552.size a := fun v654 k0_hw91 => k0_hw91
def k0_off94 (k0_t7 : Fin k0_t7_loop.trips) : Fin 2 → Nat :=
  let c11_i32 : BitVec 32 := 11#32
  let v655 : Index := Scalar.indexCast c11_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v656 : Index := Scalar.indexCast v346
  ![11, v656.toNat]

def k0_chk92 (v682 : IVec S16 32) : Prop :=
  (∀ a x, ((![v682] : Fin 1 → IVec S16 32) a x).toNat < S65552.size a)
theorem k0_idx92_inb : ∀ (v682 : IVec S16 32) (k0_hw92 : k0_chk92 v682), ∀ a x, ((![v682] : Fin 1 → IVec S16 32) a x).toNat < S65552.size a := fun v682 k0_hw92 => k0_hw92
def k0_off95 (k0_t7 : Fin k0_t7_loop.trips) : Fin 2 → Nat :=
  let c12_i32 : BitVec 32 := 12#32
  let v683 : Index := Scalar.indexCast c12_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v684 : Index := Scalar.indexCast v346
  ![12, v684.toNat]

def k0_chk93 (v710 : IVec S16 32) : Prop :=
  (∀ a x, ((![v710] : Fin 1 → IVec S16 32) a x).toNat < S65552.size a)
theorem k0_idx93_inb : ∀ (v710 : IVec S16 32) (k0_hw93 : k0_chk93 v710), ∀ a x, ((![v710] : Fin 1 → IVec S16 32) a x).toNat < S65552.size a := fun v710 k0_hw93 => k0_hw93
def k0_off96 (k0_t7 : Fin k0_t7_loop.trips) : Fin 2 → Nat :=
  let c13_i32 : BitVec 32 := 13#32
  let v711 : Index := Scalar.indexCast c13_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v712 : Index := Scalar.indexCast v346
  ![13, v712.toNat]

def k0_chk94 (v738 : IVec S16 32) : Prop :=
  (∀ a x, ((![v738] : Fin 1 → IVec S16 32) a x).toNat < S65552.size a)
theorem k0_idx94_inb : ∀ (v738 : IVec S16 32) (k0_hw94 : k0_chk94 v738), ∀ a x, ((![v738] : Fin 1 → IVec S16 32) a x).toNat < S65552.size a := fun v738 k0_hw94 => k0_hw94
def k0_off97 (k0_t7 : Fin k0_t7_loop.trips) : Fin 2 → Nat :=
  let c14_i32 : BitVec 32 := 14#32
  let v739 : Index := Scalar.indexCast c14_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v740 : Index := Scalar.indexCast v346
  ![14, v740.toNat]

def k0_chk95 (v766 : IVec S16 32) : Prop :=
  (∀ a x, ((![v766] : Fin 1 → IVec S16 32) a x).toNat < S65552.size a)
theorem k0_idx95_inb : ∀ (v766 : IVec S16 32) (k0_hw95 : k0_chk95 v766), ∀ a x, ((![v766] : Fin 1 → IVec S16 32) a x).toNat < S65552.size a := fun v766 k0_hw95 => k0_hw95
def k0_off98 (k0_t7 : Fin k0_t7_loop.trips) : Fin 2 → Nat :=
  let c15_i32 : BitVec 32 := 15#32
  let v767 : Index := Scalar.indexCast c15_i32
  let c0_i32_78 : BitVec 32 := 0#32
  let c1_i32_80 : BitVec 32 := 1#32
  let arg19 : BitVec 32 := Scf.iv c0_i32_78 c1_i32_80 k0_t7
  let c16_i32_357 : BitVec 32 := 16#32
  let v346 : BitVec 32 := Scalar.muli arg19 c16_i32_357
  let v768 : Index := Scalar.indexCast v346
  ![15, v768.toNat]

def k0_chk96 (v794 : IVec S16 32) : Prop :=
  (∀ a x, ((![v794] : Fin 1 → IVec S16 32) a x).toNat < S65552.size a)
theorem k0_idx96_inb : ∀ (v794 : IVec S16 32) (k0_hw96 : k0_chk96 v794), ∀ a x, ((![v794] : Fin 1 → IVec S16 32) a x).toNat < S65552.size a := fun v794 k0_hw96 => k0_hw96
@[reducible] def k0_t8_loop : Scf.Loop 32 :=
  let c0_i32_90 : BitVec 32 := 0#32
  let c32_i32_91 : BitVec 32 := 32#32
  let v149 : BitVec 32 := Scalar.addi c0_i32_90 c32_i32_91
  let c1_i32_92 : BitVec 32 := 1#32
  ⟨c0_i32_90, v149, c1_i32_92⟩
def k0_off99 (k0_t8 : Fin k0_t8_loop.trips) : Fin 2 → Nat :=
  let c0_i32_358 : BitVec 32 := 0#32
  let v347 : Index := Scalar.indexCast c0_i32_358
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v348 : Index := Scalar.indexCast v346
  ![0, v348.toNat]

def k0_chk97 (v374 : IVec S16 32) : Prop :=
  (∀ a x, ((![v374] : Fin 1 → IVec S16 32) a x).toNat < S65552.size a)
theorem k0_idx97_inb : ∀ (v374 : IVec S16 32) (k0_hw97 : k0_chk97 v374), ∀ a x, ((![v374] : Fin 1 → IVec S16 32) a x).toNat < S65552.size a := fun v374 k0_hw97 => k0_hw97
def k0_off100 (k0_t8 : Fin k0_t8_loop.trips) : Fin 2 → Nat :=
  let c1_i32_367 : BitVec 32 := 1#32
  let v375 : Index := Scalar.indexCast c1_i32_367
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v376 : Index := Scalar.indexCast v346
  ![1, v376.toNat]

def k0_chk98 (v402 : IVec S16 32) : Prop :=
  (∀ a x, ((![v402] : Fin 1 → IVec S16 32) a x).toNat < S65552.size a)
theorem k0_idx98_inb : ∀ (v402 : IVec S16 32) (k0_hw98 : k0_chk98 v402), ∀ a x, ((![v402] : Fin 1 → IVec S16 32) a x).toNat < S65552.size a := fun v402 k0_hw98 => k0_hw98
def k0_off101 (k0_t8 : Fin k0_t8_loop.trips) : Fin 2 → Nat :=
  let c2_i32_378 : BitVec 32 := 2#32
  let v403 : Index := Scalar.indexCast c2_i32_378
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v404 : Index := Scalar.indexCast v346
  ![2, v404.toNat]

def k0_chk99 (v430 : IVec S16 32) : Prop :=
  (∀ a x, ((![v430] : Fin 1 → IVec S16 32) a x).toNat < S65552.size a)
theorem k0_idx99_inb : ∀ (v430 : IVec S16 32) (k0_hw99 : k0_chk99 v430), ∀ a x, ((![v430] : Fin 1 → IVec S16 32) a x).toNat < S65552.size a := fun v430 k0_hw99 => k0_hw99
def k0_off102 (k0_t8 : Fin k0_t8_loop.trips) : Fin 2 → Nat :=
  let c3_i32 : BitVec 32 := 3#32
  let v431 : Index := Scalar.indexCast c3_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v432 : Index := Scalar.indexCast v346
  ![3, v432.toNat]

def k0_chk100 (v458 : IVec S16 32) : Prop :=
  (∀ a x, ((![v458] : Fin 1 → IVec S16 32) a x).toNat < S65552.size a)
theorem k0_idx100_inb : ∀ (v458 : IVec S16 32) (k0_hw100 : k0_chk100 v458), ∀ a x, ((![v458] : Fin 1 → IVec S16 32) a x).toNat < S65552.size a := fun v458 k0_hw100 => k0_hw100
def k0_off103 (k0_t8 : Fin k0_t8_loop.trips) : Fin 2 → Nat :=
  let c4_i32 : BitVec 32 := 4#32
  let v459 : Index := Scalar.indexCast c4_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v460 : Index := Scalar.indexCast v346
  ![4, v460.toNat]

def k0_chk101 (v486 : IVec S16 32) : Prop :=
  (∀ a x, ((![v486] : Fin 1 → IVec S16 32) a x).toNat < S65552.size a)
theorem k0_idx101_inb : ∀ (v486 : IVec S16 32) (k0_hw101 : k0_chk101 v486), ∀ a x, ((![v486] : Fin 1 → IVec S16 32) a x).toNat < S65552.size a := fun v486 k0_hw101 => k0_hw101
def k0_off104 (k0_t8 : Fin k0_t8_loop.trips) : Fin 2 → Nat :=
  let c5_i32 : BitVec 32 := 5#32
  let v487 : Index := Scalar.indexCast c5_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v488 : Index := Scalar.indexCast v346
  ![5, v488.toNat]

def k0_chk102 (v514 : IVec S16 32) : Prop :=
  (∀ a x, ((![v514] : Fin 1 → IVec S16 32) a x).toNat < S65552.size a)
theorem k0_idx102_inb : ∀ (v514 : IVec S16 32) (k0_hw102 : k0_chk102 v514), ∀ a x, ((![v514] : Fin 1 → IVec S16 32) a x).toNat < S65552.size a := fun v514 k0_hw102 => k0_hw102
def k0_off105 (k0_t8 : Fin k0_t8_loop.trips) : Fin 2 → Nat :=
  let c6_i32 : BitVec 32 := 6#32
  let v515 : Index := Scalar.indexCast c6_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v516 : Index := Scalar.indexCast v346
  ![6, v516.toNat]

def k0_chk103 (v542 : IVec S16 32) : Prop :=
  (∀ a x, ((![v542] : Fin 1 → IVec S16 32) a x).toNat < S65552.size a)
theorem k0_idx103_inb : ∀ (v542 : IVec S16 32) (k0_hw103 : k0_chk103 v542), ∀ a x, ((![v542] : Fin 1 → IVec S16 32) a x).toNat < S65552.size a := fun v542 k0_hw103 => k0_hw103
def k0_off106 (k0_t8 : Fin k0_t8_loop.trips) : Fin 2 → Nat :=
  let c7_i32 : BitVec 32 := 7#32
  let v543 : Index := Scalar.indexCast c7_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v544 : Index := Scalar.indexCast v346
  ![7, v544.toNat]

def k0_chk104 (v570 : IVec S16 32) : Prop :=
  (∀ a x, ((![v570] : Fin 1 → IVec S16 32) a x).toNat < S65552.size a)
theorem k0_idx104_inb : ∀ (v570 : IVec S16 32) (k0_hw104 : k0_chk104 v570), ∀ a x, ((![v570] : Fin 1 → IVec S16 32) a x).toNat < S65552.size a := fun v570 k0_hw104 => k0_hw104
def k0_off107 (k0_t8 : Fin k0_t8_loop.trips) : Fin 2 → Nat :=
  let c8_i32_439 : BitVec 32 := 8#32
  let v571 : Index := Scalar.indexCast c8_i32_439
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v572 : Index := Scalar.indexCast v346
  ![8, v572.toNat]

def k0_chk105 (v598 : IVec S16 32) : Prop :=
  (∀ a x, ((![v598] : Fin 1 → IVec S16 32) a x).toNat < S65552.size a)
theorem k0_idx105_inb : ∀ (v598 : IVec S16 32) (k0_hw105 : k0_chk105 v598), ∀ a x, ((![v598] : Fin 1 → IVec S16 32) a x).toNat < S65552.size a := fun v598 k0_hw105 => k0_hw105
def k0_off108 (k0_t8 : Fin k0_t8_loop.trips) : Fin 2 → Nat :=
  let c9_i32 : BitVec 32 := 9#32
  let v599 : Index := Scalar.indexCast c9_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v600 : Index := Scalar.indexCast v346
  ![9, v600.toNat]

def k0_chk106 (v626 : IVec S16 32) : Prop :=
  (∀ a x, ((![v626] : Fin 1 → IVec S16 32) a x).toNat < S65552.size a)
theorem k0_idx106_inb : ∀ (v626 : IVec S16 32) (k0_hw106 : k0_chk106 v626), ∀ a x, ((![v626] : Fin 1 → IVec S16 32) a x).toNat < S65552.size a := fun v626 k0_hw106 => k0_hw106
def k0_off109 (k0_t8 : Fin k0_t8_loop.trips) : Fin 2 → Nat :=
  let c10_i32 : BitVec 32 := 10#32
  let v627 : Index := Scalar.indexCast c10_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v628 : Index := Scalar.indexCast v346
  ![10, v628.toNat]

def k0_chk107 (v654 : IVec S16 32) : Prop :=
  (∀ a x, ((![v654] : Fin 1 → IVec S16 32) a x).toNat < S65552.size a)
theorem k0_idx107_inb : ∀ (v654 : IVec S16 32) (k0_hw107 : k0_chk107 v654), ∀ a x, ((![v654] : Fin 1 → IVec S16 32) a x).toNat < S65552.size a := fun v654 k0_hw107 => k0_hw107
def k0_off110 (k0_t8 : Fin k0_t8_loop.trips) : Fin 2 → Nat :=
  let c11_i32 : BitVec 32 := 11#32
  let v655 : Index := Scalar.indexCast c11_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v656 : Index := Scalar.indexCast v346
  ![11, v656.toNat]

def k0_chk108 (v682 : IVec S16 32) : Prop :=
  (∀ a x, ((![v682] : Fin 1 → IVec S16 32) a x).toNat < S65552.size a)
theorem k0_idx108_inb : ∀ (v682 : IVec S16 32) (k0_hw108 : k0_chk108 v682), ∀ a x, ((![v682] : Fin 1 → IVec S16 32) a x).toNat < S65552.size a := fun v682 k0_hw108 => k0_hw108
def k0_off111 (k0_t8 : Fin k0_t8_loop.trips) : Fin 2 → Nat :=
  let c12_i32 : BitVec 32 := 12#32
  let v683 : Index := Scalar.indexCast c12_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v684 : Index := Scalar.indexCast v346
  ![12, v684.toNat]

def k0_chk109 (v710 : IVec S16 32) : Prop :=
  (∀ a x, ((![v710] : Fin 1 → IVec S16 32) a x).toNat < S65552.size a)
theorem k0_idx109_inb : ∀ (v710 : IVec S16 32) (k0_hw109 : k0_chk109 v710), ∀ a x, ((![v710] : Fin 1 → IVec S16 32) a x).toNat < S65552.size a := fun v710 k0_hw109 => k0_hw109
def k0_off112 (k0_t8 : Fin k0_t8_loop.trips) : Fin 2 → Nat :=
  let c13_i32 : BitVec 32 := 13#32
  let v711 : Index := Scalar.indexCast c13_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v712 : Index := Scalar.indexCast v346
  ![13, v712.toNat]

def k0_chk110 (v738 : IVec S16 32) : Prop :=
  (∀ a x, ((![v738] : Fin 1 → IVec S16 32) a x).toNat < S65552.size a)
theorem k0_idx110_inb : ∀ (v738 : IVec S16 32) (k0_hw110 : k0_chk110 v738), ∀ a x, ((![v738] : Fin 1 → IVec S16 32) a x).toNat < S65552.size a := fun v738 k0_hw110 => k0_hw110
def k0_off113 (k0_t8 : Fin k0_t8_loop.trips) : Fin 2 → Nat :=
  let c14_i32 : BitVec 32 := 14#32
  let v739 : Index := Scalar.indexCast c14_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v740 : Index := Scalar.indexCast v346
  ![14, v740.toNat]

def k0_chk111 (v766 : IVec S16 32) : Prop :=
  (∀ a x, ((![v766] : Fin 1 → IVec S16 32) a x).toNat < S65552.size a)
theorem k0_idx111_inb : ∀ (v766 : IVec S16 32) (k0_hw111 : k0_chk111 v766), ∀ a x, ((![v766] : Fin 1 → IVec S16 32) a x).toNat < S65552.size a := fun v766 k0_hw111 => k0_hw111
def k0_off114 (k0_t8 : Fin k0_t8_loop.trips) : Fin 2 → Nat :=
  let c15_i32 : BitVec 32 := 15#32
  let v767 : Index := Scalar.indexCast c15_i32
  let c0_i32_90 : BitVec 32 := 0#32
  let c1_i32_92 : BitVec 32 := 1#32
  let arg19 : BitVec 32 := Scf.iv c0_i32_90 c1_i32_92 k0_t8
  let c16_i32_357 : BitVec 32 := 16#32
  let v346 : BitVec 32 := Scalar.muli arg19 c16_i32_357
  let v768 : Index := Scalar.indexCast v346
  ![15, v768.toNat]

def k0_chk112 (v794 : IVec S16 32) : Prop :=
  (∀ a x, ((![v794] : Fin 1 → IVec S16 32) a x).toNat < S65552.size a)
theorem k0_idx112_inb : ∀ (v794 : IVec S16 32) (k0_hw112 : k0_chk112 v794), ∀ a x, ((![v794] : Fin 1 → IVec S16 32) a x).toNat < S65552.size a := fun v794 k0_hw112 => k0_hw112
@[reducible] def k0_t9_loop : Scf.Loop 32 :=
  let c0_i32_102 : BitVec 32 := 0#32
  let c32_i32_103 : BitVec 32 := 32#32
  let v168 : BitVec 32 := Scalar.addi c0_i32_102 c32_i32_103
  let c1_i32_104 : BitVec 32 := 1#32
  ⟨c0_i32_102, v168, c1_i32_104⟩
def k0_off115 (k0_t9 : Fin k0_t9_loop.trips) : Fin 2 → Nat :=
  let c0_i32_358 : BitVec 32 := 0#32
  let v347 : Index := Scalar.indexCast c0_i32_358
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v348 : Index := Scalar.indexCast v346
  ![0, v348.toNat]

def k0_chk113 (v374 : IVec S16 32) : Prop :=
  (∀ a x, ((![v374] : Fin 1 → IVec S16 32) a x).toNat < S65552.size a)
theorem k0_idx113_inb : ∀ (v374 : IVec S16 32) (k0_hw113 : k0_chk113 v374), ∀ a x, ((![v374] : Fin 1 → IVec S16 32) a x).toNat < S65552.size a := fun v374 k0_hw113 => k0_hw113
def k0_off116 (k0_t9 : Fin k0_t9_loop.trips) : Fin 2 → Nat :=
  let c1_i32_367 : BitVec 32 := 1#32
  let v375 : Index := Scalar.indexCast c1_i32_367
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v376 : Index := Scalar.indexCast v346
  ![1, v376.toNat]

def k0_chk114 (v402 : IVec S16 32) : Prop :=
  (∀ a x, ((![v402] : Fin 1 → IVec S16 32) a x).toNat < S65552.size a)
theorem k0_idx114_inb : ∀ (v402 : IVec S16 32) (k0_hw114 : k0_chk114 v402), ∀ a x, ((![v402] : Fin 1 → IVec S16 32) a x).toNat < S65552.size a := fun v402 k0_hw114 => k0_hw114
def k0_off117 (k0_t9 : Fin k0_t9_loop.trips) : Fin 2 → Nat :=
  let c2_i32_378 : BitVec 32 := 2#32
  let v403 : Index := Scalar.indexCast c2_i32_378
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v404 : Index := Scalar.indexCast v346
  ![2, v404.toNat]

def k0_chk115 (v430 : IVec S16 32) : Prop :=
  (∀ a x, ((![v430] : Fin 1 → IVec S16 32) a x).toNat < S65552.size a)
theorem k0_idx115_inb : ∀ (v430 : IVec S16 32) (k0_hw115 : k0_chk115 v430), ∀ a x, ((![v430] : Fin 1 → IVec S16 32) a x).toNat < S65552.size a := fun v430 k0_hw115 => k0_hw115
def k0_off118 (k0_t9 : Fin k0_t9_loop.trips) : Fin 2 → Nat :=
  let c3_i32 : BitVec 32 := 3#32
  let v431 : Index := Scalar.indexCast c3_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v432 : Index := Scalar.indexCast v346
  ![3, v432.toNat]

def k0_chk116 (v458 : IVec S16 32) : Prop :=
  (∀ a x, ((![v458] : Fin 1 → IVec S16 32) a x).toNat < S65552.size a)
theorem k0_idx116_inb : ∀ (v458 : IVec S16 32) (k0_hw116 : k0_chk116 v458), ∀ a x, ((![v458] : Fin 1 → IVec S16 32) a x).toNat < S65552.size a := fun v458 k0_hw116 => k0_hw116
def k0_off119 (k0_t9 : Fin k0_t9_loop.trips) : Fin 2 → Nat :=
  let c4_i32 : BitVec 32 := 4#32
  let v459 : Index := Scalar.indexCast c4_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v460 : Index := Scalar.indexCast v346
  ![4, v460.toNat]

def k0_chk117 (v486 : IVec S16 32) : Prop :=
  (∀ a x, ((![v486] : Fin 1 → IVec S16 32) a x).toNat < S65552.size a)
theorem k0_idx117_inb : ∀ (v486 : IVec S16 32) (k0_hw117 : k0_chk117 v486), ∀ a x, ((![v486] : Fin 1 → IVec S16 32) a x).toNat < S65552.size a := fun v486 k0_hw117 => k0_hw117
def k0_off120 (k0_t9 : Fin k0_t9_loop.trips) : Fin 2 → Nat :=
  let c5_i32 : BitVec 32 := 5#32
  let v487 : Index := Scalar.indexCast c5_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v488 : Index := Scalar.indexCast v346
  ![5, v488.toNat]

def k0_chk118 (v514 : IVec S16 32) : Prop :=
  (∀ a x, ((![v514] : Fin 1 → IVec S16 32) a x).toNat < S65552.size a)
theorem k0_idx118_inb : ∀ (v514 : IVec S16 32) (k0_hw118 : k0_chk118 v514), ∀ a x, ((![v514] : Fin 1 → IVec S16 32) a x).toNat < S65552.size a := fun v514 k0_hw118 => k0_hw118
def k0_off121 (k0_t9 : Fin k0_t9_loop.trips) : Fin 2 → Nat :=
  let c6_i32 : BitVec 32 := 6#32
  let v515 : Index := Scalar.indexCast c6_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v516 : Index := Scalar.indexCast v346
  ![6, v516.toNat]

def k0_chk119 (v542 : IVec S16 32) : Prop :=
  (∀ a x, ((![v542] : Fin 1 → IVec S16 32) a x).toNat < S65552.size a)
theorem k0_idx119_inb : ∀ (v542 : IVec S16 32) (k0_hw119 : k0_chk119 v542), ∀ a x, ((![v542] : Fin 1 → IVec S16 32) a x).toNat < S65552.size a := fun v542 k0_hw119 => k0_hw119
def k0_off122 (k0_t9 : Fin k0_t9_loop.trips) : Fin 2 → Nat :=
  let c7_i32 : BitVec 32 := 7#32
  let v543 : Index := Scalar.indexCast c7_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v544 : Index := Scalar.indexCast v346
  ![7, v544.toNat]

def k0_chk120 (v570 : IVec S16 32) : Prop :=
  (∀ a x, ((![v570] : Fin 1 → IVec S16 32) a x).toNat < S65552.size a)
theorem k0_idx120_inb : ∀ (v570 : IVec S16 32) (k0_hw120 : k0_chk120 v570), ∀ a x, ((![v570] : Fin 1 → IVec S16 32) a x).toNat < S65552.size a := fun v570 k0_hw120 => k0_hw120
def k0_off123 (k0_t9 : Fin k0_t9_loop.trips) : Fin 2 → Nat :=
  let c8_i32_439 : BitVec 32 := 8#32
  let v571 : Index := Scalar.indexCast c8_i32_439
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v572 : Index := Scalar.indexCast v346
  ![8, v572.toNat]

def k0_chk121 (v598 : IVec S16 32) : Prop :=
  (∀ a x, ((![v598] : Fin 1 → IVec S16 32) a x).toNat < S65552.size a)
theorem k0_idx121_inb : ∀ (v598 : IVec S16 32) (k0_hw121 : k0_chk121 v598), ∀ a x, ((![v598] : Fin 1 → IVec S16 32) a x).toNat < S65552.size a := fun v598 k0_hw121 => k0_hw121
def k0_off124 (k0_t9 : Fin k0_t9_loop.trips) : Fin 2 → Nat :=
  let c9_i32 : BitVec 32 := 9#32
  let v599 : Index := Scalar.indexCast c9_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v600 : Index := Scalar.indexCast v346
  ![9, v600.toNat]

def k0_chk122 (v626 : IVec S16 32) : Prop :=
  (∀ a x, ((![v626] : Fin 1 → IVec S16 32) a x).toNat < S65552.size a)
theorem k0_idx122_inb : ∀ (v626 : IVec S16 32) (k0_hw122 : k0_chk122 v626), ∀ a x, ((![v626] : Fin 1 → IVec S16 32) a x).toNat < S65552.size a := fun v626 k0_hw122 => k0_hw122
def k0_off125 (k0_t9 : Fin k0_t9_loop.trips) : Fin 2 → Nat :=
  let c10_i32 : BitVec 32 := 10#32
  let v627 : Index := Scalar.indexCast c10_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v628 : Index := Scalar.indexCast v346
  ![10, v628.toNat]

def k0_chk123 (v654 : IVec S16 32) : Prop :=
  (∀ a x, ((![v654] : Fin 1 → IVec S16 32) a x).toNat < S65552.size a)
theorem k0_idx123_inb : ∀ (v654 : IVec S16 32) (k0_hw123 : k0_chk123 v654), ∀ a x, ((![v654] : Fin 1 → IVec S16 32) a x).toNat < S65552.size a := fun v654 k0_hw123 => k0_hw123
def k0_off126 (k0_t9 : Fin k0_t9_loop.trips) : Fin 2 → Nat :=
  let c11_i32 : BitVec 32 := 11#32
  let v655 : Index := Scalar.indexCast c11_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v656 : Index := Scalar.indexCast v346
  ![11, v656.toNat]

def k0_chk124 (v682 : IVec S16 32) : Prop :=
  (∀ a x, ((![v682] : Fin 1 → IVec S16 32) a x).toNat < S65552.size a)
theorem k0_idx124_inb : ∀ (v682 : IVec S16 32) (k0_hw124 : k0_chk124 v682), ∀ a x, ((![v682] : Fin 1 → IVec S16 32) a x).toNat < S65552.size a := fun v682 k0_hw124 => k0_hw124
def k0_off127 (k0_t9 : Fin k0_t9_loop.trips) : Fin 2 → Nat :=
  let c12_i32 : BitVec 32 := 12#32
  let v683 : Index := Scalar.indexCast c12_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v684 : Index := Scalar.indexCast v346
  ![12, v684.toNat]

def k0_chk125 (v710 : IVec S16 32) : Prop :=
  (∀ a x, ((![v710] : Fin 1 → IVec S16 32) a x).toNat < S65552.size a)
theorem k0_idx125_inb : ∀ (v710 : IVec S16 32) (k0_hw125 : k0_chk125 v710), ∀ a x, ((![v710] : Fin 1 → IVec S16 32) a x).toNat < S65552.size a := fun v710 k0_hw125 => k0_hw125
def k0_off128 (k0_t9 : Fin k0_t9_loop.trips) : Fin 2 → Nat :=
  let c13_i32 : BitVec 32 := 13#32
  let v711 : Index := Scalar.indexCast c13_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v712 : Index := Scalar.indexCast v346
  ![13, v712.toNat]

def k0_chk126 (v738 : IVec S16 32) : Prop :=
  (∀ a x, ((![v738] : Fin 1 → IVec S16 32) a x).toNat < S65552.size a)
theorem k0_idx126_inb : ∀ (v738 : IVec S16 32) (k0_hw126 : k0_chk126 v738), ∀ a x, ((![v738] : Fin 1 → IVec S16 32) a x).toNat < S65552.size a := fun v738 k0_hw126 => k0_hw126
def k0_off129 (k0_t9 : Fin k0_t9_loop.trips) : Fin 2 → Nat :=
  let c14_i32 : BitVec 32 := 14#32
  let v739 : Index := Scalar.indexCast c14_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v740 : Index := Scalar.indexCast v346
  ![14, v740.toNat]

def k0_chk127 (v766 : IVec S16 32) : Prop :=
  (∀ a x, ((![v766] : Fin 1 → IVec S16 32) a x).toNat < S65552.size a)
theorem k0_idx127_inb : ∀ (v766 : IVec S16 32) (k0_hw127 : k0_chk127 v766), ∀ a x, ((![v766] : Fin 1 → IVec S16 32) a x).toNat < S65552.size a := fun v766 k0_hw127 => k0_hw127
def k0_off130 (k0_t9 : Fin k0_t9_loop.trips) : Fin 2 → Nat :=
  let c15_i32 : BitVec 32 := 15#32
  let v767 : Index := Scalar.indexCast c15_i32
  let c0_i32_102 : BitVec 32 := 0#32
  let c1_i32_104 : BitVec 32 := 1#32
  let arg19 : BitVec 32 := Scf.iv c0_i32_102 c1_i32_104 k0_t9
  let c16_i32_357 : BitVec 32 := 16#32
  let v346 : BitVec 32 := Scalar.muli arg19 c16_i32_357
  let v768 : Index := Scalar.indexCast v346
  ![15, v768.toNat]

def k0_chk128 (v794 : IVec S16 32) : Prop :=
  (∀ a x, ((![v794] : Fin 1 → IVec S16 32) a x).toNat < S65552.size a)
theorem k0_idx128_inb : ∀ (v794 : IVec S16 32) (k0_hw128 : k0_chk128 v794), ∀ a x, ((![v794] : Fin 1 → IVec S16 32) a x).toNat < S65552.size a := fun v794 k0_hw128 => k0_hw128
@[reducible] def k0_t10_loop : Scf.Loop 32 :=
  let c0_i32_114 : BitVec 32 := 0#32
  let c32_i32_115 : BitVec 32 := 32#32
  let v187 : BitVec 32 := Scalar.addi c0_i32_114 c32_i32_115
  let c1_i32_116 : BitVec 32 := 1#32
  ⟨c0_i32_114, v187, c1_i32_116⟩
def k0_off131 (k0_t10 : Fin k0_t10_loop.trips) : Fin 2 → Nat :=
  let c0_i32_358 : BitVec 32 := 0#32
  let v347 : Index := Scalar.indexCast c0_i32_358
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v348 : Index := Scalar.indexCast v346
  ![0, v348.toNat]

def k0_chk129 (v374 : IVec S16 32) : Prop :=
  (∀ a x, ((![v374] : Fin 1 → IVec S16 32) a x).toNat < S65552.size a)
theorem k0_idx129_inb : ∀ (v374 : IVec S16 32) (k0_hw129 : k0_chk129 v374), ∀ a x, ((![v374] : Fin 1 → IVec S16 32) a x).toNat < S65552.size a := fun v374 k0_hw129 => k0_hw129
def k0_off132 (k0_t10 : Fin k0_t10_loop.trips) : Fin 2 → Nat :=
  let c1_i32_367 : BitVec 32 := 1#32
  let v375 : Index := Scalar.indexCast c1_i32_367
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v376 : Index := Scalar.indexCast v346
  ![1, v376.toNat]

def k0_chk130 (v402 : IVec S16 32) : Prop :=
  (∀ a x, ((![v402] : Fin 1 → IVec S16 32) a x).toNat < S65552.size a)
theorem k0_idx130_inb : ∀ (v402 : IVec S16 32) (k0_hw130 : k0_chk130 v402), ∀ a x, ((![v402] : Fin 1 → IVec S16 32) a x).toNat < S65552.size a := fun v402 k0_hw130 => k0_hw130
def k0_off133 (k0_t10 : Fin k0_t10_loop.trips) : Fin 2 → Nat :=
  let c2_i32_378 : BitVec 32 := 2#32
  let v403 : Index := Scalar.indexCast c2_i32_378
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v404 : Index := Scalar.indexCast v346
  ![2, v404.toNat]

def k0_chk131 (v430 : IVec S16 32) : Prop :=
  (∀ a x, ((![v430] : Fin 1 → IVec S16 32) a x).toNat < S65552.size a)
theorem k0_idx131_inb : ∀ (v430 : IVec S16 32) (k0_hw131 : k0_chk131 v430), ∀ a x, ((![v430] : Fin 1 → IVec S16 32) a x).toNat < S65552.size a := fun v430 k0_hw131 => k0_hw131
def k0_off134 (k0_t10 : Fin k0_t10_loop.trips) : Fin 2 → Nat :=
  let c3_i32 : BitVec 32 := 3#32
  let v431 : Index := Scalar.indexCast c3_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v432 : Index := Scalar.indexCast v346
  ![3, v432.toNat]

def k0_chk132 (v458 : IVec S16 32) : Prop :=
  (∀ a x, ((![v458] : Fin 1 → IVec S16 32) a x).toNat < S65552.size a)
theorem k0_idx132_inb : ∀ (v458 : IVec S16 32) (k0_hw132 : k0_chk132 v458), ∀ a x, ((![v458] : Fin 1 → IVec S16 32) a x).toNat < S65552.size a := fun v458 k0_hw132 => k0_hw132
def k0_off135 (k0_t10 : Fin k0_t10_loop.trips) : Fin 2 → Nat :=
  let c4_i32 : BitVec 32 := 4#32
  let v459 : Index := Scalar.indexCast c4_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v460 : Index := Scalar.indexCast v346
  ![4, v460.toNat]

def k0_chk133 (v486 : IVec S16 32) : Prop :=
  (∀ a x, ((![v486] : Fin 1 → IVec S16 32) a x).toNat < S65552.size a)
theorem k0_idx133_inb : ∀ (v486 : IVec S16 32) (k0_hw133 : k0_chk133 v486), ∀ a x, ((![v486] : Fin 1 → IVec S16 32) a x).toNat < S65552.size a := fun v486 k0_hw133 => k0_hw133
def k0_off136 (k0_t10 : Fin k0_t10_loop.trips) : Fin 2 → Nat :=
  let c5_i32 : BitVec 32 := 5#32
  let v487 : Index := Scalar.indexCast c5_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v488 : Index := Scalar.indexCast v346
  ![5, v488.toNat]

def k0_chk134 (v514 : IVec S16 32) : Prop :=
  (∀ a x, ((![v514] : Fin 1 → IVec S16 32) a x).toNat < S65552.size a)
theorem k0_idx134_inb : ∀ (v514 : IVec S16 32) (k0_hw134 : k0_chk134 v514), ∀ a x, ((![v514] : Fin 1 → IVec S16 32) a x).toNat < S65552.size a := fun v514 k0_hw134 => k0_hw134
def k0_off137 (k0_t10 : Fin k0_t10_loop.trips) : Fin 2 → Nat :=
  let c6_i32 : BitVec 32 := 6#32
  let v515 : Index := Scalar.indexCast c6_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v516 : Index := Scalar.indexCast v346
  ![6, v516.toNat]

def k0_chk135 (v542 : IVec S16 32) : Prop :=
  (∀ a x, ((![v542] : Fin 1 → IVec S16 32) a x).toNat < S65552.size a)
theorem k0_idx135_inb : ∀ (v542 : IVec S16 32) (k0_hw135 : k0_chk135 v542), ∀ a x, ((![v542] : Fin 1 → IVec S16 32) a x).toNat < S65552.size a := fun v542 k0_hw135 => k0_hw135
def k0_off138 (k0_t10 : Fin k0_t10_loop.trips) : Fin 2 → Nat :=
  let c7_i32 : BitVec 32 := 7#32
  let v543 : Index := Scalar.indexCast c7_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v544 : Index := Scalar.indexCast v346
  ![7, v544.toNat]

def k0_chk136 (v570 : IVec S16 32) : Prop :=
  (∀ a x, ((![v570] : Fin 1 → IVec S16 32) a x).toNat < S65552.size a)
theorem k0_idx136_inb : ∀ (v570 : IVec S16 32) (k0_hw136 : k0_chk136 v570), ∀ a x, ((![v570] : Fin 1 → IVec S16 32) a x).toNat < S65552.size a := fun v570 k0_hw136 => k0_hw136
def k0_off139 (k0_t10 : Fin k0_t10_loop.trips) : Fin 2 → Nat :=
  let c8_i32_439 : BitVec 32 := 8#32
  let v571 : Index := Scalar.indexCast c8_i32_439
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v572 : Index := Scalar.indexCast v346
  ![8, v572.toNat]

def k0_chk137 (v598 : IVec S16 32) : Prop :=
  (∀ a x, ((![v598] : Fin 1 → IVec S16 32) a x).toNat < S65552.size a)
theorem k0_idx137_inb : ∀ (v598 : IVec S16 32) (k0_hw137 : k0_chk137 v598), ∀ a x, ((![v598] : Fin 1 → IVec S16 32) a x).toNat < S65552.size a := fun v598 k0_hw137 => k0_hw137
def k0_off140 (k0_t10 : Fin k0_t10_loop.trips) : Fin 2 → Nat :=
  let c9_i32 : BitVec 32 := 9#32
  let v599 : Index := Scalar.indexCast c9_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v600 : Index := Scalar.indexCast v346
  ![9, v600.toNat]

def k0_chk138 (v626 : IVec S16 32) : Prop :=
  (∀ a x, ((![v626] : Fin 1 → IVec S16 32) a x).toNat < S65552.size a)
theorem k0_idx138_inb : ∀ (v626 : IVec S16 32) (k0_hw138 : k0_chk138 v626), ∀ a x, ((![v626] : Fin 1 → IVec S16 32) a x).toNat < S65552.size a := fun v626 k0_hw138 => k0_hw138
def k0_off141 (k0_t10 : Fin k0_t10_loop.trips) : Fin 2 → Nat :=
  let c10_i32 : BitVec 32 := 10#32
  let v627 : Index := Scalar.indexCast c10_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v628 : Index := Scalar.indexCast v346
  ![10, v628.toNat]

def k0_chk139 (v654 : IVec S16 32) : Prop :=
  (∀ a x, ((![v654] : Fin 1 → IVec S16 32) a x).toNat < S65552.size a)
theorem k0_idx139_inb : ∀ (v654 : IVec S16 32) (k0_hw139 : k0_chk139 v654), ∀ a x, ((![v654] : Fin 1 → IVec S16 32) a x).toNat < S65552.size a := fun v654 k0_hw139 => k0_hw139
def k0_off142 (k0_t10 : Fin k0_t10_loop.trips) : Fin 2 → Nat :=
  let c11_i32 : BitVec 32 := 11#32
  let v655 : Index := Scalar.indexCast c11_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v656 : Index := Scalar.indexCast v346
  ![11, v656.toNat]

def k0_chk140 (v682 : IVec S16 32) : Prop :=
  (∀ a x, ((![v682] : Fin 1 → IVec S16 32) a x).toNat < S65552.size a)
theorem k0_idx140_inb : ∀ (v682 : IVec S16 32) (k0_hw140 : k0_chk140 v682), ∀ a x, ((![v682] : Fin 1 → IVec S16 32) a x).toNat < S65552.size a := fun v682 k0_hw140 => k0_hw140
def k0_off143 (k0_t10 : Fin k0_t10_loop.trips) : Fin 2 → Nat :=
  let c12_i32 : BitVec 32 := 12#32
  let v683 : Index := Scalar.indexCast c12_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v684 : Index := Scalar.indexCast v346
  ![12, v684.toNat]

def k0_chk141 (v710 : IVec S16 32) : Prop :=
  (∀ a x, ((![v710] : Fin 1 → IVec S16 32) a x).toNat < S65552.size a)
theorem k0_idx141_inb : ∀ (v710 : IVec S16 32) (k0_hw141 : k0_chk141 v710), ∀ a x, ((![v710] : Fin 1 → IVec S16 32) a x).toNat < S65552.size a := fun v710 k0_hw141 => k0_hw141
def k0_off144 (k0_t10 : Fin k0_t10_loop.trips) : Fin 2 → Nat :=
  let c13_i32 : BitVec 32 := 13#32
  let v711 : Index := Scalar.indexCast c13_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v712 : Index := Scalar.indexCast v346
  ![13, v712.toNat]

def k0_chk142 (v738 : IVec S16 32) : Prop :=
  (∀ a x, ((![v738] : Fin 1 → IVec S16 32) a x).toNat < S65552.size a)
theorem k0_idx142_inb : ∀ (v738 : IVec S16 32) (k0_hw142 : k0_chk142 v738), ∀ a x, ((![v738] : Fin 1 → IVec S16 32) a x).toNat < S65552.size a := fun v738 k0_hw142 => k0_hw142
def k0_off145 (k0_t10 : Fin k0_t10_loop.trips) : Fin 2 → Nat :=
  let c14_i32 : BitVec 32 := 14#32
  let v739 : Index := Scalar.indexCast c14_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v740 : Index := Scalar.indexCast v346
  ![14, v740.toNat]

def k0_chk143 (v766 : IVec S16 32) : Prop :=
  (∀ a x, ((![v766] : Fin 1 → IVec S16 32) a x).toNat < S65552.size a)
theorem k0_idx143_inb : ∀ (v766 : IVec S16 32) (k0_hw143 : k0_chk143 v766), ∀ a x, ((![v766] : Fin 1 → IVec S16 32) a x).toNat < S65552.size a := fun v766 k0_hw143 => k0_hw143
def k0_off146 (k0_t10 : Fin k0_t10_loop.trips) : Fin 2 → Nat :=
  let c15_i32 : BitVec 32 := 15#32
  let v767 : Index := Scalar.indexCast c15_i32
  let c0_i32_114 : BitVec 32 := 0#32
  let c1_i32_116 : BitVec 32 := 1#32
  let arg19 : BitVec 32 := Scf.iv c0_i32_114 c1_i32_116 k0_t10
  let c16_i32_357 : BitVec 32 := 16#32
  let v346 : BitVec 32 := Scalar.muli arg19 c16_i32_357
  let v768 : Index := Scalar.indexCast v346
  ![15, v768.toNat]

def k0_chk144 (v794 : IVec S16 32) : Prop :=
  (∀ a x, ((![v794] : Fin 1 → IVec S16 32) a x).toNat < S65552.size a)
theorem k0_idx144_inb : ∀ (v794 : IVec S16 32) (k0_hw144 : k0_chk144 v794), ∀ a x, ((![v794] : Fin 1 → IVec S16 32) a x).toNat < S65552.size a := fun v794 k0_hw144 => k0_hw144
@[reducible] def k0_t11_loop : Scf.Loop 32 :=
  let c0_i32_126 : BitVec 32 := 0#32
  let c32_i32_127 : BitVec 32 := 32#32
  let v206 : BitVec 32 := Scalar.addi c0_i32_126 c32_i32_127
  let c1_i32_128 : BitVec 32 := 1#32
  ⟨c0_i32_126, v206, c1_i32_128⟩
def k0_off147 (k0_t11 : Fin k0_t11_loop.trips) : Fin 2 → Nat :=
  let c0_i32_358 : BitVec 32 := 0#32
  let v347 : Index := Scalar.indexCast c0_i32_358
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v348 : Index := Scalar.indexCast v346
  ![0, v348.toNat]

def k0_chk145 (v374 : IVec S16 32) : Prop :=
  (∀ a x, ((![v374] : Fin 1 → IVec S16 32) a x).toNat < S65552.size a)
theorem k0_idx145_inb : ∀ (v374 : IVec S16 32) (k0_hw145 : k0_chk145 v374), ∀ a x, ((![v374] : Fin 1 → IVec S16 32) a x).toNat < S65552.size a := fun v374 k0_hw145 => k0_hw145
def k0_off148 (k0_t11 : Fin k0_t11_loop.trips) : Fin 2 → Nat :=
  let c1_i32_367 : BitVec 32 := 1#32
  let v375 : Index := Scalar.indexCast c1_i32_367
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v376 : Index := Scalar.indexCast v346
  ![1, v376.toNat]

def k0_chk146 (v402 : IVec S16 32) : Prop :=
  (∀ a x, ((![v402] : Fin 1 → IVec S16 32) a x).toNat < S65552.size a)
theorem k0_idx146_inb : ∀ (v402 : IVec S16 32) (k0_hw146 : k0_chk146 v402), ∀ a x, ((![v402] : Fin 1 → IVec S16 32) a x).toNat < S65552.size a := fun v402 k0_hw146 => k0_hw146
def k0_off149 (k0_t11 : Fin k0_t11_loop.trips) : Fin 2 → Nat :=
  let c2_i32_378 : BitVec 32 := 2#32
  let v403 : Index := Scalar.indexCast c2_i32_378
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v404 : Index := Scalar.indexCast v346
  ![2, v404.toNat]

def k0_chk147 (v430 : IVec S16 32) : Prop :=
  (∀ a x, ((![v430] : Fin 1 → IVec S16 32) a x).toNat < S65552.size a)
theorem k0_idx147_inb : ∀ (v430 : IVec S16 32) (k0_hw147 : k0_chk147 v430), ∀ a x, ((![v430] : Fin 1 → IVec S16 32) a x).toNat < S65552.size a := fun v430 k0_hw147 => k0_hw147
def k0_off150 (k0_t11 : Fin k0_t11_loop.trips) : Fin 2 → Nat :=
  let c3_i32 : BitVec 32 := 3#32
  let v431 : Index := Scalar.indexCast c3_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v432 : Index := Scalar.indexCast v346
  ![3, v432.toNat]

def k0_chk148 (v458 : IVec S16 32) : Prop :=
  (∀ a x, ((![v458] : Fin 1 → IVec S16 32) a x).toNat < S65552.size a)
theorem k0_idx148_inb : ∀ (v458 : IVec S16 32) (k0_hw148 : k0_chk148 v458), ∀ a x, ((![v458] : Fin 1 → IVec S16 32) a x).toNat < S65552.size a := fun v458 k0_hw148 => k0_hw148
def k0_off151 (k0_t11 : Fin k0_t11_loop.trips) : Fin 2 → Nat :=
  let c4_i32 : BitVec 32 := 4#32
  let v459 : Index := Scalar.indexCast c4_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v460 : Index := Scalar.indexCast v346
  ![4, v460.toNat]

def k0_chk149 (v486 : IVec S16 32) : Prop :=
  (∀ a x, ((![v486] : Fin 1 → IVec S16 32) a x).toNat < S65552.size a)
theorem k0_idx149_inb : ∀ (v486 : IVec S16 32) (k0_hw149 : k0_chk149 v486), ∀ a x, ((![v486] : Fin 1 → IVec S16 32) a x).toNat < S65552.size a := fun v486 k0_hw149 => k0_hw149
def k0_off152 (k0_t11 : Fin k0_t11_loop.trips) : Fin 2 → Nat :=
  let c5_i32 : BitVec 32 := 5#32
  let v487 : Index := Scalar.indexCast c5_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v488 : Index := Scalar.indexCast v346
  ![5, v488.toNat]

def k0_chk150 (v514 : IVec S16 32) : Prop :=
  (∀ a x, ((![v514] : Fin 1 → IVec S16 32) a x).toNat < S65552.size a)
theorem k0_idx150_inb : ∀ (v514 : IVec S16 32) (k0_hw150 : k0_chk150 v514), ∀ a x, ((![v514] : Fin 1 → IVec S16 32) a x).toNat < S65552.size a := fun v514 k0_hw150 => k0_hw150
def k0_off153 (k0_t11 : Fin k0_t11_loop.trips) : Fin 2 → Nat :=
  let c6_i32 : BitVec 32 := 6#32
  let v515 : Index := Scalar.indexCast c6_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v516 : Index := Scalar.indexCast v346
  ![6, v516.toNat]

def k0_chk151 (v542 : IVec S16 32) : Prop :=
  (∀ a x, ((![v542] : Fin 1 → IVec S16 32) a x).toNat < S65552.size a)
theorem k0_idx151_inb : ∀ (v542 : IVec S16 32) (k0_hw151 : k0_chk151 v542), ∀ a x, ((![v542] : Fin 1 → IVec S16 32) a x).toNat < S65552.size a := fun v542 k0_hw151 => k0_hw151
def k0_off154 (k0_t11 : Fin k0_t11_loop.trips) : Fin 2 → Nat :=
  let c7_i32 : BitVec 32 := 7#32
  let v543 : Index := Scalar.indexCast c7_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v544 : Index := Scalar.indexCast v346
  ![7, v544.toNat]

def k0_chk152 (v570 : IVec S16 32) : Prop :=
  (∀ a x, ((![v570] : Fin 1 → IVec S16 32) a x).toNat < S65552.size a)
theorem k0_idx152_inb : ∀ (v570 : IVec S16 32) (k0_hw152 : k0_chk152 v570), ∀ a x, ((![v570] : Fin 1 → IVec S16 32) a x).toNat < S65552.size a := fun v570 k0_hw152 => k0_hw152
def k0_off155 (k0_t11 : Fin k0_t11_loop.trips) : Fin 2 → Nat :=
  let c8_i32_439 : BitVec 32 := 8#32
  let v571 : Index := Scalar.indexCast c8_i32_439
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v572 : Index := Scalar.indexCast v346
  ![8, v572.toNat]

def k0_chk153 (v598 : IVec S16 32) : Prop :=
  (∀ a x, ((![v598] : Fin 1 → IVec S16 32) a x).toNat < S65552.size a)
theorem k0_idx153_inb : ∀ (v598 : IVec S16 32) (k0_hw153 : k0_chk153 v598), ∀ a x, ((![v598] : Fin 1 → IVec S16 32) a x).toNat < S65552.size a := fun v598 k0_hw153 => k0_hw153
def k0_off156 (k0_t11 : Fin k0_t11_loop.trips) : Fin 2 → Nat :=
  let c9_i32 : BitVec 32 := 9#32
  let v599 : Index := Scalar.indexCast c9_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v600 : Index := Scalar.indexCast v346
  ![9, v600.toNat]

def k0_chk154 (v626 : IVec S16 32) : Prop :=
  (∀ a x, ((![v626] : Fin 1 → IVec S16 32) a x).toNat < S65552.size a)
theorem k0_idx154_inb : ∀ (v626 : IVec S16 32) (k0_hw154 : k0_chk154 v626), ∀ a x, ((![v626] : Fin 1 → IVec S16 32) a x).toNat < S65552.size a := fun v626 k0_hw154 => k0_hw154
def k0_off157 (k0_t11 : Fin k0_t11_loop.trips) : Fin 2 → Nat :=
  let c10_i32 : BitVec 32 := 10#32
  let v627 : Index := Scalar.indexCast c10_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v628 : Index := Scalar.indexCast v346
  ![10, v628.toNat]

def k0_chk155 (v654 : IVec S16 32) : Prop :=
  (∀ a x, ((![v654] : Fin 1 → IVec S16 32) a x).toNat < S65552.size a)
theorem k0_idx155_inb : ∀ (v654 : IVec S16 32) (k0_hw155 : k0_chk155 v654), ∀ a x, ((![v654] : Fin 1 → IVec S16 32) a x).toNat < S65552.size a := fun v654 k0_hw155 => k0_hw155
def k0_off158 (k0_t11 : Fin k0_t11_loop.trips) : Fin 2 → Nat :=
  let c11_i32 : BitVec 32 := 11#32
  let v655 : Index := Scalar.indexCast c11_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v656 : Index := Scalar.indexCast v346
  ![11, v656.toNat]

def k0_chk156 (v682 : IVec S16 32) : Prop :=
  (∀ a x, ((![v682] : Fin 1 → IVec S16 32) a x).toNat < S65552.size a)
theorem k0_idx156_inb : ∀ (v682 : IVec S16 32) (k0_hw156 : k0_chk156 v682), ∀ a x, ((![v682] : Fin 1 → IVec S16 32) a x).toNat < S65552.size a := fun v682 k0_hw156 => k0_hw156
def k0_off159 (k0_t11 : Fin k0_t11_loop.trips) : Fin 2 → Nat :=
  let c12_i32 : BitVec 32 := 12#32
  let v683 : Index := Scalar.indexCast c12_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v684 : Index := Scalar.indexCast v346
  ![12, v684.toNat]

def k0_chk157 (v710 : IVec S16 32) : Prop :=
  (∀ a x, ((![v710] : Fin 1 → IVec S16 32) a x).toNat < S65552.size a)
theorem k0_idx157_inb : ∀ (v710 : IVec S16 32) (k0_hw157 : k0_chk157 v710), ∀ a x, ((![v710] : Fin 1 → IVec S16 32) a x).toNat < S65552.size a := fun v710 k0_hw157 => k0_hw157
def k0_off160 (k0_t11 : Fin k0_t11_loop.trips) : Fin 2 → Nat :=
  let c13_i32 : BitVec 32 := 13#32
  let v711 : Index := Scalar.indexCast c13_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v712 : Index := Scalar.indexCast v346
  ![13, v712.toNat]

def k0_chk158 (v738 : IVec S16 32) : Prop :=
  (∀ a x, ((![v738] : Fin 1 → IVec S16 32) a x).toNat < S65552.size a)
theorem k0_idx158_inb : ∀ (v738 : IVec S16 32) (k0_hw158 : k0_chk158 v738), ∀ a x, ((![v738] : Fin 1 → IVec S16 32) a x).toNat < S65552.size a := fun v738 k0_hw158 => k0_hw158
def k0_off161 (k0_t11 : Fin k0_t11_loop.trips) : Fin 2 → Nat :=
  let c14_i32 : BitVec 32 := 14#32
  let v739 : Index := Scalar.indexCast c14_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v740 : Index := Scalar.indexCast v346
  ![14, v740.toNat]

def k0_chk159 (v766 : IVec S16 32) : Prop :=
  (∀ a x, ((![v766] : Fin 1 → IVec S16 32) a x).toNat < S65552.size a)
theorem k0_idx159_inb : ∀ (v766 : IVec S16 32) (k0_hw159 : k0_chk159 v766), ∀ a x, ((![v766] : Fin 1 → IVec S16 32) a x).toNat < S65552.size a := fun v766 k0_hw159 => k0_hw159
def k0_off162 (k0_t11 : Fin k0_t11_loop.trips) : Fin 2 → Nat :=
  let c15_i32 : BitVec 32 := 15#32
  let v767 : Index := Scalar.indexCast c15_i32
  let c0_i32_126 : BitVec 32 := 0#32
  let c1_i32_128 : BitVec 32 := 1#32
  let arg19 : BitVec 32 := Scf.iv c0_i32_126 c1_i32_128 k0_t11
  let c16_i32_357 : BitVec 32 := 16#32
  let v346 : BitVec 32 := Scalar.muli arg19 c16_i32_357
  let v768 : Index := Scalar.indexCast v346
  ![15, v768.toNat]

def k0_chk160 (v794 : IVec S16 32) : Prop :=
  (∀ a x, ((![v794] : Fin 1 → IVec S16 32) a x).toNat < S65552.size a)
theorem k0_idx160_inb : ∀ (v794 : IVec S16 32) (k0_hw160 : k0_chk160 v794), ∀ a x, ((![v794] : Fin 1 → IVec S16 32) a x).toNat < S65552.size a := fun v794 k0_hw160 => k0_hw160
@[reducible] def k0_t12_loop : Scf.Loop 32 :=
  let c0_i32_138 : BitVec 32 := 0#32
  let c32_i32_139 : BitVec 32 := 32#32
  let v225 : BitVec 32 := Scalar.addi c0_i32_138 c32_i32_139
  let c1_i32_140 : BitVec 32 := 1#32
  ⟨c0_i32_138, v225, c1_i32_140⟩
def k0_off163 (k0_t12 : Fin k0_t12_loop.trips) : Fin 2 → Nat :=
  let c0_i32_358 : BitVec 32 := 0#32
  let v347 : Index := Scalar.indexCast c0_i32_358
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v348 : Index := Scalar.indexCast v346
  ![0, v348.toNat]

def k0_chk161 (v374 : IVec S16 32) : Prop :=
  (∀ a x, ((![v374] : Fin 1 → IVec S16 32) a x).toNat < S65552.size a)
theorem k0_idx161_inb : ∀ (v374 : IVec S16 32) (k0_hw161 : k0_chk161 v374), ∀ a x, ((![v374] : Fin 1 → IVec S16 32) a x).toNat < S65552.size a := fun v374 k0_hw161 => k0_hw161
def k0_off164 (k0_t12 : Fin k0_t12_loop.trips) : Fin 2 → Nat :=
  let c1_i32_367 : BitVec 32 := 1#32
  let v375 : Index := Scalar.indexCast c1_i32_367
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v376 : Index := Scalar.indexCast v346
  ![1, v376.toNat]

def k0_chk162 (v402 : IVec S16 32) : Prop :=
  (∀ a x, ((![v402] : Fin 1 → IVec S16 32) a x).toNat < S65552.size a)
theorem k0_idx162_inb : ∀ (v402 : IVec S16 32) (k0_hw162 : k0_chk162 v402), ∀ a x, ((![v402] : Fin 1 → IVec S16 32) a x).toNat < S65552.size a := fun v402 k0_hw162 => k0_hw162
def k0_off165 (k0_t12 : Fin k0_t12_loop.trips) : Fin 2 → Nat :=
  let c2_i32_378 : BitVec 32 := 2#32
  let v403 : Index := Scalar.indexCast c2_i32_378
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v404 : Index := Scalar.indexCast v346
  ![2, v404.toNat]

def k0_chk163 (v430 : IVec S16 32) : Prop :=
  (∀ a x, ((![v430] : Fin 1 → IVec S16 32) a x).toNat < S65552.size a)
theorem k0_idx163_inb : ∀ (v430 : IVec S16 32) (k0_hw163 : k0_chk163 v430), ∀ a x, ((![v430] : Fin 1 → IVec S16 32) a x).toNat < S65552.size a := fun v430 k0_hw163 => k0_hw163
def k0_off166 (k0_t12 : Fin k0_t12_loop.trips) : Fin 2 → Nat :=
  let c3_i32 : BitVec 32 := 3#32
  let v431 : Index := Scalar.indexCast c3_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v432 : Index := Scalar.indexCast v346
  ![3, v432.toNat]

def k0_chk164 (v458 : IVec S16 32) : Prop :=
  (∀ a x, ((![v458] : Fin 1 → IVec S16 32) a x).toNat < S65552.size a)
theorem k0_idx164_inb : ∀ (v458 : IVec S16 32) (k0_hw164 : k0_chk164 v458), ∀ a x, ((![v458] : Fin 1 → IVec S16 32) a x).toNat < S65552.size a := fun v458 k0_hw164 => k0_hw164
def k0_off167 (k0_t12 : Fin k0_t12_loop.trips) : Fin 2 → Nat :=
  let c4_i32 : BitVec 32 := 4#32
  let v459 : Index := Scalar.indexCast c4_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v460 : Index := Scalar.indexCast v346
  ![4, v460.toNat]

def k0_chk165 (v486 : IVec S16 32) : Prop :=
  (∀ a x, ((![v486] : Fin 1 → IVec S16 32) a x).toNat < S65552.size a)
theorem k0_idx165_inb : ∀ (v486 : IVec S16 32) (k0_hw165 : k0_chk165 v486), ∀ a x, ((![v486] : Fin 1 → IVec S16 32) a x).toNat < S65552.size a := fun v486 k0_hw165 => k0_hw165
def k0_off168 (k0_t12 : Fin k0_t12_loop.trips) : Fin 2 → Nat :=
  let c5_i32 : BitVec 32 := 5#32
  let v487 : Index := Scalar.indexCast c5_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v488 : Index := Scalar.indexCast v346
  ![5, v488.toNat]

def k0_chk166 (v514 : IVec S16 32) : Prop :=
  (∀ a x, ((![v514] : Fin 1 → IVec S16 32) a x).toNat < S65552.size a)
theorem k0_idx166_inb : ∀ (v514 : IVec S16 32) (k0_hw166 : k0_chk166 v514), ∀ a x, ((![v514] : Fin 1 → IVec S16 32) a x).toNat < S65552.size a := fun v514 k0_hw166 => k0_hw166
def k0_off169 (k0_t12 : Fin k0_t12_loop.trips) : Fin 2 → Nat :=
  let c6_i32 : BitVec 32 := 6#32
  let v515 : Index := Scalar.indexCast c6_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v516 : Index := Scalar.indexCast v346
  ![6, v516.toNat]

def k0_chk167 (v542 : IVec S16 32) : Prop :=
  (∀ a x, ((![v542] : Fin 1 → IVec S16 32) a x).toNat < S65552.size a)
theorem k0_idx167_inb : ∀ (v542 : IVec S16 32) (k0_hw167 : k0_chk167 v542), ∀ a x, ((![v542] : Fin 1 → IVec S16 32) a x).toNat < S65552.size a := fun v542 k0_hw167 => k0_hw167
def k0_off170 (k0_t12 : Fin k0_t12_loop.trips) : Fin 2 → Nat :=
  let c7_i32 : BitVec 32 := 7#32
  let v543 : Index := Scalar.indexCast c7_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v544 : Index := Scalar.indexCast v346
  ![7, v544.toNat]

def k0_chk168 (v570 : IVec S16 32) : Prop :=
  (∀ a x, ((![v570] : Fin 1 → IVec S16 32) a x).toNat < S65552.size a)
theorem k0_idx168_inb : ∀ (v570 : IVec S16 32) (k0_hw168 : k0_chk168 v570), ∀ a x, ((![v570] : Fin 1 → IVec S16 32) a x).toNat < S65552.size a := fun v570 k0_hw168 => k0_hw168
def k0_off171 (k0_t12 : Fin k0_t12_loop.trips) : Fin 2 → Nat :=
  let c8_i32_439 : BitVec 32 := 8#32
  let v571 : Index := Scalar.indexCast c8_i32_439
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v572 : Index := Scalar.indexCast v346
  ![8, v572.toNat]

def k0_chk169 (v598 : IVec S16 32) : Prop :=
  (∀ a x, ((![v598] : Fin 1 → IVec S16 32) a x).toNat < S65552.size a)
theorem k0_idx169_inb : ∀ (v598 : IVec S16 32) (k0_hw169 : k0_chk169 v598), ∀ a x, ((![v598] : Fin 1 → IVec S16 32) a x).toNat < S65552.size a := fun v598 k0_hw169 => k0_hw169
def k0_off172 (k0_t12 : Fin k0_t12_loop.trips) : Fin 2 → Nat :=
  let c9_i32 : BitVec 32 := 9#32
  let v599 : Index := Scalar.indexCast c9_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v600 : Index := Scalar.indexCast v346
  ![9, v600.toNat]

def k0_chk170 (v626 : IVec S16 32) : Prop :=
  (∀ a x, ((![v626] : Fin 1 → IVec S16 32) a x).toNat < S65552.size a)
theorem k0_idx170_inb : ∀ (v626 : IVec S16 32) (k0_hw170 : k0_chk170 v626), ∀ a x, ((![v626] : Fin 1 → IVec S16 32) a x).toNat < S65552.size a := fun v626 k0_hw170 => k0_hw170
def k0_off173 (k0_t12 : Fin k0_t12_loop.trips) : Fin 2 → Nat :=
  let c10_i32 : BitVec 32 := 10#32
  let v627 : Index := Scalar.indexCast c10_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v628 : Index := Scalar.indexCast v346
  ![10, v628.toNat]

def k0_chk171 (v654 : IVec S16 32) : Prop :=
  (∀ a x, ((![v654] : Fin 1 → IVec S16 32) a x).toNat < S65552.size a)
theorem k0_idx171_inb : ∀ (v654 : IVec S16 32) (k0_hw171 : k0_chk171 v654), ∀ a x, ((![v654] : Fin 1 → IVec S16 32) a x).toNat < S65552.size a := fun v654 k0_hw171 => k0_hw171
def k0_off174 (k0_t12 : Fin k0_t12_loop.trips) : Fin 2 → Nat :=
  let c11_i32 : BitVec 32 := 11#32
  let v655 : Index := Scalar.indexCast c11_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v656 : Index := Scalar.indexCast v346
  ![11, v656.toNat]

def k0_chk172 (v682 : IVec S16 32) : Prop :=
  (∀ a x, ((![v682] : Fin 1 → IVec S16 32) a x).toNat < S65552.size a)
theorem k0_idx172_inb : ∀ (v682 : IVec S16 32) (k0_hw172 : k0_chk172 v682), ∀ a x, ((![v682] : Fin 1 → IVec S16 32) a x).toNat < S65552.size a := fun v682 k0_hw172 => k0_hw172
def k0_off175 (k0_t12 : Fin k0_t12_loop.trips) : Fin 2 → Nat :=
  let c12_i32 : BitVec 32 := 12#32
  let v683 : Index := Scalar.indexCast c12_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v684 : Index := Scalar.indexCast v346
  ![12, v684.toNat]

def k0_chk173 (v710 : IVec S16 32) : Prop :=
  (∀ a x, ((![v710] : Fin 1 → IVec S16 32) a x).toNat < S65552.size a)
theorem k0_idx173_inb : ∀ (v710 : IVec S16 32) (k0_hw173 : k0_chk173 v710), ∀ a x, ((![v710] : Fin 1 → IVec S16 32) a x).toNat < S65552.size a := fun v710 k0_hw173 => k0_hw173
def k0_off176 (k0_t12 : Fin k0_t12_loop.trips) : Fin 2 → Nat :=
  let c13_i32 : BitVec 32 := 13#32
  let v711 : Index := Scalar.indexCast c13_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v712 : Index := Scalar.indexCast v346
  ![13, v712.toNat]

def k0_chk174 (v738 : IVec S16 32) : Prop :=
  (∀ a x, ((![v738] : Fin 1 → IVec S16 32) a x).toNat < S65552.size a)
theorem k0_idx174_inb : ∀ (v738 : IVec S16 32) (k0_hw174 : k0_chk174 v738), ∀ a x, ((![v738] : Fin 1 → IVec S16 32) a x).toNat < S65552.size a := fun v738 k0_hw174 => k0_hw174
def k0_off177 (k0_t12 : Fin k0_t12_loop.trips) : Fin 2 → Nat :=
  let c14_i32 : BitVec 32 := 14#32
  let v739 : Index := Scalar.indexCast c14_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v740 : Index := Scalar.indexCast v346
  ![14, v740.toNat]

def k0_chk175 (v766 : IVec S16 32) : Prop :=
  (∀ a x, ((![v766] : Fin 1 → IVec S16 32) a x).toNat < S65552.size a)
theorem k0_idx175_inb : ∀ (v766 : IVec S16 32) (k0_hw175 : k0_chk175 v766), ∀ a x, ((![v766] : Fin 1 → IVec S16 32) a x).toNat < S65552.size a := fun v766 k0_hw175 => k0_hw175
def k0_off178 (k0_t12 : Fin k0_t12_loop.trips) : Fin 2 → Nat :=
  let c15_i32 : BitVec 32 := 15#32
  let v767 : Index := Scalar.indexCast c15_i32
  let c0_i32_138 : BitVec 32 := 0#32
  let c1_i32_140 : BitVec 32 := 1#32
  let arg19 : BitVec 32 := Scf.iv c0_i32_138 c1_i32_140 k0_t12
  let c16_i32_357 : BitVec 32 := 16#32
  let v346 : BitVec 32 := Scalar.muli arg19 c16_i32_357
  let v768 : Index := Scalar.indexCast v346
  ![15, v768.toNat]

def k0_chk176 (v794 : IVec S16 32) : Prop :=
  (∀ a x, ((![v794] : Fin 1 → IVec S16 32) a x).toNat < S65552.size a)
theorem k0_idx176_inb : ∀ (v794 : IVec S16 32) (k0_hw176 : k0_chk176 v794), ∀ a x, ((![v794] : Fin 1 → IVec S16 32) a x).toNat < S65552.size a := fun v794 k0_hw176 => k0_hw176
@[reducible] def k0_t13_loop : Scf.Loop 32 :=
  let c0_i32_150 : BitVec 32 := 0#32
  let c32_i32_151 : BitVec 32 := 32#32
  let v244 : BitVec 32 := Scalar.addi c0_i32_150 c32_i32_151
  let c1_i32_152 : BitVec 32 := 1#32
  ⟨c0_i32_150, v244, c1_i32_152⟩
def k0_off179 (k0_t13 : Fin k0_t13_loop.trips) : Fin 2 → Nat :=
  let c0_i32_358 : BitVec 32 := 0#32
  let v347 : Index := Scalar.indexCast c0_i32_358
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v348 : Index := Scalar.indexCast v346
  ![0, v348.toNat]

def k0_chk177 (v374 : IVec S16 32) : Prop :=
  (∀ a x, ((![v374] : Fin 1 → IVec S16 32) a x).toNat < S65552.size a)
theorem k0_idx177_inb : ∀ (v374 : IVec S16 32) (k0_hw177 : k0_chk177 v374), ∀ a x, ((![v374] : Fin 1 → IVec S16 32) a x).toNat < S65552.size a := fun v374 k0_hw177 => k0_hw177
def k0_off180 (k0_t13 : Fin k0_t13_loop.trips) : Fin 2 → Nat :=
  let c1_i32_367 : BitVec 32 := 1#32
  let v375 : Index := Scalar.indexCast c1_i32_367
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v376 : Index := Scalar.indexCast v346
  ![1, v376.toNat]

def k0_chk178 (v402 : IVec S16 32) : Prop :=
  (∀ a x, ((![v402] : Fin 1 → IVec S16 32) a x).toNat < S65552.size a)
theorem k0_idx178_inb : ∀ (v402 : IVec S16 32) (k0_hw178 : k0_chk178 v402), ∀ a x, ((![v402] : Fin 1 → IVec S16 32) a x).toNat < S65552.size a := fun v402 k0_hw178 => k0_hw178
def k0_off181 (k0_t13 : Fin k0_t13_loop.trips) : Fin 2 → Nat :=
  let c2_i32_378 : BitVec 32 := 2#32
  let v403 : Index := Scalar.indexCast c2_i32_378
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v404 : Index := Scalar.indexCast v346
  ![2, v404.toNat]

def k0_chk179 (v430 : IVec S16 32) : Prop :=
  (∀ a x, ((![v430] : Fin 1 → IVec S16 32) a x).toNat < S65552.size a)
theorem k0_idx179_inb : ∀ (v430 : IVec S16 32) (k0_hw179 : k0_chk179 v430), ∀ a x, ((![v430] : Fin 1 → IVec S16 32) a x).toNat < S65552.size a := fun v430 k0_hw179 => k0_hw179
def k0_off182 (k0_t13 : Fin k0_t13_loop.trips) : Fin 2 → Nat :=
  let c3_i32 : BitVec 32 := 3#32
  let v431 : Index := Scalar.indexCast c3_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v432 : Index := Scalar.indexCast v346
  ![3, v432.toNat]

def k0_chk180 (v458 : IVec S16 32) : Prop :=
  (∀ a x, ((![v458] : Fin 1 → IVec S16 32) a x).toNat < S65552.size a)
theorem k0_idx180_inb : ∀ (v458 : IVec S16 32) (k0_hw180 : k0_chk180 v458), ∀ a x, ((![v458] : Fin 1 → IVec S16 32) a x).toNat < S65552.size a := fun v458 k0_hw180 => k0_hw180
def k0_off183 (k0_t13 : Fin k0_t13_loop.trips) : Fin 2 → Nat :=
  let c4_i32 : BitVec 32 := 4#32
  let v459 : Index := Scalar.indexCast c4_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v460 : Index := Scalar.indexCast v346
  ![4, v460.toNat]

def k0_chk181 (v486 : IVec S16 32) : Prop :=
  (∀ a x, ((![v486] : Fin 1 → IVec S16 32) a x).toNat < S65552.size a)
theorem k0_idx181_inb : ∀ (v486 : IVec S16 32) (k0_hw181 : k0_chk181 v486), ∀ a x, ((![v486] : Fin 1 → IVec S16 32) a x).toNat < S65552.size a := fun v486 k0_hw181 => k0_hw181
def k0_off184 (k0_t13 : Fin k0_t13_loop.trips) : Fin 2 → Nat :=
  let c5_i32 : BitVec 32 := 5#32
  let v487 : Index := Scalar.indexCast c5_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v488 : Index := Scalar.indexCast v346
  ![5, v488.toNat]

def k0_chk182 (v514 : IVec S16 32) : Prop :=
  (∀ a x, ((![v514] : Fin 1 → IVec S16 32) a x).toNat < S65552.size a)
theorem k0_idx182_inb : ∀ (v514 : IVec S16 32) (k0_hw182 : k0_chk182 v514), ∀ a x, ((![v514] : Fin 1 → IVec S16 32) a x).toNat < S65552.size a := fun v514 k0_hw182 => k0_hw182
def k0_off185 (k0_t13 : Fin k0_t13_loop.trips) : Fin 2 → Nat :=
  let c6_i32 : BitVec 32 := 6#32
  let v515 : Index := Scalar.indexCast c6_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v516 : Index := Scalar.indexCast v346
  ![6, v516.toNat]

def k0_chk183 (v542 : IVec S16 32) : Prop :=
  (∀ a x, ((![v542] : Fin 1 → IVec S16 32) a x).toNat < S65552.size a)
theorem k0_idx183_inb : ∀ (v542 : IVec S16 32) (k0_hw183 : k0_chk183 v542), ∀ a x, ((![v542] : Fin 1 → IVec S16 32) a x).toNat < S65552.size a := fun v542 k0_hw183 => k0_hw183
def k0_off186 (k0_t13 : Fin k0_t13_loop.trips) : Fin 2 → Nat :=
  let c7_i32 : BitVec 32 := 7#32
  let v543 : Index := Scalar.indexCast c7_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v544 : Index := Scalar.indexCast v346
  ![7, v544.toNat]

def k0_chk184 (v570 : IVec S16 32) : Prop :=
  (∀ a x, ((![v570] : Fin 1 → IVec S16 32) a x).toNat < S65552.size a)
theorem k0_idx184_inb : ∀ (v570 : IVec S16 32) (k0_hw184 : k0_chk184 v570), ∀ a x, ((![v570] : Fin 1 → IVec S16 32) a x).toNat < S65552.size a := fun v570 k0_hw184 => k0_hw184
def k0_off187 (k0_t13 : Fin k0_t13_loop.trips) : Fin 2 → Nat :=
  let c8_i32_439 : BitVec 32 := 8#32
  let v571 : Index := Scalar.indexCast c8_i32_439
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v572 : Index := Scalar.indexCast v346
  ![8, v572.toNat]

def k0_chk185 (v598 : IVec S16 32) : Prop :=
  (∀ a x, ((![v598] : Fin 1 → IVec S16 32) a x).toNat < S65552.size a)
theorem k0_idx185_inb : ∀ (v598 : IVec S16 32) (k0_hw185 : k0_chk185 v598), ∀ a x, ((![v598] : Fin 1 → IVec S16 32) a x).toNat < S65552.size a := fun v598 k0_hw185 => k0_hw185
def k0_off188 (k0_t13 : Fin k0_t13_loop.trips) : Fin 2 → Nat :=
  let c9_i32 : BitVec 32 := 9#32
  let v599 : Index := Scalar.indexCast c9_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v600 : Index := Scalar.indexCast v346
  ![9, v600.toNat]

def k0_chk186 (v626 : IVec S16 32) : Prop :=
  (∀ a x, ((![v626] : Fin 1 → IVec S16 32) a x).toNat < S65552.size a)
theorem k0_idx186_inb : ∀ (v626 : IVec S16 32) (k0_hw186 : k0_chk186 v626), ∀ a x, ((![v626] : Fin 1 → IVec S16 32) a x).toNat < S65552.size a := fun v626 k0_hw186 => k0_hw186
def k0_off189 (k0_t13 : Fin k0_t13_loop.trips) : Fin 2 → Nat :=
  let c10_i32 : BitVec 32 := 10#32
  let v627 : Index := Scalar.indexCast c10_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v628 : Index := Scalar.indexCast v346
  ![10, v628.toNat]

def k0_chk187 (v654 : IVec S16 32) : Prop :=
  (∀ a x, ((![v654] : Fin 1 → IVec S16 32) a x).toNat < S65552.size a)
theorem k0_idx187_inb : ∀ (v654 : IVec S16 32) (k0_hw187 : k0_chk187 v654), ∀ a x, ((![v654] : Fin 1 → IVec S16 32) a x).toNat < S65552.size a := fun v654 k0_hw187 => k0_hw187
def k0_off190 (k0_t13 : Fin k0_t13_loop.trips) : Fin 2 → Nat :=
  let c11_i32 : BitVec 32 := 11#32
  let v655 : Index := Scalar.indexCast c11_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v656 : Index := Scalar.indexCast v346
  ![11, v656.toNat]

def k0_chk188 (v682 : IVec S16 32) : Prop :=
  (∀ a x, ((![v682] : Fin 1 → IVec S16 32) a x).toNat < S65552.size a)
theorem k0_idx188_inb : ∀ (v682 : IVec S16 32) (k0_hw188 : k0_chk188 v682), ∀ a x, ((![v682] : Fin 1 → IVec S16 32) a x).toNat < S65552.size a := fun v682 k0_hw188 => k0_hw188
def k0_off191 (k0_t13 : Fin k0_t13_loop.trips) : Fin 2 → Nat :=
  let c12_i32 : BitVec 32 := 12#32
  let v683 : Index := Scalar.indexCast c12_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v684 : Index := Scalar.indexCast v346
  ![12, v684.toNat]

def k0_chk189 (v710 : IVec S16 32) : Prop :=
  (∀ a x, ((![v710] : Fin 1 → IVec S16 32) a x).toNat < S65552.size a)
theorem k0_idx189_inb : ∀ (v710 : IVec S16 32) (k0_hw189 : k0_chk189 v710), ∀ a x, ((![v710] : Fin 1 → IVec S16 32) a x).toNat < S65552.size a := fun v710 k0_hw189 => k0_hw189
def k0_off192 (k0_t13 : Fin k0_t13_loop.trips) : Fin 2 → Nat :=
  let c13_i32 : BitVec 32 := 13#32
  let v711 : Index := Scalar.indexCast c13_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v712 : Index := Scalar.indexCast v346
  ![13, v712.toNat]

def k0_chk190 (v738 : IVec S16 32) : Prop :=
  (∀ a x, ((![v738] : Fin 1 → IVec S16 32) a x).toNat < S65552.size a)
theorem k0_idx190_inb : ∀ (v738 : IVec S16 32) (k0_hw190 : k0_chk190 v738), ∀ a x, ((![v738] : Fin 1 → IVec S16 32) a x).toNat < S65552.size a := fun v738 k0_hw190 => k0_hw190
def k0_off193 (k0_t13 : Fin k0_t13_loop.trips) : Fin 2 → Nat :=
  let c14_i32 : BitVec 32 := 14#32
  let v739 : Index := Scalar.indexCast c14_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v740 : Index := Scalar.indexCast v346
  ![14, v740.toNat]

def k0_chk191 (v766 : IVec S16 32) : Prop :=
  (∀ a x, ((![v766] : Fin 1 → IVec S16 32) a x).toNat < S65552.size a)
theorem k0_idx191_inb : ∀ (v766 : IVec S16 32) (k0_hw191 : k0_chk191 v766), ∀ a x, ((![v766] : Fin 1 → IVec S16 32) a x).toNat < S65552.size a := fun v766 k0_hw191 => k0_hw191
def k0_off194 (k0_t13 : Fin k0_t13_loop.trips) : Fin 2 → Nat :=
  let c15_i32 : BitVec 32 := 15#32
  let v767 : Index := Scalar.indexCast c15_i32
  let c0_i32_150 : BitVec 32 := 0#32
  let c1_i32_152 : BitVec 32 := 1#32
  let arg19 : BitVec 32 := Scf.iv c0_i32_150 c1_i32_152 k0_t13
  let c16_i32_357 : BitVec 32 := 16#32
  let v346 : BitVec 32 := Scalar.muli arg19 c16_i32_357
  let v768 : Index := Scalar.indexCast v346
  ![15, v768.toNat]

def k0_chk192 (v794 : IVec S16 32) : Prop :=
  (∀ a x, ((![v794] : Fin 1 → IVec S16 32) a x).toNat < S65552.size a)
theorem k0_idx192_inb : ∀ (v794 : IVec S16 32) (k0_hw192 : k0_chk192 v794), ∀ a x, ((![v794] : Fin 1 → IVec S16 32) a x).toNat < S65552.size a := fun v794 k0_hw192 => k0_hw192
@[reducible] def k0_t14_loop : Scf.Loop 32 :=
  let c0_i32_162 : BitVec 32 := 0#32
  let c32_i32_163 : BitVec 32 := 32#32
  let v263 : BitVec 32 := Scalar.addi c0_i32_162 c32_i32_163
  let c1_i32_164 : BitVec 32 := 1#32
  ⟨c0_i32_162, v263, c1_i32_164⟩
def k0_off195 (k0_t14 : Fin k0_t14_loop.trips) : Fin 2 → Nat :=
  let c0_i32_358 : BitVec 32 := 0#32
  let v347 : Index := Scalar.indexCast c0_i32_358
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v348 : Index := Scalar.indexCast v346
  ![0, v348.toNat]

def k0_chk193 (v374 : IVec S16 32) : Prop :=
  (∀ a x, ((![v374] : Fin 1 → IVec S16 32) a x).toNat < S65552.size a)
theorem k0_idx193_inb : ∀ (v374 : IVec S16 32) (k0_hw193 : k0_chk193 v374), ∀ a x, ((![v374] : Fin 1 → IVec S16 32) a x).toNat < S65552.size a := fun v374 k0_hw193 => k0_hw193
def k0_off196 (k0_t14 : Fin k0_t14_loop.trips) : Fin 2 → Nat :=
  let c1_i32_367 : BitVec 32 := 1#32
  let v375 : Index := Scalar.indexCast c1_i32_367
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v376 : Index := Scalar.indexCast v346
  ![1, v376.toNat]

def k0_chk194 (v402 : IVec S16 32) : Prop :=
  (∀ a x, ((![v402] : Fin 1 → IVec S16 32) a x).toNat < S65552.size a)
theorem k0_idx194_inb : ∀ (v402 : IVec S16 32) (k0_hw194 : k0_chk194 v402), ∀ a x, ((![v402] : Fin 1 → IVec S16 32) a x).toNat < S65552.size a := fun v402 k0_hw194 => k0_hw194
def k0_off197 (k0_t14 : Fin k0_t14_loop.trips) : Fin 2 → Nat :=
  let c2_i32_378 : BitVec 32 := 2#32
  let v403 : Index := Scalar.indexCast c2_i32_378
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v404 : Index := Scalar.indexCast v346
  ![2, v404.toNat]

def k0_chk195 (v430 : IVec S16 32) : Prop :=
  (∀ a x, ((![v430] : Fin 1 → IVec S16 32) a x).toNat < S65552.size a)
theorem k0_idx195_inb : ∀ (v430 : IVec S16 32) (k0_hw195 : k0_chk195 v430), ∀ a x, ((![v430] : Fin 1 → IVec S16 32) a x).toNat < S65552.size a := fun v430 k0_hw195 => k0_hw195
def k0_off198 (k0_t14 : Fin k0_t14_loop.trips) : Fin 2 → Nat :=
  let c3_i32 : BitVec 32 := 3#32
  let v431 : Index := Scalar.indexCast c3_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v432 : Index := Scalar.indexCast v346
  ![3, v432.toNat]

def k0_chk196 (v458 : IVec S16 32) : Prop :=
  (∀ a x, ((![v458] : Fin 1 → IVec S16 32) a x).toNat < S65552.size a)
theorem k0_idx196_inb : ∀ (v458 : IVec S16 32) (k0_hw196 : k0_chk196 v458), ∀ a x, ((![v458] : Fin 1 → IVec S16 32) a x).toNat < S65552.size a := fun v458 k0_hw196 => k0_hw196
def k0_off199 (k0_t14 : Fin k0_t14_loop.trips) : Fin 2 → Nat :=
  let c4_i32 : BitVec 32 := 4#32
  let v459 : Index := Scalar.indexCast c4_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v460 : Index := Scalar.indexCast v346
  ![4, v460.toNat]

def k0_chk197 (v486 : IVec S16 32) : Prop :=
  (∀ a x, ((![v486] : Fin 1 → IVec S16 32) a x).toNat < S65552.size a)
theorem k0_idx197_inb : ∀ (v486 : IVec S16 32) (k0_hw197 : k0_chk197 v486), ∀ a x, ((![v486] : Fin 1 → IVec S16 32) a x).toNat < S65552.size a := fun v486 k0_hw197 => k0_hw197
def k0_off200 (k0_t14 : Fin k0_t14_loop.trips) : Fin 2 → Nat :=
  let c5_i32 : BitVec 32 := 5#32
  let v487 : Index := Scalar.indexCast c5_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v488 : Index := Scalar.indexCast v346
  ![5, v488.toNat]

def k0_chk198 (v514 : IVec S16 32) : Prop :=
  (∀ a x, ((![v514] : Fin 1 → IVec S16 32) a x).toNat < S65552.size a)
theorem k0_idx198_inb : ∀ (v514 : IVec S16 32) (k0_hw198 : k0_chk198 v514), ∀ a x, ((![v514] : Fin 1 → IVec S16 32) a x).toNat < S65552.size a := fun v514 k0_hw198 => k0_hw198
def k0_off201 (k0_t14 : Fin k0_t14_loop.trips) : Fin 2 → Nat :=
  let c6_i32 : BitVec 32 := 6#32
  let v515 : Index := Scalar.indexCast c6_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v516 : Index := Scalar.indexCast v346
  ![6, v516.toNat]

def k0_chk199 (v542 : IVec S16 32) : Prop :=
  (∀ a x, ((![v542] : Fin 1 → IVec S16 32) a x).toNat < S65552.size a)
theorem k0_idx199_inb : ∀ (v542 : IVec S16 32) (k0_hw199 : k0_chk199 v542), ∀ a x, ((![v542] : Fin 1 → IVec S16 32) a x).toNat < S65552.size a := fun v542 k0_hw199 => k0_hw199
def k0_off202 (k0_t14 : Fin k0_t14_loop.trips) : Fin 2 → Nat :=
  let c7_i32 : BitVec 32 := 7#32
  let v543 : Index := Scalar.indexCast c7_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v544 : Index := Scalar.indexCast v346
  ![7, v544.toNat]

def k0_chk200 (v570 : IVec S16 32) : Prop :=
  (∀ a x, ((![v570] : Fin 1 → IVec S16 32) a x).toNat < S65552.size a)
theorem k0_idx200_inb : ∀ (v570 : IVec S16 32) (k0_hw200 : k0_chk200 v570), ∀ a x, ((![v570] : Fin 1 → IVec S16 32) a x).toNat < S65552.size a := fun v570 k0_hw200 => k0_hw200
def k0_off203 (k0_t14 : Fin k0_t14_loop.trips) : Fin 2 → Nat :=
  let c8_i32_439 : BitVec 32 := 8#32
  let v571 : Index := Scalar.indexCast c8_i32_439
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v572 : Index := Scalar.indexCast v346
  ![8, v572.toNat]

def k0_chk201 (v598 : IVec S16 32) : Prop :=
  (∀ a x, ((![v598] : Fin 1 → IVec S16 32) a x).toNat < S65552.size a)
theorem k0_idx201_inb : ∀ (v598 : IVec S16 32) (k0_hw201 : k0_chk201 v598), ∀ a x, ((![v598] : Fin 1 → IVec S16 32) a x).toNat < S65552.size a := fun v598 k0_hw201 => k0_hw201
def k0_off204 (k0_t14 : Fin k0_t14_loop.trips) : Fin 2 → Nat :=
  let c9_i32 : BitVec 32 := 9#32
  let v599 : Index := Scalar.indexCast c9_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v600 : Index := Scalar.indexCast v346
  ![9, v600.toNat]

def k0_chk202 (v626 : IVec S16 32) : Prop :=
  (∀ a x, ((![v626] : Fin 1 → IVec S16 32) a x).toNat < S65552.size a)
theorem k0_idx202_inb : ∀ (v626 : IVec S16 32) (k0_hw202 : k0_chk202 v626), ∀ a x, ((![v626] : Fin 1 → IVec S16 32) a x).toNat < S65552.size a := fun v626 k0_hw202 => k0_hw202
def k0_off205 (k0_t14 : Fin k0_t14_loop.trips) : Fin 2 → Nat :=
  let c10_i32 : BitVec 32 := 10#32
  let v627 : Index := Scalar.indexCast c10_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v628 : Index := Scalar.indexCast v346
  ![10, v628.toNat]

def k0_chk203 (v654 : IVec S16 32) : Prop :=
  (∀ a x, ((![v654] : Fin 1 → IVec S16 32) a x).toNat < S65552.size a)
theorem k0_idx203_inb : ∀ (v654 : IVec S16 32) (k0_hw203 : k0_chk203 v654), ∀ a x, ((![v654] : Fin 1 → IVec S16 32) a x).toNat < S65552.size a := fun v654 k0_hw203 => k0_hw203
def k0_off206 (k0_t14 : Fin k0_t14_loop.trips) : Fin 2 → Nat :=
  let c11_i32 : BitVec 32 := 11#32
  let v655 : Index := Scalar.indexCast c11_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v656 : Index := Scalar.indexCast v346
  ![11, v656.toNat]

def k0_chk204 (v682 : IVec S16 32) : Prop :=
  (∀ a x, ((![v682] : Fin 1 → IVec S16 32) a x).toNat < S65552.size a)
theorem k0_idx204_inb : ∀ (v682 : IVec S16 32) (k0_hw204 : k0_chk204 v682), ∀ a x, ((![v682] : Fin 1 → IVec S16 32) a x).toNat < S65552.size a := fun v682 k0_hw204 => k0_hw204
def k0_off207 (k0_t14 : Fin k0_t14_loop.trips) : Fin 2 → Nat :=
  let c12_i32 : BitVec 32 := 12#32
  let v683 : Index := Scalar.indexCast c12_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v684 : Index := Scalar.indexCast v346
  ![12, v684.toNat]

def k0_chk205 (v710 : IVec S16 32) : Prop :=
  (∀ a x, ((![v710] : Fin 1 → IVec S16 32) a x).toNat < S65552.size a)
theorem k0_idx205_inb : ∀ (v710 : IVec S16 32) (k0_hw205 : k0_chk205 v710), ∀ a x, ((![v710] : Fin 1 → IVec S16 32) a x).toNat < S65552.size a := fun v710 k0_hw205 => k0_hw205
def k0_off208 (k0_t14 : Fin k0_t14_loop.trips) : Fin 2 → Nat :=
  let c13_i32 : BitVec 32 := 13#32
  let v711 : Index := Scalar.indexCast c13_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v712 : Index := Scalar.indexCast v346
  ![13, v712.toNat]

def k0_chk206 (v738 : IVec S16 32) : Prop :=
  (∀ a x, ((![v738] : Fin 1 → IVec S16 32) a x).toNat < S65552.size a)
theorem k0_idx206_inb : ∀ (v738 : IVec S16 32) (k0_hw206 : k0_chk206 v738), ∀ a x, ((![v738] : Fin 1 → IVec S16 32) a x).toNat < S65552.size a := fun v738 k0_hw206 => k0_hw206
def k0_off209 (k0_t14 : Fin k0_t14_loop.trips) : Fin 2 → Nat :=
  let c14_i32 : BitVec 32 := 14#32
  let v739 : Index := Scalar.indexCast c14_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v740 : Index := Scalar.indexCast v346
  ![14, v740.toNat]

def k0_chk207 (v766 : IVec S16 32) : Prop :=
  (∀ a x, ((![v766] : Fin 1 → IVec S16 32) a x).toNat < S65552.size a)
theorem k0_idx207_inb : ∀ (v766 : IVec S16 32) (k0_hw207 : k0_chk207 v766), ∀ a x, ((![v766] : Fin 1 → IVec S16 32) a x).toNat < S65552.size a := fun v766 k0_hw207 => k0_hw207
def k0_off210 (k0_t14 : Fin k0_t14_loop.trips) : Fin 2 → Nat :=
  let c15_i32 : BitVec 32 := 15#32
  let v767 : Index := Scalar.indexCast c15_i32
  let c0_i32_162 : BitVec 32 := 0#32
  let c1_i32_164 : BitVec 32 := 1#32
  let arg19 : BitVec 32 := Scf.iv c0_i32_162 c1_i32_164 k0_t14
  let c16_i32_357 : BitVec 32 := 16#32
  let v346 : BitVec 32 := Scalar.muli arg19 c16_i32_357
  let v768 : Index := Scalar.indexCast v346
  ![15, v768.toNat]

def k0_chk208 (v794 : IVec S16 32) : Prop :=
  (∀ a x, ((![v794] : Fin 1 → IVec S16 32) a x).toNat < S65552.size a)
theorem k0_idx208_inb : ∀ (v794 : IVec S16 32) (k0_hw208 : k0_chk208 v794), ∀ a x, ((![v794] : Fin 1 → IVec S16 32) a x).toNat < S65552.size a := fun v794 k0_hw208 => k0_hw208
@[reducible] def k0_t15_loop : Scf.Loop 32 :=
  let c0_i32_174 : BitVec 32 := 0#32
  let c32_i32_175 : BitVec 32 := 32#32
  let v282 : BitVec 32 := Scalar.addi c0_i32_174 c32_i32_175
  let c1_i32_176 : BitVec 32 := 1#32
  ⟨c0_i32_174, v282, c1_i32_176⟩
def k0_off211 (k0_t15 : Fin k0_t15_loop.trips) : Fin 2 → Nat :=
  let c0_i32_358 : BitVec 32 := 0#32
  let v347 : Index := Scalar.indexCast c0_i32_358
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v348 : Index := Scalar.indexCast v346
  ![0, v348.toNat]

def k0_chk209 (v374 : IVec S16 32) : Prop :=
  (∀ a x, ((![v374] : Fin 1 → IVec S16 32) a x).toNat < S65552.size a)
theorem k0_idx209_inb : ∀ (v374 : IVec S16 32) (k0_hw209 : k0_chk209 v374), ∀ a x, ((![v374] : Fin 1 → IVec S16 32) a x).toNat < S65552.size a := fun v374 k0_hw209 => k0_hw209
def k0_off212 (k0_t15 : Fin k0_t15_loop.trips) : Fin 2 → Nat :=
  let c1_i32_367 : BitVec 32 := 1#32
  let v375 : Index := Scalar.indexCast c1_i32_367
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v376 : Index := Scalar.indexCast v346
  ![1, v376.toNat]

def k0_chk210 (v402 : IVec S16 32) : Prop :=
  (∀ a x, ((![v402] : Fin 1 → IVec S16 32) a x).toNat < S65552.size a)
theorem k0_idx210_inb : ∀ (v402 : IVec S16 32) (k0_hw210 : k0_chk210 v402), ∀ a x, ((![v402] : Fin 1 → IVec S16 32) a x).toNat < S65552.size a := fun v402 k0_hw210 => k0_hw210
def k0_off213 (k0_t15 : Fin k0_t15_loop.trips) : Fin 2 → Nat :=
  let c2_i32_378 : BitVec 32 := 2#32
  let v403 : Index := Scalar.indexCast c2_i32_378
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v404 : Index := Scalar.indexCast v346
  ![2, v404.toNat]

def k0_chk211 (v430 : IVec S16 32) : Prop :=
  (∀ a x, ((![v430] : Fin 1 → IVec S16 32) a x).toNat < S65552.size a)
theorem k0_idx211_inb : ∀ (v430 : IVec S16 32) (k0_hw211 : k0_chk211 v430), ∀ a x, ((![v430] : Fin 1 → IVec S16 32) a x).toNat < S65552.size a := fun v430 k0_hw211 => k0_hw211
def k0_off214 (k0_t15 : Fin k0_t15_loop.trips) : Fin 2 → Nat :=
  let c3_i32 : BitVec 32 := 3#32
  let v431 : Index := Scalar.indexCast c3_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v432 : Index := Scalar.indexCast v346
  ![3, v432.toNat]

def k0_chk212 (v458 : IVec S16 32) : Prop :=
  (∀ a x, ((![v458] : Fin 1 → IVec S16 32) a x).toNat < S65552.size a)
theorem k0_idx212_inb : ∀ (v458 : IVec S16 32) (k0_hw212 : k0_chk212 v458), ∀ a x, ((![v458] : Fin 1 → IVec S16 32) a x).toNat < S65552.size a := fun v458 k0_hw212 => k0_hw212
def k0_off215 (k0_t15 : Fin k0_t15_loop.trips) : Fin 2 → Nat :=
  let c4_i32 : BitVec 32 := 4#32
  let v459 : Index := Scalar.indexCast c4_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v460 : Index := Scalar.indexCast v346
  ![4, v460.toNat]

def k0_chk213 (v486 : IVec S16 32) : Prop :=
  (∀ a x, ((![v486] : Fin 1 → IVec S16 32) a x).toNat < S65552.size a)
theorem k0_idx213_inb : ∀ (v486 : IVec S16 32) (k0_hw213 : k0_chk213 v486), ∀ a x, ((![v486] : Fin 1 → IVec S16 32) a x).toNat < S65552.size a := fun v486 k0_hw213 => k0_hw213
def k0_off216 (k0_t15 : Fin k0_t15_loop.trips) : Fin 2 → Nat :=
  let c5_i32 : BitVec 32 := 5#32
  let v487 : Index := Scalar.indexCast c5_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v488 : Index := Scalar.indexCast v346
  ![5, v488.toNat]

def k0_chk214 (v514 : IVec S16 32) : Prop :=
  (∀ a x, ((![v514] : Fin 1 → IVec S16 32) a x).toNat < S65552.size a)
theorem k0_idx214_inb : ∀ (v514 : IVec S16 32) (k0_hw214 : k0_chk214 v514), ∀ a x, ((![v514] : Fin 1 → IVec S16 32) a x).toNat < S65552.size a := fun v514 k0_hw214 => k0_hw214
def k0_off217 (k0_t15 : Fin k0_t15_loop.trips) : Fin 2 → Nat :=
  let c6_i32 : BitVec 32 := 6#32
  let v515 : Index := Scalar.indexCast c6_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v516 : Index := Scalar.indexCast v346
  ![6, v516.toNat]

def k0_chk215 (v542 : IVec S16 32) : Prop :=
  (∀ a x, ((![v542] : Fin 1 → IVec S16 32) a x).toNat < S65552.size a)
theorem k0_idx215_inb : ∀ (v542 : IVec S16 32) (k0_hw215 : k0_chk215 v542), ∀ a x, ((![v542] : Fin 1 → IVec S16 32) a x).toNat < S65552.size a := fun v542 k0_hw215 => k0_hw215
def k0_off218 (k0_t15 : Fin k0_t15_loop.trips) : Fin 2 → Nat :=
  let c7_i32 : BitVec 32 := 7#32
  let v543 : Index := Scalar.indexCast c7_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v544 : Index := Scalar.indexCast v346
  ![7, v544.toNat]

def k0_chk216 (v570 : IVec S16 32) : Prop :=
  (∀ a x, ((![v570] : Fin 1 → IVec S16 32) a x).toNat < S65552.size a)
theorem k0_idx216_inb : ∀ (v570 : IVec S16 32) (k0_hw216 : k0_chk216 v570), ∀ a x, ((![v570] : Fin 1 → IVec S16 32) a x).toNat < S65552.size a := fun v570 k0_hw216 => k0_hw216
def k0_off219 (k0_t15 : Fin k0_t15_loop.trips) : Fin 2 → Nat :=
  let c8_i32_439 : BitVec 32 := 8#32
  let v571 : Index := Scalar.indexCast c8_i32_439
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v572 : Index := Scalar.indexCast v346
  ![8, v572.toNat]

def k0_chk217 (v598 : IVec S16 32) : Prop :=
  (∀ a x, ((![v598] : Fin 1 → IVec S16 32) a x).toNat < S65552.size a)
theorem k0_idx217_inb : ∀ (v598 : IVec S16 32) (k0_hw217 : k0_chk217 v598), ∀ a x, ((![v598] : Fin 1 → IVec S16 32) a x).toNat < S65552.size a := fun v598 k0_hw217 => k0_hw217
def k0_off220 (k0_t15 : Fin k0_t15_loop.trips) : Fin 2 → Nat :=
  let c9_i32 : BitVec 32 := 9#32
  let v599 : Index := Scalar.indexCast c9_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v600 : Index := Scalar.indexCast v346
  ![9, v600.toNat]

def k0_chk218 (v626 : IVec S16 32) : Prop :=
  (∀ a x, ((![v626] : Fin 1 → IVec S16 32) a x).toNat < S65552.size a)
theorem k0_idx218_inb : ∀ (v626 : IVec S16 32) (k0_hw218 : k0_chk218 v626), ∀ a x, ((![v626] : Fin 1 → IVec S16 32) a x).toNat < S65552.size a := fun v626 k0_hw218 => k0_hw218
def k0_off221 (k0_t15 : Fin k0_t15_loop.trips) : Fin 2 → Nat :=
  let c10_i32 : BitVec 32 := 10#32
  let v627 : Index := Scalar.indexCast c10_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v628 : Index := Scalar.indexCast v346
  ![10, v628.toNat]

def k0_chk219 (v654 : IVec S16 32) : Prop :=
  (∀ a x, ((![v654] : Fin 1 → IVec S16 32) a x).toNat < S65552.size a)
theorem k0_idx219_inb : ∀ (v654 : IVec S16 32) (k0_hw219 : k0_chk219 v654), ∀ a x, ((![v654] : Fin 1 → IVec S16 32) a x).toNat < S65552.size a := fun v654 k0_hw219 => k0_hw219
def k0_off222 (k0_t15 : Fin k0_t15_loop.trips) : Fin 2 → Nat :=
  let c11_i32 : BitVec 32 := 11#32
  let v655 : Index := Scalar.indexCast c11_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v656 : Index := Scalar.indexCast v346
  ![11, v656.toNat]

def k0_chk220 (v682 : IVec S16 32) : Prop :=
  (∀ a x, ((![v682] : Fin 1 → IVec S16 32) a x).toNat < S65552.size a)
theorem k0_idx220_inb : ∀ (v682 : IVec S16 32) (k0_hw220 : k0_chk220 v682), ∀ a x, ((![v682] : Fin 1 → IVec S16 32) a x).toNat < S65552.size a := fun v682 k0_hw220 => k0_hw220
def k0_off223 (k0_t15 : Fin k0_t15_loop.trips) : Fin 2 → Nat :=
  let c12_i32 : BitVec 32 := 12#32
  let v683 : Index := Scalar.indexCast c12_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v684 : Index := Scalar.indexCast v346
  ![12, v684.toNat]

def k0_chk221 (v710 : IVec S16 32) : Prop :=
  (∀ a x, ((![v710] : Fin 1 → IVec S16 32) a x).toNat < S65552.size a)
theorem k0_idx221_inb : ∀ (v710 : IVec S16 32) (k0_hw221 : k0_chk221 v710), ∀ a x, ((![v710] : Fin 1 → IVec S16 32) a x).toNat < S65552.size a := fun v710 k0_hw221 => k0_hw221
def k0_off224 (k0_t15 : Fin k0_t15_loop.trips) : Fin 2 → Nat :=
  let c13_i32 : BitVec 32 := 13#32
  let v711 : Index := Scalar.indexCast c13_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v712 : Index := Scalar.indexCast v346
  ![13, v712.toNat]

def k0_chk222 (v738 : IVec S16 32) : Prop :=
  (∀ a x, ((![v738] : Fin 1 → IVec S16 32) a x).toNat < S65552.size a)
theorem k0_idx222_inb : ∀ (v738 : IVec S16 32) (k0_hw222 : k0_chk222 v738), ∀ a x, ((![v738] : Fin 1 → IVec S16 32) a x).toNat < S65552.size a := fun v738 k0_hw222 => k0_hw222
def k0_off225 (k0_t15 : Fin k0_t15_loop.trips) : Fin 2 → Nat :=
  let c14_i32 : BitVec 32 := 14#32
  let v739 : Index := Scalar.indexCast c14_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v740 : Index := Scalar.indexCast v346
  ![14, v740.toNat]

def k0_chk223 (v766 : IVec S16 32) : Prop :=
  (∀ a x, ((![v766] : Fin 1 → IVec S16 32) a x).toNat < S65552.size a)
theorem k0_idx223_inb : ∀ (v766 : IVec S16 32) (k0_hw223 : k0_chk223 v766), ∀ a x, ((![v766] : Fin 1 → IVec S16 32) a x).toNat < S65552.size a := fun v766 k0_hw223 => k0_hw223
def k0_off226 (k0_t15 : Fin k0_t15_loop.trips) : Fin 2 → Nat :=
  let c15_i32 : BitVec 32 := 15#32
  let v767 : Index := Scalar.indexCast c15_i32
  let c0_i32_174 : BitVec 32 := 0#32
  let c1_i32_176 : BitVec 32 := 1#32
  let arg19 : BitVec 32 := Scf.iv c0_i32_174 c1_i32_176 k0_t15
  let c16_i32_357 : BitVec 32 := 16#32
  let v346 : BitVec 32 := Scalar.muli arg19 c16_i32_357
  let v768 : Index := Scalar.indexCast v346
  ![15, v768.toNat]

def k0_chk224 (v794 : IVec S16 32) : Prop :=
  (∀ a x, ((![v794] : Fin 1 → IVec S16 32) a x).toNat < S65552.size a)
theorem k0_idx224_inb : ∀ (v794 : IVec S16 32) (k0_hw224 : k0_chk224 v794), ∀ a x, ((![v794] : Fin 1 → IVec S16 32) a x).toNat < S65552.size a := fun v794 k0_hw224 => k0_hw224
@[reducible] def k0_t16_loop : Scf.Loop 32 :=
  let c0_i32_186 : BitVec 32 := 0#32
  let c32_i32_187 : BitVec 32 := 32#32
  let v301 : BitVec 32 := Scalar.addi c0_i32_186 c32_i32_187
  let c1_i32_188 : BitVec 32 := 1#32
  ⟨c0_i32_186, v301, c1_i32_188⟩
def k0_off227 (k0_t16 : Fin k0_t16_loop.trips) : Fin 2 → Nat :=
  let c0_i32_358 : BitVec 32 := 0#32
  let v347 : Index := Scalar.indexCast c0_i32_358
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v348 : Index := Scalar.indexCast v346
  ![0, v348.toNat]

def k0_chk225 (v374 : IVec S16 32) : Prop :=
  (∀ a x, ((![v374] : Fin 1 → IVec S16 32) a x).toNat < S65552.size a)
theorem k0_idx225_inb : ∀ (v374 : IVec S16 32) (k0_hw225 : k0_chk225 v374), ∀ a x, ((![v374] : Fin 1 → IVec S16 32) a x).toNat < S65552.size a := fun v374 k0_hw225 => k0_hw225
def k0_off228 (k0_t16 : Fin k0_t16_loop.trips) : Fin 2 → Nat :=
  let c1_i32_367 : BitVec 32 := 1#32
  let v375 : Index := Scalar.indexCast c1_i32_367
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v376 : Index := Scalar.indexCast v346
  ![1, v376.toNat]

def k0_chk226 (v402 : IVec S16 32) : Prop :=
  (∀ a x, ((![v402] : Fin 1 → IVec S16 32) a x).toNat < S65552.size a)
theorem k0_idx226_inb : ∀ (v402 : IVec S16 32) (k0_hw226 : k0_chk226 v402), ∀ a x, ((![v402] : Fin 1 → IVec S16 32) a x).toNat < S65552.size a := fun v402 k0_hw226 => k0_hw226
def k0_off229 (k0_t16 : Fin k0_t16_loop.trips) : Fin 2 → Nat :=
  let c2_i32_378 : BitVec 32 := 2#32
  let v403 : Index := Scalar.indexCast c2_i32_378
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v404 : Index := Scalar.indexCast v346
  ![2, v404.toNat]

def k0_chk227 (v430 : IVec S16 32) : Prop :=
  (∀ a x, ((![v430] : Fin 1 → IVec S16 32) a x).toNat < S65552.size a)
theorem k0_idx227_inb : ∀ (v430 : IVec S16 32) (k0_hw227 : k0_chk227 v430), ∀ a x, ((![v430] : Fin 1 → IVec S16 32) a x).toNat < S65552.size a := fun v430 k0_hw227 => k0_hw227
def k0_off230 (k0_t16 : Fin k0_t16_loop.trips) : Fin 2 → Nat :=
  let c3_i32 : BitVec 32 := 3#32
  let v431 : Index := Scalar.indexCast c3_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v432 : Index := Scalar.indexCast v346
  ![3, v432.toNat]

def k0_chk228 (v458 : IVec S16 32) : Prop :=
  (∀ a x, ((![v458] : Fin 1 → IVec S16 32) a x).toNat < S65552.size a)
theorem k0_idx228_inb : ∀ (v458 : IVec S16 32) (k0_hw228 : k0_chk228 v458), ∀ a x, ((![v458] : Fin 1 → IVec S16 32) a x).toNat < S65552.size a := fun v458 k0_hw228 => k0_hw228
def k0_off231 (k0_t16 : Fin k0_t16_loop.trips) : Fin 2 → Nat :=
  let c4_i32 : BitVec 32 := 4#32
  let v459 : Index := Scalar.indexCast c4_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v460 : Index := Scalar.indexCast v346
  ![4, v460.toNat]

def k0_chk229 (v486 : IVec S16 32) : Prop :=
  (∀ a x, ((![v486] : Fin 1 → IVec S16 32) a x).toNat < S65552.size a)
theorem k0_idx229_inb : ∀ (v486 : IVec S16 32) (k0_hw229 : k0_chk229 v486), ∀ a x, ((![v486] : Fin 1 → IVec S16 32) a x).toNat < S65552.size a := fun v486 k0_hw229 => k0_hw229
def k0_off232 (k0_t16 : Fin k0_t16_loop.trips) : Fin 2 → Nat :=
  let c5_i32 : BitVec 32 := 5#32
  let v487 : Index := Scalar.indexCast c5_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v488 : Index := Scalar.indexCast v346
  ![5, v488.toNat]

def k0_chk230 (v514 : IVec S16 32) : Prop :=
  (∀ a x, ((![v514] : Fin 1 → IVec S16 32) a x).toNat < S65552.size a)
theorem k0_idx230_inb : ∀ (v514 : IVec S16 32) (k0_hw230 : k0_chk230 v514), ∀ a x, ((![v514] : Fin 1 → IVec S16 32) a x).toNat < S65552.size a := fun v514 k0_hw230 => k0_hw230
def k0_off233 (k0_t16 : Fin k0_t16_loop.trips) : Fin 2 → Nat :=
  let c6_i32 : BitVec 32 := 6#32
  let v515 : Index := Scalar.indexCast c6_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v516 : Index := Scalar.indexCast v346
  ![6, v516.toNat]

def k0_chk231 (v542 : IVec S16 32) : Prop :=
  (∀ a x, ((![v542] : Fin 1 → IVec S16 32) a x).toNat < S65552.size a)
theorem k0_idx231_inb : ∀ (v542 : IVec S16 32) (k0_hw231 : k0_chk231 v542), ∀ a x, ((![v542] : Fin 1 → IVec S16 32) a x).toNat < S65552.size a := fun v542 k0_hw231 => k0_hw231
def k0_off234 (k0_t16 : Fin k0_t16_loop.trips) : Fin 2 → Nat :=
  let c7_i32 : BitVec 32 := 7#32
  let v543 : Index := Scalar.indexCast c7_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v544 : Index := Scalar.indexCast v346
  ![7, v544.toNat]

def k0_chk232 (v570 : IVec S16 32) : Prop :=
  (∀ a x, ((![v570] : Fin 1 → IVec S16 32) a x).toNat < S65552.size a)
theorem k0_idx232_inb : ∀ (v570 : IVec S16 32) (k0_hw232 : k0_chk232 v570), ∀ a x, ((![v570] : Fin 1 → IVec S16 32) a x).toNat < S65552.size a := fun v570 k0_hw232 => k0_hw232
def k0_off235 (k0_t16 : Fin k0_t16_loop.trips) : Fin 2 → Nat :=
  let c8_i32_439 : BitVec 32 := 8#32
  let v571 : Index := Scalar.indexCast c8_i32_439
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v572 : Index := Scalar.indexCast v346
  ![8, v572.toNat]

def k0_chk233 (v598 : IVec S16 32) : Prop :=
  (∀ a x, ((![v598] : Fin 1 → IVec S16 32) a x).toNat < S65552.size a)
theorem k0_idx233_inb : ∀ (v598 : IVec S16 32) (k0_hw233 : k0_chk233 v598), ∀ a x, ((![v598] : Fin 1 → IVec S16 32) a x).toNat < S65552.size a := fun v598 k0_hw233 => k0_hw233
def k0_off236 (k0_t16 : Fin k0_t16_loop.trips) : Fin 2 → Nat :=
  let c9_i32 : BitVec 32 := 9#32
  let v599 : Index := Scalar.indexCast c9_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v600 : Index := Scalar.indexCast v346
  ![9, v600.toNat]

def k0_chk234 (v626 : IVec S16 32) : Prop :=
  (∀ a x, ((![v626] : Fin 1 → IVec S16 32) a x).toNat < S65552.size a)
theorem k0_idx234_inb : ∀ (v626 : IVec S16 32) (k0_hw234 : k0_chk234 v626), ∀ a x, ((![v626] : Fin 1 → IVec S16 32) a x).toNat < S65552.size a := fun v626 k0_hw234 => k0_hw234
def k0_off237 (k0_t16 : Fin k0_t16_loop.trips) : Fin 2 → Nat :=
  let c10_i32 : BitVec 32 := 10#32
  let v627 : Index := Scalar.indexCast c10_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v628 : Index := Scalar.indexCast v346
  ![10, v628.toNat]

def k0_chk235 (v654 : IVec S16 32) : Prop :=
  (∀ a x, ((![v654] : Fin 1 → IVec S16 32) a x).toNat < S65552.size a)
theorem k0_idx235_inb : ∀ (v654 : IVec S16 32) (k0_hw235 : k0_chk235 v654), ∀ a x, ((![v654] : Fin 1 → IVec S16 32) a x).toNat < S65552.size a := fun v654 k0_hw235 => k0_hw235
def k0_off238 (k0_t16 : Fin k0_t16_loop.trips) : Fin 2 → Nat :=
  let c11_i32 : BitVec 32 := 11#32
  let v655 : Index := Scalar.indexCast c11_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v656 : Index := Scalar.indexCast v346
  ![11, v656.toNat]

def k0_chk236 (v682 : IVec S16 32) : Prop :=
  (∀ a x, ((![v682] : Fin 1 → IVec S16 32) a x).toNat < S65552.size a)
theorem k0_idx236_inb : ∀ (v682 : IVec S16 32) (k0_hw236 : k0_chk236 v682), ∀ a x, ((![v682] : Fin 1 → IVec S16 32) a x).toNat < S65552.size a := fun v682 k0_hw236 => k0_hw236
def k0_off239 (k0_t16 : Fin k0_t16_loop.trips) : Fin 2 → Nat :=
  let c12_i32 : BitVec 32 := 12#32
  let v683 : Index := Scalar.indexCast c12_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v684 : Index := Scalar.indexCast v346
  ![12, v684.toNat]

def k0_chk237 (v710 : IVec S16 32) : Prop :=
  (∀ a x, ((![v710] : Fin 1 → IVec S16 32) a x).toNat < S65552.size a)
theorem k0_idx237_inb : ∀ (v710 : IVec S16 32) (k0_hw237 : k0_chk237 v710), ∀ a x, ((![v710] : Fin 1 → IVec S16 32) a x).toNat < S65552.size a := fun v710 k0_hw237 => k0_hw237
def k0_off240 (k0_t16 : Fin k0_t16_loop.trips) : Fin 2 → Nat :=
  let c13_i32 : BitVec 32 := 13#32
  let v711 : Index := Scalar.indexCast c13_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v712 : Index := Scalar.indexCast v346
  ![13, v712.toNat]

def k0_chk238 (v738 : IVec S16 32) : Prop :=
  (∀ a x, ((![v738] : Fin 1 → IVec S16 32) a x).toNat < S65552.size a)
theorem k0_idx238_inb : ∀ (v738 : IVec S16 32) (k0_hw238 : k0_chk238 v738), ∀ a x, ((![v738] : Fin 1 → IVec S16 32) a x).toNat < S65552.size a := fun v738 k0_hw238 => k0_hw238
def k0_off241 (k0_t16 : Fin k0_t16_loop.trips) : Fin 2 → Nat :=
  let c14_i32 : BitVec 32 := 14#32
  let v739 : Index := Scalar.indexCast c14_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v740 : Index := Scalar.indexCast v346
  ![14, v740.toNat]

def k0_chk239 (v766 : IVec S16 32) : Prop :=
  (∀ a x, ((![v766] : Fin 1 → IVec S16 32) a x).toNat < S65552.size a)
theorem k0_idx239_inb : ∀ (v766 : IVec S16 32) (k0_hw239 : k0_chk239 v766), ∀ a x, ((![v766] : Fin 1 → IVec S16 32) a x).toNat < S65552.size a := fun v766 k0_hw239 => k0_hw239
def k0_off242 (k0_t16 : Fin k0_t16_loop.trips) : Fin 2 → Nat :=
  let c15_i32 : BitVec 32 := 15#32
  let v767 : Index := Scalar.indexCast c15_i32
  let c0_i32_186 : BitVec 32 := 0#32
  let c1_i32_188 : BitVec 32 := 1#32
  let arg19 : BitVec 32 := Scf.iv c0_i32_186 c1_i32_188 k0_t16
  let c16_i32_357 : BitVec 32 := 16#32
  let v346 : BitVec 32 := Scalar.muli arg19 c16_i32_357
  let v768 : Index := Scalar.indexCast v346
  ![15, v768.toNat]

def k0_chk240 (v794 : IVec S16 32) : Prop :=
  (∀ a x, ((![v794] : Fin 1 → IVec S16 32) a x).toNat < S65552.size a)
theorem k0_idx240_inb : ∀ (v794 : IVec S16 32) (k0_hw240 : k0_chk240 v794), ∀ a x, ((![v794] : Fin 1 → IVec S16 32) a x).toNat < S65552.size a := fun v794 k0_hw240 => k0_hw240
@[reducible] def k0_t17_loop : Scf.Loop 32 :=
  let c0_i32_194 : BitVec 32 := 0#32
  let c32_i32_195 : BitVec 32 := 32#32
  let v311 : BitVec 32 := Scalar.addi c0_i32_194 c32_i32_195
  let c1_i32_196 : BitVec 32 := 1#32
  ⟨c0_i32_194, v311, c1_i32_196⟩
def k0_off243 (k0_t17 : Fin k0_t17_loop.trips) : Fin 2 → Nat :=
  let c0_i32_358 : BitVec 32 := 0#32
  let v347 : Index := Scalar.indexCast c0_i32_358
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v348 : Index := Scalar.indexCast v346
  ![0, v348.toNat]

def k0_chk241 (v374 : IVec S16 32) : Prop :=
  (∀ a x, ((![v374] : Fin 1 → IVec S16 32) a x).toNat < S65552.size a)
theorem k0_idx241_inb : ∀ (v374 : IVec S16 32) (k0_hw241 : k0_chk241 v374), ∀ a x, ((![v374] : Fin 1 → IVec S16 32) a x).toNat < S65552.size a := fun v374 k0_hw241 => k0_hw241
def k0_off244 (k0_t17 : Fin k0_t17_loop.trips) : Fin 2 → Nat :=
  let c1_i32_367 : BitVec 32 := 1#32
  let v375 : Index := Scalar.indexCast c1_i32_367
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v376 : Index := Scalar.indexCast v346
  ![1, v376.toNat]

def k0_chk242 (v402 : IVec S16 32) : Prop :=
  (∀ a x, ((![v402] : Fin 1 → IVec S16 32) a x).toNat < S65552.size a)
theorem k0_idx242_inb : ∀ (v402 : IVec S16 32) (k0_hw242 : k0_chk242 v402), ∀ a x, ((![v402] : Fin 1 → IVec S16 32) a x).toNat < S65552.size a := fun v402 k0_hw242 => k0_hw242
def k0_off245 (k0_t17 : Fin k0_t17_loop.trips) : Fin 2 → Nat :=
  let c2_i32_378 : BitVec 32 := 2#32
  let v403 : Index := Scalar.indexCast c2_i32_378
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v404 : Index := Scalar.indexCast v346
  ![2, v404.toNat]

def k0_chk243 (v430 : IVec S16 32) : Prop :=
  (∀ a x, ((![v430] : Fin 1 → IVec S16 32) a x).toNat < S65552.size a)
theorem k0_idx243_inb : ∀ (v430 : IVec S16 32) (k0_hw243 : k0_chk243 v430), ∀ a x, ((![v430] : Fin 1 → IVec S16 32) a x).toNat < S65552.size a := fun v430 k0_hw243 => k0_hw243
def k0_off246 (k0_t17 : Fin k0_t17_loop.trips) : Fin 2 → Nat :=
  let c3_i32 : BitVec 32 := 3#32
  let v431 : Index := Scalar.indexCast c3_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v432 : Index := Scalar.indexCast v346
  ![3, v432.toNat]

def k0_chk244 (v458 : IVec S16 32) : Prop :=
  (∀ a x, ((![v458] : Fin 1 → IVec S16 32) a x).toNat < S65552.size a)
theorem k0_idx244_inb : ∀ (v458 : IVec S16 32) (k0_hw244 : k0_chk244 v458), ∀ a x, ((![v458] : Fin 1 → IVec S16 32) a x).toNat < S65552.size a := fun v458 k0_hw244 => k0_hw244
def k0_off247 (k0_t17 : Fin k0_t17_loop.trips) : Fin 2 → Nat :=
  let c4_i32 : BitVec 32 := 4#32
  let v459 : Index := Scalar.indexCast c4_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v460 : Index := Scalar.indexCast v346
  ![4, v460.toNat]

def k0_chk245 (v486 : IVec S16 32) : Prop :=
  (∀ a x, ((![v486] : Fin 1 → IVec S16 32) a x).toNat < S65552.size a)
theorem k0_idx245_inb : ∀ (v486 : IVec S16 32) (k0_hw245 : k0_chk245 v486), ∀ a x, ((![v486] : Fin 1 → IVec S16 32) a x).toNat < S65552.size a := fun v486 k0_hw245 => k0_hw245
def k0_off248 (k0_t17 : Fin k0_t17_loop.trips) : Fin 2 → Nat :=
  let c5_i32 : BitVec 32 := 5#32
  let v487 : Index := Scalar.indexCast c5_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v488 : Index := Scalar.indexCast v346
  ![5, v488.toNat]

def k0_chk246 (v514 : IVec S16 32) : Prop :=
  (∀ a x, ((![v514] : Fin 1 → IVec S16 32) a x).toNat < S65552.size a)
theorem k0_idx246_inb : ∀ (v514 : IVec S16 32) (k0_hw246 : k0_chk246 v514), ∀ a x, ((![v514] : Fin 1 → IVec S16 32) a x).toNat < S65552.size a := fun v514 k0_hw246 => k0_hw246
def k0_off249 (k0_t17 : Fin k0_t17_loop.trips) : Fin 2 → Nat :=
  let c6_i32 : BitVec 32 := 6#32
  let v515 : Index := Scalar.indexCast c6_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v516 : Index := Scalar.indexCast v346
  ![6, v516.toNat]

def k0_chk247 (v542 : IVec S16 32) : Prop :=
  (∀ a x, ((![v542] : Fin 1 → IVec S16 32) a x).toNat < S65552.size a)
theorem k0_idx247_inb : ∀ (v542 : IVec S16 32) (k0_hw247 : k0_chk247 v542), ∀ a x, ((![v542] : Fin 1 → IVec S16 32) a x).toNat < S65552.size a := fun v542 k0_hw247 => k0_hw247
def k0_off250 (k0_t17 : Fin k0_t17_loop.trips) : Fin 2 → Nat :=
  let c7_i32 : BitVec 32 := 7#32
  let v543 : Index := Scalar.indexCast c7_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v544 : Index := Scalar.indexCast v346
  ![7, v544.toNat]

def k0_chk248 (v570 : IVec S16 32) : Prop :=
  (∀ a x, ((![v570] : Fin 1 → IVec S16 32) a x).toNat < S65552.size a)
theorem k0_idx248_inb : ∀ (v570 : IVec S16 32) (k0_hw248 : k0_chk248 v570), ∀ a x, ((![v570] : Fin 1 → IVec S16 32) a x).toNat < S65552.size a := fun v570 k0_hw248 => k0_hw248
def k0_off251 (k0_t17 : Fin k0_t17_loop.trips) : Fin 2 → Nat :=
  let c8_i32_439 : BitVec 32 := 8#32
  let v571 : Index := Scalar.indexCast c8_i32_439
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v572 : Index := Scalar.indexCast v346
  ![8, v572.toNat]

def k0_chk249 (v598 : IVec S16 32) : Prop :=
  (∀ a x, ((![v598] : Fin 1 → IVec S16 32) a x).toNat < S65552.size a)
theorem k0_idx249_inb : ∀ (v598 : IVec S16 32) (k0_hw249 : k0_chk249 v598), ∀ a x, ((![v598] : Fin 1 → IVec S16 32) a x).toNat < S65552.size a := fun v598 k0_hw249 => k0_hw249
def k0_off252 (k0_t17 : Fin k0_t17_loop.trips) : Fin 2 → Nat :=
  let c9_i32 : BitVec 32 := 9#32
  let v599 : Index := Scalar.indexCast c9_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v600 : Index := Scalar.indexCast v346
  ![9, v600.toNat]

def k0_chk250 (v626 : IVec S16 32) : Prop :=
  (∀ a x, ((![v626] : Fin 1 → IVec S16 32) a x).toNat < S65552.size a)
theorem k0_idx250_inb : ∀ (v626 : IVec S16 32) (k0_hw250 : k0_chk250 v626), ∀ a x, ((![v626] : Fin 1 → IVec S16 32) a x).toNat < S65552.size a := fun v626 k0_hw250 => k0_hw250
def k0_off253 (k0_t17 : Fin k0_t17_loop.trips) : Fin 2 → Nat :=
  let c10_i32 : BitVec 32 := 10#32
  let v627 : Index := Scalar.indexCast c10_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v628 : Index := Scalar.indexCast v346
  ![10, v628.toNat]

def k0_chk251 (v654 : IVec S16 32) : Prop :=
  (∀ a x, ((![v654] : Fin 1 → IVec S16 32) a x).toNat < S65552.size a)
theorem k0_idx251_inb : ∀ (v654 : IVec S16 32) (k0_hw251 : k0_chk251 v654), ∀ a x, ((![v654] : Fin 1 → IVec S16 32) a x).toNat < S65552.size a := fun v654 k0_hw251 => k0_hw251
def k0_off254 (k0_t17 : Fin k0_t17_loop.trips) : Fin 2 → Nat :=
  let c11_i32 : BitVec 32 := 11#32
  let v655 : Index := Scalar.indexCast c11_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v656 : Index := Scalar.indexCast v346
  ![11, v656.toNat]

def k0_chk252 (v682 : IVec S16 32) : Prop :=
  (∀ a x, ((![v682] : Fin 1 → IVec S16 32) a x).toNat < S65552.size a)
theorem k0_idx252_inb : ∀ (v682 : IVec S16 32) (k0_hw252 : k0_chk252 v682), ∀ a x, ((![v682] : Fin 1 → IVec S16 32) a x).toNat < S65552.size a := fun v682 k0_hw252 => k0_hw252
def k0_off255 (k0_t17 : Fin k0_t17_loop.trips) : Fin 2 → Nat :=
  let c12_i32 : BitVec 32 := 12#32
  let v683 : Index := Scalar.indexCast c12_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v684 : Index := Scalar.indexCast v346
  ![12, v684.toNat]

def k0_chk253 (v710 : IVec S16 32) : Prop :=
  (∀ a x, ((![v710] : Fin 1 → IVec S16 32) a x).toNat < S65552.size a)
theorem k0_idx253_inb : ∀ (v710 : IVec S16 32) (k0_hw253 : k0_chk253 v710), ∀ a x, ((![v710] : Fin 1 → IVec S16 32) a x).toNat < S65552.size a := fun v710 k0_hw253 => k0_hw253
def k0_off256 (k0_t17 : Fin k0_t17_loop.trips) : Fin 2 → Nat :=
  let c13_i32 : BitVec 32 := 13#32
  let v711 : Index := Scalar.indexCast c13_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v712 : Index := Scalar.indexCast v346
  ![13, v712.toNat]

def k0_chk254 (v738 : IVec S16 32) : Prop :=
  (∀ a x, ((![v738] : Fin 1 → IVec S16 32) a x).toNat < S65552.size a)
theorem k0_idx254_inb : ∀ (v738 : IVec S16 32) (k0_hw254 : k0_chk254 v738), ∀ a x, ((![v738] : Fin 1 → IVec S16 32) a x).toNat < S65552.size a := fun v738 k0_hw254 => k0_hw254
def k0_off257 (k0_t17 : Fin k0_t17_loop.trips) : Fin 2 → Nat :=
  let c14_i32 : BitVec 32 := 14#32
  let v739 : Index := Scalar.indexCast c14_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v740 : Index := Scalar.indexCast v346
  ![14, v740.toNat]

def k0_chk255 (v766 : IVec S16 32) : Prop :=
  (∀ a x, ((![v766] : Fin 1 → IVec S16 32) a x).toNat < S65552.size a)
theorem k0_idx255_inb : ∀ (v766 : IVec S16 32) (k0_hw255 : k0_chk255 v766), ∀ a x, ((![v766] : Fin 1 → IVec S16 32) a x).toNat < S65552.size a := fun v766 k0_hw255 => k0_hw255
def k0_off258 (k0_t17 : Fin k0_t17_loop.trips) : Fin 2 → Nat :=
  let c15_i32 : BitVec 32 := 15#32
  let v767 : Index := Scalar.indexCast c15_i32
  let c0_i32_194 : BitVec 32 := 0#32
  let c1_i32_196 : BitVec 32 := 1#32
  let arg19 : BitVec 32 := Scf.iv c0_i32_194 c1_i32_196 k0_t17
  let c16_i32_357 : BitVec 32 := 16#32
  let v346 : BitVec 32 := Scalar.muli arg19 c16_i32_357
  let v768 : Index := Scalar.indexCast v346
  ![15, v768.toNat]

def k0_chk256 (v794 : IVec S16 32) : Prop :=
  (∀ a x, ((![v794] : Fin 1 → IVec S16 32) a x).toNat < S65552.size a)
theorem k0_idx256_inb : ∀ (v794 : IVec S16 32) (k0_hw256 : k0_chk256 v794), ∀ a x, ((![v794] : Fin 1 → IVec S16 32) a x).toNat < S65552.size a := fun v794 k0_hw256 => k0_hw256
@[reducible] def k0_t18_loop : Scf.Loop 32 :=
  let c0_i32_199 : BitVec 32 := 0#32
  let c8_i32 : BitVec 32 := 8#32
  let v313 : BitVec 32 := Scalar.addi c0_i32_199 c8_i32
  let c1_i32_200 : BitVec 32 := 1#32
  ⟨c0_i32_199, v313, c1_i32_200⟩
def k0_off259 (k0_t18 : Fin k0_t18_loop.trips) (c0_i32_361 : BitVec 32) : Fin 1 → Nat :=
  let c0_i32_358 : BitVec 32 := 0#32
  let c0_i32_199 : BitVec 32 := 0#32
  let c1_i32_200 : BitVec 32 := 1#32
  let arg19 : BitVec 32 := Scf.iv c0_i32_199 c1_i32_200 k0_t18
  let c16_i32_357 : BitVec 32 := 16#32
  let v346 : BitVec 32 := Scalar.muli arg19 c16_i32_357
  let v347 : BitVec 32 := Scalar.addi c0_i32_358 v346
  let v350 : BitVec 32 := Scalar.addi c0_i32_361 v347
  let v351 : Index := Scalar.indexCast v350
  ![v351.toNat]
def k0_off260 (k0_t18 : Fin k0_t18_loop.trips) : Fin 2 → Nat :=
  let c0_i32_395 : BitVec 32 := 0#32
  let v495 : Index := Scalar.indexCast c0_i32_395
  let c0_i32_199 : BitVec 32 := 0#32
  let c1_i32_200 : BitVec 32 := 1#32
  let arg19 : BitVec 32 := Scf.iv c0_i32_199 c1_i32_200 k0_t18
  let c16_i32_394 : BitVec 32 := 16#32
  let v494 : BitVec 32 := Scalar.muli arg19 c16_i32_394
  let v496 : Index := Scalar.indexCast v494
  ![0, v496.toNat]
@[reducible] def k0_t19_loop : Scf.Loop 32 :=
  let c0_i32_203 : BitVec 32 := 0#32
  let c8_i32_204 : BitVec 32 := 8#32
  let v314 : BitVec 32 := Scalar.addi c0_i32_203 c8_i32_204
  let c1_i32_205 : BitVec 32 := 1#32
  ⟨c0_i32_203, v314, c1_i32_205⟩
def k0_off261 (k0_t19 : Fin k0_t19_loop.trips) (c0_i32_361 : BitVec 32) : Fin 1 → Nat :=
  let c128_i32_358 : BitVec 32 := 128#32
  let c0_i32_203 : BitVec 32 := 0#32
  let c1_i32_205 : BitVec 32 := 1#32
  let arg19 : BitVec 32 := Scf.iv c0_i32_203 c1_i32_205 k0_t19
  let c16_i32_357 : BitVec 32 := 16#32
  let v346 : BitVec 32 := Scalar.muli arg19 c16_i32_357
  let v347 : BitVec 32 := Scalar.addi c128_i32_358 v346
  let v350 : BitVec 32 := Scalar.addi c0_i32_361 v347
  let v351 : Index := Scalar.indexCast v350
  ![v351.toNat]
def k0_off262 (k0_t19 : Fin k0_t19_loop.trips) : Fin 2 → Nat :=
  let c1_i32_395 : BitVec 32 := 1#32
  let v495 : Index := Scalar.indexCast c1_i32_395
  let c0_i32_203 : BitVec 32 := 0#32
  let c1_i32_205 : BitVec 32 := 1#32
  let arg19 : BitVec 32 := Scf.iv c0_i32_203 c1_i32_205 k0_t19
  let c16_i32_394 : BitVec 32 := 16#32
  let v494 : BitVec 32 := Scalar.muli arg19 c16_i32_394
  let v496 : Index := Scalar.indexCast v494
  ![1, v496.toNat]
@[reducible] def k0_t20_loop : Scf.Loop 32 :=
  let c0_i32_208 : BitVec 32 := 0#32
  let c8_i32_209 : BitVec 32 := 8#32
  let v315 : BitVec 32 := Scalar.addi c0_i32_208 c8_i32_209
  let c1_i32_210 : BitVec 32 := 1#32
  ⟨c0_i32_208, v315, c1_i32_210⟩
def k0_off263 (k0_t20 : Fin k0_t20_loop.trips) (c0_i32_361 : BitVec 32) : Fin 1 → Nat :=
  let c256_i32_358 : BitVec 32 := 256#32
  let c0_i32_208 : BitVec 32 := 0#32
  let c1_i32_210 : BitVec 32 := 1#32
  let arg19 : BitVec 32 := Scf.iv c0_i32_208 c1_i32_210 k0_t20
  let c16_i32_357 : BitVec 32 := 16#32
  let v346 : BitVec 32 := Scalar.muli arg19 c16_i32_357
  let v347 : BitVec 32 := Scalar.addi c256_i32_358 v346
  let v350 : BitVec 32 := Scalar.addi c0_i32_361 v347
  let v351 : Index := Scalar.indexCast v350
  ![v351.toNat]
def k0_off264 (k0_t20 : Fin k0_t20_loop.trips) : Fin 2 → Nat :=
  let c2_i32_395 : BitVec 32 := 2#32
  let v495 : Index := Scalar.indexCast c2_i32_395
  let c0_i32_208 : BitVec 32 := 0#32
  let c1_i32_210 : BitVec 32 := 1#32
  let arg19 : BitVec 32 := Scf.iv c0_i32_208 c1_i32_210 k0_t20
  let c16_i32_394 : BitVec 32 := 16#32
  let v494 : BitVec 32 := Scalar.muli arg19 c16_i32_394
  let v496 : Index := Scalar.indexCast v494
  ![2, v496.toNat]
@[reducible] def k0_t21_loop : Scf.Loop 32 :=
  let c0_i32_213 : BitVec 32 := 0#32
  let c8_i32_214 : BitVec 32 := 8#32
  let v316 : BitVec 32 := Scalar.addi c0_i32_213 c8_i32_214
  let c1_i32_215 : BitVec 32 := 1#32
  ⟨c0_i32_213, v316, c1_i32_215⟩
def k0_off265 (k0_t21 : Fin k0_t21_loop.trips) (c0_i32_360 : BitVec 32) : Fin 1 → Nat :=
  let c384_i32 : BitVec 32 := 384#32
  let c0_i32_213 : BitVec 32 := 0#32
  let c1_i32_215 : BitVec 32 := 1#32
  let arg19 : BitVec 32 := Scf.iv c0_i32_213 c1_i32_215 k0_t21
  let c16_i32_357 : BitVec 32 := 16#32
  let v346 : BitVec 32 := Scalar.muli arg19 c16_i32_357
  let v347 : BitVec 32 := Scalar.addi c384_i32 v346
  let v350 : BitVec 32 := Scalar.addi c0_i32_360 v347
  let v351 : Index := Scalar.indexCast v350
  ![v351.toNat]
def k0_off266 (k0_t21 : Fin k0_t21_loop.trips) : Fin 2 → Nat :=
  let c3_i32 : BitVec 32 := 3#32
  let v495 : Index := Scalar.indexCast c3_i32
  let c0_i32_213 : BitVec 32 := 0#32
  let c1_i32_215 : BitVec 32 := 1#32
  let arg19 : BitVec 32 := Scf.iv c0_i32_213 c1_i32_215 k0_t21
  let c16_i32_393 : BitVec 32 := 16#32
  let v494 : BitVec 32 := Scalar.muli arg19 c16_i32_393
  let v496 : Index := Scalar.indexCast v494
  ![3, v496.toNat]
@[reducible] def k0_t22_loop : Scf.Loop 32 :=
  let c0_i32_218 : BitVec 32 := 0#32
  let c8_i32_219 : BitVec 32 := 8#32
  let v317 : BitVec 32 := Scalar.addi c0_i32_218 c8_i32_219
  let c1_i32_220 : BitVec 32 := 1#32
  ⟨c0_i32_218, v317, c1_i32_220⟩
def k0_off267 (k0_t22 : Fin k0_t22_loop.trips) (c0_i32_360 : BitVec 32) : Fin 1 → Nat :=
  let c512_i32 : BitVec 32 := 512#32
  let c0_i32_218 : BitVec 32 := 0#32
  let c1_i32_220 : BitVec 32 := 1#32
  let arg19 : BitVec 32 := Scf.iv c0_i32_218 c1_i32_220 k0_t22
  let c16_i32_357 : BitVec 32 := 16#32
  let v346 : BitVec 32 := Scalar.muli arg19 c16_i32_357
  let v347 : BitVec 32 := Scalar.addi c512_i32 v346
  let v350 : BitVec 32 := Scalar.addi c0_i32_360 v347
  let v351 : Index := Scalar.indexCast v350
  ![v351.toNat]
def k0_off268 (k0_t22 : Fin k0_t22_loop.trips) : Fin 2 → Nat :=
  let c4_i32 : BitVec 32 := 4#32
  let v495 : Index := Scalar.indexCast c4_i32
  let c0_i32_218 : BitVec 32 := 0#32
  let c1_i32_220 : BitVec 32 := 1#32
  let arg19 : BitVec 32 := Scf.iv c0_i32_218 c1_i32_220 k0_t22
  let c16_i32_393 : BitVec 32 := 16#32
  let v494 : BitVec 32 := Scalar.muli arg19 c16_i32_393
  let v496 : Index := Scalar.indexCast v494
  ![4, v496.toNat]
@[reducible] def k0_t23_loop : Scf.Loop 32 :=
  let c0_i32_223 : BitVec 32 := 0#32
  let c8_i32_224 : BitVec 32 := 8#32
  let v318 : BitVec 32 := Scalar.addi c0_i32_223 c8_i32_224
  let c1_i32_225 : BitVec 32 := 1#32
  ⟨c0_i32_223, v318, c1_i32_225⟩
def k0_off269 (k0_t23 : Fin k0_t23_loop.trips) (c0_i32_360 : BitVec 32) : Fin 1 → Nat :=
  let c640_i32 : BitVec 32 := 640#32
  let c0_i32_223 : BitVec 32 := 0#32
  let c1_i32_225 : BitVec 32 := 1#32
  let arg19 : BitVec 32 := Scf.iv c0_i32_223 c1_i32_225 k0_t23
  let c16_i32_357 : BitVec 32 := 16#32
  let v346 : BitVec 32 := Scalar.muli arg19 c16_i32_357
  let v347 : BitVec 32 := Scalar.addi c640_i32 v346
  let v350 : BitVec 32 := Scalar.addi c0_i32_360 v347
  let v351 : Index := Scalar.indexCast v350
  ![v351.toNat]
def k0_off270 (k0_t23 : Fin k0_t23_loop.trips) : Fin 2 → Nat :=
  let c5_i32 : BitVec 32 := 5#32
  let v495 : Index := Scalar.indexCast c5_i32
  let c0_i32_223 : BitVec 32 := 0#32
  let c1_i32_225 : BitVec 32 := 1#32
  let arg19 : BitVec 32 := Scf.iv c0_i32_223 c1_i32_225 k0_t23
  let c16_i32_393 : BitVec 32 := 16#32
  let v494 : BitVec 32 := Scalar.muli arg19 c16_i32_393
  let v496 : Index := Scalar.indexCast v494
  ![5, v496.toNat]
@[reducible] def k0_t24_loop : Scf.Loop 32 :=
  let c0_i32_228 : BitVec 32 := 0#32
  let c8_i32_229 : BitVec 32 := 8#32
  let v319 : BitVec 32 := Scalar.addi c0_i32_228 c8_i32_229
  let c1_i32_230 : BitVec 32 := 1#32
  ⟨c0_i32_228, v319, c1_i32_230⟩
def k0_off271 (k0_t24 : Fin k0_t24_loop.trips) (c0_i32_360 : BitVec 32) : Fin 1 → Nat :=
  let c768_i32 : BitVec 32 := 768#32
  let c0_i32_228 : BitVec 32 := 0#32
  let c1_i32_230 : BitVec 32 := 1#32
  let arg19 : BitVec 32 := Scf.iv c0_i32_228 c1_i32_230 k0_t24
  let c16_i32_357 : BitVec 32 := 16#32
  let v346 : BitVec 32 := Scalar.muli arg19 c16_i32_357
  let v347 : BitVec 32 := Scalar.addi c768_i32 v346
  let v350 : BitVec 32 := Scalar.addi c0_i32_360 v347
  let v351 : Index := Scalar.indexCast v350
  ![v351.toNat]
def k0_off272 (k0_t24 : Fin k0_t24_loop.trips) : Fin 2 → Nat :=
  let c6_i32 : BitVec 32 := 6#32
  let v495 : Index := Scalar.indexCast c6_i32
  let c0_i32_228 : BitVec 32 := 0#32
  let c1_i32_230 : BitVec 32 := 1#32
  let arg19 : BitVec 32 := Scf.iv c0_i32_228 c1_i32_230 k0_t24
  let c16_i32_393 : BitVec 32 := 16#32
  let v494 : BitVec 32 := Scalar.muli arg19 c16_i32_393
  let v496 : Index := Scalar.indexCast v494
  ![6, v496.toNat]
@[reducible] def k0_t25_loop : Scf.Loop 32 :=
  let c0_i32_233 : BitVec 32 := 0#32
  let c8_i32_234 : BitVec 32 := 8#32
  let v320 : BitVec 32 := Scalar.addi c0_i32_233 c8_i32_234
  let c1_i32_235 : BitVec 32 := 1#32
  ⟨c0_i32_233, v320, c1_i32_235⟩
def k0_off273 (k0_t25 : Fin k0_t25_loop.trips) (c0_i32_360 : BitVec 32) : Fin 1 → Nat :=
  let c896_i32 : BitVec 32 := 896#32
  let c0_i32_233 : BitVec 32 := 0#32
  let c1_i32_235 : BitVec 32 := 1#32
  let arg19 : BitVec 32 := Scf.iv c0_i32_233 c1_i32_235 k0_t25
  let c16_i32_357 : BitVec 32 := 16#32
  let v346 : BitVec 32 := Scalar.muli arg19 c16_i32_357
  let v347 : BitVec 32 := Scalar.addi c896_i32 v346
  let v350 : BitVec 32 := Scalar.addi c0_i32_360 v347
  let v351 : Index := Scalar.indexCast v350
  ![v351.toNat]
def k0_off274 (k0_t25 : Fin k0_t25_loop.trips) : Fin 2 → Nat :=
  let c7_i32 : BitVec 32 := 7#32
  let v495 : Index := Scalar.indexCast c7_i32
  let c0_i32_233 : BitVec 32 := 0#32
  let c1_i32_235 : BitVec 32 := 1#32
  let arg19 : BitVec 32 := Scf.iv c0_i32_233 c1_i32_235 k0_t25
  let c16_i32_393 : BitVec 32 := 16#32
  let v494 : BitVec 32 := Scalar.muli arg19 c16_i32_393
  let v496 : Index := Scalar.indexCast v494
  ![7, v496.toNat]
@[reducible] def k0_t26_loop : Scf.Loop 32 :=
  let c0_i32_238 : BitVec 32 := 0#32
  let c8_i32_239 : BitVec 32 := 8#32
  let v321 : BitVec 32 := Scalar.addi c0_i32_238 c8_i32_239
  let c1_i32_240 : BitVec 32 := 1#32
  ⟨c0_i32_238, v321, c1_i32_240⟩
def k0_off275 (k0_t26 : Fin k0_t26_loop.trips) (c0_i32_360 : BitVec 32) : Fin 1 → Nat :=
  let c1024_i32 : BitVec 32 := 1024#32
  let c0_i32_238 : BitVec 32 := 0#32
  let c1_i32_240 : BitVec 32 := 1#32
  let arg19 : BitVec 32 := Scf.iv c0_i32_238 c1_i32_240 k0_t26
  let c16_i32_357 : BitVec 32 := 16#32
  let v346 : BitVec 32 := Scalar.muli arg19 c16_i32_357
  let v347 : BitVec 32 := Scalar.addi c1024_i32 v346
  let v350 : BitVec 32 := Scalar.addi c0_i32_360 v347
  let v351 : Index := Scalar.indexCast v350
  ![v351.toNat]
def k0_off276 (k0_t26 : Fin k0_t26_loop.trips) : Fin 2 → Nat :=
  let c8_i32_394 : BitVec 32 := 8#32
  let v495 : Index := Scalar.indexCast c8_i32_394
  let c0_i32_238 : BitVec 32 := 0#32
  let c1_i32_240 : BitVec 32 := 1#32
  let arg19 : BitVec 32 := Scf.iv c0_i32_238 c1_i32_240 k0_t26
  let c16_i32_393 : BitVec 32 := 16#32
  let v494 : BitVec 32 := Scalar.muli arg19 c16_i32_393
  let v496 : Index := Scalar.indexCast v494
  ![8, v496.toNat]
@[reducible] def k0_t27_loop : Scf.Loop 32 :=
  let c0_i32_243 : BitVec 32 := 0#32
  let c8_i32_244 : BitVec 32 := 8#32
  let v322 : BitVec 32 := Scalar.addi c0_i32_243 c8_i32_244
  let c1_i32_245 : BitVec 32 := 1#32
  ⟨c0_i32_243, v322, c1_i32_245⟩
def k0_off277 (k0_t27 : Fin k0_t27_loop.trips) (c0_i32_360 : BitVec 32) : Fin 1 → Nat :=
  let c1152_i32 : BitVec 32 := 1152#32
  let c0_i32_243 : BitVec 32 := 0#32
  let c1_i32_245 : BitVec 32 := 1#32
  let arg19 : BitVec 32 := Scf.iv c0_i32_243 c1_i32_245 k0_t27
  let c16_i32_357 : BitVec 32 := 16#32
  let v346 : BitVec 32 := Scalar.muli arg19 c16_i32_357
  let v347 : BitVec 32 := Scalar.addi c1152_i32 v346
  let v350 : BitVec 32 := Scalar.addi c0_i32_360 v347
  let v351 : Index := Scalar.indexCast v350
  ![v351.toNat]
def k0_off278 (k0_t27 : Fin k0_t27_loop.trips) : Fin 2 → Nat :=
  let c9_i32 : BitVec 32 := 9#32
  let v495 : Index := Scalar.indexCast c9_i32
  let c0_i32_243 : BitVec 32 := 0#32
  let c1_i32_245 : BitVec 32 := 1#32
  let arg19 : BitVec 32 := Scf.iv c0_i32_243 c1_i32_245 k0_t27
  let c16_i32_393 : BitVec 32 := 16#32
  let v494 : BitVec 32 := Scalar.muli arg19 c16_i32_393
  let v496 : Index := Scalar.indexCast v494
  ![9, v496.toNat]
@[reducible] def k0_t28_loop : Scf.Loop 32 :=
  let c0_i32_248 : BitVec 32 := 0#32
  let c8_i32_249 : BitVec 32 := 8#32
  let v323 : BitVec 32 := Scalar.addi c0_i32_248 c8_i32_249
  let c1_i32_250 : BitVec 32 := 1#32
  ⟨c0_i32_248, v323, c1_i32_250⟩
def k0_off279 (k0_t28 : Fin k0_t28_loop.trips) (c0_i32_360 : BitVec 32) : Fin 1 → Nat :=
  let c1280_i32 : BitVec 32 := 1280#32
  let c0_i32_248 : BitVec 32 := 0#32
  let c1_i32_250 : BitVec 32 := 1#32
  let arg19 : BitVec 32 := Scf.iv c0_i32_248 c1_i32_250 k0_t28
  let c16_i32_357 : BitVec 32 := 16#32
  let v346 : BitVec 32 := Scalar.muli arg19 c16_i32_357
  let v347 : BitVec 32 := Scalar.addi c1280_i32 v346
  let v350 : BitVec 32 := Scalar.addi c0_i32_360 v347
  let v351 : Index := Scalar.indexCast v350
  ![v351.toNat]
def k0_off280 (k0_t28 : Fin k0_t28_loop.trips) : Fin 2 → Nat :=
  let c10_i32 : BitVec 32 := 10#32
  let v495 : Index := Scalar.indexCast c10_i32
  let c0_i32_248 : BitVec 32 := 0#32
  let c1_i32_250 : BitVec 32 := 1#32
  let arg19 : BitVec 32 := Scf.iv c0_i32_248 c1_i32_250 k0_t28
  let c16_i32_393 : BitVec 32 := 16#32
  let v494 : BitVec 32 := Scalar.muli arg19 c16_i32_393
  let v496 : Index := Scalar.indexCast v494
  ![10, v496.toNat]
@[reducible] def k0_t29_loop : Scf.Loop 32 :=
  let c0_i32_253 : BitVec 32 := 0#32
  let c8_i32_254 : BitVec 32 := 8#32
  let v324 : BitVec 32 := Scalar.addi c0_i32_253 c8_i32_254
  let c1_i32_255 : BitVec 32 := 1#32
  ⟨c0_i32_253, v324, c1_i32_255⟩
def k0_off281 (k0_t29 : Fin k0_t29_loop.trips) (c0_i32_360 : BitVec 32) : Fin 1 → Nat :=
  let c1408_i32 : BitVec 32 := 1408#32
  let c0_i32_253 : BitVec 32 := 0#32
  let c1_i32_255 : BitVec 32 := 1#32
  let arg19 : BitVec 32 := Scf.iv c0_i32_253 c1_i32_255 k0_t29
  let c16_i32_357 : BitVec 32 := 16#32
  let v346 : BitVec 32 := Scalar.muli arg19 c16_i32_357
  let v347 : BitVec 32 := Scalar.addi c1408_i32 v346
  let v350 : BitVec 32 := Scalar.addi c0_i32_360 v347
  let v351 : Index := Scalar.indexCast v350
  ![v351.toNat]
def k0_off282 (k0_t29 : Fin k0_t29_loop.trips) : Fin 2 → Nat :=
  let c11_i32 : BitVec 32 := 11#32
  let v495 : Index := Scalar.indexCast c11_i32
  let c0_i32_253 : BitVec 32 := 0#32
  let c1_i32_255 : BitVec 32 := 1#32
  let arg19 : BitVec 32 := Scf.iv c0_i32_253 c1_i32_255 k0_t29
  let c16_i32_393 : BitVec 32 := 16#32
  let v494 : BitVec 32 := Scalar.muli arg19 c16_i32_393
  let v496 : Index := Scalar.indexCast v494
  ![11, v496.toNat]
@[reducible] def k0_t30_loop : Scf.Loop 32 :=
  let c0_i32_258 : BitVec 32 := 0#32
  let c8_i32_259 : BitVec 32 := 8#32
  let v325 : BitVec 32 := Scalar.addi c0_i32_258 c8_i32_259
  let c1_i32_260 : BitVec 32 := 1#32
  ⟨c0_i32_258, v325, c1_i32_260⟩
def k0_off283 (k0_t30 : Fin k0_t30_loop.trips) (c0_i32_360 : BitVec 32) : Fin 1 → Nat :=
  let c1536_i32 : BitVec 32 := 1536#32
  let c0_i32_258 : BitVec 32 := 0#32
  let c1_i32_260 : BitVec 32 := 1#32
  let arg19 : BitVec 32 := Scf.iv c0_i32_258 c1_i32_260 k0_t30
  let c16_i32_357 : BitVec 32 := 16#32
  let v346 : BitVec 32 := Scalar.muli arg19 c16_i32_357
  let v347 : BitVec 32 := Scalar.addi c1536_i32 v346
  let v350 : BitVec 32 := Scalar.addi c0_i32_360 v347
  let v351 : Index := Scalar.indexCast v350
  ![v351.toNat]
def k0_off284 (k0_t30 : Fin k0_t30_loop.trips) : Fin 2 → Nat :=
  let c12_i32 : BitVec 32 := 12#32
  let v495 : Index := Scalar.indexCast c12_i32
  let c0_i32_258 : BitVec 32 := 0#32
  let c1_i32_260 : BitVec 32 := 1#32
  let arg19 : BitVec 32 := Scf.iv c0_i32_258 c1_i32_260 k0_t30
  let c16_i32_393 : BitVec 32 := 16#32
  let v494 : BitVec 32 := Scalar.muli arg19 c16_i32_393
  let v496 : Index := Scalar.indexCast v494
  ![12, v496.toNat]
@[reducible] def k0_t31_loop : Scf.Loop 32 :=
  let c0_i32_263 : BitVec 32 := 0#32
  let c8_i32_264 : BitVec 32 := 8#32
  let v326 : BitVec 32 := Scalar.addi c0_i32_263 c8_i32_264
  let c1_i32_265 : BitVec 32 := 1#32
  ⟨c0_i32_263, v326, c1_i32_265⟩
def k0_off285 (k0_t31 : Fin k0_t31_loop.trips) (c0_i32_360 : BitVec 32) : Fin 1 → Nat :=
  let c1664_i32 : BitVec 32 := 1664#32
  let c0_i32_263 : BitVec 32 := 0#32
  let c1_i32_265 : BitVec 32 := 1#32
  let arg19 : BitVec 32 := Scf.iv c0_i32_263 c1_i32_265 k0_t31
  let c16_i32_357 : BitVec 32 := 16#32
  let v346 : BitVec 32 := Scalar.muli arg19 c16_i32_357
  let v347 : BitVec 32 := Scalar.addi c1664_i32 v346
  let v350 : BitVec 32 := Scalar.addi c0_i32_360 v347
  let v351 : Index := Scalar.indexCast v350
  ![v351.toNat]
def k0_off286 (k0_t31 : Fin k0_t31_loop.trips) : Fin 2 → Nat :=
  let c13_i32 : BitVec 32 := 13#32
  let v495 : Index := Scalar.indexCast c13_i32
  let c0_i32_263 : BitVec 32 := 0#32
  let c1_i32_265 : BitVec 32 := 1#32
  let arg19 : BitVec 32 := Scf.iv c0_i32_263 c1_i32_265 k0_t31
  let c16_i32_393 : BitVec 32 := 16#32
  let v494 : BitVec 32 := Scalar.muli arg19 c16_i32_393
  let v496 : Index := Scalar.indexCast v494
  ![13, v496.toNat]
@[reducible] def k0_t32_loop : Scf.Loop 32 :=
  let c0_i32_268 : BitVec 32 := 0#32
  let c8_i32_269 : BitVec 32 := 8#32
  let v327 : BitVec 32 := Scalar.addi c0_i32_268 c8_i32_269
  let c1_i32_270 : BitVec 32 := 1#32
  ⟨c0_i32_268, v327, c1_i32_270⟩
def k0_off287 (k0_t32 : Fin k0_t32_loop.trips) (c0_i32_360 : BitVec 32) : Fin 1 → Nat :=
  let c1792_i32 : BitVec 32 := 1792#32
  let c0_i32_268 : BitVec 32 := 0#32
  let c1_i32_270 : BitVec 32 := 1#32
  let arg19 : BitVec 32 := Scf.iv c0_i32_268 c1_i32_270 k0_t32
  let c16_i32_357 : BitVec 32 := 16#32
  let v346 : BitVec 32 := Scalar.muli arg19 c16_i32_357
  let v347 : BitVec 32 := Scalar.addi c1792_i32 v346
  let v350 : BitVec 32 := Scalar.addi c0_i32_360 v347
  let v351 : Index := Scalar.indexCast v350
  ![v351.toNat]
def k0_off288 (k0_t32 : Fin k0_t32_loop.trips) : Fin 2 → Nat :=
  let c14_i32 : BitVec 32 := 14#32
  let v495 : Index := Scalar.indexCast c14_i32
  let c0_i32_268 : BitVec 32 := 0#32
  let c1_i32_270 : BitVec 32 := 1#32
  let arg19 : BitVec 32 := Scf.iv c0_i32_268 c1_i32_270 k0_t32
  let c16_i32_393 : BitVec 32 := 16#32
  let v494 : BitVec 32 := Scalar.muli arg19 c16_i32_393
  let v496 : Index := Scalar.indexCast v494
  ![14, v496.toNat]
@[reducible] def k0_t33_loop : Scf.Loop 32 :=
  let c0_i32_273 : BitVec 32 := 0#32
  let c8_i32_274 : BitVec 32 := 8#32
  let v328 : BitVec 32 := Scalar.addi c0_i32_273 c8_i32_274
  let c1_i32_275 : BitVec 32 := 1#32
  ⟨c0_i32_273, v328, c1_i32_275⟩
def k0_off289 (k0_t33 : Fin k0_t33_loop.trips) (c0_i32_360 : BitVec 32) : Fin 1 → Nat :=
  let c1920_i32 : BitVec 32 := 1920#32
  let c0_i32_273 : BitVec 32 := 0#32
  let c1_i32_275 : BitVec 32 := 1#32
  let arg19 : BitVec 32 := Scf.iv c0_i32_273 c1_i32_275 k0_t33
  let c16_i32_357 : BitVec 32 := 16#32
  let v346 : BitVec 32 := Scalar.muli arg19 c16_i32_357
  let v347 : BitVec 32 := Scalar.addi c1920_i32 v346
  let v350 : BitVec 32 := Scalar.addi c0_i32_360 v347
  let v351 : Index := Scalar.indexCast v350
  ![v351.toNat]
def k0_off290 (k0_t33 : Fin k0_t33_loop.trips) : Fin 2 → Nat :=
  let c15_i32 : BitVec 32 := 15#32
  let v495 : Index := Scalar.indexCast c15_i32
  let c0_i32_273 : BitVec 32 := 0#32
  let c1_i32_275 : BitVec 32 := 1#32
  let arg19 : BitVec 32 := Scf.iv c0_i32_273 c1_i32_275 k0_t33
  let c16_i32_393 : BitVec 32 := 16#32
  let v494 : BitVec 32 := Scalar.muli arg19 c16_i32_393
  let v496 : Index := Scalar.indexCast v494
  ![15, v496.toNat]
@[reducible] def k0_t34_loop : Scf.Loop 32 :=
  let c0_i32_278 : BitVec 32 := 0#32
  let c8_i32_279 : BitVec 32 := 8#32
  let v329 : BitVec 32 := Scalar.addi c0_i32_278 c8_i32_279
  let c1_i32_280 : BitVec 32 := 1#32
  ⟨c0_i32_278, v329, c1_i32_280⟩
def k0_off291 (k0_t34 : Fin k0_t34_loop.trips) (c0_i32_360 : BitVec 32) : Fin 1 → Nat :=
  let c2048_i32 : BitVec 32 := 2048#32
  let c0_i32_278 : BitVec 32 := 0#32
  let c1_i32_280 : BitVec 32 := 1#32
  let arg19 : BitVec 32 := Scf.iv c0_i32_278 c1_i32_280 k0_t34
  let c16_i32_357 : BitVec 32 := 16#32
  let v346 : BitVec 32 := Scalar.muli arg19 c16_i32_357
  let v347 : BitVec 32 := Scalar.addi c2048_i32 v346
  let v350 : BitVec 32 := Scalar.addi c0_i32_360 v347
  let v351 : Index := Scalar.indexCast v350
  ![v351.toNat]
def k0_off292 (k0_t34 : Fin k0_t34_loop.trips) : Fin 2 → Nat :=
  let c16_i32_394 : BitVec 32 := 16#32
  let v495 : Index := Scalar.indexCast c16_i32_394
  let c0_i32_278 : BitVec 32 := 0#32
  let c1_i32_280 : BitVec 32 := 1#32
  let arg19 : BitVec 32 := Scf.iv c0_i32_278 c1_i32_280 k0_t34
  let c16_i32_393 : BitVec 32 := 16#32
  let v494 : BitVec 32 := Scalar.muli arg19 c16_i32_393
  let v496 : Index := Scalar.indexCast v494
  ![16, v496.toNat]
@[reducible] def k0_t35_loop : Scf.Loop 32 :=
  let c0_i32_283 : BitVec 32 := 0#32
  let c8_i32_284 : BitVec 32 := 8#32
  let v330 : BitVec 32 := Scalar.addi c0_i32_283 c8_i32_284
  let c1_i32_285 : BitVec 32 := 1#32
  ⟨c0_i32_283, v330, c1_i32_285⟩
def k0_off293 (k0_t35 : Fin k0_t35_loop.trips) (c0_i32_360 : BitVec 32) : Fin 1 → Nat :=
  let c2176_i32 : BitVec 32 := 2176#32
  let c0_i32_283 : BitVec 32 := 0#32
  let c1_i32_285 : BitVec 32 := 1#32
  let arg19 : BitVec 32 := Scf.iv c0_i32_283 c1_i32_285 k0_t35
  let c16_i32_357 : BitVec 32 := 16#32
  let v346 : BitVec 32 := Scalar.muli arg19 c16_i32_357
  let v347 : BitVec 32 := Scalar.addi c2176_i32 v346
  let v350 : BitVec 32 := Scalar.addi c0_i32_360 v347
  let v351 : Index := Scalar.indexCast v350
  ![v351.toNat]
def k0_off294 (k0_t35 : Fin k0_t35_loop.trips) : Fin 2 → Nat :=
  let c17_i32 : BitVec 32 := 17#32
  let v495 : Index := Scalar.indexCast c17_i32
  let c0_i32_283 : BitVec 32 := 0#32
  let c1_i32_285 : BitVec 32 := 1#32
  let arg19 : BitVec 32 := Scf.iv c0_i32_283 c1_i32_285 k0_t35
  let c16_i32_393 : BitVec 32 := 16#32
  let v494 : BitVec 32 := Scalar.muli arg19 c16_i32_393
  let v496 : Index := Scalar.indexCast v494
  ![17, v496.toNat]
@[reducible] def k0_t36_loop : Scf.Loop 32 :=
  let c0_i32_288 : BitVec 32 := 0#32
  let c8_i32_289 : BitVec 32 := 8#32
  let v331 : BitVec 32 := Scalar.addi c0_i32_288 c8_i32_289
  let c1_i32_290 : BitVec 32 := 1#32
  ⟨c0_i32_288, v331, c1_i32_290⟩
def k0_off295 (k0_t36 : Fin k0_t36_loop.trips) (c0_i32_360 : BitVec 32) : Fin 1 → Nat :=
  let c2304_i32 : BitVec 32 := 2304#32
  let c0_i32_288 : BitVec 32 := 0#32
  let c1_i32_290 : BitVec 32 := 1#32
  let arg19 : BitVec 32 := Scf.iv c0_i32_288 c1_i32_290 k0_t36
  let c16_i32_357 : BitVec 32 := 16#32
  let v346 : BitVec 32 := Scalar.muli arg19 c16_i32_357
  let v347 : BitVec 32 := Scalar.addi c2304_i32 v346
  let v350 : BitVec 32 := Scalar.addi c0_i32_360 v347
  let v351 : Index := Scalar.indexCast v350
  ![v351.toNat]
def k0_off296 (k0_t36 : Fin k0_t36_loop.trips) : Fin 2 → Nat :=
  let c18_i32 : BitVec 32 := 18#32
  let v495 : Index := Scalar.indexCast c18_i32
  let c0_i32_288 : BitVec 32 := 0#32
  let c1_i32_290 : BitVec 32 := 1#32
  let arg19 : BitVec 32 := Scf.iv c0_i32_288 c1_i32_290 k0_t36
  let c16_i32_393 : BitVec 32 := 16#32
  let v494 : BitVec 32 := Scalar.muli arg19 c16_i32_393
  let v496 : Index := Scalar.indexCast v494
  ![18, v496.toNat]
@[reducible] def k0_t37_loop : Scf.Loop 32 :=
  let c0_i32_293 : BitVec 32 := 0#32
  let c8_i32_294 : BitVec 32 := 8#32
  let v332 : BitVec 32 := Scalar.addi c0_i32_293 c8_i32_294
  let c1_i32_295 : BitVec 32 := 1#32
  ⟨c0_i32_293, v332, c1_i32_295⟩
def k0_off297 (k0_t37 : Fin k0_t37_loop.trips) (c0_i32_360 : BitVec 32) : Fin 1 → Nat :=
  let c2432_i32 : BitVec 32 := 2432#32
  let c0_i32_293 : BitVec 32 := 0#32
  let c1_i32_295 : BitVec 32 := 1#32
  let arg19 : BitVec 32 := Scf.iv c0_i32_293 c1_i32_295 k0_t37
  let c16_i32_357 : BitVec 32 := 16#32
  let v346 : BitVec 32 := Scalar.muli arg19 c16_i32_357
  let v347 : BitVec 32 := Scalar.addi c2432_i32 v346
  let v350 : BitVec 32 := Scalar.addi c0_i32_360 v347
  let v351 : Index := Scalar.indexCast v350
  ![v351.toNat]
def k0_off298 (k0_t37 : Fin k0_t37_loop.trips) : Fin 2 → Nat :=
  let c19_i32 : BitVec 32 := 19#32
  let v495 : Index := Scalar.indexCast c19_i32
  let c0_i32_293 : BitVec 32 := 0#32
  let c1_i32_295 : BitVec 32 := 1#32
  let arg19 : BitVec 32 := Scf.iv c0_i32_293 c1_i32_295 k0_t37
  let c16_i32_393 : BitVec 32 := 16#32
  let v494 : BitVec 32 := Scalar.muli arg19 c16_i32_393
  let v496 : Index := Scalar.indexCast v494
  ![19, v496.toNat]
@[reducible] def k0_t38_loop : Scf.Loop 32 :=
  let c0_i32_298 : BitVec 32 := 0#32
  let c8_i32_299 : BitVec 32 := 8#32
  let v333 : BitVec 32 := Scalar.addi c0_i32_298 c8_i32_299
  let c1_i32_300 : BitVec 32 := 1#32
  ⟨c0_i32_298, v333, c1_i32_300⟩
def k0_off299 (k0_t38 : Fin k0_t38_loop.trips) (c0_i32_360 : BitVec 32) : Fin 1 → Nat :=
  let c2560_i32 : BitVec 32 := 2560#32
  let c0_i32_298 : BitVec 32 := 0#32
  let c1_i32_300 : BitVec 32 := 1#32
  let arg19 : BitVec 32 := Scf.iv c0_i32_298 c1_i32_300 k0_t38
  let c16_i32_357 : BitVec 32 := 16#32
  let v346 : BitVec 32 := Scalar.muli arg19 c16_i32_357
  let v347 : BitVec 32 := Scalar.addi c2560_i32 v346
  let v350 : BitVec 32 := Scalar.addi c0_i32_360 v347
  let v351 : Index := Scalar.indexCast v350
  ![v351.toNat]
def k0_off300 (k0_t38 : Fin k0_t38_loop.trips) : Fin 2 → Nat :=
  let c20_i32 : BitVec 32 := 20#32
  let v495 : Index := Scalar.indexCast c20_i32
  let c0_i32_298 : BitVec 32 := 0#32
  let c1_i32_300 : BitVec 32 := 1#32
  let arg19 : BitVec 32 := Scf.iv c0_i32_298 c1_i32_300 k0_t38
  let c16_i32_393 : BitVec 32 := 16#32
  let v494 : BitVec 32 := Scalar.muli arg19 c16_i32_393
  let v496 : Index := Scalar.indexCast v494
  ![20, v496.toNat]
@[reducible] def k0_t39_loop : Scf.Loop 32 :=
  let c0_i32_303 : BitVec 32 := 0#32
  let c8_i32_304 : BitVec 32 := 8#32
  let v334 : BitVec 32 := Scalar.addi c0_i32_303 c8_i32_304
  let c1_i32_305 : BitVec 32 := 1#32
  ⟨c0_i32_303, v334, c1_i32_305⟩
def k0_off301 (k0_t39 : Fin k0_t39_loop.trips) (c0_i32_360 : BitVec 32) : Fin 1 → Nat :=
  let c2688_i32 : BitVec 32 := 2688#32
  let c0_i32_303 : BitVec 32 := 0#32
  let c1_i32_305 : BitVec 32 := 1#32
  let arg19 : BitVec 32 := Scf.iv c0_i32_303 c1_i32_305 k0_t39
  let c16_i32_357 : BitVec 32 := 16#32
  let v346 : BitVec 32 := Scalar.muli arg19 c16_i32_357
  let v347 : BitVec 32 := Scalar.addi c2688_i32 v346
  let v350 : BitVec 32 := Scalar.addi c0_i32_360 v347
  let v351 : Index := Scalar.indexCast v350
  ![v351.toNat]
def k0_off302 (k0_t39 : Fin k0_t39_loop.trips) : Fin 2 → Nat :=
  let c21_i32 : BitVec 32 := 21#32
  let v495 : Index := Scalar.indexCast c21_i32
  let c0_i32_303 : BitVec 32 := 0#32
  let c1_i32_305 : BitVec 32 := 1#32
  let arg19 : BitVec 32 := Scf.iv c0_i32_303 c1_i32_305 k0_t39
  let c16_i32_393 : BitVec 32 := 16#32
  let v494 : BitVec 32 := Scalar.muli arg19 c16_i32_393
  let v496 : Index := Scalar.indexCast v494
  ![21, v496.toNat]
@[reducible] def k0_t40_loop : Scf.Loop 32 :=
  let c0_i32_308 : BitVec 32 := 0#32
  let c8_i32_309 : BitVec 32 := 8#32
  let v335 : BitVec 32 := Scalar.addi c0_i32_308 c8_i32_309
  let c1_i32_310 : BitVec 32 := 1#32
  ⟨c0_i32_308, v335, c1_i32_310⟩
def k0_off303 (k0_t40 : Fin k0_t40_loop.trips) (c0_i32_360 : BitVec 32) : Fin 1 → Nat :=
  let c2816_i32 : BitVec 32 := 2816#32
  let c0_i32_308 : BitVec 32 := 0#32
  let c1_i32_310 : BitVec 32 := 1#32
  let arg19 : BitVec 32 := Scf.iv c0_i32_308 c1_i32_310 k0_t40
  let c16_i32_357 : BitVec 32 := 16#32
  let v346 : BitVec 32 := Scalar.muli arg19 c16_i32_357
  let v347 : BitVec 32 := Scalar.addi c2816_i32 v346
  let v350 : BitVec 32 := Scalar.addi c0_i32_360 v347
  let v351 : Index := Scalar.indexCast v350
  ![v351.toNat]
def k0_off304 (k0_t40 : Fin k0_t40_loop.trips) : Fin 2 → Nat :=
  let c22_i32 : BitVec 32 := 22#32
  let v495 : Index := Scalar.indexCast c22_i32
  let c0_i32_308 : BitVec 32 := 0#32
  let c1_i32_310 : BitVec 32 := 1#32
  let arg19 : BitVec 32 := Scf.iv c0_i32_308 c1_i32_310 k0_t40
  let c16_i32_393 : BitVec 32 := 16#32
  let v494 : BitVec 32 := Scalar.muli arg19 c16_i32_393
  let v496 : Index := Scalar.indexCast v494
  ![22, v496.toNat]
@[reducible] def k0_t41_loop : Scf.Loop 32 :=
  let c0_i32_313 : BitVec 32 := 0#32
  let c8_i32_314 : BitVec 32 := 8#32
  let v336 : BitVec 32 := Scalar.addi c0_i32_313 c8_i32_314
  let c1_i32_315 : BitVec 32 := 1#32
  ⟨c0_i32_313, v336, c1_i32_315⟩
def k0_off305 (k0_t41 : Fin k0_t41_loop.trips) (c0_i32_360 : BitVec 32) : Fin 1 → Nat :=
  let c2944_i32 : BitVec 32 := 2944#32
  let c0_i32_313 : BitVec 32 := 0#32
  let c1_i32_315 : BitVec 32 := 1#32
  let arg19 : BitVec 32 := Scf.iv c0_i32_313 c1_i32_315 k0_t41
  let c16_i32_357 : BitVec 32 := 16#32
  let v346 : BitVec 32 := Scalar.muli arg19 c16_i32_357
  let v347 : BitVec 32 := Scalar.addi c2944_i32 v346
  let v350 : BitVec 32 := Scalar.addi c0_i32_360 v347
  let v351 : Index := Scalar.indexCast v350
  ![v351.toNat]
def k0_off306 (k0_t41 : Fin k0_t41_loop.trips) : Fin 2 → Nat :=
  let c23_i32 : BitVec 32 := 23#32
  let v495 : Index := Scalar.indexCast c23_i32
  let c0_i32_313 : BitVec 32 := 0#32
  let c1_i32_315 : BitVec 32 := 1#32
  let arg19 : BitVec 32 := Scf.iv c0_i32_313 c1_i32_315 k0_t41
  let c16_i32_393 : BitVec 32 := 16#32
  let v494 : BitVec 32 := Scalar.muli arg19 c16_i32_393
  let v496 : Index := Scalar.indexCast v494
  ![23, v496.toNat]
@[reducible] def k0_t42_loop : Scf.Loop 32 :=
  let c0_i32_318 : BitVec 32 := 0#32
  let c8_i32_319 : BitVec 32 := 8#32
  let v337 : BitVec 32 := Scalar.addi c0_i32_318 c8_i32_319
  let c1_i32_320 : BitVec 32 := 1#32
  ⟨c0_i32_318, v337, c1_i32_320⟩
def k0_off307 (k0_t42 : Fin k0_t42_loop.trips) (c0_i32_360 : BitVec 32) : Fin 1 → Nat :=
  let c3072_i32 : BitVec 32 := 3072#32
  let c0_i32_318 : BitVec 32 := 0#32
  let c1_i32_320 : BitVec 32 := 1#32
  let arg19 : BitVec 32 := Scf.iv c0_i32_318 c1_i32_320 k0_t42
  let c16_i32_357 : BitVec 32 := 16#32
  let v346 : BitVec 32 := Scalar.muli arg19 c16_i32_357
  let v347 : BitVec 32 := Scalar.addi c3072_i32 v346
  let v350 : BitVec 32 := Scalar.addi c0_i32_360 v347
  let v351 : Index := Scalar.indexCast v350
  ![v351.toNat]
def k0_off308 (k0_t42 : Fin k0_t42_loop.trips) : Fin 2 → Nat :=
  let c24_i32 : BitVec 32 := 24#32
  let v495 : Index := Scalar.indexCast c24_i32
  let c0_i32_318 : BitVec 32 := 0#32
  let c1_i32_320 : BitVec 32 := 1#32
  let arg19 : BitVec 32 := Scf.iv c0_i32_318 c1_i32_320 k0_t42
  let c16_i32_393 : BitVec 32 := 16#32
  let v494 : BitVec 32 := Scalar.muli arg19 c16_i32_393
  let v496 : Index := Scalar.indexCast v494
  ![24, v496.toNat]
@[reducible] def k0_t43_loop : Scf.Loop 32 :=
  let c0_i32_323 : BitVec 32 := 0#32
  let c8_i32_324 : BitVec 32 := 8#32
  let v338 : BitVec 32 := Scalar.addi c0_i32_323 c8_i32_324
  let c1_i32_325 : BitVec 32 := 1#32
  ⟨c0_i32_323, v338, c1_i32_325⟩
def k0_off309 (k0_t43 : Fin k0_t43_loop.trips) (c0_i32_360 : BitVec 32) : Fin 1 → Nat :=
  let c3200_i32 : BitVec 32 := 3200#32
  let c0_i32_323 : BitVec 32 := 0#32
  let c1_i32_325 : BitVec 32 := 1#32
  let arg19 : BitVec 32 := Scf.iv c0_i32_323 c1_i32_325 k0_t43
  let c16_i32_357 : BitVec 32 := 16#32
  let v346 : BitVec 32 := Scalar.muli arg19 c16_i32_357
  let v347 : BitVec 32 := Scalar.addi c3200_i32 v346
  let v350 : BitVec 32 := Scalar.addi c0_i32_360 v347
  let v351 : Index := Scalar.indexCast v350
  ![v351.toNat]
def k0_off310 (k0_t43 : Fin k0_t43_loop.trips) : Fin 2 → Nat :=
  let c25_i32 : BitVec 32 := 25#32
  let v495 : Index := Scalar.indexCast c25_i32
  let c0_i32_323 : BitVec 32 := 0#32
  let c1_i32_325 : BitVec 32 := 1#32
  let arg19 : BitVec 32 := Scf.iv c0_i32_323 c1_i32_325 k0_t43
  let c16_i32_393 : BitVec 32 := 16#32
  let v494 : BitVec 32 := Scalar.muli arg19 c16_i32_393
  let v496 : Index := Scalar.indexCast v494
  ![25, v496.toNat]
@[reducible] def k0_t44_loop : Scf.Loop 32 :=
  let c0_i32_328 : BitVec 32 := 0#32
  let c8_i32_329 : BitVec 32 := 8#32
  let v339 : BitVec 32 := Scalar.addi c0_i32_328 c8_i32_329
  let c1_i32_330 : BitVec 32 := 1#32
  ⟨c0_i32_328, v339, c1_i32_330⟩
def k0_off311 (k0_t44 : Fin k0_t44_loop.trips) (c0_i32_360 : BitVec 32) : Fin 1 → Nat :=
  let c3328_i32 : BitVec 32 := 3328#32
  let c0_i32_328 : BitVec 32 := 0#32
  let c1_i32_330 : BitVec 32 := 1#32
  let arg19 : BitVec 32 := Scf.iv c0_i32_328 c1_i32_330 k0_t44
  let c16_i32_357 : BitVec 32 := 16#32
  let v346 : BitVec 32 := Scalar.muli arg19 c16_i32_357
  let v347 : BitVec 32 := Scalar.addi c3328_i32 v346
  let v350 : BitVec 32 := Scalar.addi c0_i32_360 v347
  let v351 : Index := Scalar.indexCast v350
  ![v351.toNat]
def k0_off312 (k0_t44 : Fin k0_t44_loop.trips) : Fin 2 → Nat :=
  let c26_i32 : BitVec 32 := 26#32
  let v495 : Index := Scalar.indexCast c26_i32
  let c0_i32_328 : BitVec 32 := 0#32
  let c1_i32_330 : BitVec 32 := 1#32
  let arg19 : BitVec 32 := Scf.iv c0_i32_328 c1_i32_330 k0_t44
  let c16_i32_393 : BitVec 32 := 16#32
  let v494 : BitVec 32 := Scalar.muli arg19 c16_i32_393
  let v496 : Index := Scalar.indexCast v494
  ![26, v496.toNat]
@[reducible] def k0_t45_loop : Scf.Loop 32 :=
  let c0_i32_333 : BitVec 32 := 0#32
  let c8_i32_334 : BitVec 32 := 8#32
  let v340 : BitVec 32 := Scalar.addi c0_i32_333 c8_i32_334
  let c1_i32_335 : BitVec 32 := 1#32
  ⟨c0_i32_333, v340, c1_i32_335⟩
def k0_off313 (k0_t45 : Fin k0_t45_loop.trips) (c0_i32_360 : BitVec 32) : Fin 1 → Nat :=
  let c3456_i32 : BitVec 32 := 3456#32
  let c0_i32_333 : BitVec 32 := 0#32
  let c1_i32_335 : BitVec 32 := 1#32
  let arg19 : BitVec 32 := Scf.iv c0_i32_333 c1_i32_335 k0_t45
  let c16_i32_357 : BitVec 32 := 16#32
  let v346 : BitVec 32 := Scalar.muli arg19 c16_i32_357
  let v347 : BitVec 32 := Scalar.addi c3456_i32 v346
  let v350 : BitVec 32 := Scalar.addi c0_i32_360 v347
  let v351 : Index := Scalar.indexCast v350
  ![v351.toNat]
def k0_off314 (k0_t45 : Fin k0_t45_loop.trips) : Fin 2 → Nat :=
  let c27_i32 : BitVec 32 := 27#32
  let v495 : Index := Scalar.indexCast c27_i32
  let c0_i32_333 : BitVec 32 := 0#32
  let c1_i32_335 : BitVec 32 := 1#32
  let arg19 : BitVec 32 := Scf.iv c0_i32_333 c1_i32_335 k0_t45
  let c16_i32_393 : BitVec 32 := 16#32
  let v494 : BitVec 32 := Scalar.muli arg19 c16_i32_393
  let v496 : Index := Scalar.indexCast v494
  ![27, v496.toNat]
@[reducible] def k0_t46_loop : Scf.Loop 32 :=
  let c0_i32_338 : BitVec 32 := 0#32
  let c8_i32_339 : BitVec 32 := 8#32
  let v341 : BitVec 32 := Scalar.addi c0_i32_338 c8_i32_339
  let c1_i32_340 : BitVec 32 := 1#32
  ⟨c0_i32_338, v341, c1_i32_340⟩
def k0_off315 (k0_t46 : Fin k0_t46_loop.trips) (c0_i32_360 : BitVec 32) : Fin 1 → Nat :=
  let c3584_i32 : BitVec 32 := 3584#32
  let c0_i32_338 : BitVec 32 := 0#32
  let c1_i32_340 : BitVec 32 := 1#32
  let arg19 : BitVec 32 := Scf.iv c0_i32_338 c1_i32_340 k0_t46
  let c16_i32_357 : BitVec 32 := 16#32
  let v346 : BitVec 32 := Scalar.muli arg19 c16_i32_357
  let v347 : BitVec 32 := Scalar.addi c3584_i32 v346
  let v350 : BitVec 32 := Scalar.addi c0_i32_360 v347
  let v351 : Index := Scalar.indexCast v350
  ![v351.toNat]
def k0_off316 (k0_t46 : Fin k0_t46_loop.trips) : Fin 2 → Nat :=
  let c28_i32 : BitVec 32 := 28#32
  let v495 : Index := Scalar.indexCast c28_i32
  let c0_i32_338 : BitVec 32 := 0#32
  let c1_i32_340 : BitVec 32 := 1#32
  let arg19 : BitVec 32 := Scf.iv c0_i32_338 c1_i32_340 k0_t46
  let c16_i32_393 : BitVec 32 := 16#32
  let v494 : BitVec 32 := Scalar.muli arg19 c16_i32_393
  let v496 : Index := Scalar.indexCast v494
  ![28, v496.toNat]
@[reducible] def k0_t47_loop : Scf.Loop 32 :=
  let c0_i32_343 : BitVec 32 := 0#32
  let c8_i32_344 : BitVec 32 := 8#32
  let v342 : BitVec 32 := Scalar.addi c0_i32_343 c8_i32_344
  let c1_i32_345 : BitVec 32 := 1#32
  ⟨c0_i32_343, v342, c1_i32_345⟩
def k0_off317 (k0_t47 : Fin k0_t47_loop.trips) (c0_i32_360 : BitVec 32) : Fin 1 → Nat :=
  let c3712_i32 : BitVec 32 := 3712#32
  let c0_i32_343 : BitVec 32 := 0#32
  let c1_i32_345 : BitVec 32 := 1#32
  let arg19 : BitVec 32 := Scf.iv c0_i32_343 c1_i32_345 k0_t47
  let c16_i32_357 : BitVec 32 := 16#32
  let v346 : BitVec 32 := Scalar.muli arg19 c16_i32_357
  let v347 : BitVec 32 := Scalar.addi c3712_i32 v346
  let v350 : BitVec 32 := Scalar.addi c0_i32_360 v347
  let v351 : Index := Scalar.indexCast v350
  ![v351.toNat]
def k0_off318 (k0_t47 : Fin k0_t47_loop.trips) : Fin 2 → Nat :=
  let c29_i32 : BitVec 32 := 29#32
  let v495 : Index := Scalar.indexCast c29_i32
  let c0_i32_343 : BitVec 32 := 0#32
  let c1_i32_345 : BitVec 32 := 1#32
  let arg19 : BitVec 32 := Scf.iv c0_i32_343 c1_i32_345 k0_t47
  let c16_i32_393 : BitVec 32 := 16#32
  let v494 : BitVec 32 := Scalar.muli arg19 c16_i32_393
  let v496 : Index := Scalar.indexCast v494
  ![29, v496.toNat]
@[reducible] def k0_t48_loop : Scf.Loop 32 :=
  let c0_i32_348 : BitVec 32 := 0#32
  let c8_i32_349 : BitVec 32 := 8#32
  let v343 : BitVec 32 := Scalar.addi c0_i32_348 c8_i32_349
  let c1_i32_350 : BitVec 32 := 1#32
  ⟨c0_i32_348, v343, c1_i32_350⟩
def k0_off319 (k0_t48 : Fin k0_t48_loop.trips) (c0_i32_360 : BitVec 32) : Fin 1 → Nat :=
  let c3840_i32 : BitVec 32 := 3840#32
  let c0_i32_348 : BitVec 32 := 0#32
  let c1_i32_350 : BitVec 32 := 1#32
  let arg19 : BitVec 32 := Scf.iv c0_i32_348 c1_i32_350 k0_t48
  let c16_i32_357 : BitVec 32 := 16#32
  let v346 : BitVec 32 := Scalar.muli arg19 c16_i32_357
  let v347 : BitVec 32 := Scalar.addi c3840_i32 v346
  let v350 : BitVec 32 := Scalar.addi c0_i32_360 v347
  let v351 : Index := Scalar.indexCast v350
  ![v351.toNat]
def k0_off320 (k0_t48 : Fin k0_t48_loop.trips) : Fin 2 → Nat :=
  let c30_i32 : BitVec 32 := 30#32
  let v495 : Index := Scalar.indexCast c30_i32
  let c0_i32_348 : BitVec 32 := 0#32
  let c1_i32_350 : BitVec 32 := 1#32
  let arg19 : BitVec 32 := Scf.iv c0_i32_348 c1_i32_350 k0_t48
  let c16_i32_393 : BitVec 32 := 16#32
  let v494 : BitVec 32 := Scalar.muli arg19 c16_i32_393
  let v496 : Index := Scalar.indexCast v494
  ![30, v496.toNat]
@[reducible] def k0_t49_loop : Scf.Loop 32 :=
  let c0_i32_353 : BitVec 32 := 0#32
  let c8_i32_354 : BitVec 32 := 8#32
  let v344 : BitVec 32 := Scalar.addi c0_i32_353 c8_i32_354
  let c1_i32_355 : BitVec 32 := 1#32
  ⟨c0_i32_353, v344, c1_i32_355⟩
def k0_off321 (k0_t49 : Fin k0_t49_loop.trips) (c0_i32_360 : BitVec 32) : Fin 1 → Nat :=
  let c3968_i32 : BitVec 32 := 3968#32
  let c0_i32_353 : BitVec 32 := 0#32
  let c1_i32_355 : BitVec 32 := 1#32
  let arg19 : BitVec 32 := Scf.iv c0_i32_353 c1_i32_355 k0_t49
  let c16_i32_357 : BitVec 32 := 16#32
  let v346 : BitVec 32 := Scalar.muli arg19 c16_i32_357
  let v347 : BitVec 32 := Scalar.addi c3968_i32 v346
  let v350 : BitVec 32 := Scalar.addi c0_i32_360 v347
  let v351 : Index := Scalar.indexCast v350
  ![v351.toNat]
def k0_off322 (k0_t49 : Fin k0_t49_loop.trips) : Fin 2 → Nat :=
  let c31_i32 : BitVec 32 := 31#32
  let v495 : Index := Scalar.indexCast c31_i32
  let c0_i32_353 : BitVec 32 := 0#32
  let c1_i32_355 : BitVec 32 := 1#32
  let arg19 : BitVec 32 := Scf.iv c0_i32_353 c1_i32_355 k0_t49
  let c16_i32_393 : BitVec 32 := 16#32
  let v494 : BitVec 32 := Scalar.muli arg19 c16_i32_393
  let v496 : Index := Scalar.indexCast v494
  ![31, v496.toNat]
def k0_off323 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_357_r0 : BitVec 32 := 0#32
  let c0_i32_358_r0 : BitVec 32 := 0#32
  ![v1.toNat, 0, 0]
def k0_off324 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_357_r2 : BitVec 32 := 0#32
  ![v1.toNat, 0]
abbrev grid1 : Pipeline.Grid := .none

abbrev stage1_0 : Fin 1 → Memref sig .tc .vmem S32x32x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x32x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x16 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x512x512 : Shape := ⟨3, ![16, 512, 512]⟩
abbrev S4194304 : Shape := ⟨1, ![4194304]⟩
abbrev S_ : Shape := ⟨0, ![]⟩
abbrev S4194304x1 : Shape := ⟨2, ![4194304, 1]⟩
abbrev S1 : Shape := ⟨1, ![1]⟩
abbrev S1x1 : Shape := ⟨2, ![1, 1]⟩
abbrev S4194303 : Shape := ⟨1, ![4194303]⟩

abbrev nBuf : Space → Nat
  | .hbm => 115
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x512x512, .i32⟩
  | .hbm, ⟨2, _⟩ => ⟨S4194304, .f32⟩
  | .hbm, ⟨3, _⟩ => ⟨S4194304, .i32⟩
  | .hbm, ⟨4, _⟩ => ⟨S4194304, .f32⟩
  | .hbm, ⟨5, _⟩ => ⟨S_, .f32⟩
  | .hbm, ⟨6, _⟩ => ⟨S4194304, .f32⟩
  | .hbm, ⟨7, _⟩ => ⟨S4194304, .f32⟩
  | .hbm, ⟨8, _⟩ => ⟨S_, .f32⟩
  | .hbm, ⟨9, _⟩ => ⟨S4194304, .f32⟩
  | .hbm, ⟨10, _⟩ => ⟨S4194304, .f32⟩
  | .hbm, ⟨11, _⟩ => ⟨S4194304, .f32⟩
  | .hbm, ⟨12, _⟩ => ⟨S_, .f32⟩
  | .hbm, ⟨13, _⟩ => ⟨S4194304, .f32⟩
  | .hbm, ⟨14, _⟩ => ⟨S4194304, .f32⟩
  | .hbm, ⟨15, _⟩ => ⟨S_, .f32⟩
  | .hbm, ⟨16, _⟩ => ⟨S4194304, .f32⟩
  | .hbm, ⟨17, _⟩ => ⟨S4194304, .f32⟩
  | .hbm, ⟨18, _⟩ => ⟨S4194304, .i32⟩
  | .hbm, ⟨19, _⟩ => ⟨S_, .i32⟩
  | .hbm, ⟨20, _⟩ => ⟨S4194304, .i32⟩
  | .hbm, ⟨21, _⟩ => ⟨S4194304, .i32⟩
  | .hbm, ⟨22, _⟩ => ⟨S_, .f32⟩
  | .hbm, ⟨23, _⟩ => ⟨S4194304, .f32⟩
  | .hbm, ⟨24, _⟩ => ⟨S4194304, .i1⟩
  | .hbm, ⟨25, _⟩ => ⟨S4194304, .f32⟩
  | .hbm, ⟨26, _⟩ => ⟨S_, .f32⟩
  | .hbm, ⟨27, _⟩ => ⟨S4194304, .f32⟩
  | .hbm, ⟨28, _⟩ => ⟨S4194304, .f32⟩
  | .hbm, ⟨29, _⟩ => ⟨S_, .f32⟩
  | .hbm, ⟨30, _⟩ => ⟨S4194304, .f32⟩
  | .hbm, ⟨31, _⟩ => ⟨S4194304, .f32⟩
  | .hbm, ⟨32, _⟩ => ⟨S_, .f32⟩
  | .hbm, ⟨33, _⟩ => ⟨S_, .f32⟩
  | .hbm, ⟨34, _⟩ => ⟨S4194304, .f32⟩
  | .hbm, ⟨35, _⟩ => ⟨S4194304, .f32⟩
  | .hbm, ⟨36, _⟩ => ⟨S4194304, .f32⟩
  | .hbm, ⟨37, _⟩ => ⟨S4194304, .i32⟩
  | .hbm, ⟨38, _⟩ => ⟨S4194304, .f32⟩
  | .hbm, ⟨39, _⟩ => ⟨S4194304, .i32⟩
  | .hbm, ⟨40, _⟩ => ⟨S_, .i32⟩
  | .hbm, ⟨41, _⟩ => ⟨S4194304, .i32⟩
  | .hbm, ⟨42, _⟩ => ⟨S4194304, .i1⟩
  | .hbm, ⟨43, _⟩ => ⟨S_, .i32⟩
  | .hbm, ⟨44, _⟩ => ⟨S4194304, .i32⟩
  | .hbm, ⟨45, _⟩ => ⟨S4194304, .i32⟩
  | .hbm, ⟨46, _⟩ => ⟨S4194304, .i32⟩
  | .hbm, ⟨47, _⟩ => ⟨S4194304x1, .i32⟩
  | .hbm, ⟨48, _⟩ => ⟨S1, .i32⟩
  | .hbm, ⟨49, _⟩ => ⟨S_, .i32⟩
  | .hbm, ⟨50, _⟩ => ⟨S4194304x1, .i32⟩
  | .hbm, ⟨51, _⟩ => ⟨S4194304x1, .i1⟩
  | .hbm, ⟨52, _⟩ => ⟨S1x1, .i32⟩
  | .hbm, ⟨53, _⟩ => ⟨S4194304x1, .i32⟩
  | .hbm, ⟨54, _⟩ => ⟨S4194304x1, .i1⟩
  | .hbm, ⟨55, _⟩ => ⟨S4194304x1, .i1⟩
  | .hbm, ⟨56, _⟩ => ⟨S_, .i1⟩
  | .hbm, ⟨57, _⟩ => ⟨S4194304, .i1⟩
  | .hbm, ⟨58, _⟩ => ⟨S4194304, .f32⟩
  | .hbm, ⟨59, _⟩ => ⟨S_, .f32⟩
  | .hbm, ⟨60, _⟩ => ⟨S4194304, .f32⟩
  | .hbm, ⟨61, _⟩ => ⟨S4194304, .f32⟩
  | .hbm, ⟨62, _⟩ => ⟨S_, .i32⟩
  | .hbm, ⟨63, _⟩ => ⟨S4194304, .i32⟩
  | .hbm, ⟨64, _⟩ => ⟨S4194304, .i1⟩
  | .hbm, ⟨65, _⟩ => ⟨S_, .i32⟩
  | .hbm, ⟨66, _⟩ => ⟨S4194304, .i32⟩
  | .hbm, ⟨67, _⟩ => ⟨S4194304, .i32⟩
  | .hbm, ⟨68, _⟩ => ⟨S4194304, .i32⟩
  | .hbm, ⟨69, _⟩ => ⟨S4194304x1, .i32⟩
  | .hbm, ⟨70, _⟩ => ⟨S1, .i32⟩
  | .hbm, ⟨71, _⟩ => ⟨S_, .i32⟩
  | .hbm, ⟨72, _⟩ => ⟨S4194304x1, .i32⟩
  | .hbm, ⟨73, _⟩ => ⟨S4194304x1, .i1⟩
  | .hbm, ⟨74, _⟩ => ⟨S1x1, .i32⟩
  | .hbm, ⟨75, _⟩ => ⟨S4194304x1, .i32⟩
  | .hbm, ⟨76, _⟩ => ⟨S4194304x1, .i1⟩
  | .hbm, ⟨77, _⟩ => ⟨S4194304x1, .i1⟩
  | .hbm, ⟨78, _⟩ => ⟨S_, .i1⟩
  | .hbm, ⟨79, _⟩ => ⟨S4194304, .i1⟩
  | .hbm, ⟨80, _⟩ => ⟨S4194304, .i32⟩
  | .hbm, ⟨81, _⟩ => ⟨S_, .i32⟩
  | .hbm, ⟨82, _⟩ => ⟨S4194304, .i32⟩
  | .hbm, ⟨83, _⟩ => ⟨S4194304, .i32⟩
  | .hbm, ⟨84, _⟩ => ⟨S4194304, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S4194304, .f32⟩
  | .hbm, ⟨90, _⟩ => ⟨S4194304, .f32⟩
  | .hbm, ⟨91, _⟩ => ⟨S4194304, .f32⟩
  | .hbm, ⟨92, _⟩ => ⟨S_, .f32⟩
  | .hbm, ⟨93, _⟩ => ⟨S4194304, .f32⟩
  | .hbm, ⟨94, _⟩ => ⟨S4194304, .f32⟩
  | .hbm, ⟨95, _⟩ => ⟨S_, .f32⟩
  | .hbm, ⟨96, _⟩ => ⟨S_, .f32⟩
  | .hbm, ⟨97, _⟩ => ⟨S4194304, .f32⟩
  | .hbm, ⟨98, _⟩ => ⟨S4194304, .f32⟩
  | .hbm, ⟨99, _⟩ => ⟨S4194304, .f32⟩
  | .hbm, ⟨100, _⟩ => ⟨S4194304, .f32⟩
  | .hbm, ⟨101, _⟩ => ⟨S_, .f32⟩
  | .hbm, ⟨102, _⟩ => ⟨S4194304, .f32⟩
  | .hbm, ⟨103, _⟩ => ⟨S4194304, .f32⟩
  | .hbm, ⟨104, _⟩ => ⟨S1, .f32⟩
  | .hbm, ⟨105, _⟩ => ⟨S4194303, .f32⟩
  | .hbm, ⟨106, _⟩ => ⟨S4194303, .f32⟩
  | .hbm, ⟨107, _⟩ => ⟨S4194303, .f32⟩
  | .hbm, ⟨108, _⟩ => ⟨S4194304, .f32⟩
  | .hbm, ⟨109, _⟩ => ⟨S_, .f32⟩
  | .hbm, ⟨110, _⟩ => ⟨S4194304, .f32⟩
  | .hbm, ⟨111, _⟩ => ⟨S4194304, .f32⟩
  | .hbm, ⟨112, _⟩ => ⟨S4194304, .f32⟩
  | .hbm, ⟨113, _⟩ => ⟨S_, .f32⟩
  | .hbm, ⟨114, _⟩ => ⟨S_, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_v23 : Ref sig .tc := ⟨.hbm, 36, rfl⟩
abbrev main_call1_v0 : Ref sig .tc := ⟨.hbm, 37, rfl⟩
abbrev main_call1_v1_0 : Ref sig .tc := ⟨.hbm, 38, rfl⟩
abbrev main_v24 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v25 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_c_4 : Ref sig .tc := ⟨.hbm, 81, rfl⟩
abbrev main_call3_v14 : Ref sig .tc := ⟨.hbm, 82, rfl⟩
abbrev main_v26 : Ref sig .tc := ⟨.hbm, 83, rfl⟩
abbrev main_v27 : Ref sig .tc := ⟨.hbm, 84, rfl⟩
abbrev main_cst_7 : Ref sig .tc := ⟨.hbm, 85, rfl⟩
abbrev main_v28 : Ref sig .tc := ⟨.hbm, 86, rfl⟩
abbrev main_call4_call0_cst : Ref sig .tc := ⟨.hbm, 87, rfl⟩
abbrev main_call4_call0_v0 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_8 : Ref sig .tc := ⟨.hbm, 92, rfl⟩
abbrev main_v32 : Ref sig .tc := ⟨.hbm, 93, rfl⟩
abbrev main_v33 : Ref sig .tc := ⟨.hbm, 94, rfl⟩
abbrev main_call5_call0_cst : Ref sig .tc := ⟨.hbm, 95, rfl⟩
abbrev main_call5_call0_v0 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_cst_9 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_10 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_11 : Ref sig .tc := ⟨.hbm, 113, rfl⟩
abbrev main_v48 : Ref sig .tc := ⟨.hbm, 114, rfl⟩

abbrev nD : Nat := 1
abbrev τ : Topo := Topo.v7x

variable {F : FTy → Type} [FloatOps F]
-- ==== Proof.Steps.lean ====
module

public import proofs.«01_k».proof.Proof.Gen.KernelIdeal.Skeleton

/-! The subcore's program in a short form: one row of a trip, one trip of a chunk's loop, one trip of the merge, and the whole body
    out of these. Every printed loop body is one of these by definition. -/

@[expose] public section

set_option maxRecDepth 100000

noncomputable section

namespace Proof.K

open Cert.KernelIdeal Cert.KernelIdeal.Gen
open Idealize.ShloMosaic Idealize.SL.Sem

variable {F : FTy → Type} [FloatOps F]

/-- The programs of the subcore at grid place `i`. -/
abbrev TP (F : FTy → Type) [FloatOps F] (i : grid0.Coords) :=
  Prog (TpuEff nD τ sig (Elt F) Λ₀ (.scVector ((i 0).castLE hcore0) ((i 1).castLE hsub0)))

/-- One row of a trip: the sixteen predictions and labels at `o`, and the scatter-add of their codes. -/
def rowStep (i : grid0.Coords) (hist : Memref sig .scVector .vmem S65552 .i32) (pb : Memref sig .scVector .vmem S16x512 .f32)
    (lb : Memref sig .scVector .vmem S16x512 .i32) (v7 : IVec S16 32) (o : Fin 2 → Nat) (ho : ∀ a, o a + S1x16.size a ≤ S16x512.size a) :
    TP F i (IVec S16 32) := do
  let pv : Vec F S1x16 .f32 ← Prog.lift (.load pb (Rect.unit (s := S16x512) o S1x16.size ho).toLoadRect (View.loadsAt_vmem h_S1x16))
  let lv : Vec F S1x16 .i32 ← Prog.lift (.load lb (Rect.unit (s := S16x512) o S1x16.size ho).toLoadRect (View.loadsAt_vmem h_S1x16))
  have hw : k0_chk1 (k0_pay5 v7 pv lv) := (← Prog.lift (TpuEff.assume (k0_chk1 (k0_pay5 v7 pv lv)) (k0_chk1.dec (k0_pay5 v7 pv lv)))).down
  SparseCore.vectorStoreIdx hist ![k0_pay5 v7 pv lv] (k0_pay4 lv) (k0_pay3 pv lv) true (k0_idx1_inb (k0_pay5 v7 pv lv) hw) (View.stores_vmem_bits_univ h_S65552 rfl)
  pure (k0_pay1 lv)

/-- One trip of a chunk's loop: sixteen rows, and the labels added to the running count in a balanced tree. -/
def chunkBody (i : grid0.Coords) (hist : Memref sig .scVector .vmem S65552 .i32) (pb : Memref sig .scVector .vmem S16x512 .f32)
    (lb : Memref sig .scVector .vmem S16x512 .i32) (v7 : IVec S16 32) (k : Fin k0_t2_loop.trips) (acc : IVec S16 32) : TP F i (IVec S16 32) := do
  let r0 ← rowStep i hist pb lb v7 (k0_off3 k) (k0_off3_inb k)
  let r1 ← rowStep i hist pb lb v7 (k0_off4 k) (k0_off4_inb k)
  let r2 ← rowStep i hist pb lb v7 (k0_off5 k) (k0_off5_inb k)
  let r3 ← rowStep i hist pb lb v7 (k0_off6 k) (k0_off6_inb k)
  let r4 ← rowStep i hist pb lb v7 (k0_off7 k) (k0_off7_inb k)
  let r5 ← rowStep i hist pb lb v7 (k0_off8 k) (k0_off8_inb k)
  let r6 ← rowStep i hist pb lb v7 (k0_off9 k) (k0_off9_inb k)
  let r7 ← rowStep i hist pb lb v7 (k0_off10 k) (k0_off10_inb k)
  let r8 ← rowStep i hist pb lb v7 (k0_off11 k) (k0_off11_inb k)
  let r9 ← rowStep i hist pb lb v7 (k0_off12 k) (k0_off12_inb k)
  let r10 ← rowStep i hist pb lb v7 (k0_off13 k) (k0_off13_inb k)
  let r11 ← rowStep i hist pb lb v7 (k0_off14 k) (k0_off14_inb k)
  let r12 ← rowStep i hist pb lb v7 (k0_off15 k) (k0_off15_inb k)
  let r13 ← rowStep i hist pb lb v7 (k0_off16 k) (k0_off16_inb k)
  let r14 ← rowStep i hist pb lb v7 (k0_off17 k) (k0_off17_inb k)
  let r15 ← rowStep i hist pb lb v7 (k0_off18 k) (k0_off18_inb k)
  pure (addi acc (addi (addi (addi (addi r0 r1) (addi r2 r3)) (addi (addi r4 r5) (addi r6 r7))) (addi (addi (addi r8 r9) (addi r10 r11)) (addi (addi r12 r13) (addi r14 r15)))))

/-- One trip of the merge: sixteen neighbouring bins of the sixteen lanes' histograms, their low and their high halves summed. -/
def mergeBody (i : grid0.Coords) (hist : Memref sig .scVector .vmem S65552 .i32) (nb qb : Memref sig .scVector .vmem S32x128 .i32)
    (o : Fin k0_t18_loop.trips → BitVec 32 → Fin 1 → Nat)
    (ho : ∀ (k : Fin k0_t18_loop.trips) (l : Fin 16) (a : Fin 1), o k (BitVec.ofNat 32 (4097 * l.val)) a + S16.size a ≤ S65552.size a)
    (w : Fin k0_t18_loop.trips → Fin 2 → Nat) (hw : ∀ (k : Fin k0_t18_loop.trips) (a : Fin 2), w k a + S1x16.size a ≤ S32x128.size a)
    (k : Fin k0_t18_loop.trips) (_ : Unit) : TP F i Unit := do
  let v0 : Vec F S16 .i32 ← Prog.lift (.load hist (Rect.unit (s := S65552) (o k 0#32) S16.size (ho k 0)).toLoadRect (View.loadsAt_vmem h_S16))
  let v1 : Vec F S16 .i32 ← Prog.lift (.load hist (Rect.unit (s := S65552) (o k 4097#32) S16.size (ho k 1)).toLoadRect (View.loadsAt_vmem h_S16))
  let v2 : Vec F S16 .i32 ← Prog.lift (.load hist (Rect.unit (s := S65552) (o k 8194#32) S16.size (ho k 2)).toLoadRect (View.loadsAt_vmem h_S16))
  let v3 : Vec F S16 .i32 ← Prog.lift (.load hist (Rect.unit (s := S65552) (o k 12291#32) S16.size (ho k 3)).toLoadRect (View.loadsAt_vmem h_S16))
  let v4 : Vec F S16 .i32 ← Prog.lift (.load hist (Rect.unit (s := S65552) (o k 16388#32) S16.size (ho k 4)).toLoadRect (View.loadsAt_vmem h_S16))
  let v5 : Vec F S16 .i32 ← Prog.lift (.load hist (Rect.unit (s := S65552) (o k 20485#32) S16.size (ho k 5)).toLoadRect (View.loadsAt_vmem h_S16))
  let v6 : Vec F S16 .i32 ← Prog.lift (.load hist (Rect.unit (s := S65552) (o k 24582#32) S16.size (ho k 6)).toLoadRect (View.loadsAt_vmem h_S16))
  let v7 : Vec F S16 .i32 ← Prog.lift (.load hist (Rect.unit (s := S65552) (o k 28679#32) S16.size (ho k 7)).toLoadRect (View.loadsAt_vmem h_S16))
  let v8 : Vec F S16 .i32 ← Prog.lift (.load hist (Rect.unit (s := S65552) (o k 32776#32) S16.size (ho k 8)).toLoadRect (View.loadsAt_vmem h_S16))
  let v9 : Vec F S16 .i32 ← Prog.lift (.load hist (Rect.unit (s := S65552) (o k 36873#32) S16.size (ho k 9)).toLoadRect (View.loadsAt_vmem h_S16))
  let v10 : Vec F S16 .i32 ← Prog.lift (.load hist (Rect.unit (s := S65552) (o k 40970#32) S16.size (ho k 10)).toLoadRect (View.loadsAt_vmem h_S16))
  let v11 : Vec F S16 .i32 ← Prog.lift (.load hist (Rect.unit (s := S65552) (o k 45067#32) S16.size (ho k 11)).toLoadRect (View.loadsAt_vmem h_S16))
  let v12 : Vec F S16 .i32 ← Prog.lift (.load hist (Rect.unit (s := S65552) (o k 49164#32) S16.size (ho k 12)).toLoadRect (View.loadsAt_vmem h_S16))
  let v13 : Vec F S16 .i32 ← Prog.lift (.load hist (Rect.unit (s := S65552) (o k 53261#32) S16.size (ho k 13)).toLoadRect (View.loadsAt_vmem h_S16))
  let v14 : Vec F S16 .i32 ← Prog.lift (.load hist (Rect.unit (s := S65552) (o k 57358#32) S16.size (ho k 14)).toLoadRect (View.loadsAt_vmem h_S16))
  let v15 : Vec F S16 .i32 ← Prog.lift (.load hist (Rect.unit (s := S65552) (o k 61455#32) S16.size (ho k 15)).toLoadRect (View.loadsAt_vmem h_S16))
  let _x : Vec F S1x16 .i32 ← Prog.lift (.load nb (Rect.unit (s := S32x128) (w k) S1x16.size (hw k)).toLoadRect (View.loadsAt_vmem h_S1x16))
  Prog.lift (.store nb (Rect.unit (s := S32x128) (w k) S1x16.size (hw k)) (shapeCast S1x16 (addi (addi (addi (addi (addi (addi (addi (addi (addi (addi (addi (addi (addi (addi (addi (addi (broadcast S16 0#32) (andi v0 (broadcast S16 65535#32))) (andi v1 (broadcast S16 65535#32))) (andi v2 (broadcast S16 65535#32))) (andi v3 (broadcast S16 65535#32))) (andi v4 (broadcast S16 65535#32))) (andi v5 (broadcast S16 65535#32))) (andi v6 (broadcast S16 65535#32))) (andi v7 (broadcast S16 65535#32))) (andi v8 (broadcast S16 65535#32))) (andi v9 (broadcast S16 65535#32))) (andi v10 (broadcast S16 65535#32))) (andi v11 (broadcast S16 65535#32))) (andi v12 (broadcast S16 65535#32))) (andi v13 (broadcast S16 65535#32))) (andi v14 (broadcast S16 65535#32))) (andi v15 (broadcast S16 65535#32))) shapeCasts_S16_S1x16) Finset.univ (View.stores_vmem_bits_univ h_S1x16 rfl) (.inl rfl))
  let _y : Vec F S1x16 .i32 ← Prog.lift (.load qb (Rect.unit (s := S32x128) (w k) S1x16.size (hw k)).toLoadRect (View.loadsAt_vmem h_S1x16))
  Prog.lift (.store qb (Rect.unit (s := S32x128) (w k) S1x16.size (hw k)) (shapeCast S1x16 (addi (addi (addi (addi (addi (addi (addi (addi (addi (addi (addi (addi (addi (addi (addi (addi (broadcast S16 0#32) (shrsi v0 (broadcast S16 16#32))) (shrsi v1 (broadcast S16 16#32))) (shrsi v2 (broadcast S16 16#32))) (shrsi v3 (broadcast S16 16#32))) (shrsi v4 (broadcast S16 16#32))) (shrsi v5 (broadcast S16 16#32))) (shrsi v6 (broadcast S16 16#32))) (shrsi v7 (broadcast S16 16#32))) (shrsi v8 (broadcast S16 16#32))) (shrsi v9 (broadcast S16 16#32))) (shrsi v10 (broadcast S16 16#32))) (shrsi v11 (broadcast S16 16#32))) (shrsi v12 (broadcast S16 16#32))) (shrsi v13 (broadcast S16 16#32))) (shrsi v14 (broadcast S16 16#32))) (shrsi v15 (broadcast S16 16#32))) shapeCasts_S16_S1x16) Finset.univ (View.stores_vmem_bits_univ h_S1x16 rfl) (.inl rfl))
  pure ⟨⟩

/-- One trip of the loop which clears the histograms. -/
def zeroBody (i : grid0.Coords) (hist : Memref sig .scVector .vmem S65552 .i32) (k : Fin k0_t1_loop.trips) (_ : Unit) : TP F i Unit := do
  let _x : Vec F S16 .i32 ← Prog.lift (.load hist (Rect.unit (s := S65552) (k0_off1 k) S16.size (k0_off1_inb k)).toLoadRect (View.loadsAt_vmem h_S16))
  Prog.lift (.store hist (Rect.unit (s := S65552) (k0_off1 k) S16.size (k0_off1_inb k)) (broadcast S16 0#32) Finset.univ (View.stores_vmem_bits_univ h_S16 rfl) (.inl rfl))
  pure ⟨⟩

/-- A chunk of rows of an image. -/
abbrev chunkOf {e : EltTy} (src : Memref sig .scVector .hbm S16x512x512 e) (i : grid0.Coords) (r : Fin 16) : Memref sig .scVector .hbm S16x512 e :=
  (src.slice (Rect.unit (s := S16x512x512) (k0_off2 i (BitVec.ofNat 32 (16 * r.val))) S1x16x512.size (k0_off2_inb i r)) (fun _ => rfl)).squeeze S16x512 squeezes_S1x16x512_S16x512

/-- The copies of chunk `r` into two buffers, started. -/
def start2 (i : grid0.Coords) (ps : Memref sig .scVector .hbm S16x512x512 .f32) (ls : Memref sig .scVector .hbm S16x512x512 .i32)
    (pb : Memref sig .scVector .vmem S16x512 .f32) (hpb : pb.IsWhole) (lb : Memref sig .scVector .vmem S16x512 .i32) (hlb : lb.IsWhole)
    (sp sl : DmaSems sig S_) (r : Fin 16) : TP F i PUnit := do
  Prog.lift (.enqueueDma (chunkOf ps i r) (.here pb) (.dma sp.sem) ((View.wordExact_bits rfl).reshape _ _) hpb.wordExact ⟨Or.inl rfl, trivial⟩)
  Prog.lift (.enqueueDma (chunkOf ls i r) (.here lb) (.dma sl.sem) ((View.wordExact_bits rfl).reshape _ _) hlb.wordExact ⟨Or.inl rfl, trivial⟩)

/-- The copies of chunk `r` into two buffers, waited for. -/
def wait2 (i : grid0.Coords) (ps : Memref sig .scVector .hbm S16x512x512 .f32) (ls : Memref sig .scVector .hbm S16x512x512 .i32)
    (pb : Memref sig .scVector .vmem S16x512 .f32) (hpb : pb.IsWhole) (lb : Memref sig .scVector .vmem S16x512 .i32) (hlb : lb.IsWhole)
    (sp sl : DmaSems sig S_) (r : Fin 16) : TP F i PUnit := do
  Prog.lift (.waitDma2 sp.sem (chunkOf ps i r) pb ((View.wordExact_bits rfl).reshape _ _) hpb.wordExact)
  Prog.lift (.waitDma2 sl.sem (chunkOf ls i r) lb ((View.wordExact_bits rfl).reshape _ _) hlb.wordExact)

/-- One chunk worked on while chunk `r` is on its way. -/
def stepOps (i : grid0.Coords) (ps : Memref sig .scVector .hbm S16x512x512 .f32) (ls : Memref sig .scVector .hbm S16x512x512 .i32)
    (hist : Memref sig .scVector .vmem S65552 .i32) (pb : Memref sig .scVector .vmem S16x512 .f32) (lb : Memref sig .scVector .vmem S16x512 .i32)
    (pb' : Memref sig .scVector .vmem S16x512 .f32) (hpb' : pb'.IsWhole) (lb' : Memref sig .scVector .vmem S16x512 .i32) (hlb' : lb'.IsWhole)
    (sp' sl' : DmaSems sig S_) (r : Fin 16) (acc : IVec S16 32) : TP F i (IVec S16 32) := do
  start2 i ps ls pb' hpb' lb' hlb' sp' sl' r
  let acc' ← Scf.Loop.for k0_t2_loop k0_t2_ok acc (chunkBody i hist pb lb k0_pay1634)
  wait2 i ps ls pb' hpb' lb' hlb' sp' sl' r
  pure acc'

/-- The body of the subcore. -/
def tileProg (i : grid0.Coords) (arg2 : Memref sig .scVector .hbm S16x512x512 .f32) (harg2 : arg2.IsWhole) (arg3 : Memref sig .scVector .hbm S16x512x512 .i32) (harg3 : arg3.IsWhole) (arg4 : Memref sig .scVector .hbm S32x32x128 .i32) (harg4 : arg4.IsWhole) (arg5 : Memref sig .scVector .hbm S32x32x128 .i32) (harg5 : arg5.IsWhole) (arg6 : Memref sig .scVector .hbm S32x16 .i32) (harg6 : arg6.IsWhole) (arg7 : Memref sig .scVector .vmem S65552 .i32) (harg7 : arg7.IsWhole) (arg8 : Memref sig .scVector .vmem S16x512 .f32) (harg8 : arg8.IsWhole) (arg9 : Memref sig .scVector .vmem S16x512 .i32) (harg9 : arg9.IsWhole) (arg10 : Memref sig .scVector .vmem S16x512 .f32) (harg10 : arg10.IsWhole) (arg11 : Memref sig .scVector .vmem S16x512 .i32) (harg11 : arg11.IsWhole) (arg12 : Memref sig .scVector .vmem S32x128 .i32) (harg12 : arg12.IsWhole) (arg13 : Memref sig .scVector .vmem S32x128 .i32) (harg13 : arg13.IsWhole) (arg14 : Memref sig .scVector .vmem S16 .i32) (harg14 : arg14.IsWhole) (arg15 : DmaSems sig S_) (arg16 : DmaSems sig S_) (arg17 : DmaSems sig S_) (arg18 : DmaSems sig S_) (v346_r0 : DmaSems sig S_) (v346_r1 : DmaSems sig S_) (v346_r2 : DmaSems sig S_) : TP F i PUnit := do
  Scf.Loop.for k0_t1_loop k0_t1_ok ⟨⟩ (zeroBody i arg7)
  start2 i arg2 arg3 arg8 harg8 arg9 harg9 arg15 arg16 0
  wait2 i arg2 arg3 arg8 harg8 arg9 harg9 arg15 arg16 0
  let a0 ← stepOps i arg2 arg3 arg7 arg8 arg9 arg10 harg10 arg11 harg11 arg17 arg18 1 k0_pay1635
  let a1 ← stepOps i arg2 arg3 arg7 arg10 arg11 arg8 harg8 arg9 harg9 arg15 arg16 2 a0
  let a2 ← stepOps i arg2 arg3 arg7 arg8 arg9 arg10 harg10 arg11 harg11 arg17 arg18 3 a1
  let a3 ← stepOps i arg2 arg3 arg7 arg10 arg11 arg8 harg8 arg9 harg9 arg15 arg16 4 a2
  let a4 ← stepOps i arg2 arg3 arg7 arg8 arg9 arg10 harg10 arg11 harg11 arg17 arg18 5 a3
  let a5 ← stepOps i arg2 arg3 arg7 arg10 arg11 arg8 harg8 arg9 harg9 arg15 arg16 6 a4
  let a6 ← stepOps i arg2 arg3 arg7 arg8 arg9 arg10 harg10 arg11 harg11 arg17 arg18 7 a5
  let a7 ← stepOps i arg2 arg3 arg7 arg10 arg11 arg8 harg8 arg9 harg9 arg15 arg16 8 a6
  let a8 ← stepOps i arg2 arg3 arg7 arg8 arg9 arg10 harg10 arg11 harg11 arg17 arg18 9 a7
  let a9 ← stepOps i arg2 arg3 arg7 arg10 arg11 arg8 harg8 arg9 harg9 arg15 arg16 10 a8
  let a10 ← stepOps i arg2 arg3 arg7 arg8 arg9 arg10 harg10 arg11 harg11 arg17 arg18 11 a9
  let a11 ← stepOps i arg2 arg3 arg7 arg10 arg11 arg8 harg8 arg9 harg9 arg15 arg16 12 a10
  let a12 ← stepOps i arg2 arg3 arg7 arg8 arg9 arg10 harg10 arg11 harg11 arg17 arg18 13 a11
  let a13 ← stepOps i arg2 arg3 arg7 arg10 arg11 arg8 harg8 arg9 harg9 arg15 arg16 14 a12
  let a14 ← stepOps i arg2 arg3 arg7 arg8 arg9 arg10 harg10 arg11 harg11 arg17 arg18 15 a13
  let a15 ← Scf.Loop.for k0_t2_loop k0_t2_ok a14 (chunkBody i arg7 arg10 arg11 k0_pay1634)
  Scf.Loop.for k0_t18_loop k0_t18_ok ⟨⟩ (mergeBody i arg7 arg12 arg13 k0_off259 k0_off259_inb k0_off260 k0_off260_inb)
  Scf.Loop.for k0_t18_loop k0_t18_ok ⟨⟩ (mergeBody i arg7 arg12 arg13 k0_off261 k0_off261_inb k0_off262 k0_off262_inb)
  Scf.Loop.for k0_t18_loop k0_t18_ok ⟨⟩ (mergeBody i arg7 arg12 arg13 k0_off263 k0_off263_inb k0_off264 k0_off264_inb)
  Scf.Loop.for k0_t18_loop k0_t18_ok ⟨⟩ (mergeBody i arg7 arg12 arg13 k0_off265 k0_off265_inb k0_off266 k0_off266_inb)
  Scf.Loop.for k0_t18_loop k0_t18_ok ⟨⟩ (mergeBody i arg7 arg12 arg13 k0_off267 k0_off267_inb k0_off268 k0_off268_inb)
  Scf.Loop.for k0_t18_loop k0_t18_ok ⟨⟩ (mergeBody i arg7 arg12 arg13 k0_off269 k0_off269_inb k0_off270 k0_off270_inb)
  Scf.Loop.for k0_t18_loop k0_t18_ok ⟨⟩ (mergeBody i arg7 arg12 arg13 k0_off271 k0_off271_inb k0_off272 k0_off272_inb)
  Scf.Loop.for k0_t18_loop k0_t18_ok ⟨⟩ (mergeBody i arg7 arg12 arg13 k0_off273 k0_off273_inb k0_off274 k0_off274_inb)
  Scf.Loop.for k0_t18_loop k0_t18_ok ⟨⟩ (mergeBody i arg7 arg12 arg13 k0_off275 k0_off275_inb k0_off276 k0_off276_inb)
  Scf.Loop.for k0_t18_loop k0_t18_ok ⟨⟩ (mergeBody i arg7 arg12 arg13 k0_off277 k0_off277_inb k0_off278 k0_off278_inb)
  Scf.Loop.for k0_t18_loop k0_t18_ok ⟨⟩ (mergeBody i arg7 arg12 arg13 k0_off279 k0_off279_inb k0_off280 k0_off280_inb)
  Scf.Loop.for k0_t18_loop k0_t18_ok ⟨⟩ (mergeBody i arg7 arg12 arg13 k0_off281 k0_off281_inb k0_off282 k0_off282_inb)
  Scf.Loop.for k0_t18_loop k0_t18_ok ⟨⟩ (mergeBody i arg7 arg12 arg13 k0_off283 k0_off283_inb k0_off284 k0_off284_inb)
  Scf.Loop.for k0_t18_loop k0_t18_ok ⟨⟩ (mergeBody i arg7 arg12 arg13 k0_off285 k0_off285_inb k0_off286 k0_off286_inb)
  Scf.Loop.for k0_t18_loop k0_t18_ok ⟨⟩ (mergeBody i arg7 arg12 arg13 k0_off287 k0_off287_inb k0_off288 k0_off288_inb)
  Scf.Loop.for k0_t18_loop k0_t18_ok ⟨⟩ (mergeBody i arg7 arg12 arg13 k0_off289 k0_off289_inb k0_off290 k0_off290_inb)
  Scf.Loop.for k0_t18_loop k0_t18_ok ⟨⟩ (mergeBody i arg7 arg12 arg13 k0_off291 k0_off291_inb k0_off292 k0_off292_inb)
  Scf.Loop.for k0_t18_loop k0_t18_ok ⟨⟩ (mergeBody i arg7 arg12 arg13 k0_off293 k0_off293_inb k0_off294 k0_off294_inb)
  Scf.Loop.for k0_t18_loop k0_t18_ok ⟨⟩ (mergeBody i arg7 arg12 arg13 k0_off295 k0_off295_inb k0_off296 k0_off296_inb)
  Scf.Loop.for k0_t18_loop k0_t18_ok ⟨⟩ (mergeBody i arg7 arg12 arg13 k0_off297 k0_off297_inb k0_off298 k0_off298_inb)
  Scf.Loop.for k0_t18_loop k0_t18_ok ⟨⟩ (mergeBody i arg7 arg12 arg13 k0_off299 k0_off299_inb k0_off300 k0_off300_inb)
  Scf.Loop.for k0_t18_loop k0_t18_ok ⟨⟩ (mergeBody i arg7 arg12 arg13 k0_off301 k0_off301_inb k0_off302 k0_off302_inb)
  Scf.Loop.for k0_t18_loop k0_t18_ok ⟨⟩ (mergeBody i arg7 arg12 arg13 k0_off303 k0_off303_inb k0_off304 k0_off304_inb)
  Scf.Loop.for k0_t18_loop k0_t18_ok ⟨⟩ (mergeBody i arg7 arg12 arg13 k0_off305 k0_off305_inb k0_off306 k0_off306_inb)
  Scf.Loop.for k0_t18_loop k0_t18_ok ⟨⟩ (mergeBody i arg7 arg12 arg13 k0_off307 k0_off307_inb k0_off308 k0_off308_inb)
  Scf.Loop.for k0_t18_loop k0_t18_ok ⟨⟩ (mergeBody i arg7 arg12 arg13 k0_off309 k0_off309_inb k0_off310 k0_off310_inb)
  Scf.Loop.for k0_t18_loop k0_t18_ok ⟨⟩ (mergeBody i arg7 arg12 arg13 k0_off311 k0_off311_inb k0_off312 k0_off312_inb)
  Scf.Loop.for k0_t18_loop k0_t18_ok ⟨⟩ (mergeBody i arg7 arg12 arg13 k0_off313 k0_off313_inb k0_off314 k0_off314_inb)
  Scf.Loop.for k0_t18_loop k0_t18_ok ⟨⟩ (mergeBody i arg7 arg12 arg13 k0_off315 k0_off315_inb k0_off316 k0_off316_inb)
  Scf.Loop.for k0_t18_loop k0_t18_ok ⟨⟩ (mergeBody i arg7 arg12 arg13 k0_off317 k0_off317_inb k0_off318 k0_off318_inb)
  Scf.Loop.for k0_t18_loop k0_t18_ok ⟨⟩ (mergeBody i arg7 arg12 arg13 k0_off319 k0_off319_inb k0_off320 k0_off320_inb)
  Scf.Loop.for k0_t18_loop k0_t18_ok ⟨⟩ (mergeBody i arg7 arg12 arg13 k0_off321 k0_off321_inb k0_off322 k0_off322_inb)
  let _x : Vec F S16 .i32 ← Prog.lift (.load arg14 (Rect.unit (s := S16) ![0] S16.size inb_S16_S16_0).toLoadRect (View.loadsAt_vmem h_S16))
  Prog.lift (.store arg14 (Rect.unit (s := S16) ![0] S16.size inb_S16_S16_0) a15 Finset.univ (View.stores_vmem_bits_univ h_S16 rfl) (.inl rfl))
  Prog.lift (.enqueueDma arg12 (.here ((arg4.slice (Rect.unit (s := S32x32x128) (k0_off323 i) S1x32x128.size (k0_off323_inb i)) (fun _ => rfl)).squeeze S32x128 squeezes_S1x32x128_S32x128)) (.dma v346_r0.sem) harg12.wordExact ((View.wordExact_bits rfl).reshape _ _) ⟨Or.inl rfl, trivial⟩)
  Prog.lift (.waitDma2 v346_r0.sem arg12 ((arg4.slice (Rect.unit (s := S32x32x128) (k0_off323 i) S1x32x128.size (k0_off323_inb i)) (fun _ => rfl)).squeeze S32x128 squeezes_S1x32x128_S32x128) harg12.wordExact ((View.wordExact_bits rfl).reshape _ _))
  Prog.lift (.enqueueDma arg13 (.here ((arg5.slice (Rect.unit (s := S32x32x128) (k0_off323 i) S1x32x128.size (k0_off323_inb i)) (fun _ => rfl)).squeeze S32x128 squeezes_S1x32x128_S32x128)) (.dma v346_r1.sem) harg13.wordExact ((View.wordExact_bits rfl).reshape _ _) ⟨Or.inl rfl, trivial⟩)
  Prog.lift (.waitDma2 v346_r1.sem arg13 ((arg5.slice (Rect.unit (s := S32x32x128) (k0_off323 i) S1x32x128.size (k0_off323_inb i)) (fun _ => rfl)).squeeze S32x128 squeezes_S1x32x128_S32x128) harg13.wordExact ((View.wordExact_bits rfl).reshape _ _))
  Prog.lift (.enqueueDma arg14 (.here ((arg6.slice (Rect.unit (s := S32x16) (k0_off324 i) S1x16.size (k0_off324_inb i)) (fun _ => rfl)).squeeze S16 squeezes_S1x16_S16)) (.dma v346_r2.sem) harg14.wordExact ((View.wordExact_bits rfl).reshape _ _) ⟨Or.inl rfl, trivial⟩)
  Prog.lift (.waitDma2 v346_r2.sem arg14 ((arg6.slice (Rect.unit (s := S32x16) (k0_off324 i) S1x16.size (k0_off324_inb i)) (fun _ => rfl)).squeeze S16 squeezes_S1x16_S16) harg14.wordExact ((View.wordExact_bits rfl).reshape _ _))
  pure ⟨⟩

end Proof.K
-- ==== Proof.Loops.lean ====
module

public import proofs.«01_k».proof.Proof.Steps

/-! The printed loop bodies are the short ones, by definition; and so is the whole body. -/

@[expose] public section

set_option maxRecDepth 100000

noncomputable section

namespace Proof.K

open Cert.KernelIdeal Cert.KernelIdeal.Gen
open Idealize.ShloMosaic Idealize.SL.Sem

variable {F : FTy → Type} [FloatOps F]

variable (i : grid0.Coords)
  (arg2 : Memref sig .scVector .hbm S16x512x512 .f32)
  (harg2 : arg2.IsWhole)
  (arg3 : Memref sig .scVector .hbm S16x512x512 .i32)
  (harg3 : arg3.IsWhole)
  (arg4 : Memref sig .scVector .hbm S32x32x128 .i32)
  (harg4 : arg4.IsWhole)
  (arg5 : Memref sig .scVector .hbm S32x32x128 .i32)
  (harg5 : arg5.IsWhole)
  (arg6 : Memref sig .scVector .hbm S32x16 .i32)
  (harg6 : arg6.IsWhole)
  (arg7 : Memref sig .scVector .vmem S65552 .i32)
  (harg7 : arg7.IsWhole)
  (arg8 : Memref sig .scVector .vmem S16x512 .f32)
  (harg8 : arg8.IsWhole)
  (arg9 : Memref sig .scVector .vmem S16x512 .i32)
  (harg9 : arg9.IsWhole)
  (arg10 : Memref sig .scVector .vmem S16x512 .f32)
  (harg10 : arg10.IsWhole)
  (arg11 : Memref sig .scVector .vmem S16x512 .i32)
  (harg11 : arg11.IsWhole)
  (arg12 : Memref sig .scVector .vmem S32x128 .i32)
  (harg12 : arg12.IsWhole)
  (arg13 : Memref sig .scVector .vmem S32x128 .i32)
  (harg13 : arg13.IsWhole)
  (arg14 : Memref sig .scVector .vmem S16 .i32)
  (harg14 : arg14.IsWhole)
  (arg15 : DmaSems sig S_)
  (arg16 : DmaSems sig S_)
  (arg17 : DmaSems sig S_)
  (arg18 : DmaSems sig S_)
  (v346_r0 : DmaSems sig S_)
  (v346_r1 : DmaSems sig S_)
  (v346_r2 : DmaSems sig S_)

theorem t2_eq (v2 : BitVec 32) (v7 : IVec S16 32) (v17 : IVec S16 32) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v17 = chunkBody i arg7 arg8 arg9 v7 := rfl

theorem t3_eq (v2 : BitVec 32) (v7 : IVec S16 32) (v17 : IVec S16 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v17 = chunkBody i arg7 arg10 arg11 v7 := rfl

theorem t4_eq (v2 : BitVec 32) (v7 : IVec S16 32) (v55 : IVec S16 32) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v55 = chunkBody i arg7 arg8 arg9 v7 := rfl

theorem t5_eq (v2 : BitVec 32) (v7 : IVec S16 32) (v74 : IVec S16 32) (c0_i32_54 : BitVec 32) (c1_i32_56 : BitVec 32) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v74 c0_i32_54 c1_i32_56 = chunkBody i arg7 arg10 arg11 v7 := rfl

theorem t6_eq (v2 : BitVec 32) (v7 : IVec S16 32) (v74 : IVec S16 32) (c0_i32_54 : BitVec 32) (c1_i32_56 : BitVec 32) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v74 c0_i32_54 c1_i32_56 = chunkBody i arg7 arg8 arg9 v7 := rfl

theorem t7_eq (v2 : BitVec 32) (v7 : IVec S16 32) (v112 : IVec S16 32) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v112 = chunkBody i arg7 arg10 arg11 v7 := rfl

theorem t8_eq (v2 : BitVec 32) (v7 : IVec S16 32) (v112 : IVec S16 32) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v112 = chunkBody i arg7 arg8 arg9 v7 := rfl

theorem t9_eq (v2 : BitVec 32) (v7 : IVec S16 32) (v150 : IVec S16 32) :
    k0_t9_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v150 = chunkBody i arg7 arg10 arg11 v7 := rfl

theorem t10_eq (v2 : BitVec 32) (v7 : IVec S16 32) (v169 : IVec S16 32) (c0_i32_114 : BitVec 32) (c1_i32_116 : BitVec 32) :
    k0_t10_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v169 c0_i32_114 c1_i32_116 = chunkBody i arg7 arg8 arg9 v7 := rfl

theorem t11_eq (v2 : BitVec 32) (v7 : IVec S16 32) (v169 : IVec S16 32) (c0_i32_114 : BitVec 32) (c1_i32_116 : BitVec 32) :
    k0_t11_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v169 c0_i32_114 c1_i32_116 = chunkBody i arg7 arg10 arg11 v7 := rfl

theorem t12_eq (v2 : BitVec 32) (v7 : IVec S16 32) (v207 : IVec S16 32) :
    k0_t12_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v207 = chunkBody i arg7 arg8 arg9 v7 := rfl

theorem t13_eq (v2 : BitVec 32) (v7 : IVec S16 32) (v207 : IVec S16 32) :
    k0_t13_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v207 = chunkBody i arg7 arg10 arg11 v7 := rfl

theorem t14_eq (v2 : BitVec 32) (v7 : IVec S16 32) (v245 : IVec S16 32) :
    k0_t14_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v245 = chunkBody i arg7 arg8 arg9 v7 := rfl

theorem t15_eq (v2 : BitVec 32) (v7 : IVec S16 32) (v264 : IVec S16 32) (c0_i32_174 : BitVec 32) (c1_i32_176 : BitVec 32) :
    k0_t15_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v264 c0_i32_174 c1_i32_176 = chunkBody i arg7 arg10 arg11 v7 := rfl

theorem t16_eq (v2 : BitVec 32) (v7 : IVec S16 32) (v264 : IVec S16 32) (c0_i32_174 : BitVec 32) (c1_i32_176 : BitVec 32) :
    k0_t16_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v264 c0_i32_174 c1_i32_176 = chunkBody i arg7 arg8 arg9 v7 := rfl

theorem t17_eq (v2 : BitVec 32) (v7 : IVec S16 32) (v264 : IVec S16 32) (c0_i32_174 : BitVec 32) (c1_i32_176 : BitVec 32) :
    k0_t17_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v2 v7 v264 c0_i32_174 c1_i32_176 = chunkBody i arg7 arg10 arg11 v7 := rfl

theorem t1_eq :
    k0_t1_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = zeroBody i arg7 := rfl

theorem t18_eq (c0_i32_199 : BitVec 32) :
    k0_t18_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off259 k0_off259_inb k0_off260 k0_off260_inb := rfl

theorem t19_eq (c0_i32_199 : BitVec 32) :
    k0_t19_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off261 k0_off261_inb k0_off262 k0_off262_inb := rfl

theorem t20_eq (c0_i32_199 : BitVec 32) :
    k0_t20_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off263 k0_off263_inb k0_off264 k0_off264_inb := rfl

theorem t21_eq (c0_i32_199 : BitVec 32) :
    k0_t21_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off265 k0_off265_inb k0_off266 k0_off266_inb := rfl

theorem t22_eq (c0_i32_199 : BitVec 32) :
    k0_t22_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off267 k0_off267_inb k0_off268 k0_off268_inb := rfl

theorem t23_eq (c0_i32_199 : BitVec 32) :
    k0_t23_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off269 k0_off269_inb k0_off270 k0_off270_inb := rfl

theorem t24_eq (c0_i32_199 : BitVec 32) :
    k0_t24_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off271 k0_off271_inb k0_off272 k0_off272_inb := rfl

theorem t25_eq (c0_i32_199 : BitVec 32) :
    k0_t25_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off273 k0_off273_inb k0_off274 k0_off274_inb := rfl

theorem t26_eq (c0_i32_199 : BitVec 32) :
    k0_t26_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_199 = mergeBody i arg7 arg12 arg13 k0_off275 k0_off275_inb k0_off276 k0_off276_inb := rfl

theorem t27_eq :
    k0_t27_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = mergeBody i arg7 arg12 arg13 k0_off277 k0_off277_inb k0_off278 k0_off278_inb := rfl

theorem t28_eq :
    k0_t28_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = mergeBody i arg7 arg12 arg13 k0_off279 k0_off279_inb k0_off280 k0_off280_inb := rfl

theorem t29_eq :
    k0_t29_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = mergeBody i arg7 arg12 arg13 k0_off281 k0_off281_inb k0_off282 k0_off282_inb := rfl

theorem t30_eq :
    k0_t30_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = mergeBody i arg7 arg12 arg13 k0_off283 k0_off283_inb k0_off284 k0_off284_inb := rfl

theorem t31_eq :
    k0_t31_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = mergeBody i arg7 arg12 arg13 k0_off285 k0_off285_inb k0_off286 k0_off286_inb := rfl

theorem t32_eq :
    k0_t32_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = mergeBody i arg7 arg12 arg13 k0_off287 k0_off287_inb k0_off288 k0_off288_inb := rfl

theorem t33_eq :
    k0_t33_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = mergeBody i arg7 arg12 arg13 k0_off289 k0_off289_inb k0_off290 k0_off290_inb := rfl

theorem t34_eq :
    k0_t34_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = mergeBody i arg7 arg12 arg13 k0_off291 k0_off291_inb k0_off292 k0_off292_inb := rfl

theorem t35_eq (c0_i32_283 : BitVec 32) (c8_i32_284 : BitVec 32) :
    k0_t35_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off293 k0_off293_inb k0_off294 k0_off294_inb := rfl

theorem t36_eq (c0_i32_283 : BitVec 32) (c8_i32_284 : BitVec 32) :
    k0_t36_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off295 k0_off295_inb k0_off296 k0_off296_inb := rfl

theorem t37_eq (c0_i32_283 : BitVec 32) (c8_i32_284 : BitVec 32) :
    k0_t37_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off297 k0_off297_inb k0_off298 k0_off298_inb := rfl

theorem t38_eq (c0_i32_283 : BitVec 32) (c8_i32_284 : BitVec 32) :
    k0_t38_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off299 k0_off299_inb k0_off300 k0_off300_inb := rfl

theorem t39_eq (c0_i32_283 : BitVec 32) (c8_i32_284 : BitVec 32) :
    k0_t39_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off301 k0_off301_inb k0_off302 k0_off302_inb := rfl

theorem t40_eq (c0_i32_283 : BitVec 32) (c8_i32_284 : BitVec 32) :
    k0_t40_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off303 k0_off303_inb k0_off304 k0_off304_inb := rfl

theorem t41_eq (c0_i32_283 : BitVec 32) (c8_i32_284 : BitVec 32) :
    k0_t41_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off305 k0_off305_inb k0_off306 k0_off306_inb := rfl

theorem t42_eq (c0_i32_283 : BitVec 32) (c8_i32_284 : BitVec 32) :
    k0_t42_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off307 k0_off307_inb k0_off308 k0_off308_inb := rfl

theorem t43_eq (c0_i32_283 : BitVec 32) (c8_i32_284 : BitVec 32) :
    k0_t43_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 c0_i32_283 c8_i32_284 = mergeBody i arg7 arg12 arg13 k0_off309 k0_off309_inb k0_off310 k0_off310_inb := rfl

theorem t44_eq (v312 : IVec S16 32) :
    k0_t44_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v312 = mergeBody i arg7 arg12 arg13 k0_off311 k0_off311_inb k0_off312 k0_off312_inb := rfl

theorem t45_eq (v312 : IVec S16 32) :
    k0_t45_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v312 = mergeBody i arg7 arg12 arg13 k0_off313 k0_off313_inb k0_off314 k0_off314_inb := rfl

theorem t46_eq (v312 : IVec S16 32) :
    k0_t46_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v312 = mergeBody i arg7 arg12 arg13 k0_off315 k0_off315_inb k0_off316 k0_off316_inb := rfl

theorem t47_eq (v312 : IVec S16 32) :
    k0_t47_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v312 = mergeBody i arg7 arg12 arg13 k0_off317 k0_off317_inb k0_off318 k0_off318_inb := rfl

theorem t48_eq (v312 : IVec S16 32) :
    k0_t48_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v312 = mergeBody i arg7 arg12 arg13 k0_off319 k0_off319_inb k0_off320 k0_off320_inb := rfl

theorem t49_eq (v312 : IVec S16 32) :
    k0_t49_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 v312 = mergeBody i arg7 arg12 arg13 k0_off321 k0_off321_inb k0_off322 k0_off322_inb := rfl

/-- The printed body is the short one. -/
theorem body_eq :
    cc0__hist_sc_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 = tileProg i arg2 harg2 arg3 harg3 arg4 harg4 arg5 harg5 arg6 harg6 arg7 harg7 arg8 harg8 arg9 harg9 arg10 harg10 arg11 harg11 arg12 harg12 arg13 harg13 arg14 harg14 arg15 arg16 arg17 arg18 v346_r0 v346_r1 v346_r2 := by
  rw [cc0__hist_sc_body_eq_skeleton, cc0__hist_sc_body_skel]
  simp only [k0_part273_eq_skeleton, k0_part273_skel, k0_part274_eq_skeleton, k0_part274_skel, k0_part275_eq_skeleton, k0_part275_skel, k0_part276_eq_skeleton, k0_part276_skel, k0_part277_eq_skeleton, k0_part277_skel, k0_part278_eq_skeleton, k0_part278_skel, k0_part279_eq_skeleton, k0_part279_skel, k0_part280_eq_skeleton, k0_part280_skel, k0_part281_eq_skeleton, k0_part281_skel, k0_part282_eq_skeleton, k0_part282_skel, k0_part283_eq_skeleton, k0_part283_skel, k0_part284_eq_skeleton, k0_part284_skel, k0_part285_eq_skeleton, k0_part285_skel, k0_part286_eq_skeleton, k0_part286_skel, t1_eq, t2_eq, t3_eq, t4_eq, t5_eq, t6_eq, t7_eq, t8_eq, t9_eq, t10_eq, t11_eq, t12_eq, t13_eq, t14_eq, t15_eq, t16_eq, t17_eq, t18_eq, t19_eq, t20_eq, t21_eq, t22_eq, t23_eq, t24_eq, t25_eq, t26_eq, t27_eq, t28_eq, t29_eq, t30_eq, t31_eq, t32_eq, t33_eq, t34_eq, t35_eq, t36_eq, t37_eq, t38_eq, t39_eq, t40_eq, t41_eq, t42_eq, t43_eq, t44_eq, t45_eq, t46_eq, t47_eq, t48_eq, t49_eq, bind_assoc, pure_bind]
  simp only [tileProg, stepOps, start2, wait2, bind_assoc, pure_bind]
  rfl

end Proof.K
-- ==== Proof.Sem.lean ====
module

public import proofs.«01_k».proof.Proof.Steps

/-! What the loops of a subcore compute, as functions of the two buffers and of the histograms before. -/

@[expose] public section

set_option maxRecDepth 100000

noncomputable section

namespace Proof.K

open Cert.KernelIdeal Cert.KernelIdeal.Gen
open Idealize.ShloMosaic

variable {F : FTy → Type} [FloatOps F]

/-- The sixteen elements of a chunk at `o`. -/
def rowOf {α : Type} (o : Fin 2 → Nat) (ho : ∀ a, o a + S1x16.size a ≤ S16x512.size a) (p : S16x512.Idx → α) : S1x16.Idx → α :=
  fun x => p ((Rect.unit (s := S16x512) o S1x16.size ho).emb x)

/-- A number clamped to `0 … 4095`. -/
def clampBin (v : BitVec 32) : BitVec 32 := IntOp.minsi (IntOp.maxsi v 0#32) 4095#32

theorem clampBin_le (v : BitVec 32) : (clampBin v).toNat ≤ 4095 := by
  unfold clampBin IntOp.minsi IntOp.maxsi
  simp only [BitVec.slt, BitVec.toInt_eq_toNat_cond, BitVec.toNat_ofNat, decide_eq_true_eq]
  have := v.isLt
  split_ifs <;> simp_all <;> omega

/-- The bin of an error: 256 of them in a unit, all beyond the last in the last. -/
def binOf (e : F .f32) : BitVec 32 := clampBin (fptosi 32 (mulf (fun _ : S16.Idx => e) (broadcast S16 (Scalar.ofBits .f32 0x43800000#32))) (Shape.ofLane (0 : Fin 16)))

theorem pay1634_apply (x : S16.Idx) : k0_pay1634 x = BitVec.ofNat 32 (4097 * (x 0).val) := by
  show BitVec.ofNat 32 (0 * 16 + (x 0).val) * 4097#32 = _
  rw [Nat.zero_mul, Nat.zero_add, Nat.mul_comm]
  exact (BitVec.ofNat_mul _ _).symm

theorem pay5_apply (pv : Vec F S1x16 .f32) (lv : Vec F S1x16 .i32) (x : S16.Idx) :
    k0_pay5 k0_pay1634 pv lv x = BitVec.ofNat 32 (4097 * (x 0).val) + binOf (k0_pay2 pv lv x) := by
  rw [← pay1634_apply]; rfl

theorem pay5_toNat (pv : Vec F S1x16 .f32) (lv : Vec F S1x16 .i32) (x : S16.Idx) :
    (k0_pay5 k0_pay1634 pv lv x).toNat = 4097 * (x 0).val + (binOf (k0_pay2 pv lv x)).toNat := by
  rw [pay5_apply, BitVec.toNat_add, BitVec.toNat_ofNat]
  have h1 : (x 0).val < 16 := (x 0).isLt
  have h2 : (binOf (k0_pay2 pv lv x)).toNat ≤ 4095 := clampBin_le _
  omega

/-- The clamped bin number lies in its lane's histogram. -/
theorem chk (pv : Vec F S1x16 .f32) (lv : Vec F S1x16 .i32) : k0_chk1 (k0_pay5 k0_pay1634 pv lv) := by
  intro a x
  obtain rfl : a = 0 := Subsingleton.elim _ _
  have h1 : (x 0).val < 16 := (x 0).isLt
  have h2 : (binOf (k0_pay2 pv lv x)).toNat ≤ 4095 := clampBin_le _
  have h3 : S65552.size 0 = 65552 := rfl
  have h4 := pay5_toNat pv lv x
  have h5 : (![k0_pay5 k0_pay1634 pv lv] : Fin 1 → IVec S16 32) 0 x = k0_pay5 k0_pay1634 pv lv x := rfl
  rw [h3, h5]
  omega

/-- The histograms after one row. -/
def rowHist (o : Fin 2 → Nat) (ho : ∀ a, o a + S1x16.size a ≤ S16x512.size a) (p : Vec F S16x512 .f32) (l : Vec F S16x512 .i32)
    (f : Vec F S65552 .i32) : Vec F S65552 .i32 :=
  storeIdx f ![k0_pay5 k0_pay1634 (rowOf o ho p) (rowOf o ho l)] (k0_pay4 (F := F) (rowOf o ho l)) (k0_pay3 (rowOf o ho p) (rowOf o ho l)) true
    (k0_idx1_inb _ (chk _ _))

/-- The histograms after one trip. -/
def tripHist (k : Fin k0_t2_loop.trips) (p : Vec F S16x512 .f32) (l : Vec F S16x512 .i32) (f : Vec F S65552 .i32) : Vec F S65552 .i32 :=
  rowHist (k0_off18 k) (k0_off18_inb k) p l (rowHist (k0_off17 k) (k0_off17_inb k) p l (rowHist (k0_off16 k) (k0_off16_inb k) p l (rowHist (k0_off15 k) (k0_off15_inb k) p l (rowHist (k0_off14 k) (k0_off14_inb k) p l (rowHist (k0_off13 k) (k0_off13_inb k) p l (rowHist (k0_off12 k) (k0_off12_inb k) p l (rowHist (k0_off11 k) (k0_off11_inb k) p l (rowHist (k0_off10 k) (k0_off10_inb k) p l (rowHist (k0_off9 k) (k0_off9_inb k) p l (rowHist (k0_off8 k) (k0_off8_inb k) p l (rowHist (k0_off7 k) (k0_off7_inb k) p l (rowHist (k0_off6 k) (k0_off6_inb k) p l (rowHist (k0_off5 k) (k0_off5_inb k) p l (rowHist (k0_off4 k) (k0_off4_inb k) p l (rowHist (k0_off3 k) (k0_off3_inb k) p l f)))))))))))))))

/-- The running label count after one trip. -/
def tripAcc (k : Fin k0_t2_loop.trips) (l : Vec F S16x512 .i32) (acc : IVec S16 32) : IVec S16 32 :=
  addi acc (addi (addi (addi (addi (k0_pay1 (F := F) (rowOf (k0_off3 k) (k0_off3_inb k) l)) (k0_pay1 (F := F) (rowOf (k0_off4 k) (k0_off4_inb k) l))) (addi (k0_pay1 (F := F) (rowOf (k0_off5 k) (k0_off5_inb k) l)) (k0_pay1 (F := F) (rowOf (k0_off6 k) (k0_off6_inb k) l)))) (addi (addi (k0_pay1 (F := F) (rowOf (k0_off7 k) (k0_off7_inb k) l)) (k0_pay1 (F := F) (rowOf (k0_off8 k) (k0_off8_inb k) l))) (addi (k0_pay1 (F := F) (rowOf (k0_off9 k) (k0_off9_inb k) l)) (k0_pay1 (F := F) (rowOf (k0_off10 k) (k0_off10_inb k) l))))) (addi (addi (addi (k0_pay1 (F := F) (rowOf (k0_off11 k) (k0_off11_inb k) l)) (k0_pay1 (F := F) (rowOf (k0_off12 k) (k0_off12_inb k) l))) (addi (k0_pay1 (F := F) (rowOf (k0_off13 k) (k0_off13_inb k) l)) (k0_pay1 (F := F) (rowOf (k0_off14 k) (k0_off14_inb k) l)))) (addi (addi (k0_pay1 (F := F) (rowOf (k0_off15 k) (k0_off15_inb k) l)) (k0_pay1 (F := F) (rowOf (k0_off16 k) (k0_off16_inb k) l))) (addi (k0_pay1 (F := F) (rowOf (k0_off17 k) (k0_off17_inb k) l)) (k0_pay1 (F := F) (rowOf (k0_off18 k) (k0_off18_inb k) l))))))

/-- `n` steps of a loop of `N` trips. -/
def iter {N : ℕ} {α : Type} (g : Fin N → α → α) (a : α) : ℕ → α
  | 0 => a
  | n + 1 => if h : n < N then g ⟨n, h⟩ (iter g a n) else iter g a n

theorem iter_succ {N : ℕ} {α : Type} (g : Fin N → α → α) (a : α) (k : Fin N) : iter g a (k.val + 1) = g k (iter g a k.val) := by
  show (if h : k.val < N then g ⟨k.val, h⟩ (iter g a k.val) else _) = _
  rw [dif_pos k.isLt]

/-- The histograms after a whole chunk, and the running label count. -/
def chunkHist (p : Vec F S16x512 .f32) (l : Vec F S16x512 .i32) (f : Vec F S65552 .i32) : Vec F S65552 .i32 :=
  iter (fun k f => tripHist k p l f) f k0_t2_loop.trips
def chunkAcc (l : Vec F S16x512 .i32) (acc : IVec S16 32) : IVec S16 32 :=
  iter (fun k a => tripAcc (F := F) k l a) acc k0_t2_loop.trips

/-- The merge: one trip's reads, and its sums of low and of high halves. -/
def binsOf (o : Fin 1 → Nat) (ho : ∀ a, o a + S16.size a ≤ S65552.size a) (f : Vec F S65552 .i32) : Vec F S16 .i32 :=
  fun x => f ((Rect.unit (s := S65552) o S16.size ho).emb x)

/-- The sum over the lanes of the low halves of sixteen bins. -/
def lowSum (o : BitVec 32 → Fin 1 → Nat) (ho : ∀ (l : Fin 16) (a : Fin 1), o (BitVec.ofNat 32 (4097 * l.val)) a + S16.size a ≤ S65552.size a)
    (f : Vec F S65552 .i32) : IVec S16 32 :=
  addi (addi (addi (addi (addi (addi (addi (addi (addi (addi (addi (addi (addi (addi (addi (addi (broadcast S16 0#32) (andi (binsOf (o 0#32) (ho 0) f) (broadcast S16 65535#32))) (andi (binsOf (o 4097#32) (ho 1) f) (broadcast S16 65535#32))) (andi (binsOf (o 8194#32) (ho 2) f) (broadcast S16 65535#32))) (andi (binsOf (o 12291#32) (ho 3) f) (broadcast S16 65535#32))) (andi (binsOf (o 16388#32) (ho 4) f) (broadcast S16 65535#32))) (andi (binsOf (o 20485#32) (ho 5) f) (broadcast S16 65535#32))) (andi (binsOf (o 24582#32) (ho 6) f) (broadcast S16 65535#32))) (andi (binsOf (o 28679#32) (ho 7) f) (broadcast S16 65535#32))) (andi (binsOf (o 32776#32) (ho 8) f) (broadcast S16 65535#32))) (andi (binsOf (o 36873#32) (ho 9) f) (broadcast S16 65535#32))) (andi (binsOf (o 40970#32) (ho 10) f) (broadcast S16 65535#32))) (andi (binsOf (o 45067#32) (ho 11) f) (broadcast S16 65535#32))) (andi (binsOf (o 49164#32) (ho 12) f) (broadcast S16 65535#32))) (andi (binsOf (o 53261#32) (ho 13) f) (broadcast S16 65535#32))) (andi (binsOf (o 57358#32) (ho 14) f) (broadcast S16 65535#32))) (andi (binsOf (o 61455#32) (ho 15) f) (broadcast S16 65535#32))

/-- The sum over the lanes of the high halves of sixteen bins. -/
def highSum (o : BitVec 32 → Fin 1 → Nat) (ho : ∀ (l : Fin 16) (a : Fin 1), o (BitVec.ofNat 32 (4097 * l.val)) a + S16.size a ≤ S65552.size a)
    (f : Vec F S65552 .i32) : IVec S16 32 :=
  addi (addi (addi (addi (addi (addi (addi (addi (addi (addi (addi (addi (addi (addi (addi (addi (broadcast S16 0#32) (shrsi (binsOf (o 0#32) (ho 0) f) (broadcast S16 16#32))) (shrsi (binsOf (o 4097#32) (ho 1) f) (broadcast S16 16#32))) (shrsi (binsOf (o 8194#32) (ho 2) f) (broadcast S16 16#32))) (shrsi (binsOf (o 12291#32) (ho 3) f) (broadcast S16 16#32))) (shrsi (binsOf (o 16388#32) (ho 4) f) (broadcast S16 16#32))) (shrsi (binsOf (o 20485#32) (ho 5) f) (broadcast S16 16#32))) (shrsi (binsOf (o 24582#32) (ho 6) f) (broadcast S16 16#32))) (shrsi (binsOf (o 28679#32) (ho 7) f) (broadcast S16 16#32))) (shrsi (binsOf (o 32776#32) (ho 8) f) (broadcast S16 16#32))) (shrsi (binsOf (o 36873#32) (ho 9) f) (broadcast S16 16#32))) (shrsi (binsOf (o 40970#32) (ho 10) f) (broadcast S16 16#32))) (shrsi (binsOf (o 45067#32) (ho 11) f) (broadcast S16 16#32))) (shrsi (binsOf (o 49164#32) (ho 12) f) (broadcast S16 16#32))) (shrsi (binsOf (o 53261#32) (ho 13) f) (broadcast S16 16#32))) (shrsi (binsOf (o 57358#32) (ho 14) f) (broadcast S16 16#32))) (shrsi (binsOf (o 61455#32) (ho 15) f) (broadcast S16 16#32))

/-- A row of sixteen put into a buffer of 32 × 128. -/
def putRow (w : Fin 2 → Nat) (hw : ∀ a, w a + S1x16.size a ≤ S32x128.size a) (v : IVec S16 32) (g : Vec F S32x128 .i32) : Vec F S32x128 .i32 :=
  ((Memref.whole cc0_scratch5).access (Rect.unit (s := S32x128) w S1x16.size hw)).write (Elt F) g (shapeCast S1x16 v shapeCasts_S16_S1x16) Finset.univ

/-- Sixteen words of the histograms cleared. -/
def zeroTrip (k : Fin k0_t1_loop.trips) (f : Vec F S65552 .i32) : Vec F S65552 .i32 :=
  ((Memref.whole cc0_scratch0).access (Rect.unit (s := S65552) (k0_off1 k) S16.size (k0_off1_inb k))).write (Elt F) f (broadcast S16 0#32 : IVec S16 32) Finset.univ

end Proof.K
-- ==== Proof.Common.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Loops
public import proofs.«01_k».proof.Proof.Sem

/-! The program as the launch theorem sees it, the resource algebra, the subcore's buffers. -/

@[expose] public section

noncomputable section

namespace Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library; the transfers' counters are found by instance in the right factor. -/
abbrev EH : Emb UH (MT nD τ sig (HIx 1) (Elt F) ℕ UU ℕ) := embL
/-- The TensorCore pipeline's rounds library: in the middle. -/
abbrev EP : Emb UP (MT nD τ sig (HIx 1) (Elt F) ℕ UU ℕ) := (Emb.inl : Emb UP (UP × Counters)).trans embR

variable [FloatOps F]

abbrev aP : Memref sig .scVector .hbm S16x512x512 .f32 := Memref.whole main_arg0_scv
abbrev aL : Memref sig .scVector .hbm S16x512x512 .i32 := Memref.whole main_arg1_scv
abbrev oN : Memref sig .scVector .hbm S32x32x128 .i32 := Memref.whole main_v0_0_scv
abbrev oQ : Memref sig .scVector .hbm S32x32x128 .i32 := Memref.whole main_v0_1_scv
abbrev oA : Memref sig .scVector .hbm S32x16 .i32 := Memref.whole main_v0_2_scv
abbrev sH : Memref sig .scVector .vmem S65552 .i32 := Memref.whole cc0_scratch0
abbrev sP0 : Memref sig .scVector .vmem S16x512 .f32 := Memref.whole cc0_scratch1
abbrev sL0 : Memref sig .scVector .vmem S16x512 .i32 := Memref.whole cc0_scratch2
abbrev sP1 : Memref sig .scVector .vmem S16x512 .f32 := Memref.whole cc0_scratch3
abbrev sL1 : Memref sig .scVector .vmem S16x512 .i32 := Memref.whole cc0_scratch4
abbrev sN : Memref sig .scVector .vmem S32x128 .i32 := Memref.whole cc0_scratch5
abbrev sQ : Memref sig .scVector .vmem S32x128 .i32 := Memref.whole cc0_scratch6
abbrev sA : Memref sig .scVector .vmem S16 .i32 := Memref.whole cc0_scratch7

/-- The subcore at grid place `L`, of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A buffer of the subcore held whole, at some contents. -/
abbrev pts (d : Dev nD) (L : grid0.Coords) {sp : Space} {s : Shape} {e : EltTy} (m : Memref sig .scVector sp s e) (f : Buf (Elt F) (m.view.loc (thr d L))) : sProp 𝕄 :=
  m.view.loc (thr d L) ↦{fullShare} f

end Proof.K
-- ==== Proof.Rows.lean ====
module

public import proofs.«01_k».proof.Proof.Common

/-! The loops of a subcore, run: each leaves the histograms, the buffers and the running count as `Sem` says. -/

@[expose] public section

set_option maxRecDepth 10000

noncomputable section

namespace Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (d : Dev nD) (L : grid0.Coords)

/-- What a chunk buffer holds, as a chunk. -/
abbrev rd {s : Shape} {sp : Space} {e : EltTy} (m : Memref sig .scVector sp s e) (f : Buf (Elt F) (m.view.loc (thr d L))) : Vec F s e := m.view.read (Elt F) f

theorem hist_back (f : Vec F S65552 .i32) (ix : IVec S16 32) (v : Vec F S16 .i32) (mask : IVec S16 1) (h : ∀ a x, ((![ix] : Fin 1 → IVec S16 32) a x).toNat < S65552.size a) :
    ((sH.access (.whole S65552)).loc (thr d L) ↦[(sH.access (.whole S65552)).set]{fullShare}
        ((sH.access (.whole S65552)).write (Elt F) f (storeIdx ((sH.access (.whole S65552)).read (Elt F) f) ![ix] v mask true h) Finset.univ) : sProp 𝕄)
      ⊢ pts d L sH (storeIdx (F := F) (e := .i32) f ![ix] v mask true h) := by
  rw [show (sH.access (.whole S65552)).set = Finset.univ from Memref.set_access_whole (cc0_scratch0 : Ref sig .scVector),
    show (sH.access (.whole S65552)).read (Elt F) f = f from Memref.read_access_whole (Elt F) (cc0_scratch0 : Ref sig .scVector) f,
    show ∀ w, (sH.access (.whole S65552)).write (Elt F) f w Finset.univ = w from fun w => Memref.write_access_whole_univ (Elt F) (cc0_scratch0 : Ref sig .scVector) f w]

theorem wp_row (pb : Memref sig .scVector .vmem S16x512 .f32) (lb : Memref sig .scVector .vmem S16x512 .i32)
    (fp : Buf (Elt F) (pb.view.loc (thr d L))) (fl : Buf (Elt F) (lb.view.loc (thr d L))) (f : Vec F S65552 .i32)
    (o : Fin 2 → Nat) (ho : ∀ a, o a + S1x16.size a ≤ S16x512.size a) {β : Type} {k : IVec S16 32 → TP F L β} {Q : β → sProp 𝕄} :
    iprop(pts d L sH f ∗ pts d L pb fp ∗ pts d L lb fl)
      ⊢ iprop((iprop(pts d L sH (rowHist o ho (rd d L pb fp) (rd d L lb fl) f) ∗ pts d L pb fp ∗ pts d L lb fl)
          -∗ wp frame (wpE (defs₀ (F := F)) 𝒱₀ (thr d L) none) Set.univ (k (k0_pay1 (F := F) (rowOf o ho (rd d L lb fl)))) Q)
        -∗ wp frame (wpE (defs₀ (F := F)) 𝒱₀ (thr d L) none) Set.univ (rowStep L sH pb lb k0_pay1634 o ho >>= k) Q) := by
  unfold rowStep
  simp only [Prog.lift, Prog.bind_op, Prog.bind_ret, Prog.pure_eq_ret, bind_assoc]
  iintro ⟨Hh, Hp, Hl⟩ HK
  iapply (wp_load 𝒱₀ (thr d L) none Set.univ (m := pb) (S := Finset.univ) (Finset.subset_univ _)) $$ Hp
  iintro Hp
  iapply (wp_load 𝒱₀ (thr d L) none Set.univ (m := lb) (S := Finset.univ) (Finset.subset_univ _)) $$ Hl
  iintro Hl
  rw [wp_assume_of _ _ _ _ (chk _ _)]
  ihave Hh' := (Entails.of_eq (show (pts d L sH f : sProp 𝕄)
      = ((sH.access (.whole S65552)).loc (thr d L) ↦[(sH.access (.whole S65552)).set]{fullShare} f) from by
    rw [show (sH.access (.whole S65552)).set = Finset.univ from Memref.set_access_whole (cc0_scratch0 : Ref sig .scVector)])) $$ Hh
  iapply (SparseCore.wp_vectorStoreIdx 𝒱₀ (thr d L) none Set.univ (base := sH)) $$ Hh'
  iintro Hh
  iapply HK
  isplitl [Hh]
  · iapply (hist_back d L f (k0_pay5 k0_pay1634 (rowOf o ho (rd d L pb fp)) (rowOf o ho (rd d L lb fl))) (k0_pay4 (F := F) (rowOf o ho (rd d L lb fl)))
      (k0_pay3 (rowOf o ho (rd d L pb fp)) (rowOf o ho (rd d L lb fl))) (k0_idx1_inb _ (chk _ _)))
    iexact Hh
  isplitl [Hp] <;> iassumption

theorem wp_trip (pb : Memref sig .scVector .vmem S16x512 .f32) (lb : Memref sig .scVector .vmem S16x512 .i32)
    (fp : Buf (Elt F) (pb.view.loc (thr d L))) (fl : Buf (Elt F) (lb.view.loc (thr d L))) (f : Vec F S65552 .i32) (k : Fin k0_t2_loop.trips) (acc : IVec S16 32) :
    iprop(pts d L sH f ∗ pts d L pb fp ∗ pts d L lb fl)
      ⊢ wp frame (wpE (defs₀ (F := F)) 𝒱₀ (thr d L) none) Set.univ (chunkBody L sH pb lb k0_pay1634 k acc)
          fun a => iprop(⌜a = tripAcc (F := F) k (rd d L lb fl) acc⌝ ∗ pts d L sH (tripHist k (rd d L pb fp) (rd d L lb fl) f) ∗ pts d L pb fp ∗ pts d L lb fl) := by
  unfold chunkBody
  iintro H
  iapply (wp_row d L pb lb fp fl _ (k0_off3 k) (k0_off3_inb k)) $$ H; iintro H
  iapply (wp_row d L pb lb fp fl _ (k0_off4 k) (k0_off4_inb k)) $$ H; iintro H
  iapply (wp_row d L pb lb fp fl _ (k0_off5 k) (k0_off5_inb k)) $$ H; iintro H
  iapply (wp_row d L pb lb fp fl _ (k0_off6 k) (k0_off6_inb k)) $$ H; iintro H
  iapply (wp_row d L pb lb fp fl _ (k0_off7 k) (k0_off7_inb k)) $$ H; iintro H
  iapply (wp_row d L pb lb fp fl _ (k0_off8 k) (k0_off8_inb k)) $$ H; iintro H
  iapply (wp_row d L pb lb fp fl _ (k0_off9 k) (k0_off9_inb k)) $$ H; iintro H
  iapply (wp_row d L pb lb fp fl _ (k0_off10 k) (k0_off10_inb k)) $$ H; iintro H
  iapply (wp_row d L pb lb fp fl _ (k0_off11 k) (k0_off11_inb k)) $$ H; iintro H
  iapply (wp_row d L pb lb fp fl _ (k0_off12 k) (k0_off12_inb k)) $$ H; iintro H
  iapply (wp_row d L pb lb fp fl _ (k0_off13 k) (k0_off13_inb k)) $$ H; iintro H
  iapply (wp_row d L pb lb fp fl _ (k0_off14 k) (k0_off14_inb k)) $$ H; iintro H
  iapply (wp_row d L pb lb fp fl _ (k0_off15 k) (k0_off15_inb k)) $$ H; iintro H
  iapply (wp_row d L pb lb fp fl _ (k0_off16 k) (k0_off16_inb k)) $$ H; iintro H
  iapply (wp_row d L pb lb fp fl _ (k0_off17 k) (k0_off17_inb k)) $$ H; iintro H
  iapply (wp_row d L pb lb fp fl _ (k0_off18 k) (k0_off18_inb k)) $$ H; iintro H
  rw [wp_pure]; imodintro
  isplitr
  · ipureintro; rfl
  · iexact H

theorem wp_chunk (pb : Memref sig .scVector .vmem S16x512 .f32) (lb : Memref sig .scVector .vmem S16x512 .i32)
    (fp : Buf (Elt F) (pb.view.loc (thr d L))) (fl : Buf (Elt F) (lb.view.loc (thr d L))) (f : Vec F S65552 .i32) (acc : IVec S16 32)
    {β : Type} {kk : IVec S16 32 → TP F L β} {Q : β → sProp 𝕄} :
    iprop(pts d L sH f ∗ pts d L pb fp ∗ pts d L lb fl)
      ⊢ iprop((iprop(pts d L sH (chunkHist (rd d L pb fp) (rd d L lb fl) f) ∗ pts d L pb fp ∗ pts d L lb fl)
          -∗ wp frame (wpE (defs₀ (F := F)) 𝒱₀ (thr d L) none) Set.univ (kk (chunkAcc (F := F) (rd d L lb fl) acc)) Q)
        -∗ wp frame (wpE (defs₀ (F := F)) 𝒱₀ (thr d L) none) Set.univ (Scf.Loop.for k0_t2_loop k0_t2_ok acc (chunkBody L sH pb lb k0_pay1634) >>= kk) Q) := by
  have h := Scf.wp_for_bind frame (wpE (defs₀ (F := F)) 𝒱₀ (thr d L) none) Set.univ _ _ _ k0_t2_ok acc (chunkBody L sH pb lb k0_pay1634)
    (fun n a => iprop(⌜a = iter (fun k a => tripAcc (F := F) k (rd d L lb fl) a) acc n⌝
      ∗ pts d L sH (iter (fun k f => tripHist k (rd d L pb fp) (rd d L lb fl) f) f n) ∗ pts d L pb fp ∗ pts d L lb fl))
    (fun k a => by
      rw [iter_succ, iter_succ]
      iintro ⟨%ha, H⟩
      subst ha
      iapply (wp_trip d L pb lb fp fl _ k _); iexact H) (kk := kk) (Q := Q)
  iintro H HK
  iapply h $$ [H]
  · isplitr
    · ipureintro; rfl
    · iexact H
  iintro %a ⟨%ha, H⟩
  subst ha
  iapply HK; iexact H

theorem wp_zero (f : Vec F S65552 .i32) {β : Type} {kk : Unit → TP F L β} {Q : β → sProp 𝕄} :
    pts d L sH f
      ⊢ iprop((pts d L sH (iter zeroTrip f k0_t1_loop.trips) -∗ wp frame (wpE (defs₀ (F := F)) 𝒱₀ (thr d L) none) Set.univ (kk ⟨⟩) Q)
        -∗ wp frame (wpE (defs₀ (F := F)) 𝒱₀ (thr d L) none) Set.univ (Scf.Loop.for k0_t1_loop k0_t1_ok ⟨⟩ (zeroBody L sH) >>= kk) Q) := by
  have h := Scf.wp_for_bind frame (wpE (defs₀ (F := F)) 𝒱₀ (thr d L) none) Set.univ _ _ _ k0_t1_ok ⟨⟩ (zeroBody L sH)
    (fun n _ => pts d L sH (iter zeroTrip f n))
    (fun k a => by
      rw [iter_succ]
      unfold zeroBody
      simp only [Prog.lift, Prog.bind_op, Prog.bind_ret, Prog.pure_eq_ret]
      iintro H
      iapply (wp_load 𝒱₀ (thr d L) none Set.univ (m := sH) (S := Finset.univ) (Finset.subset_univ _)) $$ H
      iintro H
      iapply (wp_store 𝒱₀ (thr d L) none Set.univ (m := sH) (r := Rect.unit (s := S65552) (k0_off1 k) S16.size (k0_off1_inb k)) (Mk := Finset.univ) (S := Finset.univ)
        (f := iter zeroTrip f k.val) (Finset.subset_univ _)) $$ [H]
      · iexact H
      iintro H
      rw [wp_ret]; imodintro
      iexact H) (kk := kk) (Q := Q)
  iintro H HK
  iapply h $$ [H]
  · iexact H
  iintro %a H
  iapply HK; iexact H

/-- One trip of the merge on the two buffers. -/
def mergeTrip (o : Fin k0_t18_loop.trips → BitVec 32 → Fin 1 → Nat)
    (ho : ∀ (k : Fin k0_t18_loop.trips) (l : Fin 16) (a : Fin 1), o k (BitVec.ofNat 32 (4097 * l.val)) a + S16.size a ≤ S65552.size a)
    (w : Fin k0_t18_loop.trips → Fin 2 → Nat) (hw : ∀ (k : Fin k0_t18_loop.trips) (a : Fin 2), w k a + S1x16.size a ≤ S32x128.size a)
    (f : Vec F S65552 .i32) (k : Fin k0_t18_loop.trips) (g : Vec F S32x128 .i32 × Vec F S32x128 .i32) : Vec F S32x128 .i32 × Vec F S32x128 .i32 :=
  (putRow (w k) (hw k) (lowSum (F := F) (o k) (ho k) f) g.1, putRow (w k) (hw k) (highSum (F := F) (o k) (ho k) f) g.2)

theorem wp_merge (o : Fin k0_t18_loop.trips → BitVec 32 → Fin 1 → Nat)
    (ho : ∀ (k : Fin k0_t18_loop.trips) (l : Fin 16) (a : Fin 1), o k (BitVec.ofNat 32 (4097 * l.val)) a + S16.size a ≤ S65552.size a)
    (w : Fin k0_t18_loop.trips → Fin 2 → Nat) (hw : ∀ (k : Fin k0_t18_loop.trips) (a : Fin 2), w k a + S1x16.size a ≤ S32x128.size a)
    (f : Vec F S65552 .i32) (g : Vec F S32x128 .i32 × Vec F S32x128 .i32) {β : Type} {kk : Unit → TP F L β} {Q : β → sProp 𝕄} :
    iprop(pts d L sH f ∗ pts d L sN g.1 ∗ pts d L sQ g.2)
      ⊢ iprop((iprop(pts d L sH f ∗ pts d L sN (iter (mergeTrip o ho w hw f) g k0_t18_loop.trips).1 ∗ pts d L sQ (iter (mergeTrip o ho w hw f) g k0_t18_loop.trips).2)
          -∗ wp frame (wpE (defs₀ (F := F)) 𝒱₀ (thr d L) none) Set.univ (kk ⟨⟩) Q)
        -∗ wp frame (wpE (defs₀ (F := F)) 𝒱₀ (thr d L) none) Set.univ (Scf.Loop.for k0_t18_loop k0_t18_ok ⟨⟩ (mergeBody L sH sN sQ o ho w hw) >>= kk) Q) := by
  have h := Scf.wp_for_bind frame (wpE (defs₀ (F := F)) 𝒱₀ (thr d L) none) Set.univ _ _ _ k0_t18_ok ⟨⟩ (mergeBody L sH sN sQ o ho w hw)
    (fun n _ => iprop(pts d L sH f ∗ pts d L sN (iter (mergeTrip o ho w hw f) g n).1 ∗ pts d L sQ (iter (mergeTrip o ho w hw f) g n).2))
    (fun k a => by
      rw [iter_succ]
      unfold mergeBody
      simp only [Prog.lift, Prog.bind_op, Prog.bind_ret, Prog.pure_eq_ret]
      iintro ⟨H, Hn, Hq⟩
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sH) (S := Finset.univ) (Finset.subset_univ _)) $$ H; iintro H
      iapply (wp_load 𝒱₀ (thr d L) none Set.univ (m := sN) (S := Finset.univ) (Finset.subset_univ _)) $$ Hn; iintro Hn
      iapply (wp_store 𝒱₀ (thr d L) none Set.univ (m := sN) (r := Rect.unit (s := S32x128) (w k) S1x16.size (hw k)) (Mk := Finset.univ) (S := Finset.univ)
        (f := (iter (mergeTrip o ho w hw f) g k.val).1) (Finset.subset_univ _)) $$ [Hn]
      · iexact Hn
      iintro Hn
      iapply (wp_load 𝒱₀ (thr d L) none Set.univ (m := sQ) (S := Finset.univ) (Finset.subset_univ _)) $$ Hq; iintro Hq
      iapply (wp_store 𝒱₀ (thr d L) none Set.univ (m := sQ) (r := Rect.unit (s := S32x128) (w k) S1x16.size (hw k)) (Mk := Finset.univ) (S := Finset.univ)
        (f := (iter (mergeTrip o ho w hw f) g k.val).2) (Finset.subset_univ _)) $$ [Hq]
      · iexact Hq
      iintro Hq
      rw [wp_ret]; imodintro
      isplitl [H]; · iexact H
      isplitl [Hn]
      · iexact Hn
      · iexact Hq) (kk := kk) (Q := Q)
  iintro H HK
  iapply h $$ [H]
  · iexact H
  iintro %a H
  iapply HK; iexact H

end Proof.K
-- ==== Proof.Chunks.lean ====
module

public import proofs.«01_k».proof.Proof.Rows

/-! A subcore's chunks: the copies of the next one started, the present one worked on, the copies waited for. -/

@[expose] public section

set_option maxRecDepth 10000

noncomputable section

namespace Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (d : Dev nD) (L : grid0.Coords)

variable (ps : Memref sig .scVector .hbm S16x512x512 .f32) (ls : Memref sig .scVector .hbm S16x512x512 .i32)
  (q : PosShare TreeShare) (A : Buf (Elt F) (ps.view.loc (thr d L))) (B : Buf (Elt F) (ls.view.loc (thr d L)))
  (O : CellTallies nD τ sig (HIx 1)) (W : Waits sig (HIx 1))

/-- A buffer which reads as `p`. -/
def Bf {sp : Space} {s : Shape} {e : EltTy} (m : Memref sig .scVector sp s e) (p : Vec F s e) : sProp 𝕄 :=
  iprop(∃ f : Buf (Elt F) (m.view.loc (thr d L)), ⌜m.view.read (Elt F) f = p⌝ ∗ (m.view.loc (thr d L) ↦{fullShare} f))

/-- What the subcore owes, with waits of its own beyond `W`. -/
def OW : sProp 𝕄 := iprop(∃ W', ⌜∀ p ∈ W', p ∈ W ∨ p.2 = none⌝ ∗ owes (thr d L) O W')

/-- The images shared, the evidence the waits are admissible, and what is owed. -/
def Im : sProp 𝕄 :=
  iprop(Transfers.MayWaits (thr d L) (none : HIx 1) O ∗ (ps.view.loc (thr d L) ↦{q} A) ∗ (ls.view.loc (thr d L) ↦{q} B) ∗ OW d L O W)

/-- Chunk `r` of the subcore's image, of the predictions and of the labels. -/
abbrev chP (r : Fin 16) : Vec F S16x512 .f32 := (chunkOf ps L r).view.read (Elt F) A
abbrev chL (r : Fin 16) : Vec F S16x512 .i32 := (chunkOf ls L r).view.read (Elt F) B

variable (pb : Memref sig .scVector .vmem S16x512 .f32) (hpb : pb.IsWhole) (lb : Memref sig .scVector .vmem S16x512 .i32) (hlb : lb.IsWhole) (sp sl : DmaSems sig S_)

omit [FloatOps F] in
theorem waits_insert {W W' : Waits sig (HIx 1)} {x : SemLoc sig} (h : ∀ p ∈ W', p ∈ W ∨ p.2 = none) :
    ∀ p ∈ insert (x, (default : HIx 1)) W', p ∈ W ∨ p.2 = none := by
  intro p hp
  rcases Finset.mem_insert.mp hp with rfl | hp
  · exact Or.inr rfl
  · exact h p hp

theorem wp_first (p : Vec F S16x512 .f32) (l : Vec F S16x512 .i32) (r : Fin 16) {β : Type} {kk : PUnit → TP F L β} {Q : β → sProp 𝕄} :
    iprop(Im d L ps ls q A B O W ∗ Bf d L pb p ∗ Bf d L lb l ∗ semVal (thr d L, SemLoc.dma sp.sem) 0 ∗ semVal (thr d L, SemLoc.dma sl.sem) 0)
      ⊢ iprop((iprop(Im d L ps ls q A B O W ∗ Bf d L pb (chP d L ps A r) ∗ Bf d L lb (chL d L ls B r) ∗ semVal (thr d L, SemLoc.dma sp.sem) 0 ∗ semVal (thr d L, SemLoc.dma sl.sem) 0)
            -∗ wp frame (wpE (defs₀ (F := F)) 𝒱₀ (thr d L) none) Set.univ (kk ⟨⟩) Q)
        -∗ wp frame (wpE (defs₀ (F := F)) 𝒱₀ (thr d L) none) Set.univ
          (start2 L ps ls pb hpb lb hlb sp sl r >>= fun _ => wait2 L ps ls pb hpb lb hlb sp sl r >>= kk) Q) := by
  unfold Im OW Bf start2 wait2 chunkOf
  simp only [Prog.lift, Prog.bind_op, Prog.bind_ret, Prog.pure_eq_ret, bind_assoc]
  iintro ⟨⟨#Hmw, HA, HB, %W', %hW', HO⟩, ⟨%fp, %hfp, Hp⟩, ⟨%fl, %hfl, Hl⟩, Hsp, Hsl⟩ HK
  sl_exec (disch := exact View.amount_pos _ _ (show 0 < S16x512.numel by decide))
  iapply HK
  isplitl [HA HB HO]
  · isplitl []
    · iexact Hmw
    isplitl [HA]
    · iexact HA
    isplitl [HB]
    · iexact HB
    iexists _
    isplitr
    rotate_left
    · iexact HO
    · ipureintro
      exact waits_insert (waits_insert hW')
  isplitl [Hp]
  · iexists _
    isplitr
    rotate_left
    · iexact Hp
    · ipureintro
      exact View.read_write_univ _ _
  isplitl [Hl]
  · iexists _
    isplitr
    rotate_left
    · iexact Hl
    · ipureintro
      exact View.read_write_univ _ _
  isplitl [Hsp]
  · iexact Hsp
  · iexact Hsl

variable (pb' : Memref sig .scVector .vmem S16x512 .f32) (hpb' : pb'.IsWhole) (lb' : Memref sig .scVector .vmem S16x512 .i32) (hlb' : lb'.IsWhole) (sp' sl' : DmaSems sig S_)

/-- One chunk's trips while the next chunk comes in. -/
theorem wp_step (f : Buf (Elt F) (sH.view.loc (thr d L))) (p : Vec F S16x512 .f32) (l : Vec F S16x512 .i32) (p' : Vec F S16x512 .f32) (l' : Vec F S16x512 .i32)
    (r : Fin 16) (acc : Vec F S16 .i32) {β : Type} {kk : Vec F S16 .i32 → TP F L β} {Q : β → sProp 𝕄} :
    iprop(Im d L ps ls q A B O W ∗ pts d L sH f ∗ Bf d L pb p ∗ Bf d L lb l ∗ Bf d L pb' p' ∗ Bf d L lb' l'
        ∗ semVal (thr d L, SemLoc.dma sp'.sem) 0 ∗ semVal (thr d L, SemLoc.dma sl'.sem) 0)
      ⊢ iprop((iprop(Im d L ps ls q A B O W ∗ pts d L sH (chunkHist p l f) ∗ Bf d L pb p ∗ Bf d L lb l
              ∗ Bf d L pb' (chP d L ps A r) ∗ Bf d L lb' (chL d L ls B r)
              ∗ semVal (thr d L, SemLoc.dma sp'.sem) 0 ∗ semVal (thr d L, SemLoc.dma sl'.sem) 0)
            -∗ wp frame (wpE (defs₀ (F := F)) 𝒱₀ (thr d L) none) Set.univ (kk (chunkAcc (F := F) l acc)) Q)
        -∗ wp frame (wpE (defs₀ (F := F)) 𝒱₀ (thr d L) none) Set.univ
          (stepOps L ps ls sH pb lb pb' hpb' lb' hlb' sp' sl' r acc >>= kk) Q) := by
  unfold Im OW Bf stepOps start2 wait2 chunkOf
  simp only [Prog.lift, Prog.bind_op, Prog.bind_ret, Prog.pure_eq_ret, bind_assoc]
  iintro ⟨⟨#Hmw, HA, HB, %W', %hW', HO⟩, Hf, ⟨%fp, %hfp, Hp⟩, ⟨%fl, %hfl, Hl⟩, ⟨%fp', %hfp', Hp'⟩, ⟨%fl', %hfl', Hl'⟩, Hsp, Hsl⟩ HK
  subst hfp hfl
  sl_exec (disch := exact View.amount_pos _ _ (show 0 < S16x512.numel by decide))
  iapply wp_chunk $$ [Hf Hp Hl]
  · isplitl [Hf]
    · iexact Hf
    isplitl [Hp]
    · iexact Hp
    · iexact Hl
  iintro ⟨Hf, Hp, Hl⟩
  sl_exec (disch := exact View.amount_pos _ _ (show 0 < S16x512.numel by decide))
  iapply HK
  isplitl [HA HB HO]
  · isplitl []
    · iexact Hmw
    isplitl [HA]
    · iexact HA
    isplitl [HB]
    · iexact HB
    iexists _
    isplitr
    rotate_left
    · iexact HO
    · ipureintro
      exact waits_insert (waits_insert hW')
  isplitl [Hf]
  · iexact Hf
  isplitl [Hp]
  · iexists _
    isplitr
    rotate_left
    · iexact Hp
    · ipureintro
      rfl
  isplitl [Hl]
  · iexists _
    isplitr
    rotate_left
    · iexact Hl
    · ipureintro
      rfl
  isplitl [Hp']
  · iexists _
    isplitr
    rotate_left
    · iexact Hp'
    · ipureintro
      exact View.read_write_univ _ _
  isplitl [Hl']
  · iexists _
    isplitr
    rotate_left
    · iexact Hl'
    · ipureintro
      exact View.read_write_univ _ _
  isplitl [Hsp]
  · iexact Hsp
  · iexact Hsl

/-- A whole scratch copied out to a part of an array, and waited for. -/
theorem wp_out {sh : Shape} (hpos : 0 < sh.numel) (src : Memref sig .scVector .vmem sh .i32) (om : Memref sig .scVector .hbm sh .i32) (s : DmaSems sig S_)
    (h₁ : src.view.WordExact) (h₂ : om.view.WordExact)
    (v : Vec F sh .i32) (g : Buf (Elt F) (om.view.loc (thr d L))) {β : Type} {kk : PUnit → TP F L β} {Q : β → sProp 𝕄} :
    iprop(Transfers.MayWaits (thr d L) (none : HIx 1) O ∗ OW d L O W ∗ Bf d L src v
        ∗ (om.view.loc (thr d L) ↦[om.view.set]{fullShare} g) ∗ semVal (thr d L, SemLoc.dma s.sem) 0)
      ⊢ iprop((iprop(OW d L O W ∗ Bf d L src v
              ∗ (om.view.loc (thr d L) ↦[om.view.set]{fullShare} om.view.write (Elt F) g v Finset.univ) ∗ semVal (thr d L, SemLoc.dma s.sem) 0)
            -∗ wp frame (wpE (defs₀ (F := F)) 𝒱₀ (thr d L) none) Set.univ (kk ⟨⟩) Q)
        -∗ wp frame (wpE (defs₀ (F := F)) 𝒱₀ (thr d L) none) Set.univ
          (Prog.lift (.enqueueDma src (.here om) (.dma s.sem) h₁ h₂ ⟨Or.inl rfl, trivial⟩) >>= fun _ : PUnit => Prog.lift (.waitDma2 s.sem src om h₁ h₂) >>= kk) Q) := by
  unfold OW Bf
  simp only [Prog.lift, Prog.bind_op, Prog.bind_ret, Prog.pure_eq_ret, bind_assoc]
  iintro ⟨#Hmw, ⟨%W', %hW', HO⟩, ⟨%fs, %hfs, Hs⟩, Hg, Hsem⟩ HK
  subst hfs
  sl_exec (disch := exact View.amount_pos _ _ hpos)
  iapply HK
  isplitl [HO]
  · iexists _
    isplitr
    rotate_left
    · iexact HO
    · ipureintro
      exact waits_insert hW'
  isplitl [Hs]
  · iexists _
    isplitr
    rotate_left
    · iexact Hs
    · ipureintro
      rfl
  isplitl [Hg]
  · rw [show ∀ w, om.view.writes (Elt F) g [⟨Rect.whole sh, w⟩] = om.view.write (Elt F) g w Finset.univ from fun w =>
      (View.write_univ_eq_writes_whole om.view g [] w).symm]
    iexact Hg
  · iexact Hsem

end Proof.K
-- ==== Proof.Vals.lean ====
module

public import proofs.«01_k».proof.Proof.Rows
public import Idealize.ShloMosaic.Lib.Writes
public import Idealize.ShloMosaic.Lib.ValueIdx
public import Idealize.ShloMosaic.Lib.ValueLayout
public import Idealize.ShloMosaic.Lib.Pipeline.ValueKit.Geometry

/-!
# What the loops of the subcore leave

The clearing loop leaves zeros, and each loop of the merge fills one row of 128 sums.
-/

@[expose] public section

noncomputable section

namespace Proof.K

open Cert.KernelIdeal Cert.KernelIdeal.Gen
open Idealize.ShloMosaic

variable {F : FTy → Type} [FloatOps F]

theorem iter_inv {N : ℕ} {α : Type} (g : Fin N → α → α) (a : α) (P : ℕ → α → Prop) (h0 : P 0 a)
    (hs : ∀ (k : Fin N) (b : α), P k.val b → P (k.val + 1) (g k b)) : ∀ n, n ≤ N → P n (iter g a n)
  | 0, _ => h0
  | n + 1, h => by
    have hn : n < N := h
    simp only [iter, hn, dif_pos]
    exact hs ⟨n, hn⟩ _ (iter_inv g a P h0 hs n (Nat.le_of_lt hn))

omit [FloatOps F] in
theorem zeroTrip_in (k : Fin k0_t1_loop.trips) (f : Vec F S65552 .i32) (y : S65552.Idx)
    (h : 16 * k.val ≤ (y 0).val ∧ (y 0).val < 16 * k.val + 16) : zeroTrip k f y = 0#32 := by
  have ho : k0_off1 k 0 = 16 * k.val := by rw [k0_off1_eq]; rfl
  let x : (Rect.unit (s := S65552) (k0_off1 k) S16.size (k0_off1_inb k)).shape.Idx := fun a => ⟨(y 0).val - 16 * k.val, by
    obtain rfl : a = 0 := Subsingleton.elim _ _
    show _ < 16
    omega⟩
  have hx : (Rect.unit (s := S65552) (k0_off1 k) S16.size (k0_off1_inb k)).emb x = y := by
    funext a
    obtain rfl : a = 0 := Subsingleton.elim _ _
    apply Fin.ext
    rw [ValueKit.rect_emb_unit_val, ho]
    show 16 * k.val + ((y 0).val - 16 * k.val) = _
    omega
  unfold zeroTrip
  have := View.write_emb_of_mem (Val := Elt F) (v := (Memref.whole (κ := .scVector) cc0_scratch0).access (Rect.unit (s := S65552) (k0_off1 k) S16.size (k0_off1_inb k))) f
    (broadcast S16 0#32 : IVec S16 32) (M := Finset.univ) (x := x) (Finset.mem_univ _)
  rw [show (((Memref.whole (κ := .scVector) cc0_scratch0).access (Rect.unit (s := S65552) (k0_off1 k) S16.size (k0_off1_inb k))).emb x) = y from hx] at this
  exact this

omit [FloatOps F] in
theorem zeroTrip_out (k : Fin k0_t1_loop.trips) (f : Vec F S65552 .i32) (y : S65552.Idx)
    (h : ¬ (16 * k.val ≤ (y 0).val ∧ (y 0).val < 16 * k.val + 16)) : zeroTrip k f y = f y := by
  have ho : k0_off1 k 0 = 16 * k.val := by rw [k0_off1_eq]; rfl
  unfold zeroTrip
  refine View.write_of_not_mem _ _ _ fun hy => h ?_
  obtain ⟨x, -, hx⟩ := Finset.mem_map.mp hy
  have hx' : (Rect.unit (s := S65552) (k0_off1 k) S16.size (k0_off1_inb k)).emb x = y := hx
  have h1 := congrArg Fin.val (congrFun hx' 0)
  rw [ValueKit.rect_emb_unit_val, ho] at h1
  have h2 : (x 0).val < 16 := (x 0).isLt
  omega

omit [FloatOps F] in
/-- The clearing loop leaves zeros. -/
theorem zero_all (f : Vec F S65552 .i32) : iter (fun k f => zeroTrip k f) f k0_t1_loop.trips = fun _ => 0#32 := by
  have h := iter_inv (fun k f => zeroTrip (F := F) k f) f (fun n b => ∀ y : S65552.Idx, (y 0).val < 16 * n → b y = 0#32)
    (fun y hy => absurd hy (by omega)) (fun k b hb y hy => by
      by_cases hi : 16 * k.val ≤ (y 0).val ∧ (y 0).val < 16 * k.val + 16
      · exact zeroTrip_in k b y hi
      · rw [zeroTrip_out k b y hi]
        exact hb y (by omega)) _ le_rfl
  funext y
  refine h y ?_
  have : (y 0).val < 65552 := (y 0).isLt
  show _ < 16 * 4097
  omega

/-- The word of lane `j`'s histogram for bin `b`. -/
def cellOf (j : Fin 16) (b : Fin 4096) : S65552.Idx := fun a => ⟨4097 * j.val + b.val, by
  obtain rfl : a = 0 := Subsingleton.elim _ _
  show _ < 65552
  omega⟩

/-- Bin `b` summed over the lanes: the low halves, and the high halves. -/
def lowAt (f : Vec F S65552 .i32) (b : Fin 4096) : BitVec 32 :=
  (List.finRange 16).foldl (fun a j => a + (f (cellOf j b) &&& 65535#32)) 0#32
def highAt (f : Vec F S65552 .i32) (b : Fin 4096) : BitVec 32 :=
  (List.finRange 16).foldl (fun a j => a + IntOp.shrsi .vector (f (cellOf j b)) 16#32) 0#32

/-- The bin of a place of the merged histograms. -/
def binAt (y : S32x128.Idx) : Fin 4096 := ⟨128 * (y 0).val + (y 1).val, by
  have h0 : (y 0).val < 32 := (y 0).isLt
  have h1 : (y 1).val < 128 := (y 1).isLt
  omega⟩

section merge

variable (o : Fin k0_t18_loop.trips → BitVec 32 → Fin 1 → Nat)
  (ho : ∀ (k : Fin k0_t18_loop.trips) (l : Fin 16) (a : Fin 1), o k (BitVec.ofNat 32 (4097 * l.val)) a + S16.size a ≤ S65552.size a)
  (w : Fin k0_t18_loop.trips → Fin 2 → Nat) (hw : ∀ (k : Fin k0_t18_loop.trips) (a : Fin 2), w k a + S1x16.size a ≤ S32x128.size a)
  (row : Fin 32)

omit [FloatOps F] in
theorem binsOf_eq (k : Fin k0_t18_loop.trips) (j : Fin 16) (n : BitVec 32) (hn : n = BitVec.ofNat 32 (4097 * j.val))
    (hin : ∀ a, o k n a + S16.size a ≤ S65552.size a)
    (hoe : ∀ (k : Fin k0_t18_loop.trips) (r : Fin 16), o k (BitVec.ofNat 32 (4097 * r.val)) = ![4097 * r.val + 16 * k.val + 128 * row.val])
    (f : Vec F S65552 .i32) (x : S16.Idx) (b : Fin 4096) (hb : b.val = 128 * row.val + 16 * k.val + (x 0).val) :
    binsOf (o k n) hin f x = f (cellOf j b) := by
  subst hn
  unfold binsOf
  congr 1
  funext a
  obtain rfl : a = 0 := Subsingleton.elim _ _
  apply Fin.ext
  refine (ValueKit.rect_emb_unit_val _ _ _ _ _).trans ?_
  rw [congrFun (hoe k j) 0]
  show 4097 * j.val + 16 * k.val + 128 * row.val + (x 0).val = 4097 * j.val + b.val
  omega

omit [FloatOps F] in
theorem lowSum_eq (k : Fin k0_t18_loop.trips)
    (hoe : ∀ (k : Fin k0_t18_loop.trips) (r : Fin 16), o k (BitVec.ofNat 32 (4097 * r.val)) = ![4097 * r.val + 16 * k.val + 128 * row.val])
    (f : Vec F S65552 .i32) (x : S16.Idx) (b : Fin 4096) (hb : b.val = 128 * row.val + 16 * k.val + (x 0).val) :
    lowSum (F := F) (o k) (ho k) f x = lowAt f b := by
  have h : ∀ (j : Fin 16) (n : BitVec 32) (hn : n = BitVec.ofNat 32 (4097 * j.val)) (hin : ∀ a, o k n a + S16.size a ≤ S65552.size a),
      binsOf (o k n) hin f x = f (cellOf j b) := fun j n hn hin => binsOf_eq o row k j n hn hin hoe f x b hb
  unfold lowSum lowAt
  simp only [addi, andi, broadcast, List.finRange, List.ofFn, Fin.foldr, Fin.foldr.loop, List.foldl]
  rw [h 0 0#32 rfl, h 1 4097#32 rfl, h 2 8194#32 rfl, h 3 12291#32 rfl, h 4 16388#32 rfl, h 5 20485#32 rfl, h 6 24582#32 rfl, h 7 28679#32 rfl, h 8 32776#32 rfl, h 9 36873#32 rfl, h 10 40970#32 rfl, h 11 45067#32 rfl, h 12 49164#32 rfl, h 13 53261#32 rfl, h 14 57358#32 rfl, h 15 61455#32 rfl]
  rfl

omit [FloatOps F] in
theorem highSum_eq (k : Fin k0_t18_loop.trips)
    (hoe : ∀ (k : Fin k0_t18_loop.trips) (r : Fin 16), o k (BitVec.ofNat 32 (4097 * r.val)) = ![4097 * r.val + 16 * k.val + 128 * row.val])
    (f : Vec F S65552 .i32) (x : S16.Idx) (b : Fin 4096) (hb : b.val = 128 * row.val + 16 * k.val + (x 0).val) :
    highSum (F := F) (o k) (ho k) f x = highAt f b := by
  have h : ∀ (j : Fin 16) (n : BitVec 32) (hn : n = BitVec.ofNat 32 (4097 * j.val)) (hin : ∀ a, o k n a + S16.size a ≤ S65552.size a),
      binsOf (o k n) hin f x = f (cellOf j b) := fun j n hn hin => binsOf_eq o row k j n hn hin hoe f x b hb
  unfold highSum highAt
  simp only [addi, shrsi, broadcast, List.finRange, List.ofFn, Fin.foldr, Fin.foldr.loop, List.foldl]
  rw [h 0 0#32 rfl, h 1 4097#32 rfl, h 2 8194#32 rfl, h 3 12291#32 rfl, h 4 16388#32 rfl, h 5 20485#32 rfl, h 6 24582#32 rfl, h 7 28679#32 rfl, h 8 32776#32 rfl, h 9 36873#32 rfl, h 10 40970#32 rfl, h 11 45067#32 rfl, h 12 49164#32 rfl, h 13 53261#32 rfl, h 14 57358#32 rfl, h 15 61455#32 rfl]
  rfl

omit [FloatOps F] in
theorem putRow_in (k : Fin k0_t18_loop.trips) (hwe : w k = ![row.val, 16 * k.val]) (v : IVec S16 32) (g : Vec F S32x128 .i32) (y : S32x128.Idx)
    (h : (y 0).val = row.val ∧ 16 * k.val ≤ (y 1).val ∧ (y 1).val < 16 * k.val + 16) (x : S16.Idx) (hx : (y 1).val = 16 * k.val + (x 0).val) :
    putRow (F := F) (w k) (hw k) v g y = v x := by
  let z : (Rect.unit (s := S32x128) (w k) S1x16.size (hw k)).shape.Idx := ValueIdx.ix2 (0 : Fin 1) (x 0)
  have hz : (Rect.unit (s := S32x128) (w k) S1x16.size (hw k)).emb z = y := by
    funext a
    apply Fin.ext
    refine (ValueKit.rect_emb_unit_val _ _ _ _ _).trans ?_
    rw [congrFun hwe a]
    fin_cases a
    · exact h.1.symm
    · exact hx.symm
  unfold putRow
  have := View.write_emb_of_mem (Val := Elt F) (v := (Memref.whole (κ := .scVector) cc0_scratch5).access (Rect.unit (s := S32x128) (w k) S1x16.size (hw k))) g
    (shapeCast S1x16 v shapeCasts_S16_S1x16) (M := Finset.univ) (x := z) (Finset.mem_univ _)
  rw [show (((Memref.whole (κ := .scVector) cc0_scratch5).access (Rect.unit (s := S32x128) (w k) S1x16.size (hw k))).emb z) = y from hz] at this
  refine this.trans ?_
  refine (cast_eq _ _).trans ?_
  refine (ValueIdx.shapeCast_a_1a_apply (a := 16) v shapeCasts_S16_S1x16 0 (x 0)).trans ?_
  congr 1
  funext a
  obtain rfl : a = 0 := Subsingleton.elim _ _
  rfl

omit [FloatOps F] in
theorem putRow_out (k : Fin k0_t18_loop.trips) (hwe : w k = ![row.val, 16 * k.val]) (v : IVec S16 32) (g : Vec F S32x128 .i32) (y : S32x128.Idx)
    (h : ¬ ((y 0).val = row.val ∧ 16 * k.val ≤ (y 1).val ∧ (y 1).val < 16 * k.val + 16)) :
    putRow (F := F) (w k) (hw k) v g y = g y := by
  unfold putRow
  refine View.write_of_not_mem _ _ _ fun hy => h ?_
  obtain ⟨x, -, hx⟩ := Finset.mem_map.mp hy
  have hx' : (Rect.unit (s := S32x128) (w k) S1x16.size (hw k)).emb x = y := hx
  have h0 := (ValueKit.rect_emb_unit_val _ _ _ _ _).symm.trans (congrArg Fin.val (congrFun hx' 0))
  have h1 := (ValueKit.rect_emb_unit_val _ _ _ _ _).symm.trans (congrArg Fin.val (congrFun hx' 1))
  rw [congrFun hwe 0] at h0
  rw [congrFun hwe 1] at h1
  have h2 : (x 0).val < 1 := (x 0).isLt
  have h3 : (x 1).val < 16 := (x 1).isLt
  change row.val + (x 0).val = _ at h0
  change 16 * k.val + (x 1).val = _ at h1
  omega

/-- What is in the merged histograms once the first `n` rows are there. -/
def Upto (f : Vec F S65552 .i32) (n : ℕ) (g : Vec F S32x128 .i32 × Vec F S32x128 .i32) : Prop :=
  ∀ y : S32x128.Idx, (y 0).val < n → g.1 y = lowAt f (binAt y) ∧ g.2 y = highAt f (binAt y)

omit [FloatOps F] in
/-- One loop of the merge fills row `row`. -/
theorem upto_succ (f : Vec F S65552 .i32)
    (hoe : ∀ (k : Fin k0_t18_loop.trips) (r : Fin 16), o k (BitVec.ofNat 32 (4097 * r.val)) = ![4097 * r.val + 16 * k.val + 128 * row.val])
    (hwe : ∀ k : Fin k0_t18_loop.trips, w k = ![row.val, 16 * k.val])
    (g : Vec F S32x128 .i32 × Vec F S32x128 .i32) (h : Upto f row.val g) :
    Upto f (row.val + 1) (iter (mergeTrip o ho w hw f) g k0_t18_loop.trips) := by
  have hI := iter_inv (mergeTrip o ho w hw f) g (fun n g' => ∀ y : S32x128.Idx, ((y 0).val < row.val ∨ (y 0).val = row.val ∧ (y 1).val < 16 * n) →
      g'.1 y = lowAt f (binAt y) ∧ g'.2 y = highAt f (binAt y))
    (fun y hy => h y (by omega)) (fun k b hb y hy => by
      by_cases hi : (y 0).val = row.val ∧ 16 * k.val ≤ (y 1).val ∧ (y 1).val < 16 * k.val + 16
      · let x : S16.Idx := fun a => ⟨(y 1).val - 16 * k.val, by
          obtain rfl : a = 0 := Subsingleton.elim _ _
          show _ < 16
          omega⟩
        have hx : (y 1).val = 16 * k.val + (x 0).val := by
          show _ = 16 * k.val + ((y 1).val - 16 * k.val)
          omega
        have hbin : (binAt y).val = 128 * row.val + 16 * k.val + (x 0).val := by
          show 128 * (y 0).val + (y 1).val = _
          omega
        unfold mergeTrip
        exact ⟨(putRow_in w hw row k (hwe k) _ _ y hi x hx).trans (lowSum_eq o ho row k hoe f x _ hbin),
          (putRow_in w hw row k (hwe k) _ _ y hi x hx).trans (highSum_eq o ho row k hoe f x _ hbin)⟩
      · unfold mergeTrip
        have hb' := hb y (by omega)
        exact ⟨(putRow_out w hw row k (hwe k) _ _ y hi).trans hb'.1, (putRow_out w hw row k (hwe k) _ _ y hi).trans hb'.2⟩) _ le_rfl
  intro y hy
  refine hI y ?_
  have : (y 1).val < 128 := (y 1).isLt
  by_cases h0 : (y 0).val < row.val
  · exact Or.inl h0
  · refine Or.inr ⟨by omega, ?_⟩
    show _ < 16 * 8
    omega

end merge

end Proof.K
-- ==== Proof.Tile.lean ====
module

public import proofs.«01_k».proof.Proof.Chunks
public import proofs.«01_k».proof.Proof.Vals

/-!
# The body of a subcore

The histograms cleared, sixteen chunks worked on, the lanes' histograms merged, and the three results copied out.
-/

@[expose] public section

noncomputable section

namespace Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (d : Dev nD) (L : grid0.Coords)

/-- The histograms and the running label count after the first `n` chunks. -/
def histN (pc : Fin 16 → Vec F S16x512 .f32) (lc : Fin 16 → Vec F S16x512 .i32) (n : ℕ) : Vec F S65552 .i32 :=
  iter (fun r f => chunkHist (pc r) (lc r) f) (fun _ => 0#32) n
def accN (lc : Fin 16 → Vec F S16x512 .i32) (n : ℕ) : IVec S16 32 :=
  iter (fun r a => chunkAcc (F := F) (lc r) a) k0_pay1635 n

theorem histN_succ (pc : Fin 16 → Vec F S16x512 .f32) (lc : Fin 16 → Vec F S16x512 .i32) (r : Fin 16) :
    chunkHist (pc r) (lc r) (histN pc lc r.val) = histN pc lc (r.val + 1) := (iter_succ _ _ r).symm
theorem accN_succ (lc : Fin 16 → Vec F S16x512 .i32) (r : Fin 16) :
    chunkAcc (F := F) (lc r) (accN lc r.val) = accN lc (r.val + 1) := (iter_succ _ _ r).symm

/-- The merged histograms: the low halves, and the high halves. -/
def lowOf (f : Vec F S65552 .i32) : Vec F S32x128 .i32 := fun y => lowAt f (binAt y)
def highOf (f : Vec F S65552 .i32) : Vec F S32x128 .i32 := fun y => highAt f (binAt y)

/-- The merged histograms with the first `n` rows there. -/
def Mg (f : Vec F S65552 .i32) (n : ℕ) : sProp 𝕄 :=
  iprop(∃ g : Vec F S32x128 .i32 × Vec F S32x128 .i32, ⌜Upto f n g⌝ ∗ pts d L sN g.1 ∗ pts d L sQ g.2)

theorem wp_mergeRow (row : Fin 32) (o : Fin k0_t18_loop.trips → BitVec 32 → Fin 1 → Nat)
    (ho : ∀ (k : Fin k0_t18_loop.trips) (l : Fin 16) (a : Fin 1), o k (BitVec.ofNat 32 (4097 * l.val)) a + S16.size a ≤ S65552.size a)
    (w : Fin k0_t18_loop.trips → Fin 2 → Nat) (hw : ∀ (k : Fin k0_t18_loop.trips) (a : Fin 2), w k a + S1x16.size a ≤ S32x128.size a)
    (hoe : ∀ (k : Fin k0_t18_loop.trips) (r : Fin 16), o k (BitVec.ofNat 32 (4097 * r.val)) = ![4097 * r.val + 16 * k.val + 128 * row.val])
    (hwe : ∀ k : Fin k0_t18_loop.trips, w k = ![row.val, 16 * k.val])
    (f : Vec F S65552 .i32) {β : Type} {kk : Unit → TP F L β} {Q : β → sProp 𝕄} :
    iprop(pts d L sH f ∗ Mg d L f row.val)
      ⊢ iprop((iprop(pts d L sH f ∗ Mg d L f (row.val + 1)) -∗ wp frame (wpE (defs₀ (F := F)) 𝒱₀ (thr d L) none) Set.univ (kk ⟨⟩) Q)
        -∗ wp frame (wpE (defs₀ (F := F)) 𝒱₀ (thr d L) none) Set.univ (Scf.Loop.for k0_t18_loop k0_t18_ok ⟨⟩ (mergeBody L sH sN sQ o ho w hw) >>= kk) Q) := by
  unfold Mg
  iintro ⟨Hf, %g, %hg, Hn, Hq⟩ HK
  iapply (wp_merge d L o ho w hw f g) $$ [Hf Hn Hq]
  · isplitl [Hf]
    · iexact Hf
    isplitl [Hn]
    · iexact Hn
    · iexact Hq
  iintro ⟨Hf, Hn, Hq⟩
  iapply HK
  isplitl [Hf]
  · iexact Hf
  iexists (iter (mergeTrip o ho w hw f) g k0_t18_loop.trips)
  isplitr
  · ipureintro
    exact upto_succ o ho w hw row f hoe hwe g hg
  isplitl [Hn]
  · iexact Hn
  · iexact Hq

theorem hoe_of {o : Fin k0_t18_loop.trips → BitVec 32 → Fin 1 → Nat} {c : ℕ} (row : Fin 32) (hc : c = 128 * row.val)
    (h : ∀ (k : Fin k0_t18_loop.trips) (r : Fin 16), o k (BitVec.ofNat 32 (4097 * r.val)) = ![4097 * r.val + 16 * k.val + c]) :
    ∀ (k : Fin k0_t18_loop.trips) (r : Fin 16), o k (BitVec.ofNat 32 (4097 * r.val)) = ![4097 * r.val + 16 * k.val + 128 * row.val] := hc ▸ h

/-- The subcore's rows of the three results. -/
abbrev rN (L : grid0.Coords) : Memref sig .scVector .hbm S32x128 .i32 :=
  (oN.slice (Rect.unit (s := S32x32x128) (k0_off323 L) S1x32x128.size (k0_off323_inb L)) (fun _ => rfl)).squeeze S32x128 squeezes_S1x32x128_S32x128
abbrev rQ (L : grid0.Coords) : Memref sig .scVector .hbm S32x128 .i32 :=
  (oQ.slice (Rect.unit (s := S32x32x128) (k0_off323 L) S1x32x128.size (k0_off323_inb L)) (fun _ => rfl)).squeeze S32x128 squeezes_S1x32x128_S32x128
abbrev rA (L : grid0.Coords) : Memref sig .scVector .hbm S16 .i32 :=
  (oA.slice (Rect.unit (s := S32x16) (k0_off324 L) S1x16.size (k0_off324_inb L)) (fun _ => rfl)).squeeze S16 squeezes_S1x16_S16

theorem store_sA (g : Vec F S16 .i32) (v : IVec S16 32) :
    (sA.access (Rect.unit (s := S16) ![0] S16.size inb_S16_S16_0)).write (Elt F) g v Finset.univ = v := by
  exact Memref.write_access_unit_zero_univ (Elt F) cc0_scratch7 (by decide) _ _ _

omit [FloatOps F] in
theorem bf_of {sp : Space} {s : Shape} {e : EltTy} (m : Memref sig .scVector sp s e) (f : Buf (Elt F) (m.view.loc (thr d L))) :
    (m.view.loc (thr d L) ↦{fullShare} f) ⊢ (Bf d L m (m.view.read (Elt F) f) : sProp 𝕄) := by
  unfold Bf
  iintro H
  iexists f
  isplitr
  · ipureintro
    rfl
  · iexact H

omit [FloatOps F] in
theorem bf_open {sp : Space} {s : Shape} {e : EltTy} (m : Memref sig .scVector sp s e) (p : Vec F s e) :
    (Bf d L m p : sProp 𝕄) ⊢ iprop(∃ f : Buf (Elt F) (m.view.loc (thr d L)), ⌜m.view.read (Elt F) f = p⌝ ∗ (m.view.loc (thr d L) ↦{fullShare} f)) := by
  unfold Bf
  exact BI.Entails.refl _

omit [FloatOps F] in
theorem bf_whole {b : Ref sig .scVector} (f : Buf (Elt F) ((Memref.whole b).view.loc (thr d L))) :
    ((Memref.whole b).view.loc (thr d L) ↦{fullShare} f) ⊢ (Bf d L (Memref.whole b) f : sProp 𝕄) :=
  have e : (Memref.whole b).view.read (Elt F) f = f := View.read_whole _ _
  e ▸ bf_of d L (Memref.whole b) f

/-- The label count put into its scratch. -/
theorem wp_put (g : Vec F S16 .i32) (v : IVec S16 32) {β : Type} {kk : PUnit → TP F L β} {Q : β → sProp 𝕄} :
    pts d L sA g
      ⊢ iprop((pts d L sA v -∗ wp frame (wpE (defs₀ (F := F)) 𝒱₀ (thr d L) none) Set.univ (kk ⟨⟩) Q)
        -∗ wp frame (wpE (defs₀ (F := F)) 𝒱₀ (thr d L) none) Set.univ
          (Prog.lift (.load sA (Rect.unit (s := S16) ![0] S16.size inb_S16_S16_0).toLoadRect (View.loadsAt_vmem h_S16)) >>= fun _x : Vec F S16 .i32 =>
            Prog.lift (.store sA (Rect.unit (s := S16) ![0] S16.size inb_S16_S16_0) v Finset.univ (View.stores_vmem_bits_univ h_S16 rfl) (.inl rfl)) >>= kk) Q) := by
  simp only [Prog.lift, Prog.bind_op, Prog.bind_ret, Prog.pure_eq_ret]
  iintro H HK
  iapply (wp_load 𝒱₀ (thr d L) none Set.univ (m := sA) (S := Finset.univ) (Finset.subset_univ _)) $$ H
  iintro H
  iapply (wp_store 𝒱₀ (thr d L) none Set.univ (m := sA) (r := Rect.unit (s := S16) ![0] S16.size inb_S16_S16_0) (Mk := Finset.univ) (S := Finset.univ)
    (f := g) (Finset.subset_univ _)) $$ [H]
  · iexact H
  rw [store_sA]
  iintro H
  iapply HK
  iexact H

variable (q : PosShare TreeShare) (A : Buf (Elt F) (aP.view.loc (thr d L))) (B : Buf (Elt F) (aL.view.loc (thr d L)))
  (O : CellTallies nD τ sig (HIx 1)) (W : Waits sig (HIx 1))

/-- The subcore's chunks, its histograms at the end, and its label count. -/
abbrev pcOf (r : Fin 16) : Vec F S16x512 .f32 := chP d L aP A r
abbrev lcOf (r : Fin 16) : Vec F S16x512 .i32 := chL d L aL B r
abbrev histOf : Vec F S65552 .i32 := histN (pcOf d L A) (lcOf d L B) 16

set_option maxHeartbeats 4000000 in
theorem wp_tile (f0 : Vec F S65552 .i32) (p0 p1 : Vec F S16x512 .f32) (l0 l1 : Vec F S16x512 .i32) (gn gq : Vec F S32x128 .i32) (ga : Vec F S16 .i32)
    (bn : Buf (Elt F) ((rN L).view.loc (thr d L))) (bq : Buf (Elt F) ((rQ L).view.loc (thr d L))) (ba : Buf (Elt F) ((rA L).view.loc (thr d L))) :
    iprop(Im d L aP aL q A B O W ∗ pts d L sH f0 ∗ Bf d L sP0 p0 ∗ Bf d L sL0 l0 ∗ Bf d L sP1 p1 ∗ Bf d L sL1 l1
        ∗ pts d L sN gn ∗ pts d L sQ gq ∗ pts d L sA ga
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scoped0.sem) 0 ∗ semVal (thr d L, SemLoc.dma cc0_scoped1.sem) 0 ∗ semVal (thr d L, SemLoc.dma cc0_scoped2.sem) 0
        ∗ ((rN L).view.loc (thr d L) ↦[(rN L).view.set]{fullShare} bn) ∗ ((rQ L).view.loc (thr d L) ↦[(rQ L).view.set]{fullShare} bq)
        ∗ ((rA L).view.loc (thr d L) ↦[(rA L).view.set]{fullShare} ba))
      ⊢ wp frame (wpE (defs₀ (F := F)) 𝒱₀ (thr d L) none) Set.univ
          (tileProg (F := F) L aP (Memref.isWhole_whole _) aL (Memref.isWhole_whole _) oN (Memref.isWhole_whole _) oQ (Memref.isWhole_whole _) oA (Memref.isWhole_whole _) sH (Memref.isWhole_whole _) sP0 (Memref.isWhole_whole _) sL0 (Memref.isWhole_whole _) sP1 (Memref.isWhole_whole _) sL1 (Memref.isWhole_whole _) sN (Memref.isWhole_whole _) sQ (Memref.isWhole_whole _) sA (Memref.isWhole_whole _) cc0_scratch8 cc0_scratch9 cc0_scratch10 cc0_scratch11 cc0_scoped0 cc0_scoped1 cc0_scoped2)
          fun _ => iprop(((aP.view.loc (thr d L) ↦{q} A) ∗ (aL.view.loc (thr d L) ↦{q} B)
            ∗ ((rN L).view.loc (thr d L) ↦[(rN L).view.set]{fullShare} (rN L).view.write (Elt F) bn (lowOf (histOf d L A B)) Finset.univ)
            ∗ ((rQ L).view.loc (thr d L) ↦[(rQ L).view.set]{fullShare} (rQ L).view.write (Elt F) bq (highOf (histOf d L A B)) Finset.univ)
            ∗ ((rA L).view.loc (thr d L) ↦[(rA L).view.set]{fullShare} (rA L).view.write (Elt F) ba (accN (F := F) (lcOf d L B) 16) Finset.univ))
            ∗ (∃ f, pts d L sH f) ∗ (∃ f, Bf d L sP0 f) ∗ (∃ f, Bf d L sL0 f) ∗ (∃ f, Bf d L sP1 f) ∗ (∃ f, Bf d L sL1 f)
            ∗ (∃ f, Bf d L sN f) ∗ (∃ f, Bf d L sQ f) ∗ (∃ f, Bf d L sA f)
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scoped0.sem) 0 ∗ semVal (thr d L, SemLoc.dma cc0_scoped1.sem) 0 ∗ semVal (thr d L, SemLoc.dma cc0_scoped2.sem) 0
            ∗ OW d L O W) := by
  unfold tileProg
  iintro ⟨HI, Hf, Hp0, Hl0, Hp1, Hl1, Hn, Hq, Ha, S0, S1, S2, S3, T0, T1, T2, Rn, Rq, Ra⟩
  iapply (wp_zero d L f0) $$ [Hf]
  · iexact Hf
  rw [zero_all]
  iintro Hf
  iapply (wp_first d L aP aL q A B O W sP0 (Memref.isWhole_whole _) sL0 (Memref.isWhole_whole _) cc0_scratch8 cc0_scratch9 p0 l0 0) $$ [HI Hp0 Hl0 S0 S1]
  · isplitl [HI]
    · iexact HI
    isplitl [Hp0]
    · iexact Hp0
    isplitl [Hl0]
    · iexact Hl0
    isplitl [S0]
    · iexact S0
    · iexact S1
  iintro ⟨HI, Hp0, Hl0, S0, S1⟩
  iapply (wp_step d L aP aL q A B O W sP0 sL0 sP1 (Memref.isWhole_whole _) sL1 (Memref.isWhole_whole _) cc0_scratch10 cc0_scratch11
    (histN (pcOf d L A) (lcOf d L B) 0) (pcOf d L A 0) (lcOf d L B 0) p1 l1 1 (accN (F := F) (lcOf d L B) 0)) $$ [HI Hf Hp0 Hl0 Hp1 Hl1 S2 S3]
  · isplitl [HI]
    · iexact HI
    isplitl [Hf]
    · iexact Hf
    isplitl [Hp0]
    · iexact Hp0
    isplitl [Hl0]
    · iexact Hl0
    isplitl [Hp1]
    · iexact Hp1
    isplitl [Hl1]
    · iexact Hl1
    isplitl [S2]
    · iexact S2
    · iexact S3
  rw [show chunkHist (pcOf d L A 0) (lcOf d L B 0) (histN (pcOf d L A) (lcOf d L B) 0) = histN (pcOf d L A) (lcOf d L B) 1 from histN_succ _ _ 0,
    show chunkAcc (F := F) (lcOf d L B 0) (accN (F := F) (lcOf d L B) 0) = accN (F := F) (lcOf d L B) 1 from accN_succ _ 0]
  iintro ⟨HI, Hf, Hp0, Hl0, Hp1, Hl1, S2, S3⟩
  iapply (wp_step d L aP aL q A B O W sP1 sL1 sP0 (Memref.isWhole_whole _) sL0 (Memref.isWhole_whole _) cc0_scratch8 cc0_scratch9
    (histN (pcOf d L A) (lcOf d L B) 1) (pcOf d L A 1) (lcOf d L B 1) (pcOf d L A 0) (lcOf d L B 0) 2 (accN (F := F) (lcOf d L B) 1)) $$ [HI Hf Hp1 Hl1 Hp0 Hl0 S0 S1]
  · isplitl [HI]
    · iexact HI
    isplitl [Hf]
    · iexact Hf
    isplitl [Hp1]
    · iexact Hp1
    isplitl [Hl1]
    · iexact Hl1
    isplitl [Hp0]
    · iexact Hp0
    isplitl [Hl0]
    · iexact Hl0
    isplitl [S0]
    · iexact S0
    · iexact S1
  rw [show chunkHist (pcOf d L A 1) (lcOf d L B 1) (histN (pcOf d L A) (lcOf d L B) 1) = histN (pcOf d L A) (lcOf d L B) 2 from histN_succ _ _ 1,
    show chunkAcc (F := F) (lcOf d L B 1) (accN (F := F) (lcOf d L B) 1) = accN (F := F) (lcOf d L B) 2 from accN_succ _ 1]
  iintro ⟨HI, Hf, Hp1, Hl1, Hp0, Hl0, S0, S1⟩
  iapply (wp_step d L aP aL q A B O W sP0 sL0 sP1 (Memref.isWhole_whole _) sL1 (Memref.isWhole_whole _) cc0_scratch10 cc0_scratch11
    (histN (pcOf d L A) (lcOf d L B) 2) (pcOf d L A 2) (lcOf d L B 2) (pcOf d L A 1) (lcOf d L B 1) 3 (accN (F := F) (lcOf d L B) 2)) $$ [HI Hf Hp0 Hl0 Hp1 Hl1 S2 S3]
  · isplitl [HI]
    · iexact HI
    isplitl [Hf]
    · iexact Hf
    isplitl [Hp0]
    · iexact Hp0
    isplitl [Hl0]
    · iexact Hl0
    isplitl [Hp1]
    · iexact Hp1
    isplitl [Hl1]
    · iexact Hl1
    isplitl [S2]
    · iexact S2
    · iexact S3
  rw [show chunkHist (pcOf d L A 2) (lcOf d L B 2) (histN (pcOf d L A) (lcOf d L B) 2) = histN (pcOf d L A) (lcOf d L B) 3 from histN_succ _ _ 2,
    show chunkAcc (F := F) (lcOf d L B 2) (accN (F := F) (lcOf d L B) 2) = accN (F := F) (lcOf d L B) 3 from accN_succ _ 2]
  iintro ⟨HI, Hf, Hp0, Hl0, Hp1, Hl1, S2, S3⟩
  iapply (wp_step d L aP aL q A B O W sP1 sL1 sP0 (Memref.isWhole_whole _) sL0 (Memref.isWhole_whole _) cc0_scratch8 cc0_scratch9
    (histN (pcOf d L A) (lcOf d L B) 3) (pcOf d L A 3) (lcOf d L B 3) (pcOf d L A 2) (lcOf d L B 2) 4 (accN (F := F) (lcOf d L B) 3)) $$ [HI Hf Hp1 Hl1 Hp0 Hl0 S0 S1]
  · isplitl [HI]
    · iexact HI
    isplitl [Hf]
    · iexact Hf
    isplitl [Hp1]
    · iexact Hp1
    isplitl [Hl1]
    · iexact Hl1
    isplitl [Hp0]
    · iexact Hp0
    isplitl [Hl0]
    · iexact Hl0
    isplitl [S0]
    · iexact S0
    · iexact S1
  rw [show chunkHist (pcOf d L A 3) (lcOf d L B 3) (histN (pcOf d L A) (lcOf d L B) 3) = histN (pcOf d L A) (lcOf d L B) 4 from histN_succ _ _ 3,
    show chunkAcc (F := F) (lcOf d L B 3) (accN (F := F) (lcOf d L B) 3) = accN (F := F) (lcOf d L B) 4 from accN_succ _ 3]
  iintro ⟨HI, Hf, Hp1, Hl1, Hp0, Hl0, S0, S1⟩
  iapply (wp_step d L aP aL q A B O W sP0 sL0 sP1 (Memref.isWhole_whole _) sL1 (Memref.isWhole_whole _) cc0_scratch10 cc0_scratch11
    (histN (pcOf d L A) (lcOf d L B) 4) (pcOf d L A 4) (lcOf d L B 4) (pcOf d L A 3) (lcOf d L B 3) 5 (accN (F := F) (lcOf d L B) 4)) $$ [HI Hf Hp0 Hl0 Hp1 Hl1 S2 S3]
  · isplitl [HI]
    · iexact HI
    isplitl [Hf]
    · iexact Hf
    isplitl [Hp0]
    · iexact Hp0
    isplitl [Hl0]
    · iexact Hl0
    isplitl [Hp1]
    · iexact Hp1
    isplitl [Hl1]
    · iexact Hl1
    isplitl [S2]
    · iexact S2
    · iexact S3
  rw [show chunkHist (pcOf d L A 4) (lcOf d L B 4) (histN (pcOf d L A) (lcOf d L B) 4) = histN (pcOf d L A) (lcOf d L B) 5 from histN_succ _ _ 4,
    show chunkAcc (F := F) (lcOf d L B 4) (accN (F := F) (lcOf d L B) 4) = accN (F := F) (lcOf d L B) 5 from accN_succ _ 4]
  iintro ⟨HI, Hf, Hp0, Hl0, Hp1, Hl1, S2, S3⟩
  iapply (wp_step d L aP aL q A B O W sP1 sL1 sP0 (Memref.isWhole_whole _) sL0 (Memref.isWhole_whole _) cc0_scratch8 cc0_scratch9
    (histN (pcOf d L A) (lcOf d L B) 5) (pcOf d L A 5) (lcOf d L B 5) (pcOf d L A 4) (lcOf d L B 4) 6 (accN (F := F) (lcOf d L B) 5)) $$ [HI Hf Hp1 Hl1 Hp0 Hl0 S0 S1]
  · isplitl [HI]
    · iexact HI
    isplitl [Hf]
    · iexact Hf
    isplitl [Hp1]
    · iexact Hp1
    isplitl [Hl1]
    · iexact Hl1
    isplitl [Hp0]
    · iexact Hp0
    isplitl [Hl0]
    · iexact Hl0
    isplitl [S0]
    · iexact S0
    · iexact S1
  rw [show chunkHist (pcOf d L A 5) (lcOf d L B 5) (histN (pcOf d L A) (lcOf d L B) 5) = histN (pcOf d L A) (lcOf d L B) 6 from histN_succ _ _ 5,
    show chunkAcc (F := F) (lcOf d L B 5) (accN (F := F) (lcOf d L B) 5) = accN (F := F) (lcOf d L B) 6 from accN_succ _ 5]
  iintro ⟨HI, Hf, Hp1, Hl1, Hp0, Hl0, S0, S1⟩
  iapply (wp_step d L aP aL q A B O W sP0 sL0 sP1 (Memref.isWhole_whole _) sL1 (Memref.isWhole_whole _) cc0_scratch10 cc0_scratch11
    (histN (pcOf d L A) (lcOf d L B) 6) (pcOf d L A 6) (lcOf d L B 6) (pcOf d L A 5) (lcOf d L B 5) 7 (accN (F := F) (lcOf d L B) 6)) $$ [HI Hf Hp0 Hl0 Hp1 Hl1 S2 S3]
  · isplitl [HI]
    · iexact HI
    isplitl [Hf]
    · iexact Hf
    isplitl [Hp0]
    · iexact Hp0
    isplitl [Hl0]
    · iexact Hl0
    isplitl [Hp1]
    · iexact Hp1
    isplitl [Hl1]
    · iexact Hl1
    isplitl [S2]
    · iexact S2
    · iexact S3
  rw [show chunkHist (pcOf d L A 6) (lcOf d L B 6) (histN (pcOf d L A) (lcOf d L B) 6) = histN (pcOf d L A) (lcOf d L B) 7 from histN_succ _ _ 6,
    show chunkAcc (F := F) (lcOf d L B 6) (accN (F := F) (lcOf d L B) 6) = accN (F := F) (lcOf d L B) 7 from accN_succ _ 6]
  iintro ⟨HI, Hf, Hp0, Hl0, Hp1, Hl1, S2, S3⟩
  iapply (wp_step d L aP aL q A B O W sP1 sL1 sP0 (Memref.isWhole_whole _) sL0 (Memref.isWhole_whole _) cc0_scratch8 cc0_scratch9
    (histN (pcOf d L A) (lcOf d L B) 7) (pcOf d L A 7) (lcOf d L B 7) (pcOf d L A 6) (lcOf d L B 6) 8 (accN (F := F) (lcOf d L B) 7)) $$ [HI Hf Hp1 Hl1 Hp0 Hl0 S0 S1]
  · isplitl [HI]
    · iexact HI
    isplitl [Hf]
    · iexact Hf
    isplitl [Hp1]
    · iexact Hp1
    isplitl [Hl1]
    · iexact Hl1
    isplitl [Hp0]
    · iexact Hp0
    isplitl [Hl0]
    · iexact Hl0
    isplitl [S0]
    · iexact S0
    · iexact S1
  rw [show chunkHist (pcOf d L A 7) (lcOf d L B 7) (histN (pcOf d L A) (lcOf d L B) 7) = histN (pcOf d L A) (lcOf d L B) 8 from histN_succ _ _ 7,
    show chunkAcc (F := F) (lcOf d L B 7) (accN (F := F) (lcOf d L B) 7) = accN (F := F) (lcOf d L B) 8 from accN_succ _ 7]
  iintro ⟨HI, Hf, Hp1, Hl1, Hp0, Hl0, S0, S1⟩
  iapply (wp_step d L aP aL q A B O W sP0 sL0 sP1 (Memref.isWhole_whole _) sL1 (Memref.isWhole_whole _) cc0_scratch10 cc0_scratch11
    (histN (pcOf d L A) (lcOf d L B) 8) (pcOf d L A 8) (lcOf d L B 8) (pcOf d L A 7) (lcOf d L B 7) 9 (accN (F := F) (lcOf d L B) 8)) $$ [HI Hf Hp0 Hl0 Hp1 Hl1 S2 S3]
  · isplitl [HI]
    · iexact HI
    isplitl [Hf]
    · iexact Hf
    isplitl [Hp0]
    · iexact Hp0
    isplitl [Hl0]
    · iexact Hl0
    isplitl [Hp1]
    · iexact Hp1
    isplitl [Hl1]
    · iexact Hl1
    isplitl [S2]
    · iexact S2
    · iexact S3
  rw [show chunkHist (pcOf d L A 8) (lcOf d L B 8) (histN (pcOf d L A) (lcOf d L B) 8) = histN (pcOf d L A) (lcOf d L B) 9 from histN_succ _ _ 8,
    show chunkAcc (F := F) (lcOf d L B 8) (accN (F := F) (lcOf d L B) 8) = accN (F := F) (lcOf d L B) 9 from accN_succ _ 8]
  iintro ⟨HI, Hf, Hp0, Hl0, Hp1, Hl1, S2, S3⟩
  iapply (wp_step d L aP aL q A B O W sP1 sL1 sP0 (Memref.isWhole_whole _) sL0 (Memref.isWhole_whole _) cc0_scratch8 cc0_scratch9
    (histN (pcOf d L A) (lcOf d L B) 9) (pcOf d L A 9) (lcOf d L B 9) (pcOf d L A 8) (lcOf d L B 8) 10 (accN (F := F) (lcOf d L B) 9)) $$ [HI Hf Hp1 Hl1 Hp0 Hl0 S0 S1]
  · isplitl [HI]
    · iexact HI
    isplitl [Hf]
    · iexact Hf
    isplitl [Hp1]
    · iexact Hp1
    isplitl [Hl1]
    · iexact Hl1
    isplitl [Hp0]
    · iexact Hp0
    isplitl [Hl0]
    · iexact Hl0
    isplitl [S0]
    · iexact S0
    · iexact S1
  rw [show chunkHist (pcOf d L A 9) (lcOf d L B 9) (histN (pcOf d L A) (lcOf d L B) 9) = histN (pcOf d L A) (lcOf d L B) 10 from histN_succ _ _ 9,
    show chunkAcc (F := F) (lcOf d L B 9) (accN (F := F) (lcOf d L B) 9) = accN (F := F) (lcOf d L B) 10 from accN_succ _ 9]
  iintro ⟨HI, Hf, Hp1, Hl1, Hp0, Hl0, S0, S1⟩
  iapply (wp_step d L aP aL q A B O W sP0 sL0 sP1 (Memref.isWhole_whole _) sL1 (Memref.isWhole_whole _) cc0_scratch10 cc0_scratch11
    (histN (pcOf d L A) (lcOf d L B) 10) (pcOf d L A 10) (lcOf d L B 10) (pcOf d L A 9) (lcOf d L B 9) 11 (accN (F := F) (lcOf d L B) 10)) $$ [HI Hf Hp0 Hl0 Hp1 Hl1 S2 S3]
  · isplitl [HI]
    · iexact HI
    isplitl [Hf]
    · iexact Hf
    isplitl [Hp0]
    · iexact Hp0
    isplitl [Hl0]
    · iexact Hl0
    isplitl [Hp1]
    · iexact Hp1
    isplitl [Hl1]
    · iexact Hl1
    isplitl [S2]
    · iexact S2
    · iexact S3
  rw [show chunkHist (pcOf d L A 10) (lcOf d L B 10) (histN (pcOf d L A) (lcOf d L B) 10) = histN (pcOf d L A) (lcOf d L B) 11 from histN_succ _ _ 10,
    show chunkAcc (F := F) (lcOf d L B 10) (accN (F := F) (lcOf d L B) 10) = accN (F := F) (lcOf d L B) 11 from accN_succ _ 10]
  iintro ⟨HI, Hf, Hp0, Hl0, Hp1, Hl1, S2, S3⟩
  iapply (wp_step d L aP aL q A B O W sP1 sL1 sP0 (Memref.isWhole_whole _) sL0 (Memref.isWhole_whole _) cc0_scratch8 cc0_scratch9
    (histN (pcOf d L A) (lcOf d L B) 11) (pcOf d L A 11) (lcOf d L B 11) (pcOf d L A 10) (lcOf d L B 10) 12 (accN (F := F) (lcOf d L B) 11)) $$ [HI Hf Hp1 Hl1 Hp0 Hl0 S0 S1]
  · isplitl [HI]
    · iexact HI
    isplitl [Hf]
    · iexact Hf
    isplitl [Hp1]
    · iexact Hp1
    isplitl [Hl1]
    · iexact Hl1
    isplitl [Hp0]
    · iexact Hp0
    isplitl [Hl0]
    · iexact Hl0
    isplitl [S0]
    · iexact S0
    · iexact S1
  rw [show chunkHist (pcOf d L A 11) (lcOf d L B 11) (histN (pcOf d L A) (lcOf d L B) 11) = histN (pcOf d L A) (lcOf d L B) 12 from histN_succ _ _ 11,
    show chunkAcc (F := F) (lcOf d L B 11) (accN (F := F) (lcOf d L B) 11) = accN (F := F) (lcOf d L B) 12 from accN_succ _ 11]
  iintro ⟨HI, Hf, Hp1, Hl1, Hp0, Hl0, S0, S1⟩
  iapply (wp_step d L aP aL q A B O W sP0 sL0 sP1 (Memref.isWhole_whole _) sL1 (Memref.isWhole_whole _) cc0_scratch10 cc0_scratch11
    (histN (pcOf d L A) (lcOf d L B) 12) (pcOf d L A 12) (lcOf d L B 12) (pcOf d L A 11) (lcOf d L B 11) 13 (accN (F := F) (lcOf d L B) 12)) $$ [HI Hf Hp0 Hl0 Hp1 Hl1 S2 S3]
  · isplitl [HI]
    · iexact HI
    isplitl [Hf]
    · iexact Hf
    isplitl [Hp0]
    · iexact Hp0
    isplitl [Hl0]
    · iexact Hl0
    isplitl [Hp1]
    · iexact Hp1
    isplitl [Hl1]
    · iexact Hl1
    isplitl [S2]
    · iexact S2
    · iexact S3
  rw [show chunkHist (pcOf d L A 12) (lcOf d L B 12) (histN (pcOf d L A) (lcOf d L B) 12) = histN (pcOf d L A) (lcOf d L B) 13 from histN_succ _ _ 12,
    show chunkAcc (F := F) (lcOf d L B 12) (accN (F := F) (lcOf d L B) 12) = accN (F := F) (lcOf d L B) 13 from accN_succ _ 12]
  iintro ⟨HI, Hf, Hp0, Hl0, Hp1, Hl1, S2, S3⟩
  iapply (wp_step d L aP aL q A B O W sP1 sL1 sP0 (Memref.isWhole_whole _) sL0 (Memref.isWhole_whole _) cc0_scratch8 cc0_scratch9
    (histN (pcOf d L A) (lcOf d L B) 13) (pcOf d L A 13) (lcOf d L B 13) (pcOf d L A 12) (lcOf d L B 12) 14 (accN (F := F) (lcOf d L B) 13)) $$ [HI Hf Hp1 Hl1 Hp0 Hl0 S0 S1]
  · isplitl [HI]
    · iexact HI
    isplitl [Hf]
    · iexact Hf
    isplitl [Hp1]
    · iexact Hp1
    isplitl [Hl1]
    · iexact Hl1
    isplitl [Hp0]
    · iexact Hp0
    isplitl [Hl0]
    · iexact Hl0
    isplitl [S0]
    · iexact S0
    · iexact S1
  rw [show chunkHist (pcOf d L A 13) (lcOf d L B 13) (histN (pcOf d L A) (lcOf d L B) 13) = histN (pcOf d L A) (lcOf d L B) 14 from histN_succ _ _ 13,
    show chunkAcc (F := F) (lcOf d L B 13) (accN (F := F) (lcOf d L B) 13) = accN (F := F) (lcOf d L B) 14 from accN_succ _ 13]
  iintro ⟨HI, Hf, Hp1, Hl1, Hp0, Hl0, S0, S1⟩
  iapply (wp_step d L aP aL q A B O W sP0 sL0 sP1 (Memref.isWhole_whole _) sL1 (Memref.isWhole_whole _) cc0_scratch10 cc0_scratch11
    (histN (pcOf d L A) (lcOf d L B) 14) (pcOf d L A 14) (lcOf d L B 14) (pcOf d L A 13) (lcOf d L B 13) 15 (accN (F := F) (lcOf d L B) 14)) $$ [HI Hf Hp0 Hl0 Hp1 Hl1 S2 S3]
  · isplitl [HI]
    · iexact HI
    isplitl [Hf]
    · iexact Hf
    isplitl [Hp0]
    · iexact Hp0
    isplitl [Hl0]
    · iexact Hl0
    isplitl [Hp1]
    · iexact Hp1
    isplitl [Hl1]
    · iexact Hl1
    isplitl [S2]
    · iexact S2
    · iexact S3
  rw [show chunkHist (pcOf d L A 14) (lcOf d L B 14) (histN (pcOf d L A) (lcOf d L B) 14) = histN (pcOf d L A) (lcOf d L B) 15 from histN_succ _ _ 14,
    show chunkAcc (F := F) (lcOf d L B 14) (accN (F := F) (lcOf d L B) 14) = accN (F := F) (lcOf d L B) 15 from accN_succ _ 14]
  iintro ⟨HI, Hf, Hp0, Hl0, Hp1, Hl1, S2, S3⟩
  ihave Hp1 := (bf_open d L sP1 _) $$ Hp1
  ihave Hl1 := (bf_open d L sL1 _) $$ Hl1
  icases Hp1 with ⟨%fp, %hfp, Hp1⟩
  icases Hl1 with ⟨%fl, %hfl, Hl1⟩
  iapply (wp_chunk d L sP1 sL1 fp fl (histN (pcOf d L A) (lcOf d L B) 15) (accN (F := F) (lcOf d L B) 15)) $$ [Hf Hp1 Hl1]
  · isplitl [Hf]
    · iexact Hf
    isplitl [Hp1]
    · iexact Hp1
    · iexact Hl1
  rw [show rd d L sP1 fp = pcOf d L A 15 from hfp, show rd d L sL1 fl = lcOf d L B 15 from hfl,
    show chunkHist (pcOf d L A 15) (lcOf d L B 15) (histN (pcOf d L A) (lcOf d L B) 15) = histOf d L A B from histN_succ _ _ 15,
    show chunkAcc (F := F) (lcOf d L B 15) (accN (F := F) (lcOf d L B) 15) = accN (F := F) (lcOf d L B) 16 from accN_succ _ 15]
  iintro ⟨Hf, Hp1, Hl1⟩
  ihave Hm : Mg d L (histOf d L A B) 0 $$ [Hn Hq]
  · unfold Mg
    iexists (gn, gq)
    isplitr
    · ipureintro
      exact fun y hy => absurd hy (Nat.not_lt_zero _)
    isplitl [Hn]
    · iexact Hn
    · iexact Hq
  iapply (wp_mergeRow d L 0 k0_off259 k0_off259_inb k0_off260 k0_off260_inb (hoe_of 0 (c := 0) rfl k0_off259_eq) k0_off260_eq (histOf d L A B)) $$ [Hf Hm]
  · isplitl [Hf]
    · iexact Hf
    · iexact Hm
  iintro ⟨Hf, Hm⟩
  iapply (wp_mergeRow d L 1 k0_off261 k0_off261_inb k0_off262 k0_off262_inb (hoe_of 1 (c := 128) rfl k0_off261_eq) k0_off262_eq (histOf d L A B)) $$ [Hf Hm]
  · isplitl [Hf]
    · iexact Hf
    · iexact Hm
  iintro ⟨Hf, Hm⟩
  iapply (wp_mergeRow d L 2 k0_off263 k0_off263_inb k0_off264 k0_off264_inb (hoe_of 2 (c := 256) rfl k0_off263_eq) k0_off264_eq (histOf d L A B)) $$ [Hf Hm]
  · isplitl [Hf]
    · iexact Hf
    · iexact Hm
  iintro ⟨Hf, Hm⟩
  iapply (wp_mergeRow d L 3 k0_off265 k0_off265_inb k0_off266 k0_off266_inb (hoe_of 3 (c := 384) rfl k0_off265_eq) k0_off266_eq (histOf d L A B)) $$ [Hf Hm]
  · isplitl [Hf]
    · iexact Hf
    · iexact Hm
  iintro ⟨Hf, Hm⟩
  iapply (wp_mergeRow d L 4 k0_off267 k0_off267_inb k0_off268 k0_off268_inb (hoe_of 4 (c := 512) rfl k0_off267_eq) k0_off268_eq (histOf d L A B)) $$ [Hf Hm]
  · isplitl [Hf]
    · iexact Hf
    · iexact Hm
  iintro ⟨Hf, Hm⟩
  iapply (wp_mergeRow d L 5 k0_off269 k0_off269_inb k0_off270 k0_off270_inb (hoe_of 5 (c := 640) rfl k0_off269_eq) k0_off270_eq (histOf d L A B)) $$ [Hf Hm]
  · isplitl [Hf]
    · iexact Hf
    · iexact Hm
  iintro ⟨Hf, Hm⟩
  iapply (wp_mergeRow d L 6 k0_off271 k0_off271_inb k0_off272 k0_off272_inb (hoe_of 6 (c := 768) rfl k0_off271_eq) k0_off272_eq (histOf d L A B)) $$ [Hf Hm]
  · isplitl [Hf]
    · iexact Hf
    · iexact Hm
  iintro ⟨Hf, Hm⟩
  iapply (wp_mergeRow d L 7 k0_off273 k0_off273_inb k0_off274 k0_off274_inb (hoe_of 7 (c := 896) rfl k0_off273_eq) k0_off274_eq (histOf d L A B)) $$ [Hf Hm]
  · isplitl [Hf]
    · iexact Hf
    · iexact Hm
  iintro ⟨Hf, Hm⟩
  iapply (wp_mergeRow d L 8 k0_off275 k0_off275_inb k0_off276 k0_off276_inb (hoe_of 8 (c := 1024) rfl k0_off275_eq) k0_off276_eq (histOf d L A B)) $$ [Hf Hm]
  · isplitl [Hf]
    · iexact Hf
    · iexact Hm
  iintro ⟨Hf, Hm⟩
  iapply (wp_mergeRow d L 9 k0_off277 k0_off277_inb k0_off278 k0_off278_inb (hoe_of 9 (c := 1152) rfl k0_off277_eq) k0_off278_eq (histOf d L A B)) $$ [Hf Hm]
  · isplitl [Hf]
    · iexact Hf
    · iexact Hm
  iintro ⟨Hf, Hm⟩
  iapply (wp_mergeRow d L 10 k0_off279 k0_off279_inb k0_off280 k0_off280_inb (hoe_of 10 (c := 1280) rfl k0_off279_eq) k0_off280_eq (histOf d L A B)) $$ [Hf Hm]
  · isplitl [Hf]
    · iexact Hf
    · iexact Hm
  iintro ⟨Hf, Hm⟩
  iapply (wp_mergeRow d L 11 k0_off281 k0_off281_inb k0_off282 k0_off282_inb (hoe_of 11 (c := 1408) rfl k0_off281_eq) k0_off282_eq (histOf d L A B)) $$ [Hf Hm]
  · isplitl [Hf]
    · iexact Hf
    · iexact Hm
  iintro ⟨Hf, Hm⟩
  iapply (wp_mergeRow d L 12 k0_off283 k0_off283_inb k0_off284 k0_off284_inb (hoe_of 12 (c := 1536) rfl k0_off283_eq) k0_off284_eq (histOf d L A B)) $$ [Hf Hm]
  · isplitl [Hf]
    · iexact Hf
    · iexact Hm
  iintro ⟨Hf, Hm⟩
  iapply (wp_mergeRow d L 13 k0_off285 k0_off285_inb k0_off286 k0_off286_inb (hoe_of 13 (c := 1664) rfl k0_off285_eq) k0_off286_eq (histOf d L A B)) $$ [Hf Hm]
  · isplitl [Hf]
    · iexact Hf
    · iexact Hm
  iintro ⟨Hf, Hm⟩
  iapply (wp_mergeRow d L 14 k0_off287 k0_off287_inb k0_off288 k0_off288_inb (hoe_of 14 (c := 1792) rfl k0_off287_eq) k0_off288_eq (histOf d L A B)) $$ [Hf Hm]
  · isplitl [Hf]
    · iexact Hf
    · iexact Hm
  iintro ⟨Hf, Hm⟩
  iapply (wp_mergeRow d L 15 k0_off289 k0_off289_inb k0_off290 k0_off290_inb (hoe_of 15 (c := 1920) rfl k0_off289_eq) k0_off290_eq (histOf d L A B)) $$ [Hf Hm]
  · isplitl [Hf]
    · iexact Hf
    · iexact Hm
  iintro ⟨Hf, Hm⟩
  iapply (wp_mergeRow d L 16 k0_off291 k0_off291_inb k0_off292 k0_off292_inb (hoe_of 16 (c := 2048) rfl k0_off291_eq) k0_off292_eq (histOf d L A B)) $$ [Hf Hm]
  · isplitl [Hf]
    · iexact Hf
    · iexact Hm
  iintro ⟨Hf, Hm⟩
  iapply (wp_mergeRow d L 17 k0_off293 k0_off293_inb k0_off294 k0_off294_inb (hoe_of 17 (c := 2176) rfl k0_off293_eq) k0_off294_eq (histOf d L A B)) $$ [Hf Hm]
  · isplitl [Hf]
    · iexact Hf
    · iexact Hm
  iintro ⟨Hf, Hm⟩
  iapply (wp_mergeRow d L 18 k0_off295 k0_off295_inb k0_off296 k0_off296_inb (hoe_of 18 (c := 2304) rfl k0_off295_eq) k0_off296_eq (histOf d L A B)) $$ [Hf Hm]
  · isplitl [Hf]
    · iexact Hf
    · iexact Hm
  iintro ⟨Hf, Hm⟩
  iapply (wp_mergeRow d L 19 k0_off297 k0_off297_inb k0_off298 k0_off298_inb (hoe_of 19 (c := 2432) rfl k0_off297_eq) k0_off298_eq (histOf d L A B)) $$ [Hf Hm]
  · isplitl [Hf]
    · iexact Hf
    · iexact Hm
  iintro ⟨Hf, Hm⟩
  iapply (wp_mergeRow d L 20 k0_off299 k0_off299_inb k0_off300 k0_off300_inb (hoe_of 20 (c := 2560) rfl k0_off299_eq) k0_off300_eq (histOf d L A B)) $$ [Hf Hm]
  · isplitl [Hf]
    · iexact Hf
    · iexact Hm
  iintro ⟨Hf, Hm⟩
  iapply (wp_mergeRow d L 21 k0_off301 k0_off301_inb k0_off302 k0_off302_inb (hoe_of 21 (c := 2688) rfl k0_off301_eq) k0_off302_eq (histOf d L A B)) $$ [Hf Hm]
  · isplitl [Hf]
    · iexact Hf
    · iexact Hm
  iintro ⟨Hf, Hm⟩
  iapply (wp_mergeRow d L 22 k0_off303 k0_off303_inb k0_off304 k0_off304_inb (hoe_of 22 (c := 2816) rfl k0_off303_eq) k0_off304_eq (histOf d L A B)) $$ [Hf Hm]
  · isplitl [Hf]
    · iexact Hf
    · iexact Hm
  iintro ⟨Hf, Hm⟩
  iapply (wp_mergeRow d L 23 k0_off305 k0_off305_inb k0_off306 k0_off306_inb (hoe_of 23 (c := 2944) rfl k0_off305_eq) k0_off306_eq (histOf d L A B)) $$ [Hf Hm]
  · isplitl [Hf]
    · iexact Hf
    · iexact Hm
  iintro ⟨Hf, Hm⟩
  iapply (wp_mergeRow d L 24 k0_off307 k0_off307_inb k0_off308 k0_off308_inb (hoe_of 24 (c := 3072) rfl k0_off307_eq) k0_off308_eq (histOf d L A B)) $$ [Hf Hm]
  · isplitl [Hf]
    · iexact Hf
    · iexact Hm
  iintro ⟨Hf, Hm⟩
  iapply (wp_mergeRow d L 25 k0_off309 k0_off309_inb k0_off310 k0_off310_inb (hoe_of 25 (c := 3200) rfl k0_off309_eq) k0_off310_eq (histOf d L A B)) $$ [Hf Hm]
  · isplitl [Hf]
    · iexact Hf
    · iexact Hm
  iintro ⟨Hf, Hm⟩
  iapply (wp_mergeRow d L 26 k0_off311 k0_off311_inb k0_off312 k0_off312_inb (hoe_of 26 (c := 3328) rfl k0_off311_eq) k0_off312_eq (histOf d L A B)) $$ [Hf Hm]
  · isplitl [Hf]
    · iexact Hf
    · iexact Hm
  iintro ⟨Hf, Hm⟩
  iapply (wp_mergeRow d L 27 k0_off313 k0_off313_inb k0_off314 k0_off314_inb (hoe_of 27 (c := 3456) rfl k0_off313_eq) k0_off314_eq (histOf d L A B)) $$ [Hf Hm]
  · isplitl [Hf]
    · iexact Hf
    · iexact Hm
  iintro ⟨Hf, Hm⟩
  iapply (wp_mergeRow d L 28 k0_off315 k0_off315_inb k0_off316 k0_off316_inb (hoe_of 28 (c := 3584) rfl k0_off315_eq) k0_off316_eq (histOf d L A B)) $$ [Hf Hm]
  · isplitl [Hf]
    · iexact Hf
    · iexact Hm
  iintro ⟨Hf, Hm⟩
  iapply (wp_mergeRow d L 29 k0_off317 k0_off317_inb k0_off318 k0_off318_inb (hoe_of 29 (c := 3712) rfl k0_off317_eq) k0_off318_eq (histOf d L A B)) $$ [Hf Hm]
  · isplitl [Hf]
    · iexact Hf
    · iexact Hm
  iintro ⟨Hf, Hm⟩
  iapply (wp_mergeRow d L 30 k0_off319 k0_off319_inb k0_off320 k0_off320_inb (hoe_of 30 (c := 3840) rfl k0_off319_eq) k0_off320_eq (histOf d L A B)) $$ [Hf Hm]
  · isplitl [Hf]
    · iexact Hf
    · iexact Hm
  iintro ⟨Hf, Hm⟩
  iapply (wp_mergeRow d L 31 k0_off321 k0_off321_inb k0_off322 k0_off322_inb (hoe_of 31 (c := 3968) rfl k0_off321_eq) k0_off322_eq (histOf d L A B)) $$ [Hf Hm]
  · isplitl [Hf]
    · iexact Hf
    · iexact Hm
  iintro ⟨Hf, Hm⟩
  unfold Mg
  icases Hm with ⟨%g, %hg, Hn, Hq⟩
  obtain ⟨g1, g2⟩ := g
  obtain rfl : g1 = lowOf (histOf d L A B) := funext fun y => (hg y (y 0).isLt).1
  obtain rfl : g2 = highOf (histOf d L A B) := funext fun y => (hg y (y 0).isLt).2
  iapply (wp_put d L ga (accN (F := F) (lcOf d L B) 16)) $$ [Ha]
  · iexact Ha
  iintro Ha
  unfold Im
  icases HI with ⟨#Hmw, HA, HB, HO⟩
  iapply (wp_out d L O W (by decide) sN (rN L) cc0_scoped0 ((Memref.isWhole_whole _).wordExact) ((View.wordExact_bits rfl).reshape _ _) (lowOf (histOf d L A B)) bn) $$ [HO Hn Rn T0]
  · isplitl []
    · iexact Hmw
    isplitl [HO]
    · iexact HO
    isplitl [Hn]
    · iapply (bf_whole d L (lowOf (histOf d L A B)))
      iexact Hn
    isplitl [Rn]
    · iexact Rn
    · iexact T0
  iintro ⟨HO, Hn, Rn, T0⟩
  iapply (wp_out d L O W (by decide) sQ (rQ L) cc0_scoped1 ((Memref.isWhole_whole _).wordExact) ((View.wordExact_bits rfl).reshape _ _) (highOf (histOf d L A B)) bq) $$ [HO Hq Rq T1]
  · isplitl []
    · iexact Hmw
    isplitl [HO]
    · iexact HO
    isplitl [Hq]
    · iapply (bf_whole d L (highOf (histOf d L A B)))
      iexact Hq
    isplitl [Rq]
    · iexact Rq
    · iexact T1
  iintro ⟨HO, Hq, Rq, T1⟩
  iapply (wp_out d L O W (by decide) sA (rA L) cc0_scoped2 ((Memref.isWhole_whole _).wordExact) ((View.wordExact_bits rfl).reshape _ _) (accN (F := F) (lcOf d L B) 16) ba) $$ [HO Ha Ra T2]
  · isplitl []
    · iexact Hmw
    isplitl [HO]
    · iexact HO
    isplitl [Ha]
    · iapply (bf_whole d L (accN (F := F) (lcOf d L B) 16))
      iexact Ha
    isplitl [Ra]
    · iexact Ra
    · iexact T2
  iintro ⟨HO, Ha, Ra, T2⟩
  rw [Prog.pure_eq_ret, wp_ret]; imodintro
  isplitl [HA HB Rn Rq Ra]
  · isplitl [HA]
    · iexact HA
    isplitl [HB]
    · iexact HB
    isplitl [Rn]
    · iexact Rn
    isplitl [Rq]
    · iexact Rq
    · iexact Ra
  isplitl [Hf]
  · iexists _
    iexact Hf
  isplitl [Hp0]
  · iexists _
    iexact Hp0
  isplitl [Hl0]
  · iexists _
    iexact Hl0
  isplitl [Hp1]
  · iexists _
    iapply bf_of
    iexact Hp1
  isplitl [Hl1]
  · iexists _
    iapply bf_of
    iexact Hl1
  isplitl [Hn]
  · iexists _
    iexact Hn
  isplitl [Hq]
  · iexists _
    iexact Hq
  isplitl [Ha]
  · iexists _
    iexact Ha
  isplitl [S0]
  · iexact S0
  isplitl [S1]
  · iexact S1
  isplitl [S2]
  · iexact S2
  isplitl [S3]
  · iexact S3
  isplitl [T0]
  · iexact T0
  isplitl [T1]
  · iexact T1
  isplitl [T2]
  · iexact T2
  · iexact HO

end Proof.K
-- ==== Proof.Parts.lean ====
module

public import proofs.«01_k».proof.Proof.Tile
public import Idealize.ShloMosaic.Lib.ValueLayout

/-! The rows of the results a subcore writes: which places they are, and that the subcores' rows are the whole. -/

@[expose] public section

noncomputable section

namespace Proof.K

open Cert.KernelIdeal Cert.KernelIdeal.Gen
open Idealize.ShloMosaic
open Idealize.ShloMosaic.ValueIdx (ix1 ix2 ix3)

variable {F : FTy → Type}

/-- The number of the subcore at place `L`: two to each subcore index, one for each core. -/
def wid (L : grid0.Coords) : Fin 32 := ⟨2 * (L 1).val + (L 0).val, by
  have h0 : (L 0).val < 2 := (L 0).isLt
  have h1 : (L 1).val < 16 := (L 1).isLt
  omega⟩

/-- Places of the results, by their coordinates. -/
def j3 (w : Fin 32) (r : Fin 32) (k : Fin 128) : S32x32x128.Idx := ix3 w r k
def j2 (w : Fin 32) (k : Fin 16) : S32x16.Idx := ix2 w k
def i2 (r : Fin 32) (k : Fin 128) : S32x128.Idx := ix2 r k
def i1 (k : Fin 16) : S16.Idx := ix1 k

theorem j3_eta (x : S32x32x128.Idx) : j3 (x 0) (x 1) (x 2) = x := by
  funext a; match a with | 0 => rfl | 1 => rfl | 2 => rfl
theorem j2_eta (x : S32x16.Idx) : j2 (x 0) (x 1) = x := by
  funext a; match a with | 0 => rfl | 1 => rfl
theorem i2_eta (x : S32x128.Idx) : i2 (x 0) (x 1) = x := by
  funext a; match a with | 0 => rfl | 1 => rfl
theorem i1_eta (x : S16.Idx) : i1 (x 0) = x := by
  funext a; match a with | 0 => rfl

theorem emb_rN (L : grid0.Coords) (r : Fin 32) (k : Fin 128) : (rN L).view.emb (i2 r k) = j3 (wid L) r k := by
  have h : (rN L).view.emb (i2 r k)
      = (Rect.unit (s := S32x32x128) (k0_off323 L) S1x32x128.size (k0_off323_inb L)).emb (ix3 (⟨0, Nat.one_pos⟩ : Fin 1) r k) :=
    congrArg (Rect.unit (s := S32x32x128) (k0_off323 L) S1x32x128.size (k0_off323_inb L)).emb (ValueIdx.reshapeEquiv_ix2_1ab _ r k)
  rw [h]
  funext a
  apply Fin.ext
  refine (ValueKit.rect_emb_unit_val _ _ _ _ _).trans ?_
  rw [congrFun (k0_off323_eq L) a]
  match a with
  | 0 => rfl
  | 1 => show 0 + r.val = r.val; omega
  | 2 => show 0 + k.val = k.val; omega

theorem emb_rQ (L : grid0.Coords) (r : Fin 32) (k : Fin 128) : (rQ L).view.emb (i2 r k) = j3 (wid L) r k := emb_rN L r k

theorem emb_rA (L : grid0.Coords) (k : Fin 16) : (rA L).view.emb (i1 k) = j2 (wid L) k := by
  have e : ∀ h : S16.numel = S1x16.numel, Shape.reshapeEquiv h (i1 k) = (ix2 (⟨0, Nat.one_pos⟩ : Fin 1) k) :=
    fun h => Shape.reshapeEquiv_eq_of_rowMajor h (by
      unfold i1
      rw [Shape.rowMajor_val_two, Shape.rowMajor_val_one]
      show 0 * 16 + k.val = k.val
      omega)
  have h : (rA L).view.emb (i1 k)
      = (Rect.unit (s := S32x16) (k0_off324 L) S1x16.size (k0_off324_inb L)).emb (ix2 (⟨0, Nat.one_pos⟩ : Fin 1) k) :=
    congrArg (Rect.unit (s := S32x16) (k0_off324 L) S1x16.size (k0_off324_inb L)).emb (e _)
  rw [h]
  funext a
  apply Fin.ext
  refine (ValueKit.rect_emb_unit_val _ _ _ _ _).trans ?_
  rw [congrFun (k0_off324_eq L) a]
  match a with
  | 0 => rfl
  | 1 => show 0 + k.val = k.val; omega

/-- Row `w` of a histogram result, and of the label counts. -/
def rows3 (w : Fin 32) : Finset S32x32x128.Idx := Finset.univ.filter fun x => (x 0).val = w.val
def rows2 (w : Fin 32) : Finset S32x16.Idx := Finset.univ.filter fun x => (x 0).val = w.val

theorem mem_rows3 (w : Fin 32) (x : S32x32x128.Idx) : x ∈ rows3 w ↔ x 0 = w := by
  unfold rows3; rw [Finset.mem_filter]; exact ⟨fun h => Fin.ext h.2, fun h => ⟨Finset.mem_univ _, congrArg Fin.val h⟩⟩
theorem mem_rows2 (w : Fin 32) (x : S32x16.Idx) : x ∈ rows2 w ↔ x 0 = w := by
  unfold rows2; rw [Finset.mem_filter]; exact ⟨fun h => Fin.ext h.2, fun h => ⟨Finset.mem_univ _, congrArg Fin.val h⟩⟩

theorem set_rN (L : grid0.Coords) : (rN L).view.set = rows3 (wid L) := by
  ext x
  rw [mem_rows3]
  constructor
  · intro h
    obtain ⟨y, -, rfl⟩ := Finset.mem_map.mp h
    exact congrFun ((congrArg (rN L).view.emb (i2_eta y).symm).trans (emb_rN L (y 0) (y 1))) 0
  · intro h
    refine Finset.mem_map.mpr ⟨i2 (x 1) (x 2), Finset.mem_univ _, ?_⟩
    refine (emb_rN L (x 1) (x 2)).trans ?_
    rw [← h]
    exact j3_eta x
theorem set_rQ (L : grid0.Coords) : (rQ L).view.set = rows3 (wid L) := set_rN L
theorem set_rA (L : grid0.Coords) : (rA L).view.set = rows2 (wid L) := by
  ext x
  rw [mem_rows2]
  constructor
  · intro h
    obtain ⟨y, -, rfl⟩ := Finset.mem_map.mp h
    exact congrFun ((congrArg (rA L).view.emb (i1_eta y).symm).trans (emb_rA L (y 0))) 0
  · intro h
    refine Finset.mem_map.mpr ⟨i1 (x 1), Finset.mem_univ _, ?_⟩
    refine (emb_rA L (x 1)).trans ?_
    rw [← h]
    exact j2_eta x

theorem rows3_disjoint : ∀ i ∈ (Finset.univ : Finset (Fin 32)), ∀ j ∈ (Finset.univ : Finset (Fin 32)), i ≠ j → Disjoint (rows3 i) (rows3 j) :=
  fun i _ j _ h => Finset.disjoint_left.mpr fun x hx hy => h (((mem_rows3 i x).mp hx).symm.trans ((mem_rows3 j x).mp hy))
theorem rows2_disjoint : ∀ i ∈ (Finset.univ : Finset (Fin 32)), ∀ j ∈ (Finset.univ : Finset (Fin 32)), i ≠ j → Disjoint (rows2 i) (rows2 j) :=
  fun i _ j _ h => Finset.disjoint_left.mpr fun x hx hy => h (((mem_rows2 i x).mp hx).symm.trans ((mem_rows2 j x).mp hy))
theorem rows3_cover : (Finset.univ : Finset (Fin 32)).biUnion rows3 = Finset.univ :=
  Finset.eq_univ_iff_forall.mpr fun x => Finset.mem_biUnion.mpr ⟨x 0, Finset.mem_univ _, (mem_rows3 _ x).mpr rfl⟩
theorem rows2_cover : (Finset.univ : Finset (Fin 32)).biUnion rows2 = Finset.univ :=
  Finset.eq_univ_iff_forall.mpr fun x => Finset.mem_biUnion.mpr ⟨x 0, Finset.mem_univ _, (mem_rows2 _ x).mpr rfl⟩

/-- On the subcore's rows, what it wrote. -/
theorem write_rN (L : grid0.Coords) (b : Vec F S32x32x128 .i32) (v : Vec F S32x128 .i32) (x : S32x32x128.Idx) (hx : x ∈ rows3 (wid L)) :
    (rN L).view.write (Elt F) b v Finset.univ x = v (i2 (x 1) (x 2)) := by
  have h : (rN L).view.emb (i2 (x 1) (x 2)) = x := by
    refine (emb_rN L (x 1) (x 2)).trans ?_; rw [← (mem_rows3 _ x).mp hx]; exact j3_eta x
  have e := View.write_emb_of_mem (Val := Elt F) (v := (rN L).view) b v (M := Finset.univ) (x := i2 (x 1) (x 2)) (Finset.mem_univ _)
  rw [h] at e
  exact e
theorem write_rQ (L : grid0.Coords) (b : Vec F S32x32x128 .i32) (v : Vec F S32x128 .i32) (x : S32x32x128.Idx) (hx : x ∈ rows3 (wid L)) :
    (rQ L).view.write (Elt F) b v Finset.univ x = v (i2 (x 1) (x 2)) := by
  have h : (rQ L).view.emb (i2 (x 1) (x 2)) = x := by
    refine (emb_rQ L (x 1) (x 2)).trans ?_; rw [← (mem_rows3 _ x).mp hx]; exact j3_eta x
  have e := View.write_emb_of_mem (Val := Elt F) (v := (rQ L).view) b v (M := Finset.univ) (x := i2 (x 1) (x 2)) (Finset.mem_univ _)
  rw [h] at e
  exact e
theorem write_rA (L : grid0.Coords) (b : Vec F S32x16 .i32) (v : Vec F S16 .i32) (x : S32x16.Idx) (hx : x ∈ rows2 (wid L)) :
    (rA L).view.write (Elt F) b v Finset.univ x = v (i1 (x 1)) := by
  have h : (rA L).view.emb (i1 (x 1)) = x := by
    refine (emb_rA L (x 1)).trans ?_; rw [← (mem_rows2 _ x).mp hx]; exact j2_eta x
  have e := View.write_emb_of_mem (Val := Elt F) (v := (rA L).view) b v (M := Finset.univ) (x := i1 (x 1)) (Finset.mem_univ _)
  rw [h] at e
  exact e

end Proof.K

end
-- ==== Proof.Region.lean ====
module

public import proofs.«01_k».proof.Proof.Common
public import proofs.«01_k».proof.Proof.Gen.KernelIdeal.Launch
public import Idealize.ShloMosaic.Lib.Pipeline.RegionsLoop
public import Idealize.ShloMosaic.Lib.Pipeline.ValueKit.Geometry

/-! The TensorCore call: its body, its pipeline's proof data, and the region it is inside the program. -/

@[expose] public section

noncomputable section

namespace Proof.K

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig (HIx 1) (Elt F) ℕ UU ℕ

/-- What the TensorCore's body makes of the merged histograms and the label counts. -/
def finish (n q : Vec F S32x32x128 .i32) (a : Vec F S32x16 .i32) : Vec F S8x128 .f32 :=
  k1_pay1 (k1_pay6 (F := F) n) (k1_pay7 n q a) (Scalar.ofBits .f32 0x00000000#32)

abbrev ptc (c : Dev nD) {sp : Space} {s : Shape} {e : EltTy} (M : Memref sig .tc sp s e) (f : Buf (Elt F) (M.view.loc (c : Thread nD τ))) : sProp 𝕄 :=
  M.view.loc (c : Thread nD τ) ↦{fullShare} f

/-- The body, run. -/
theorem wp_finish (c : Dev nD) (n q : Vec F S32x32x128 .i32) (a : Vec F S32x16 .i32) (o : Vec F S8x128 .f32) (E : Set ℕ) (Q : PUnit → sProp 𝕄) :
    iprop(ptc c (stage1_0 0) n ∗ ptc c (stage1_1 0) q ∗ ptc c (stage1_2 0) a ∗ ptc c (stage1_3 0) o
        ∗ (iprop(ptc c (stage1_0 0) n ∗ ptc c (stage1_1 0) q ∗ ptc c (stage1_2 0) a ∗ ptc c (stage1_3 0) (finish n q a)) -∗ Q ⟨⟩))
      ⊢ wp frame (wpE (defs₀ (F := F)) 𝒱₀ (c : Thread nD τ) none) E
          (cc1__finish_tc (F := F) (stage1_0 0) (hstage1_0 0) (stage1_1 0) (hstage1_1 0) (stage1_2 0) (hstage1_2 0) (stage1_3 0) (hstage1_3 0)) Q := by
  rw [cc1__finish_tc_eq_skeleton, cc1__finish_tc_skel, k1_part1_eq_skeleton, k1_part1_skel]
  simp only [Prog.lift, Prog.bind_op, Prog.bind_ret, Prog.pure_eq_ret]
  have e0 : (stage1_0 0).view.readAt (Elt F) (Rect.unit (s := S32x32x128) ![0, 0, 0] S32x32x128.size inb_S32x32x128_S32x32x128_0_0_0).toLoadRect n = n :=
    Memref.readAt_unit_zero (Elt F) cc1_stg0_0 (by decide) _ n
  have e1 : (stage1_1 0).view.readAt (Elt F) (Rect.unit (s := S32x32x128) ![0, 0, 0] S32x32x128.size inb_S32x32x128_S32x32x128_0_0_0).toLoadRect q = q :=
    Memref.readAt_unit_zero (Elt F) cc1_stg1_0 (by decide) _ q
  have e2 : (stage1_2 0).view.readAt (Elt F) (Rect.unit (s := S32x16) ![0, 0] S32x16.size inb_S32x16_S32x16_0_0).toLoadRect a = a :=
    Memref.readAt_unit_zero (Elt F) cc1_stg2_0 (by decide) _ a
  have e3 : ∀ v : Vec F S8x128 .f32, ((stage1_3 0).access (Rect.unit (s := S8x128) ![0, 0] S8x128.size inb_S8x128_S8x128_0_0)).write (Elt F) o v Finset.univ = v := fun v =>
    Memref.write_access_unit_zero_univ (Elt F) cc1_stg3_0 (by decide) _ _ v
  iintro ⟨H0, H1, H2, H3, HK⟩
  iapply (wp_load 𝒱₀ (c : Thread nD τ) none E (m := stage1_0 0) (S := Finset.univ) (Finset.subset_univ _)) $$ H0
  iintro H0
  iapply (wp_load 𝒱₀ (c : Thread nD τ) none E (m := stage1_1 0) (S := Finset.univ) (Finset.subset_univ _)) $$ H1
  iintro H1
  iapply (wp_load 𝒱₀ (c : Thread nD τ) none E (m := stage1_2 0) (S := Finset.univ) (Finset.subset_univ _)) $$ H2
  iintro H2
  iapply (wp_load 𝒱₀ (c : Thread nD τ) none E (m := stage1_3 0) (S := Finset.univ) (Finset.subset_univ _)) $$ H3
  iintro H3
  iapply (wp_store 𝒱₀ (c : Thread nD τ) none E (m := stage1_3 0) (r := Rect.unit (s := S8x128) ![0, 0] S8x128.size inb_S8x128_S8x128_0_0) (Mk := Finset.univ) (S := Finset.univ)
    (f := o) (Finset.subset_univ _)) $$ [H3]
  · iexact H3
  rw [e3]
  iintro H3
  rw [e0, e1, e2]
  rw [wp_ret]
  imodintro
  iapply HK
  isplitl [H0]; · iexact H0
  isplitl [H1]; · iexact H1
  isplitl [H2]; · iexact H2
  iexact H3

section region

variable (n q : Vec F S32x32x128 .i32) (a : Vec F S32x16 .i32) (o : Vec F S8x128 .f32) (b : ℕ)

/-- A fetched window's block is the whole of its array. -/
theorem blk_read0 (x : Vec F S32x32x128 .i32) : ((cfg1.win 0).blk t1_0).view.read (Elt F) x = x := by
  funext y
  refine (View.read_apply _ _).trans ((cast_eq _ _).trans (congrArg x ?_))
  funext k
  apply Fin.ext
  exact Window.rect_emb_val_of_index_zero (cfg1.win 0) t1_0 k ((show ∀ k, (cfg1.win 0).index t1_0 k = 0 by decide) k) y
theorem blk_read1 (x : Vec F S32x32x128 .i32) : ((cfg1.win 1).blk t1_0).view.read (Elt F) x = x := by
  funext y
  refine (View.read_apply _ _).trans ((cast_eq _ _).trans (congrArg x ?_))
  funext k
  apply Fin.ext
  exact Window.rect_emb_val_of_index_zero (cfg1.win 1) t1_0 k ((show ∀ k, (cfg1.win 1).index t1_0 k = 0 by decide) k) y
theorem blk_read2 (x : Vec F S32x16 .i32) : ((cfg1.win 2).blk t1_0).view.read (Elt F) x = x := by
  funext y
  refine (View.read_apply _ _).trans ((cast_eq _ _).trans (congrArg x ?_))
  funext k
  apply Fin.ext
  exact Window.rect_emb_val_of_index_zero (cfg1.win 2) t1_0 k ((show ∀ k, (cfg1.win 2).index t1_0 k = 0 by decide) k) y

/-- The region's proof data: the three arrays read, the result's array; after the body the read windows as they were
    and the result the body's. -/
def dat (c : Dev nD) : Dat τ (Elt F) (HIx 1) ℕ UU ℕ cfg1 c where
  A w := match w with
    | ⟨0, _⟩ => n
    | ⟨1, _⟩ => q
    | ⟨2, _⟩ => a
    | ⟨3, _⟩ => o
  after w _ := match w with
    | ⟨0, _⟩ => n
    | ⟨1, _⟩ => q
    | ⟨2, _⟩ => a
    | ⟨3, _⟩ => finish n q a
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ b}

abbrev adm : (p : Fin 1) → (pcfgs (F := F) p).Adm := fun _ => Pipeline.Cfg.toPCfg_adm _

def pdats : (p : Fin 1) → (c : Dev nD) → Dat τ (Elt F) (HIx 1) ℕ UU ℕ (Pipeline.pin (pcfgs (F := F)) adm p) c
  | ⟨0, _⟩ => fun c => dat n q a o b c

theorem before0 (c : Dev nD) (d : (cfg1.win 0).block.Idx → Elt F (cfg1.win 0).elt) : (dat n q a o b c).before 0 t1_0 d = n := by
  unfold Dat.before; rw [if_pos (by decide)]; exact blk_read0 n
theorem before1 (c : Dev nD) (d : (cfg1.win 1).block.Idx → Elt F (cfg1.win 1).elt) : (dat n q a o b c).before 1 t1_0 d = q := by
  unfold Dat.before; rw [if_pos (by decide)]; exact blk_read1 q
theorem before2 (c : Dev nD) (d : (cfg1.win 2).block.Idx → Elt F (cfg1.win 2).elt) : (dat n q a o b c).before 2 t1_0 d = a := by
  unfold Dat.before; rw [if_pos (by decide)]; exact blk_read2 a

theorem body_obligation (c : Dev nD) : BodyObligation (dat n q a o b c) (defs₀ (F := F)) 𝒱₀ none Set.univ := fun t => by
  obtain rfl := fin_N1 t
  rw [bigSep_W1, bigSep_W1]
  simp only [owns_whole_eq]
  rw [show (dat n q a o b c).Φ t1_0.succ = (dat n q a o b c).Φ t1_0.castSucc from rfl,
    show (dat n q a o b c).owesAt none t1_0.succ = (dat n q a o b c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  subst hf0 hf1 hf2
  iapply (wp_finish c f0 f1 f2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

theorem arr_out (c : Dev nD) : (dat n q a o b c).arrAt 3 cfg1.N = finish n q a :=
  (dat n q a o b c).arrAt_eq_of_after_last 3 t1_0 (by decide +kernel) (finish n q a) fun _ => rfl

/-- The four arrays as the program names them. -/
def arrs (c : Dev nD) (z : Vec F S8x128 .f32) : sProp 𝕄 :=
  iprop(((c : Thread nD τ).loc main_v0_0 ↦{fullShare} n) ∗ ((c : Thread nD τ).loc main_v0_1 ↦{fullShare} q)
    ∗ ((c : Thread nD τ).loc main_v0_2 ↦{fullShare} a) ∗ ((c : Thread nD τ).loc main_v1 ↦{fullShare} z))

/-- What the core owes: nothing, its waits recorded at levels up to `b`. -/
def owesTo (c : Dev nD) : sProp 𝕄 :=
  iprop(∃ W, ⌜(K (F := F)).WBelow (c : Thread nD τ) W b⌝ ∗ owes (c : Thread nD τ) (0 : CellTallies nD τ sig (HIx 1)) W)

theorem arrays_at (c : Dev nD) (t : ℕ) (z : Vec F S8x128 .f32) (hz : (dat n q a o b c).arrAt 3 t = z) :
    ((pdats n q a o b 0 c).arrays ((pdats n q a o b 0 c).arrAt · t) : sProp 𝕄) = arrs n q a c z := by
  rw [Pipeline.arrays_eq (Pipeline.pin (pcfgs (F := F)) adm) (pdats n q a o b) 0 c arr_whole1
    ((pdats n q a o b 0 c).share_full fun _ => rfl)]
  refine (bigSep_W1 _).trans ?_
  rw [show (pdats n q a o b 0 c).arrAt 3 t = z from hz, show (pdats n q a o b 0 c).arrAt 0 t = n from (dat n q a o b c).arrAt_in 0 rfl _,
    show (pdats n q a o b 0 c).arrAt 1 t = q from (dat n q a o b c).arrAt_in 1 rfl _,
    show (pdats n q a o b 0 c).arrAt 2 t = a from (dat n q a o b c).arrAt_in 2 rfl _]
  rfl

set_option backward.isDefEq.respectTransparency.types false in
/-- The TensorCore call as a region: from the three arrays and the result's at anything, to the result's at `finish`. -/
def reg : Pipeline.RegionSeg (pcfgs (F := F)) adm (pdats n q a o b) none (defs₀ (F := F)) 𝒱₀ (K (F := F)).L (K (F := F)).lev 0 where
  win := winFacts1.to₀
  block_pos := block_pos1
  stage_whole := stage_whole1
  K := PEmpty
  osem k := k.elim
  ho := Pipeline.OwnSemFacts.none _
  hbody c := (body_obligation n q a o b c).loose
  hwaits := Pipeline.hwaits_of_owed_zero _ _ _ _ (K (F := F)).L (K (F := F)).lev 0 fun _ _ => rfl
  pre c := iprop(arrs n q a c o ∗ owesTo b c)
  post c := iprop(arrs n q a c (finish n q a) ∗ owesTo b c)
  X _ := BI.emp
  Y _ := BI.emp
  Z _ := BI.emp
  hentry c := by
    rw [Pipeline.ownSems0_none, arrays_at n q a o b c 0 o rfl]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesTo
      icases HO with ⟨%W, %hW, HO⟩; iexists W; isplitr; · ipureintro; exact fun p hp => Or.inl (hW p hp)
      iexact HO
    isplitr <;> iempintro
  hin c := by
    rw [show (pdats n q a o b 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats n q a o b 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    rw [arrays_at n q a o b c _ (finish n q a) (arr_out n q a o b c)]
    iintro ⟨Ha, HO, -, -⟩
    imodintro
    isplitl [Ha]; · iexact Ha
    unfold Pipeline.Dat.owesAt Pipeline.owesWithin owesTo
    icases HO with ⟨%W, %hW, HO⟩; iexists W; isplitr; swap; (· iexact HO)
    ipureintro
    intro p hp
    rcases hW hp with h | ⟨w, s, h⟩
    · exact h
    · rw [h]; exact Nat.zero_le _

end region

end Proof.K

end
-- ==== Proof.Launch.lean ====
module

public import proofs.«01_k».proof.Proof.Tile
public import proofs.«01_k».proof.Proof.Parts
public import proofs.«01_k».proof.Proof.Region

/-! The SparseCore call: what each subcore is handed and hands back, and its task inside the program. -/

@[expose] public section

noncomputable section

namespace Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-- The TensorCore's arrays, as places of device `d`. -/
abbrev pLoc (d : Dev nD) : Loc nD τ sig := (SparseCore.T d).loc main_arg0
abbrev lLoc (d : Dev nD) : Loc nD τ sig := (SparseCore.T d).loc main_arg1
abbrev nLoc (d : Dev nD) : Loc nD τ sig := (SparseCore.T d).loc main_v0_0
abbrev qLoc (d : Dev nD) : Loc nD τ sig := (SparseCore.T d).loc main_v0_1
abbrev aLoc (d : Dev nD) : Loc nD τ sig := (SparseCore.T d).loc main_v0_2

def coordsV (c : Fin (grid0.bound 0)) (s : Fin (grid0.bound 1)) : grid0.Coords :=
  fun | 0 => c | 1 => s | ⟨_ + 2, h⟩ => absurd h (Nat.not_lt.2 (Nat.le_add_left _ _))

/-- The place of subcore number `w`. -/
def placeOf (w : Fin 32) : grid0.Coords :=
  coordsV ⟨w.val % 2, show w.val % 2 < 2 by omega⟩ ⟨w.val / 2, show w.val / 2 < 16 by omega⟩

theorem placeOf_wid (L : grid0.Coords) : placeOf (wid L) = L := by
  have h0 : (L 0).val < 2 := (L 0).isLt
  have h1 : (L 1).val < 16 := (L 1).isLt
  funext a
  match a with
  | 0 => exact Fin.ext (show (2 * (L 1).val + (L 0).val) % 2 = (L 0).val by omega)
  | 1 => exact Fin.ext (show (2 * (L 1).val + (L 0).val) / 2 = (L 1).val by omega)

variable (m : (ℓ : Loc nD τ sig) → Buf (Elt F) ℓ)

/-- What the subcores leave in the three results. -/
def resN (d : Dev nD) : Buf (Elt F) (nLoc d) := fun (x : S32x32x128.Idx) => lowOf (histOf (F := F) d (placeOf (x 0)) (m (pLoc d)) (m (lLoc d))) (i2 (x 1) (x 2))
def resQ (d : Dev nD) : Buf (Elt F) (qLoc d) := fun (x : S32x32x128.Idx) => highOf (histOf (F := F) d (placeOf (x 0)) (m (pLoc d)) (m (lLoc d))) (i2 (x 1) (x 2))
def resA (d : Dev nD) : Buf (Elt F) (aLoc d) := fun (x : S32x16.Idx) => accN (F := F) (lcOf (F := F) d (placeOf (x 0)) (m (lLoc d))) 16 (i1 (x 1))

/-- The share of the images subcore `w` reads with. -/
abbrev shr (w : Fin 32) : PosShare TreeShare := Transfers.shareTok fullShare 32 w

/-- What subcore `w` is handed, and what it hands back: its share of the images, and its rows of the results. -/
def goW (d : Dev nD) (w : Fin 32) : sProp 𝕄 :=
  iprop((pLoc d ↦{shr w} m (pLoc d)) ∗ (lLoc d ↦{shr w} m (lLoc d))
    ∗ (nLoc d ↦[rows3 w]{fullShare} m (nLoc d)) ∗ (qLoc d ↦[rows3 w]{fullShare} m (qLoc d)) ∗ (aLoc d ↦[rows2 w]{fullShare} m (aLoc d)))
def tdW (d : Dev nD) (w : Fin 32) : sProp 𝕄 :=
  iprop((pLoc d ↦{shr w} m (pLoc d)) ∗ (lLoc d ↦{shr w} m (lLoc d))
    ∗ (nLoc d ↦[rows3 w]{fullShare} resN m d) ∗ (qLoc d ↦[rows3 w]{fullShare} resQ m d) ∗ (aLoc d ↦[rows2 w]{fullShare} resA m d))

instance (d : Dev nD) (w : Fin 32) : BI.Storable (upEmb : UEmb _ 𝕄) (goW m d w) := by unfold goW; infer_instance
instance (d : Dev nD) (w : Fin 32) : BI.Storable (upEmb : UEmb _ 𝕄) (tdW m d w) := by unfold tdW; infer_instance

theorem nCore_zero : (K (F := F)).nCore 0 = 2 := rfl

/-- Subcore `i` of core `c`, by number. -/
def wOf (c : Fin ((K (F := F)).nCore 0)) (i : Fin ((K (F := F)).nSub 0)) : Fin 32 := ⟨2 * i.val + c.val, by
  have h0 : c.val < 2 := c.isLt
  have h1 : i.val < 16 := i.isLt
  omega⟩

def P : (K (F := F)).Pay (nD := nD) (Val := Elt F) (Name := ℕ) (U := UU) where
  st := fun q d c => match q with | 0 => bigSep Finset.univ fun i : Fin ((K (F := F)).nSub 0) => goW m d (wOf (F := F) c i)
  dn := fun q d c => match q with | 0 => bigSep Finset.univ fun i : Fin ((K (F := F)).nSub 0) => tdW m d (wOf (F := F) c i)
  go := fun q d c i => match q with | 0 => goW m d (wOf (F := F) c i)
  td := fun q d c i => match q with | 0 => tdW m d (wOf (F := F) c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goW m d (wOf (F := F) c i)))
  dn q d c := match q with
    | 0 => (inferInstance : BI.Storable (upEmb : UEmb _ 𝕄) (bigSep Finset.univ fun i : Fin ((K (F := F)).nSub 0) => tdW m d (wOf (F := F) c i)))
  go q d c i := match q with
    | 0 => (inferInstance : BI.Storable (upEmb : UEmb _ 𝕄) (goW m d (wOf (F := F) c i)))
  td q d c i := match q with
    | 0 => (inferInstance : BI.Storable (upEmb : UEmb _ 𝕄) (tdW m d (wOf (F := F) c i)))

section Task
variable (d : Dev nD) (L : grid0.Coords)

abbrev cell (s : SemLoc sig) : GSem nD τ sig := (thr d L, s)

omit [FloatOps F] in
theorem cell_ne {a b : SemLoc sig} (h : a ≠ b) : cell d L a ≠ cell d L b := fun e => h (Prod.mk.inj e).2

omit [FloatOps F] in
theorem sem_take (s : SemLoc sig) (E : Finset (GSem nD τ sig)) (h : cell d L s ∈ E) :
    (bigSep E fun g => (semVal g 0 : sProp 𝕄)) = iprop(semVal (cell d L s) 0 ∗ bigSep (E.erase (cell d L s)) fun g => semVal g 0) :=
  SparseCore.bigSep_erase' h

/-- The subcore's own semaphores beside the seven the task uses. -/
def semRest : Finset (GSem nD τ sig) :=
  (((((((ownCells (thr d L)).erase (cell d L (SemLoc.dma cc0_scratch8.sem))).erase (cell d L (SemLoc.dma cc0_scratch9.sem))).erase (cell d L (SemLoc.dma cc0_scratch10.sem))).erase
    (cell d L (SemLoc.dma cc0_scratch11.sem))).erase (cell d L (SemLoc.dma cc0_scoped0.sem))).erase (cell d L (SemLoc.dma cc0_scoped1.sem))).erase (cell d L (SemLoc.dma cc0_scoped2.sem))

set_option maxHeartbeats 4000000 in
omit [FloatOps F] in
theorem ownSems0_V :
    (ownSems0 (thr d L) : sProp 𝕄)
      = iprop(semVal (cell d L (SemLoc.dma cc0_scratch8.sem)) 0 ∗ semVal (cell d L (SemLoc.dma cc0_scratch9.sem)) 0
          ∗ semVal (cell d L (SemLoc.dma cc0_scratch10.sem)) 0 ∗ semVal (cell d L (SemLoc.dma cc0_scratch11.sem)) 0
          ∗ semVal (cell d L (SemLoc.dma cc0_scoped0.sem)) 0 ∗ semVal (cell d L (SemLoc.dma cc0_scoped1.sem)) 0 ∗ semVal (cell d L (SemLoc.dma cc0_scoped2.sem)) 0
          ∗ bigSep (semRest d L) fun g => semVal g 0) := by
  have m8 : cell d L (SemLoc.dma cc0_scratch8.sem) ∈ ownCells (thr d L) := mem_ownCells.mpr ⟨rfl, by show (SemLoc.dma cc0_scratch8.sem : SemLoc sig).isScoped .scVector = true; decide⟩
  have m9 : cell d L (SemLoc.dma cc0_scratch9.sem) ∈ ownCells (thr d L) := mem_ownCells.mpr ⟨rfl, by show (SemLoc.dma cc0_scratch9.sem : SemLoc sig).isScoped .scVector = true; decide⟩
  have m10 : cell d L (SemLoc.dma cc0_scratch10.sem) ∈ ownCells (thr d L) := mem_ownCells.mpr ⟨rfl, by show (SemLoc.dma cc0_scratch10.sem : SemLoc sig).isScoped .scVector = true; decide⟩
  have m11 : cell d L (SemLoc.dma cc0_scratch11.sem) ∈ ownCells (thr d L) := mem_ownCells.mpr ⟨rfl, by show (SemLoc.dma cc0_scratch11.sem : SemLoc sig).isScoped .scVector = true; decide⟩
  have t0 : cell d L (SemLoc.dma cc0_scoped0.sem) ∈ ownCells (thr d L) := mem_ownCells.mpr ⟨rfl, by show (SemLoc.dma cc0_scoped0.sem : SemLoc sig).isScoped .scVector = true; decide⟩
  have t1 : cell d L (SemLoc.dma cc0_scoped1.sem) ∈ ownCells (thr d L) := mem_ownCells.mpr ⟨rfl, by show (SemLoc.dma cc0_scoped1.sem : SemLoc sig).isScoped .scVector = true; decide⟩
  have t2 : cell d L (SemLoc.dma cc0_scoped2.sem) ∈ ownCells (thr d L) := mem_ownCells.mpr ⟨rfl, by show (SemLoc.dma cc0_scoped2.sem : SemLoc sig).isScoped .scVector = true; decide⟩
  unfold SparseCore.Cfg.ownSems0 semRest
  rw [sem_take d L _ _ m8,
    sem_take d L (SemLoc.dma cc0_scratch9.sem) _ (Finset.mem_erase.mpr ⟨cell_ne d L (by decide), m9⟩),
    sem_take d L (SemLoc.dma cc0_scratch10.sem) _ (Finset.mem_erase.mpr ⟨cell_ne d L (by decide), Finset.mem_erase.mpr ⟨cell_ne d L (by decide), m10⟩⟩),
    sem_take d L (SemLoc.dma cc0_scratch11.sem) _ (Finset.mem_erase.mpr ⟨cell_ne d L (by decide), Finset.mem_erase.mpr ⟨cell_ne d L (by decide), Finset.mem_erase.mpr ⟨cell_ne d L (by decide), m11⟩⟩⟩),
    sem_take d L (SemLoc.dma cc0_scoped0.sem) _ (Finset.mem_erase.mpr ⟨cell_ne d L (by decide), Finset.mem_erase.mpr ⟨cell_ne d L (by decide), Finset.mem_erase.mpr ⟨cell_ne d L (by decide), Finset.mem_erase.mpr ⟨cell_ne d L (by decide), t0⟩⟩⟩⟩),
    sem_take d L (SemLoc.dma cc0_scoped1.sem) _ (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), t1⟩⟩⟩⟩⟩),
    sem_take d L (SemLoc.dma cc0_scoped2.sem) _ (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), t2⟩⟩⟩⟩⟩⟩)]

abbrev bref (b : Ref sig .scVector) : DevRef τ sig := (Proc.scVector (cV L) (jV L)).devRef b
theorem bref_ne {a b : Ref sig .scVector} (h : a ≠ b) : bref L a ≠ bref L b := fun e => h (Proc.devRef_injective _ e)

/-- The subcore's own buffers beside the eight the task uses. -/
def bufRest : Finset (DevRef τ sig) :=
  ((((((((ownRefs (τ := τ) (.scVector (cV L) (jV L))).erase (bref L cc0_scratch0)).erase (bref L cc0_scratch1)).erase (bref L cc0_scratch2)).erase
    (bref L cc0_scratch3)).erase (bref L cc0_scratch4)).erase (bref L cc0_scratch5)).erase (bref L cc0_scratch6)).erase (bref L cc0_scratch7)

omit [FloatOps F] in
theorem buf_take (b : Ref sig .scVector) (E : Finset (DevRef τ sig)) (h : bref L b ∈ E) :
    (bigSep E fun b => (iprop(∃ f, ((d, b) : Loc nD τ sig) ↦{fullShare} f) : sProp 𝕄))
      = iprop((∃ f, (thr d L).loc b ↦{fullShare} f) ∗ bigSep (E.erase (bref L b)) fun b => iprop(∃ f, ((d, b) : Loc nD τ sig) ↦{fullShare} f)) :=
  SparseCore.bigSep_erase' h

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ (∃ f, (thr d L).loc cc0_scratch6 ↦{fullShare} f) ∗ (∃ f, (thr d L).loc cc0_scratch7 ↦{fullShare} f)
          ∗ bigSep (bufRest L) fun b => iprop(∃ f, ((d, b) : Loc nD τ sig) ↦{fullShare} f)) := by
  have h0 : bref L cc0_scratch0 ∈ ownRefs (τ := τ) (.scVector (cV L) (jV L)) := SparseCore.Cfg.mem_ownRefs_of_owner (p := Proc.scVector (cV L) (jV L)) (b := bref L cc0_scratch0) rfl
  have h1 : bref L cc0_scratch1 ∈ ownRefs (τ := τ) (.scVector (cV L) (jV L)) := SparseCore.Cfg.mem_ownRefs_of_owner (p := Proc.scVector (cV L) (jV L)) (b := bref L cc0_scratch1) rfl
  have h2 : bref L cc0_scratch2 ∈ ownRefs (τ := τ) (.scVector (cV L) (jV L)) := SparseCore.Cfg.mem_ownRefs_of_owner (p := Proc.scVector (cV L) (jV L)) (b := bref L cc0_scratch2) rfl
  have h3 : bref L cc0_scratch3 ∈ ownRefs (τ := τ) (.scVector (cV L) (jV L)) := SparseCore.Cfg.mem_ownRefs_of_owner (p := Proc.scVector (cV L) (jV L)) (b := bref L cc0_scratch3) rfl
  have h4 : bref L cc0_scratch4 ∈ ownRefs (τ := τ) (.scVector (cV L) (jV L)) := SparseCore.Cfg.mem_ownRefs_of_owner (p := Proc.scVector (cV L) (jV L)) (b := bref L cc0_scratch4) rfl
  have h5 : bref L cc0_scratch5 ∈ ownRefs (τ := τ) (.scVector (cV L) (jV L)) := SparseCore.Cfg.mem_ownRefs_of_owner (p := Proc.scVector (cV L) (jV L)) (b := bref L cc0_scratch5) rfl
  have h6 : bref L cc0_scratch6 ∈ ownRefs (τ := τ) (.scVector (cV L) (jV L)) := SparseCore.Cfg.mem_ownRefs_of_owner (p := Proc.scVector (cV L) (jV L)) (b := bref L cc0_scratch6) rfl
  have h7 : bref L cc0_scratch7 ∈ ownRefs (τ := τ) (.scVector (cV L) (jV L)) := SparseCore.Cfg.mem_ownRefs_of_owner (p := Proc.scVector (cV L) (jV L)) (b := bref L cc0_scratch7) rfl
  unfold SparseCore.Cfg.ownBufs bufRest
  refine (buf_take d L cc0_scratch0 _ h0).trans ?_
  rw [buf_take d L cc0_scratch1 _ (Finset.mem_erase.mpr ⟨bref_ne L (by decide), h1⟩),
    buf_take d L cc0_scratch2 _ (Finset.mem_erase.mpr ⟨bref_ne L (by decide), Finset.mem_erase.mpr ⟨bref_ne L (by decide), h2⟩⟩),
    buf_take d L cc0_scratch3 _ (Finset.mem_erase.mpr ⟨bref_ne L (by decide), Finset.mem_erase.mpr ⟨bref_ne L (by decide), Finset.mem_erase.mpr ⟨bref_ne L (by decide), h3⟩⟩⟩),
    buf_take d L cc0_scratch4 _ (Finset.mem_erase.mpr ⟨bref_ne L (by decide), Finset.mem_erase.mpr ⟨bref_ne L (by decide), Finset.mem_erase.mpr ⟨bref_ne L (by decide), Finset.mem_erase.mpr ⟨bref_ne L (by decide), h4⟩⟩⟩⟩),
    buf_take d L cc0_scratch5 _ (Finset.mem_erase.mpr ⟨bref_ne L (by decide), Finset.mem_erase.mpr ⟨bref_ne L (by decide), Finset.mem_erase.mpr ⟨bref_ne L (by decide), Finset.mem_erase.mpr ⟨bref_ne L (by decide), Finset.mem_erase.mpr ⟨bref_ne L (by decide), h5⟩⟩⟩⟩⟩),
    buf_take d L cc0_scratch6 _ (Finset.mem_erase.mpr ⟨bref_ne L (by decide), Finset.mem_erase.mpr ⟨bref_ne L (by decide), Finset.mem_erase.mpr ⟨bref_ne L (by decide), Finset.mem_erase.mpr ⟨bref_ne L (by decide), Finset.mem_erase.mpr ⟨bref_ne L (by decide), Finset.mem_erase.mpr ⟨bref_ne L (by decide), h6⟩⟩⟩⟩⟩⟩),
    buf_take d L cc0_scratch7 _ (Finset.mem_erase.mpr ⟨bref_ne L (by decide), Finset.mem_erase.mpr ⟨bref_ne L (by decide), Finset.mem_erase.mpr ⟨bref_ne L (by decide), Finset.mem_erase.mpr ⟨bref_ne L (by decide), Finset.mem_erase.mpr ⟨bref_ne L (by decide), Finset.mem_erase.mpr ⟨bref_ne L (by decide), Finset.mem_erase.mpr ⟨bref_ne L (by decide), h7⟩⟩⟩⟩⟩⟩⟩)]

omit [FloatOps F] in
/-- A buffer known through its whole memref is a buffer at some contents. -/
theorem bf_some {b : Ref sig .scVector} :
    (iprop(∃ p, Bf d L (Memref.whole b) p) : sProp 𝕄) ⊢ iprop(∃ f, (thr d L).loc b ↦{fullShare} f) := by
  unfold Bf
  iintro ⟨%p, %f, -, H⟩
  iexists f
  iexact H

theorem row_n : ((rN L).view.loc (thr d L) ↦[(rN L).view.set]{fullShare} (rN L).view.write (Elt F) (m (nLoc d)) (lowOf (histOf (F := F) d L (m (pLoc d)) (m (lLoc d)))) Finset.univ : sProp 𝕄)
    = (nLoc d ↦[rows3 (wid L)]{fullShare} resN m d) := by
  rw [set_rN]
  refine pointsTo_congr fun x hx => (write_rN L _ _ x hx).trans ?_
  show _ = lowOf (histOf (F := F) d (placeOf (x 0)) (m (pLoc d)) (m (lLoc d))) (i2 (x 1) (x 2))
  rw [(mem_rows3 _ _).mp hx, placeOf_wid]
theorem row_q : ((rQ L).view.loc (thr d L) ↦[(rQ L).view.set]{fullShare} (rQ L).view.write (Elt F) (m (qLoc d)) (highOf (histOf (F := F) d L (m (pLoc d)) (m (lLoc d)))) Finset.univ : sProp 𝕄)
    = (qLoc d ↦[rows3 (wid L)]{fullShare} resQ m d) := by
  rw [set_rQ]
  refine pointsTo_congr fun x hx => (write_rQ L _ _ x hx).trans ?_
  show _ = highOf (histOf (F := F) d (placeOf (x 0)) (m (pLoc d)) (m (lLoc d))) (i2 (x 1) (x 2))
  rw [(mem_rows3 _ _).mp hx, placeOf_wid]
theorem row_a : ((rA L).view.loc (thr d L) ↦[(rA L).view.set]{fullShare} (rA L).view.write (Elt F) (m (aLoc d)) (accN (F := F) (lcOf (F := F) d L (m (lLoc d))) 16) Finset.univ : sProp 𝕄)
    = (aLoc d ↦[rows2 (wid L)]{fullShare} resA m d) := by
  rw [set_rA]
  refine pointsTo_congr fun x hx => (write_rA L _ _ x hx).trans ?_
  show _ = accN (F := F) (lcOf (F := F) d (placeOf (x 0)) (m (lLoc d))) 16 (i1 (x 1))
  rw [(mem_rows2 _ _).mp hx, placeOf_wid]

theorem row_n0 : ((rN L).view.loc (thr d L) ↦[(rN L).view.set]{fullShare} m (nLoc d) : sProp 𝕄) = (nLoc d ↦[rows3 (wid L)]{fullShare} m (nLoc d)) := by
  rw [set_rN]
theorem row_q0 : ((rQ L).view.loc (thr d L) ↦[(rQ L).view.set]{fullShare} m (qLoc d) : sProp 𝕄) = (qLoc d ↦[rows3 (wid L)]{fullShare} m (qLoc d)) := by
  rw [set_rQ]
theorem row_a0 : ((rA L).view.loc (thr d L) ↦[(rA L).view.set]{fullShare} m (aLoc d) : sProp 𝕄) = (aLoc d ↦[rows2 (wid L)]{fullShare} m (aLoc d)) := by
  rw [set_rA]

set_option maxHeartbeats 4000000 in
/-- The task on the subcore at `L`. -/
theorem tile_body (hF : (K (F := F)).Facts) (O : CellTallies nD τ sig (HIx 1)) (W : Waits sig (HIx 1)) (hO : ∀ g, O g none = 0) :
    iprop(levAts (K (F := F)).L (K (F := F)).lev ∗ emp ∗ goW m d (wid L)
        ∗ scopedBufs (thr d L) ∗ scopedSems0 (thr d L) ∗ owes (thr d L) O W)
      ⊢ wp frame (wpE (defs₀ (F := F)) 𝒱₀ (thr d L) none) Set.univ
          (cc0__hist_sc_body (F := F) L aP (Memref.isWhole_whole _) aL (Memref.isWhole_whole _) oN (Memref.isWhole_whole _) oQ (Memref.isWhole_whole _) oA (Memref.isWhole_whole _) sH (Memref.isWhole_whole _) sP0 (Memref.isWhole_whole _) sL0 (Memref.isWhole_whole _) sP1 (Memref.isWhole_whole _) sL1 (Memref.isWhole_whole _) sN (Memref.isWhole_whole _) sQ (Memref.isWhole_whole _) sA (Memref.isWhole_whole _) cc0_scratch8 cc0_scratch9 cc0_scratch10 cc0_scratch11 cc0_scoped0 cc0_scoped1 cc0_scoped2)
          fun _ => iprop(tdW m d (wid L) ∗ scopedBufs (thr d L) ∗ scopedSems0 (thr d L)
            ∗ ∃ W', ⌜∀ p ∈ W', p ∈ W ∨ p.2 = none⌝ ∗ owes (thr d L) O W') := by
  rw [body_eq, (K (F := F)).scopedBufs_V hF d (cV L) (jV L), SparseCore.Cfg.scopedSems0_V (Val := Elt F) d (cV L) (jV L), ownSems0_V, ownBufs_V]
  unfold goW tdW
  rw [← row_n m d L, ← row_q m d L, ← row_a m d L, ← row_n0 m d L, ← row_q0 m d L, ← row_a0 m d L]
  iintro ⟨#Hlv, -, ⟨Gp, Gl, Gn, Gq, Ga⟩, ⟨⟨%f0, B0⟩, ⟨%f1, B1⟩, ⟨%f2, B2⟩, ⟨%f3, B3⟩, ⟨%f4, B4⟩, ⟨%f5, B5⟩, ⟨%f6, B6⟩, ⟨%f7, B7⟩, Hbufs⟩,
    ⟨S8, S9, S10, S11, T0, T1, T2, Hsems⟩, HO⟩
  ihave Hmw := ((K (F := F)).mayWaits_none (thr := thr d L) hO) $$ Hlv
  iapply (wp_wand frame (wpE (defs₀ (F := F)) 𝒱₀ (thr d L) none)) $$ [Hmw Gp Gl Gn Gq Ga B0 B1 B2 B3 B4 B5 B6 B7 S8 S9 S10 S11 T0 T1 T2 HO]
  · iapply (wp_tile (F := F) d L (shr (wid L)) (m (pLoc d)) (m (lLoc d)) O W f0 f1 f3 f2 f4 f5 f6 f7 (m (nLoc d)) (m (qLoc d)) (m (aLoc d)))
    isplitl [Hmw Gp Gl HO]
    · unfold Im OW
      isplitl [Hmw]
      · iexact Hmw
      isplitl [Gp]
      · iexact Gp
      isplitl [Gl]
      · iexact Gl
      iexists W
      isplitr
      · ipureintro
        exact fun p hp => .inl hp
      · iexact HO
    isplitl [B0]
    · iexact B0
    isplitl [B1]
    · iapply (bf_whole d L (b := cc0_scratch1) f1)
      iexact B1
    isplitl [B2]
    · iapply (bf_whole d L (b := cc0_scratch2) f2)
      iexact B2
    isplitl [B3]
    · iapply (bf_whole d L (b := cc0_scratch3) f3)
      iexact B3
    isplitl [B4]
    · iapply (bf_whole d L (b := cc0_scratch4) f4)
      iexact B4
    isplitl [B5]
    · iexact B5
    isplitl [B6]
    · iexact B6
    isplitl [B7]
    · iexact B7
    isplitl [S8]
    · iexact S8
    isplitl [S9]
    · iexact S9
    isplitl [S10]
    · iexact S10
    isplitl [S11]
    · iexact S11
    isplitl [T0]
    · iexact T0
    isplitl [T1]
    · iexact T1
    isplitl [T2]
    · iexact T2
    isplitl [Gn]
    · iexact Gn
    isplitl [Gq]
    · iexact Gq
    · iexact Ga
  iintro %_ ⟨Hres, B0, B1, B2, B3, B4, B5, B6, B7, S8, S9, S10, S11, T0, T1, T2, HO⟩
  isplitl [Hres]
  · iexact Hres
  isplitl [B0 B1 B2 B3 B4 B5 B6 B7 Hbufs]
  · isplitl [B0]
    · iexact B0
    isplitl [B1]
    · iapply (bf_some d L (b := cc0_scratch1))
      iexact B1
    isplitl [B2]
    · iapply (bf_some d L (b := cc0_scratch2))
      iexact B2
    isplitl [B3]
    · iapply (bf_some d L (b := cc0_scratch3))
      iexact B3
    isplitl [B4]
    · iapply (bf_some d L (b := cc0_scratch4))
      iexact B4
    isplitl [B5]
    · iapply (bf_some d L (b := cc0_scratch5))
      iexact B5
    isplitl [B6]
    · iapply (bf_some d L (b := cc0_scratch6))
      iexact B6
    isplitl [B7]
    · iapply (bf_some d L (b := cc0_scratch7))
      iexact B7
    · iexact Hbufs
  isplitl [S8 S9 S10 S11 T0 T1 T2 Hsems]
  · isplitl [S8]
    · iexact S8
    isplitl [S9]
    · iexact S9
    isplitl [S10]
    · iexact S10
    isplitl [S11]
    · iexact S11
    isplitl [T0]
    · iexact T0
    isplitl [T1]
    · iexact T1
    isplitl [T2]
    · iexact T2
    · iexact Hsems
  · unfold OW
    iexact HO

end Task

/-! ## The launch theorem's obligations -/

theorem defs₀_vector (c : Fin τ.nSC) (s : Fin τ.nSub) :
    defs₀ (F := F) (.scVector c s) 0 ()
      = SparseCore.onTile hcore0 hsub0 (fun c s => cc0__hist_sc_body (F := F) (coordsV c s)
          aP (Memref.isWhole_whole _) aL (Memref.isWhole_whole _) oN (Memref.isWhole_whole _) oQ (Memref.isWhole_whole _) oA (Memref.isWhole_whole _) sH (Memref.isWhole_whole _) sP0 (Memref.isWhole_whole _) sL0 (Memref.isWhole_whole _) sP1 (Memref.isWhole_whole _) sL1 (Memref.isWhole_whole _) sN (Memref.isWhole_whole _) sQ (Memref.isWhole_whole _) sA (Memref.isWhole_whole _) cc0_scratch8 cc0_scratch9 cc0_scratch10 cc0_scratch11 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
set_option maxHeartbeats 1000000 in
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (bigSep Finset.univ fun i : Fin ((K (F := F)).nSub 0) => goW m d (wOf (F := F) c i)) ⊢ |={Set.univ}=> iprop(
      (bigSep Finset.univ fun i : Fin ((K (F := F)).nSub 0) => goW m d (wOf (F := F) c i))
      ∗ ((bigSep Finset.univ fun i : Fin ((K (F := F)).nSub 0) => tdW m d (wOf (F := F) c i))
          -∗ (bigSep Finset.univ fun i : Fin ((K (F := F)).nSub 0) => tdW m d (wOf (F := F) c i))))
  iintro H; imodintro
  isplitl [H]; · iexact H
  iintro H; iexact H

end Proof.K

end
-- ==== Proof.Main.lean ====
module

public import proofs.«01_k».proof.Proof.Launch

/-! The program's run: the SparseCore call, the TensorCore call, and the two host operations. -/

@[expose] public section

noncomputable section

namespace Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]
local notation "𝕄" => MT nD τ sig (HIx 1) (Elt F) ℕ UU ℕ

variable (m : (ℓ : Loc nD τ sig) → Buf (Elt F) ℓ)

/-! ## The launch element -/

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

/-- The TensorCore pipeline's ghost state on device `d`. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · ihave Hg' := (Entails.of_eq (bigSep_congr fun c _ => bigSep_univ_of_subsingleton (Φ := fun p : Fin 1 => (Pipeline.cellsGhost (Pipeline.pin (pcfgs (F := F)) adm) EP p c : sProp 𝕄)) (0 : Fin 1))) $$ Hg
      iexact Hg'
    · ihave Ht' := (Entails.of_eq (bigSep_congr fun c _ => bigSep_univ_of_subsingleton (Φ := fun p : Fin 1 => (Pipeline.toksInit (Pipeline.pin (pcfgs (F := F)) adm) EP p c : sProp 𝕄)) (0 : Fin 1))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Dealing the arrays to the subcores, and joining them -/

/-- The subcores by core and index, and by number. -/
def wPair : Fin 2 × Fin 16 ≃ Fin 32 where
  toFun p := ⟨2 * p.2.val + p.1.val, by omega⟩
  invFun w := (⟨w.val % 2, by omega⟩, ⟨w.val / 2, by omega⟩)
  left_inv p := Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

omit [FloatOps F] in
theorem bigSep_pair (Φ : Fin 32 → sProp 𝕄) :
    (bigSep Finset.univ fun c : Fin 2 => bigSep Finset.univ fun i : Fin 16 => Φ (wPair (c, i))) = bigSep Finset.univ Φ := by
  rw [← bigSep_univ_prod (fun p : Fin 2 × Fin 16 => Φ (wPair p)), ← Finset.map_univ_equiv wPair, bigSep_map]
  rfl

theorem st0_eq (d : Dev nD) : (bigSep Finset.univ fun c : Fin ((K (F := F)).nCore 0) => (P m).st 0 d c) = bigSep Finset.univ fun w : Fin 32 => goW m d w :=
  bigSep_pair (F := F) (fun w => goW m d w)
theorem dn0_eq (d : Dev nD) : (bigSep Finset.univ fun c : Fin ((K (F := F)).nCore 0) => (P m).dn 0 d c) = bigSep Finset.univ fun w : Fin 32 => tdW m d w :=
  bigSep_pair (F := F) (fun w => tdW m d w)

omit [FloatOps F] in
theorem rows_n (d : Dev nD) (f : Buf (Elt F) (nLoc d)) : (nLoc d ↦{fullShare} f : sProp 𝕄) = bigSep Finset.univ fun w : Fin 32 => nLoc d ↦[rows3 w]{fullShare} f := by
  rw [← pointsTo_biUnion Finset.univ (ℓ := nLoc d) rows3 rows3_disjoint, rows3_cover]; try rfl
omit [FloatOps F] in
theorem rows_q (d : Dev nD) (f : Buf (Elt F) (qLoc d)) : (qLoc d ↦{fullShare} f : sProp 𝕄) = bigSep Finset.univ fun w : Fin 32 => qLoc d ↦[rows3 w]{fullShare} f := by
  rw [← pointsTo_biUnion Finset.univ (ℓ := qLoc d) rows3 rows3_disjoint, rows3_cover]; try rfl
omit [FloatOps F] in
theorem rows_a (d : Dev nD) (f : Buf (Elt F) (aLoc d)) : (aLoc d ↦{fullShare} f : sProp 𝕄) = bigSep Finset.univ fun w : Fin 32 => aLoc d ↦[rows2 w]{fullShare} f := by
  rw [← pointsTo_biUnion Finset.univ (ℓ := aLoc d) rows2 rows2_disjoint, rows2_cover]; try rfl

/-- What is left of the images while the subcores read them. -/
abbrev rest (ℓ : Loc nD τ sig) (f : Buf (Elt F) ℓ) : sProp 𝕄 := ℓ ↦[Finset.univ]{Transfers.shareDrop fullShare 32} f

theorem deal (d : Dev nD) :
    iprop((pLoc d ↦{fullShare} m (pLoc d)) ∗ (lLoc d ↦{fullShare} m (lLoc d)) ∗ (nLoc d ↦{fullShare} m (nLoc d)) ∗ (qLoc d ↦{fullShare} m (qLoc d)) ∗ (aLoc d ↦{fullShare} m (aLoc d)))
      ⊢ (iprop(rest (pLoc d) (m (pLoc d)) ∗ rest (lLoc d) (m (lLoc d)) ∗ bigSep Finset.univ fun w : Fin 32 => goW m d w) : sProp 𝕄) := by
  unfold goW
  rw [bigSep_sep', bigSep_sep', bigSep_sep', bigSep_sep', ← rows_n, ← rows_q, ← rows_a]
  iintro ⟨Hp, Hl, Hn, Hq, Ha⟩
  ihave Hp' := (Transfers.pointsTo_toks_split fullShare 32) $$ Hp
  icases Hp' with ⟨Rp, Hp⟩
  ihave Hl' := (Transfers.pointsTo_toks_split fullShare 32) $$ Hl
  icases Hl' with ⟨Rl, Hl⟩
  isplitl [Rp]; · iexact Rp
  isplitl [Rl]; · iexact Rl
  isplitl [Hp]; · iexact Hp
  isplitl [Hl]; · iexact Hl
  isplitl [Hn]; · iexact Hn
  isplitl [Hq]; · iexact Hq
  iexact Ha

theorem join (d : Dev nD) :
    (iprop(rest (pLoc d) (m (pLoc d)) ∗ rest (lLoc d) (m (lLoc d)) ∗ bigSep Finset.univ fun w : Fin 32 => tdW m d w) : sProp 𝕄)
      ⊢ iprop((pLoc d ↦{fullShare} m (pLoc d)) ∗ (lLoc d ↦{fullShare} m (lLoc d)) ∗ (nLoc d ↦{fullShare} resN m d) ∗ (qLoc d ↦{fullShare} resQ m d) ∗ (aLoc d ↦{fullShare} resA m d)) := by
  unfold tdW
  rw [bigSep_sep', bigSep_sep', bigSep_sep', bigSep_sep', ← rows_n, ← rows_q, ← rows_a]
  iintro ⟨Rp, Rl, Hp, Hl, Hn, Hq, Ha⟩
  isplitl [Rp Hp]
  · iapply (Transfers.pointsTo_toks_join fullShare 32)
    isplitl [Rp]; · iexact Rp
    iexact Hp
  isplitl [Rl Hl]
  · iapply (Transfers.pointsTo_toks_join fullShare 32)
    isplitl [Rl]; · iexact Rl
    iexact Hl
  isplitl [Hn]; · iexact Hn
  isplitl [Hq]; · iexact Hq
  iexact Ha

/-! ## The host operations -/

abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)
abbrev opS : HloOp τ sig (Elt F) :=
  StableHlo.unary main_v1 main_v2 ((extractStridedSlice S1x1 ![0, 0] · slices_S8x128_S1x1_0_0) : (⟨S8x128, .f32⟩ : BufTy).Contents (Elt F) → (⟨S1x1, .f32⟩ : BufTy).Contents (Elt F))
abbrev opR : HloOp τ sig (Elt F) := StableHlo.reshape main_v2 main_v3 (rfl : (.f32 : EltTy) = .f32) shapeCasts_S1x1_S_
abbrev S3 : Finset (DevRef τ sig) := {b1, b2, b3}

/-- What the TensorCore call leaves in its result. -/
def fin (d : Dev nD) : Vec F S8x128 .f32 := finish (resN m d) (resQ m d) (resA m d)

def V1 (d : Dev nD) : Valuation τ sig (Elt F) := Function.update (fun b => m (d, b)) b1 (fin m d)
theorem V1_1 (d : Dev nD) : V1 m d b1 = fin m d := Function.update_self _ _ _
theorem V1_2 (d : Dev nD) : V1 m d b2 = m (d, b2) := Function.update_of_ne (show b2 ≠ b1 by decide) _ _
theorem V1_3 (d : Dev nD) : V1 m d b3 = m (d, b3) := Function.update_of_ne (show b3 ≠ b1 by decide) _ _

/-- The program's result. -/
def out (d : Dev nD) : Buf (Elt F) ((SparseCore.T d : Thread nD τ).loc main_v3) := (opR (F := F)).result ((opS (F := F)).result (V1 m d)) b3

omit [FloatOps F] in
theorem held_S3 (d : Dev nD) (W : Valuation τ sig (Elt F)) :
    (held (T d) S3 W : sProp 𝕄) = iprop(((SparseCore.T d).loc main_v1 ↦{fullShare} W b1) ∗ ((SparseCore.T d).loc main_v2 ↦{fullShare} W b2) ∗ (SparseCore.T d).loc main_v3 ↦{fullShare} W b3) := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ (lLoc d ↦{fullShare} W main_arg1) ∗ (nLoc d ↦{fullShare} W main_v0_0)
      ∗ (qLoc d ↦{fullShare} W main_v0_1) ∗ (aLoc d ↦{fullShare} W main_v0_2) ∗ ((SparseCore.T d).loc main_v1 ↦{fullShare} W main_v1)
      ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_v0_0, main_v0_1, main_v0_2, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What @main leaves the claim: the images as they were, and the result. -/
abbrev FIN (d : Dev nD) : sProp 𝕄 :=
  iprop((pLoc d ↦{fullShare} m (pLoc d)) ∗ (lLoc d ↦{fullShare} m (lLoc d)) ∗ ((SparseCore.T d).loc main_v3 ↦{fullShare} out m d))

/-- The level the TensorCore's waits lie below after the call. -/
abbrev lvl1 : ℕ := 8 * SparseCore.Cfg.Blocks.fst 1 1 1

/-- The TensorCore's handshake state after the call, what it owes taken out. -/
theorem tcSt_out (d : Dev nD) :
    ((K (F := F)).tcSt EH d 1 : sProp 𝕄) ⊢ iprop(owesTo (F := F) lvl1 d ∗ (owesTo (F := F) lvl1 d -∗ (K (F := F)).tcSt EH d 1)) := by
  unfold SparseCore.Cfg.tcSt owesTo
  rw [(K (F := F)).Otc_end d le_rfl]
  iintro ⟨HO, HR⟩
  isplitl [HO]
  · iexact HO
  iintro HO
  isplitl [HO]
  · iexact HO
  · iexact HR

variable (ρ : Dev nD → PrngReg)

set_option maxHeartbeats 4000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscopedBufs_eq]
  simp only [main, wp_bind, wp_pure]
  iintro ⟨#Hctx, Hst, ⟨Hb, ⟨Hp, Hl, Hn, Hq, Ha, H1, H2, H3⟩, Hts, -⟩, ⟨Hg, Ht⟩⟩
  ihave Hd := (deal m d) $$ [Hp Hl Hn Hq Ha]
  · isplitl [Hp]; · iexact Hp
    isplitl [Hl]; · iexact Hl
    isplitl [Hn]; · iexact Hn
    isplitl [Hq]; · iexact Hq
    iexact Ha
  icases Hd with ⟨Rp, Rl, Hgo⟩
  iapply ((K (F := F)).wp_run (D (F := F)) 𝒱 (EH := EH) (P := P m) κ d 0) $$ [Hst Hgo Rp Rl H1 H2 H3 Hb Hts Hg Ht]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (join m d) $$ [Rp Rl Hdn']
  · isplitl [Rp]; · iexact Rp
    isplitl [Rl]; · iexact Rl
    iexact Hdn'
  icases Hj with ⟨Hp, Hl, Hn, Hq, Ha⟩
  ihave Hso := (show ((K (F := F)).tcSt EH d ((0 : Fin 1).val + 1) : sProp 𝕄) ⊢ _ from tcSt_out (F := F) d) $$ Hst
  icases Hso with ⟨HO, Hst⟩
  ihave Hlv := (SparseCore.Cfg.ctx_levAts (K := K (F := F)) (EH := EH) (P := P m) κ) $$ Hctx
  -- the TensorCore call
  iapply ((K (F := F)).wp_liftProg (D (F := F)) 𝒱 (SparseCore.T d) Set.univ none (.op (.customCall (Pipeline.entry 0) ()) .ret) _)
  iapply (Pipeline.RegionSeg.wp (pcfgs (F := F)) adm (pdats (resN m d) (resQ m d) (resA m d) (m ((SparseCore.T d).loc main_v1)) lvl1) none cellOf_inj EP (defs₀ (F := F)) 𝒱₀ (K (F := F)).L (K (F := F)).lev
    (reg (resN m d) (resQ m d) (resA m d) (m ((SparseCore.T d).loc main_v1)) lvl1) d none (fun u hu => nomatch hu) .ret _)
  isplitr [Hb Hn Hq Ha H1 HO Hlv Hg Ht]; swap
  · isplitl [Hb]; · iexact Hb
    isplitl [Hn Hq Ha H1 HO]
    · iapply (show iprop(arrs (resN m d) (resQ m d) (resA m d) d (m ((SparseCore.T d).loc main_v1)) ∗ owesTo (F := F) lvl1 d)
        ⊢ (reg (resN m d) (resQ m d) (resA m d) (m ((SparseCore.T d).loc main_v1)) lvl1).pre d from BI.Entails.refl _)
      unfold arrs
      isplitr [HO]
      · isplitl [Hn]; · iexact Hn
        isplitl [Hq]; · iexact Hq
        isplitl [Ha]; · iexact Ha
        iexact H1
      · iexact HO
    isplitl [Hlv]; · iexact Hlv
    isplitl [Hg]; · iexact Hg
    iexact Ht
  iintro ⟨Hb, Hpost⟩
  ihave Hpost' := (show (reg (resN m d) (resQ m d) (resA m d) (m ((SparseCore.T d).loc main_v1)) lvl1).post d
    ⊢ iprop(arrs (resN m d) (resQ m d) (resA m d) d (finish (resN m d) (resQ m d) (resA m d)) ∗ owesTo (F := F) lvl1 d) from BI.Entails.refl _) $$ Hpost
  unfold arrs
  icases Hpost' with ⟨⟨-, -, -, H1⟩, HO⟩
  ihave Hst := Hst $$ HO
  rw [wp_ret]; imodintro
  -- the slice and the reshape
  iapply (wp_hlo_within 𝒱 (SparseCore.T d) none Set.univ (op := opS) (S := S3) (show ({b1, b2} : Finset (DevRef τ sig)) ⊆ S3 by decide) (V := V1 m d)) $$ [Hb H1 H2 H3]
  · isplitl [Hb]; · iexact Hb
    rw [held_S3, V1_1, V1_2, V1_3]
    isplitl [H1]; · iexact H1
    isplitl [H2]; · iexact H2
    iexact H3
  iintro ⟨Hb, Hh⟩
  rw [wp_ret]; imodintro
  iapply (wp_hlo_within 𝒱 (SparseCore.T d) none Set.univ (op := opR) (S := S3) (show ({b2, b3} : Finset (DevRef τ sig)) ⊆ S3 by decide) (V := (opS (F := F)).result (V1 m d))) $$ [Hb Hh]
  · isplitl [Hb]; · iexact Hb
    iexact Hh
  iintro ⟨Hb, Hh⟩
  rw [wp_ret]; imodintro
  ihave Hh' := (Entails.of_eq (held_S3 (F := F) d _)) $$ Hh
  icases Hh' with ⟨-, -, H3⟩
  imodintro
  isplitl [Hst]; · iexact Hst
  isplitr [Hb Hts]
  · isplitl [Hp]; · iexact Hp
    isplitl [Hl]; · iexact Hl
    iexact H3
  isplitl [Hb] <;> iassumption

def fq (d : Dev nD) (s' : Phys nD τ sig (Elt F)) : Prop :=
  s'.mem.mem (pLoc d) = m (pLoc d) ∧ s'.mem.mem (lLoc d) = m (lLoc d) ∧ s'.mem.mem ((SparseCore.T d).loc main_v3) = out m d

theorem hfin (d : Dev nD) (s' : Phys nD τ sig (Elt F)) : iprop(FIN m d ∗ SI s') ⊢ (⌜fq m d s'⌝ : sProp 𝕄) := by
  iintro ⟨⟨Hp, Hl, H3⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := (SparseCore.T d).loc main_v3) (I := Finset.univ) (q := fullShare) (f := out m d)) $$ [HSI H3]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (pLoc c) = m (pLoc c) ∧ r.2.mem (lLoc c) = m (lLoc c) ∧ r.2.mem ((SparseCore.T c).loc main_v3) = out m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Proof.K

end
-- ==== Proof.FrameKernel.lean ====
module

public import proofs.«01_k».proof.Defs
public import proofs.«01_k».proof.Proof.Main
public import proofs.«01_k».proof.Proof.Gen.Kernel

/-! The frames of the kernel, at the reals and at the bits. -/

@[expose] public section

noncomputable section

namespace Proof.K

open Idealize.ShloMosaic Idealize.SL.Sem

/-- The kernel at the reals leaves its arguments as they were, and every semaphore at zero. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The run at the bits, as the printed program at the reals reads there. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (Cert.KernelIdeal.threads (F := Bits)) ⟨m, fun _ => 0, ρ⟩ fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)) ∧ r.2.sem = fun _ => 0 :=
  (θ_run Cert.KernelIdeal.defs _ _).mono (fun _ h => ⟨fun c => ⟨(h.1 c).1, (h.1 c).2.1⟩, h.2⟩) (run_main (F := Bits) m ρ)

set_option smartUnfolding false in
/-- So does the kernel at the bits: the run was proved over any element type. -/
theorem frame_kernel : Cert.quiescent_Kernel := by
  intro m ρ _
  with_unfolding_all exact frame_bits m ρ

end Proof.K

end
-- ==== Proof.FrameRef.lean ====
module

public import proofs.«01_k».proof.Defs
public import proofs.«01_k».proof.Proof.Gen.ReferenceIdeal
public import Idealize.ShloMosaic.Lib.StableHlo.RunHlo
public import Idealize.ShloMosaic.Lib.Claim

/-! The reference's frame: host operations only. -/

@[expose] public section

noncomputable section

namespace Proof.R

open Idealize.ShloMosaic Idealize.SL.Sem

set_option maxHeartbeats 4000000 in
/-- The reference runs to its end, and leaves its arguments and every semaphore as they were. -/
theorem frame_reference : Cert.quiescent_ReferenceIdeal := by
  intro m g _
  hlo_run
  · exact fun _ => ⟨trivial, trivial⟩
  · exact sem_eq_zero_of_no_sems (sig := Cert.ReferenceIdeal.sig) (by decide) _

end Proof.R

end
-- ==== Proof.Math.lean ====
module

public import Mathlib.Algebra.BigOperators.Fin
public import Mathlib.Algebra.BigOperators.Field
public import Mathlib.Algebra.Order.BigOperators.Group.Finset
public import Mathlib.Order.Interval.Finset.Fin
public import Mathlib.Data.Real.Basic
public import Mathlib.Tactic.Ring
public import Mathlib.Tactic.FieldSimp
public import Mathlib.Tactic.Linarith
public import Mathlib.Tactic.Positivity

/-!
# The hinge loss of quantised errors, counted by bins

`h i` is the level of element `i`: zero when its error is not positive, and its bin plus one when it is. `t i` is its
label. The sorted loss of the errors at the bins' centres is the sum over the bins' edges of the Jaccard loss of the
elements above the edge.
-/

@[expose] public section

noncomputable section

namespace Proof.Math

open Finset

section count

variable {ι : Type} [Fintype ι] (h t : ι → ℕ)

/-- How many elements lie above edge `k`, and how many of them are labelled. -/
def cnt (k : ℕ) : ℕ := (univ.filter fun i => k < h i).card
def hit (k : ℕ) : ℕ := ∑ i ∈ univ.filter (fun i => k < h i), t i
def tot : ℕ := ∑ i, t i

/-- The Jaccard loss of the elements above edge `k`. -/
def jac (k : ℕ) : ℝ := if cnt h k = 0 then 0 else (cnt h k : ℝ) / ((tot t : ℝ) + cnt h k - hit h t k)

/-- The loss: one bin's width for each edge, and half of it for the lowest. -/
def loss : ℝ := ((∑ k ∈ range 4096, jac h t k) - 1 / 2 * jac h t 0) * (1 / 256)

theorem hit_le_cnt (ht : ∀ i, t i ≤ 1) (k : ℕ) : hit h t k ≤ cnt h k := by
  unfold hit cnt
  refine (sum_le_sum fun i _ => ht i).trans ?_
  simp

theorem hit_le_tot (k : ℕ) : hit h t k ≤ tot t := sum_le_sum_of_subset (filter_subset _ _)

/-- The error of an element at level `n`, at its bin's centre. -/
def cen (n : ℕ) : ℝ := if n = 0 then 0 else ((n : ℝ) - 1 / 2) / 256

/-- What one edge adds. -/
def wt (k : ℕ) : ℝ := if k = 0 then 1 / 2 else 1

theorem sum_wt (n : ℕ) : ∑ k ∈ range n, wt k = if n = 0 then 0 else (n : ℝ) - 1 / 2 := by
  induction n with
  | zero => simp
  | succ n ih =>
    rw [sum_range_succ, ih]
    unfold wt
    rcases Nat.eq_zero_or_pos n with rfl | hn
    · norm_num
    · rw [if_neg (by omega), if_neg (by omega), if_neg (by omega)]
      push_cast
      ring

theorem sum_wt_mul (J : ℕ → ℝ) (n : ℕ) :
    ∑ k ∈ range (n + 1), wt k * J k = (∑ k ∈ range (n + 1), J k) - 1 / 2 * J 0 := by
  rw [sum_range_succ', sum_range_succ']
  have : ∀ k, wt (k + 1) = 1 := fun k => by unfold wt; rw [if_neg (by omega)]
  simp only [this, one_mul]
  unfold wt
  rw [if_pos rfl]
  ring

theorem cen_eq (n : ℕ) (hn : n ≤ 4096) : cen n = (1 / 256) * ∑ k ∈ range 4096, if k < n then wt k else 0 := by
  have : (∑ k ∈ range 4096, if k < n then wt k else 0) = ∑ k ∈ range n, wt k := by
    rw [← sum_filter]
    congr 1
    ext k
    simp only [mem_filter, mem_range]
    omega
  rw [this, sum_wt]
  unfold cen
  split_ifs
  · simp
  · ring

end count

section sorted

variable {N : ℕ} {ι : Type} [Fintype ι] (h t : ι → ℕ) (π : Fin N → ι)

/-- The labels among the first `n` of the sorted order. -/
def pre (n : ℕ) : ℕ := ∑ j ∈ univ.filter (fun j : Fin N => j.val < n), t (π j)

/-- The Jaccard loss of the first `n` of the sorted order. -/
def jr (n : ℕ) : ℝ :=
  if n = 0 then 0 else 1 - ((tot t : ℝ) - pre t π n) / ((tot t : ℝ) + (n - pre t π n))

theorem mem_initial (S : Finset (Fin N)) (hS : ∀ i j, i < j → j ∈ S → i ∈ S) (i : Fin N) : i ∈ S ↔ i.val < S.card := by
  constructor
  · intro hi
    have : Finset.Iic i ⊆ S := fun j hj => by
      rcases lt_or_eq_of_le (Finset.mem_Iic.mp hj) with h | h
      · exact hS j i h hi
      · exact h ▸ hi
    have := card_le_card this
    rw [Fin.card_Iic] at this
    omega
  · intro hi
    by_contra hn
    have : S ⊆ Finset.Iio i := fun j hj => by
      rw [Finset.mem_Iio]
      rcases lt_trichotomy j i with h | h | h
      · exact h
      · exact absurd (h ▸ hj) hn
      · exact absurd (hS i j h hj) hn
    have := card_le_card this
    rw [Fin.card_Iio] at this
    omega

theorem telescope (J : ℕ → ℝ) (n : ℕ) (hn : n ≤ N) :
    ∑ i ∈ univ.filter (fun i : Fin N => i.val < n), (J (i.val + 1) - J i.val) = J n - J 0 := by
  rw [sum_filter, Fin.sum_univ_eq_sum_range (fun i => if i < n then J (i + 1) - J i else 0) N, ← sum_filter]
  have : (range N).filter (fun i => i < n) = range n := by
    ext k
    simp only [mem_filter, mem_range]
    omega
  rw [this, sum_range_sub]

variable (hπ : Function.Bijective π) (hs : ∀ i j : Fin N, i < j → h (π j) ≤ h (π i))
include hπ

theorem card_above (k : ℕ) : (univ.filter fun i : Fin N => k < h (π i)).card = cnt h k := by
  unfold cnt
  refine card_bij (fun i _ => π i) (fun i hi => ?_) (fun i _ j _ e => hπ.1 e) (fun b hb => ?_)
  · simpa using hi
  · obtain ⟨i, rfl⟩ := hπ.2 b
    exact ⟨i, by simpa using hb, rfl⟩

theorem cnt_le (k : ℕ) : cnt h k ≤ N := by
  rw [← card_above h π hπ k]
  exact (card_le_univ _).trans (by simp)

include hs

theorem above_iff (k : ℕ) (i : Fin N) : k < h (π i) ↔ i.val < cnt h k := by
  rw [← card_above h π hπ k, ← mem_initial]
  · simp
  · intro i j hij hj
    simp only [mem_filter, mem_univ, true_and] at hj ⊢
    exact lt_of_lt_of_le hj (hs i j hij)

theorem pre_cnt (k : ℕ) : pre t π (cnt h k) = hit h t k := by
  unfold pre hit
  rw [show (univ.filter fun j : Fin N => j.val < cnt h k) = univ.filter (fun j : Fin N => k < h (π j)) from
    filter_congr fun j _ => (above_iff h π hπ hs k j).symm]
  refine sum_bij (fun i _ => π i) (fun i hi => ?_) (fun i _ j _ e => hπ.1 e) (fun b hb => ?_) (fun _ _ => rfl)
  · simpa using hi
  · obtain ⟨i, rfl⟩ := hπ.2 b
    exact ⟨i, by simpa using hb, rfl⟩

theorem jr_cnt (ht : ∀ i, t i ≤ 1) (k : ℕ) : jr t π (cnt h k) = jac h t k := by
  unfold jr jac
  split_ifs with h0
  · rfl
  · rw [pre_cnt h t π hπ hs]
    have h1 : (hit h t k : ℝ) ≤ cnt h k := by exact_mod_cast hit_le_cnt h t ht k
    have h2 : (hit h t k : ℝ) ≤ tot t := by exact_mod_cast hit_le_tot h t k
    have h3 : (1 : ℝ) ≤ cnt h k := by exact_mod_cast Nat.one_le_iff_ne_zero.mpr h0
    have h4 : (0 : ℝ) ≤ hit h t k := by positivity
    have hpos : (0 : ℝ) < (tot t : ℝ) + (cnt h k - hit h t k) := by
      rcases lt_or_eq_of_le h1 with hlt | heq
      · linarith
      · linarith
    rw [show (tot t : ℝ) + cnt h k - hit h t k = (tot t : ℝ) + (cnt h k - hit h t k) by ring]
    field_simp
    ring

/-- The sorted loss is the loss counted by bins. -/
theorem sorted_loss (ht : ∀ i, t i ≤ 1) (hh : ∀ i, h i ≤ 4096) :
    ∑ i : Fin N, cen (h (π i)) * (jr t π (i.val + 1) - jr t π i.val) = loss h t := by
  have e1 : ∀ i : Fin N, cen (h (π i)) * (jr t π (i.val + 1) - jr t π i.val)
      = ∑ k ∈ range 4096, (1 / 256) * (wt k * if i.val < cnt h k then (jr t π (i.val + 1) - jr t π i.val) else 0) := by
    intro i
    rw [cen_eq _ (hh _), mul_assoc, sum_mul, mul_sum]
    refine sum_congr rfl fun k _ => ?_
    simp only [above_iff h π hπ hs k i]
    split_ifs <;> ring
  rw [sum_congr rfl fun i _ => e1 i, sum_comm]
  have e2 : ∀ k ∈ range 4096, (∑ i : Fin N, (1 / 256) * (wt k * if i.val < cnt h k then (jr t π (i.val + 1) - jr t π i.val) else 0))
      = (1 / 256) * (wt k * jac h t k) := by
    intro k _
    rw [← mul_sum, ← mul_sum, ← sum_filter, telescope _ _ (cnt_le h π hπ k), jr_cnt h t π hπ hs ht k]
    simp [jr]
  rw [sum_congr rfl e2, ← mul_sum]
  unfold loss
  have e3 : ∑ k ∈ range 4096, wt k * jac h t k = (∑ k ∈ range 4096, jac h t k) - 1 / 2 * jac h t 0 := by
    exact sum_wt_mul (jac h t) 4095
  rw [e3]
  ring

end sorted

end Proof.Math

end
-- ==== Proof.Level.lean ====
module

public import Idealize.ShloMosaic.PureOps.Ideal
public import Idealize.ShloMosaic.PureOps.Ideal.Laws
public import Idealize.ShloMosaic.Lib.IdealHost
public import Idealize.ShloMosaic.Lib.ValueIdxCore
public import proofs.«01_k».proof.Proof.Math

/-! The level of one element: zero where its error is not positive, and otherwise one more than its bin. -/

@[expose] public section

noncomputable section

namespace Proof.Level

open Idealize.ShloMosaic Proof.Math

/-- The error of one element. -/
def errS (v : Ideal .f32) (l : BitVec 32) : Ideal .f32 :=
  FloatOps.subf (FloatOps.ofBits .f32 0x3F800000#32)
    (FloatOps.mulf v (FloatOps.subf (FloatOps.mulf (FloatOps.ofBits .f32 0x40000000#32) (FloatOps.sitofp .f32 l)) (FloatOps.ofBits .f32 0x3F800000#32)))

/-- The number of its bin, before it is clamped. -/
def rawBin (e : Ideal .f32) : BitVec 32 := FloatOps.fptosi 32 (FloatOps.mulf e (FloatOps.ofBits .f32 0x43800000#32))

def isPos (e : Ideal .f32) : Prop := (0 : EReal) < e

open Classical in
/-- Its level. -/
def lev (e : Ideal .f32) : ℕ := if isPos e then (min (rawBin e).toInt 4095).toNat + 1 else 0

theorem lev_le (e : Ideal .f32) : lev e ≤ 4096 := by
  unfold lev; split_ifs <;> omega

theorem ofBits_256 : (FloatOps.ofBits .f32 0x43800000#32 : Ideal .f32) = ((256 : ℝ) : EReal) := by
  rw [Ideal.ofBits_def]; simp [Ideal.ofBits, Ideal.ieee, -EReal.coe_mul]; norm_num

theorem ofBits_half : (FloatOps.ofBits .f32 0x3F000000#32 : Ideal .f32) = ((1 / 2 : ℝ) : EReal) := by
  rw [Ideal.ofBits_def]; simp [Ideal.ofBits, Ideal.ieee, -EReal.coe_mul]; norm_num

theorem ofBits_one : (FloatOps.ofBits .f32 0x3F800000#32 : Ideal .f32) = ((1 : ℝ) : EReal) := by
  rw [Ideal.ofBits_def, Ideal.ofBits_one_f32]; norm_cast

theorem ofBits_zero : (FloatOps.ofBits .f32 0x00000000#32 : Ideal .f32) = ((0 : ℝ) : EReal) := by
  rw [Ideal.ofBits_def, Ideal.ofBits_zero_f32]; norm_cast

theorem toIntClamped_nonneg (lo hi : ℤ) (hh : 0 ≤ hi) (x : EReal) (hx : 0 < x) : 0 ≤ Ideal.toIntClamped lo hi x := by
  induction x with
  | bot => exact absurd hx (by simp)
  | top => exact hh
  | coe r =>
    have hr : 0 < r := by exact_mod_cast hx
    rw [Ideal.toIntClamped_coe, if_pos hr.le]
    have : 0 ≤ ⌊r⌋ := Int.floor_nonneg.2 hr.le
    omega

theorem toIntClamped_le (lo hi : ℤ) (h : lo ≤ hi) (x : EReal) : Ideal.toIntClamped lo hi x ≤ hi := by
  induction x with
  | bot => exact h
  | top => exact le_refl _
  | coe r => rw [Ideal.toIntClamped_coe]; omega

theorem rawBin_nonneg (e : Ideal .f32) (he : isPos e) : 0 ≤ (rawBin e).toInt := by
  have h : (0 : EReal) < (e : EReal) * ((256 : ℝ) : EReal) := EReal.mul_pos he (by norm_cast)
  have h1 := toIntClamped_nonneg (-(2 ^ 31)) (2 ^ 31 - 1) (by norm_num) _ h
  have h2 := toIntClamped_le (-(2 ^ 31)) (2 ^ 31 - 1) (by norm_num) ((e : EReal) * ((256 : ℝ) : EReal))
  have e1 : rawBin e = BitVec.ofInt 32 (Ideal.toIntClamped (-(2 ^ 31)) (2 ^ 31 - 1) ((e : EReal) * ((256 : ℝ) : EReal))) := by
    unfold rawBin; rw [ofBits_256]; rfl
  rw [e1]
  generalize Ideal.toIntClamped (-(2 ^ 31)) (2 ^ 31 - 1) ((e : EReal) * ((256 : ℝ) : EReal)) = z at h1 h2
  rw [BitVec.toInt_ofInt, Int.bmod_eq_of_le (by norm_num; omega) (by norm_num; omega)]
  exact h1

theorem cmp_pos (e : Ideal .f32) : FloatOps.cmpf .ogt e (FloatOps.ofBits .f32 0x00000000#32 : Ideal .f32) = 1#1 ↔ isPos e := by
  rw [Ideal.ofBits_def, Ideal.ofBits_zero_f32]
  show BitVec.ofBool (decide ((0 : EReal) < e)) = 1#1 ↔ (0 : EReal) < e
  by_cases h : (0 : EReal) < e <;> simp [h]

theorem select_true {α : Type} (c : BitVec 1) (h : c = 1#1) (a b : α) : Scalar.select c a b = a := by subst h; rfl
theorem select_false {α : Type} (c : BitVec 1) (h : c ≠ 1#1) (a b : α) : Scalar.select c a b = b := by
  have : c = 0#1 := by revert h; revert c; decide
  subst this; rfl

theorem div_eq {x y : ℝ} (hy : y ≠ 0) : Ideal.div (x : EReal) (y : EReal) = ((x / y : ℝ) : EReal) := by
  rw [Ideal.div_coe hy, ← EReal.coe_mul, mul_one_div]

/-- The smaller of two numbers, read signed. -/
theorem minsi_toInt (a b : BitVec 32) : (IntOp.minsi a b).toInt = min a.toInt b.toInt := by
  unfold IntOp.minsi
  simp only [BitVec.slt, decide_eq_true_eq]
  split_ifs <;> omega

theorem maxsi_toInt (a b : BitVec 32) : (IntOp.maxsi a b).toInt = max a.toInt b.toInt := by
  unfold IntOp.maxsi
  simp only [BitVec.slt, decide_eq_true_eq]
  split_ifs <;> omega

/-- The error at its bin's centre. -/
theorem centre (e : Ideal .f32) :
    Scalar.select (FloatOps.cmpf .ogt e (FloatOps.ofBits .f32 0x00000000#32 : Ideal .f32))
      (FloatOps.hostDivf (FloatOps.addf (FloatOps.sitofp .f32 (IntOp.minsi (rawBin e) 4095#32)) (FloatOps.ofBits .f32 0x3F000000#32 : Ideal .f32))
        (FloatOps.ofBits .f32 0x43800000#32 : Ideal .f32))
      (FloatOps.ofBits .f32 0x00000000#32 : Ideal .f32) = ((cen (lev e) : ℝ) : EReal) := by
  by_cases h : isPos e
  · rw [select_true _ ((cmp_pos e).2 h), ofBits_half, ofBits_256]
    have h0 := rawBin_nonneg e h
    have h1 : (IntOp.minsi (rawBin e) 4095#32).toInt = min (rawBin e).toInt 4095 := minsi_toInt _ _
    have h2 : ((IntOp.minsi (rawBin e) 4095#32).toInt : ℝ) = ((min (rawBin e).toInt 4095).toNat : ℝ) := by
      rw [h1]
      have : ((min (rawBin e).toInt 4095).toNat : ℤ) = min (rawBin e).toInt 4095 := Int.toNat_of_nonneg (by omega)
      exact_mod_cast congrArg (Int.cast : ℤ → ℝ) this.symm
    show Ideal.div ((((IntOp.minsi (rawBin e) 4095#32).toInt : ℝ) : EReal) + ((1 / 2 : ℝ) : EReal)) ((256 : ℝ) : EReal) = _
    rw [h2, ← EReal.coe_add, div_eq (by norm_num)]
    unfold lev cen
    rw [if_pos h, if_neg (Nat.succ_ne_zero _)]
    congr 1
    push_cast
    ring
  · rw [select_false _ (fun hc => h ((cmp_pos e).1 hc)), ofBits_zero]
    unfold lev cen
    rw [if_neg h, if_pos rfl]

end Proof.Level

end
-- ==== Proof.CountRow.lean ====
module

public import proofs.«01_k».proof.Proof.Vals
public import proofs.«01_k».proof.Proof.Level
public import Mathlib.Data.BitVec

/-!
# What one row adds to the histograms

Each lane writes its own stretch of the histograms, so a word of lane `j` gets what lane `j` adds and nothing else.
-/

@[expose] public section

noncomputable section

namespace Proof.K

open Cert.KernelIdeal Cert.KernelIdeal.Gen
open Idealize.ShloMosaic Idealize.ShloMosaic.ValueIdx
open Proof.Level Finset

/-- What the element of prediction `v` and label `l` adds to bin `b`. -/
def wrd (v : Ideal .f32) (l : BitVec 32) (b : ℕ) : BitVec 32 :=
  if lev (errS v l) = b + 1 then 1#32 + IntOp.shli .vector l 16#32 else 0#32

theorem fold_at {s : Shape} {N : ℕ} (c : s.Idx) (mask : Fin N → BitVec 1) (ix : Fin N → s.Idx) (val : Fin N → BitVec 32) :
    ∀ (ks : List (Fin N)) (g : s.Idx → BitVec 32),
    ks.foldl (fun g k => if mask k = 1 then (fun j => if (∀ a, (j a).val = (ix k a).val) then g (ix k) + val k else g j) else g) g c
      = g c + (ks.map fun k => if mask k = 1 ∧ (∀ a, (c a).val = (ix k a).val) then val k else 0#32).sum
  | [], g => by simp
  | k :: ks, g => by
    rw [List.foldl_cons, fold_at c mask ix val ks, List.map_cons, List.sum_cons]
    by_cases hm : mask k = 1
    · by_cases hc : ∀ a, (c a).val = (ix k a).val
      · have e : c = ix k := funext fun a => Fin.ext (hc a)
        rw [if_pos hm, if_pos hc, if_pos ⟨hm, hc⟩, ← e, add_assoc]
      · rw [if_pos hm, if_neg hc, if_neg (fun h => hc h.2)]; simp
    · rw [if_neg hm, if_neg (fun h => hm h.1)]; simp

theorem store_at {s : Shape} {d : Fin 1 → Nat} (f : Vec Ideal s .i32) (idxs : Fin s.rank → IVec ⟨1, d⟩ 32) (v : Vec Ideal ⟨1, d⟩ .i32) (mask : IVec ⟨1, d⟩ 1)
    (h : ∀ a x, (idxs a x).toNat < s.size a) (c : s.Idx) :
    storeIdx f idxs v mask true h c
      = (f c : BitVec 32) + ∑ k : Fin (d 0), if mask (Shape.ofLane k) = 1 ∧ (∀ a, (c a).val = (idxs a (Shape.ofLane k)).toNat) then (v (Shape.ofLane k) : BitVec 32) else 0#32 := by
  rw [Fin.sum_univ_def]
  unfold storeIdx
  simp only [if_true, Elt.idxAdd]
  exact fold_at c (fun k => mask (Shape.ofLane k)) (fun k => idxAt idxs h (Shape.ofLane k)) (fun k => v (Shape.ofLane k)) (List.finRange (d 0)) f

theorem clamp_toNat (e : Ideal .f32) (he : isPos e) : (clampBin (rawBin e)).toNat + 1 = lev e := by
  have h0 := rawBin_nonneg e he
  have h1 : (clampBin (rawBin e)).toInt = min (rawBin e).toInt 4095 := by
    unfold clampBin
    rw [minsi_toInt, maxsi_toInt]
    show min (max _ 0) 4095 = _
    omega
  have h2 : ((clampBin (rawBin e)).toNat : ℤ) = (clampBin (rawBin e)).toInt := by
    rw [BitVec.toInt_eq_toNat_of_lt]
    have := clampBin_le (rawBin e)
    omega
  unfold lev
  rw [if_pos he]
  omega

theorem binOf_raw (e : Ideal .f32) : binOf e = clampBin (rawBin e) := (rfl)

theorem ofLane_ix1 (k : Fin 16) : (Shape.ofLane k : S16.Idx) = ix1 k := by
  funext a
  obtain rfl : a = 0 := Subsingleton.elim _ _
  rfl

theorem pay1_at (lv : Vec Ideal S1x16 .i32) (k : Fin 16) : k0_pay1 lv (ix1 k) = lv (ix2 0 k) := by
  unfold k0_pay1
  exact ValueIdx.shapeCast_1a_a_apply (a := 16) lv shapeCasts_S1x16_S16 k

theorem pay2_shape (w : FVec Ideal S16 .f32) (z : IVec S16 32) (x : S16.Idx) :
    subf (broadcast S16 (Scalar.ofBits .f32 0x3F800000#32 : Ideal .f32)) (mulf w (subf (mulf (broadcast S16 (Scalar.ofBits .f32 0x40000000#32 : Ideal .f32)) (sitofp .f32 z)) (broadcast S16 (Scalar.ofBits .f32 0x3F800000#32 : Ideal .f32)))) x
      = errS (w x) (z x) := (rfl)

theorem pay2_at (pv : Vec Ideal S1x16 .f32) (lv : Vec Ideal S1x16 .i32) (k : Fin 16) : k0_pay2 pv lv (ix1 k) = errS (pv (ix2 0 k)) (lv (ix2 0 k)) := by
  unfold k0_pay2
  refine (pay2_shape _ _ _).trans ?_
  rw [pay1_at]
  congr 1
  exact ValueIdx.shapeCast_1a_a_apply (a := 16) pv shapeCasts_S1x16_S16 k

theorem pay3_at (pv : Vec Ideal S1x16 .f32) (lv : Vec Ideal S1x16 .i32) (k : Fin 16) : k0_pay3 pv lv (ix1 k) = 1#1 ↔ isPos (errS (pv (ix2 0 k)) (lv (ix2 0 k))) := by
  rw [← pay2_at]
  exact cmp_pos _

theorem pay4_at (lv : Vec Ideal S1x16 .i32) (k : Fin 16) : k0_pay4 lv (ix1 k) = 1#32 + IntOp.shli .vector (lv (ix2 0 k) : BitVec 32) 16#32 := by
  rw [← pay1_at lv k]
  rfl

theorem rowStore_at (pv : Vec Ideal S1x16 .f32) (lv : Vec Ideal S1x16 .i32) (f : Vec Ideal S65552 .i32)
    (h : ∀ a x, ((![k0_pay5 k0_pay1634 pv lv] : Fin 1 → IVec S16 32) a x).toNat < S65552.size a) (j : Fin 16) (b : Fin 4096) :
    storeIdx f ![k0_pay5 k0_pay1634 pv lv] (k0_pay4 (F := Ideal) lv) (k0_pay3 pv lv) true h (cellOf j b)
      = (f (cellOf j b) : BitVec 32) + wrd (pv (ix2 0 j)) (lv (ix2 0 j)) b.val := by
  refine (store_at f _ _ _ h _).trans (congrArg (fun z : BitVec 32 => (f (cellOf j b) : BitVec 32) + z) ?_)
  have hk : ∀ k : Fin 16, (k0_pay3 pv lv (ix1 k) = 1 ∧ (∀ a, (cellOf j b a).val = ((![k0_pay5 k0_pay1634 pv lv] : Fin 1 → IVec S16 32) a (ix1 k)).toNat))
      ↔ k = j ∧ lev (errS (pv (ix2 0 k)) (lv (ix2 0 k))) = b.val + 1 := by
    intro k
    have e5 : (k0_pay5 k0_pay1634 pv lv (ix1 k)).toNat = 4097 * k.val + (clampBin (rawBin (errS (pv (ix2 0 k)) (lv (ix2 0 k))))).toNat := by
      rw [pay5_toNat pv lv (ix1 k), pay2_at, binOf_raw]
    have hb := b.isLt
    have hle := clampBin_le (rawBin (errS (pv (ix2 0 k)) (lv (ix2 0 k))))
    constructor
    · rintro ⟨h3, h5⟩
      have hp := (pay3_at pv lv k).1 h3
      have hl := clamp_toNat _ hp
      have h := h5 0
      change 4097 * j.val + b.val = (k0_pay5 k0_pay1634 pv lv (ix1 k)).toNat at h
      rw [e5] at h
      have : k.val = j.val := by omega
      exact ⟨Fin.ext this, by omega⟩
    · rintro ⟨rfl, hl⟩
      have hp : isPos (errS (pv (ix2 0 k)) (lv (ix2 0 k))) := by
        by_contra hn
        unfold lev at hl
        rw [if_neg hn] at hl
        omega
      have hl' := clamp_toNat _ hp
      refine ⟨(pay3_at pv lv k).2 hp, fun a => ?_⟩
      obtain rfl : a = 0 := Subsingleton.elim _ _
      change 4097 * k.val + b.val = (k0_pay5 k0_pay1634 pv lv (ix1 k)).toNat
      rw [e5]
      omega
  have hs : ∀ k : Fin 16, (if k0_pay3 pv lv (Shape.ofLane k) = 1 ∧ (∀ a, (cellOf j b a).val = ((![k0_pay5 k0_pay1634 pv lv] : Fin 1 → IVec S16 32) a (Shape.ofLane k)).toNat) then k0_pay4 lv (Shape.ofLane k) else 0#32)
      = if k = j then wrd (pv (ix2 0 j)) (lv (ix2 0 j)) b.val else 0#32 := by
    intro k
    rw [ofLane_ix1, pay4_at]
    by_cases hkj : k = j
    · subst hkj
      rw [if_pos rfl]
      unfold wrd
      by_cases hl : lev (errS (pv (ix2 0 k)) (lv (ix2 0 k))) = b.val + 1
      · rw [if_pos hl, if_pos ((hk k).2 ⟨rfl, hl⟩)]
      · rw [if_neg hl, if_neg (fun h => hl ((hk k).1 h).2)]
    · rw [if_neg hkj, if_neg (fun h => hkj ((hk k).1 h).1)]
  refine (Finset.sum_congr rfl fun k _ => hs k).trans ?_
  exact (Finset.sum_ite_eq' _ _ _).trans (if_pos (Finset.mem_univ _))

theorem rowHist_at (o : Fin 2 → Nat) (ho : ∀ a, o a + S1x16.size a ≤ S16x512.size a) (p : Vec Ideal S16x512 .f32) (l : Vec Ideal S16x512 .i32)
    (f : Vec Ideal S65552 .i32) (j : Fin 16) (b : Fin 4096) :
    rowHist o ho p l f (cellOf j b) = (f (cellOf j b) : BitVec 32) + wrd (rowOf o ho p (ix2 0 j)) (rowOf o ho l (ix2 0 j)) b.val := by
  unfold rowHist
  exact rowStore_at _ _ f _ j b

end Proof.K
-- ==== Proof.CountTile.lean ====
module

public import proofs.«01_k».proof.Proof.CountRow
public import proofs.«01_k».proof.Proof.Tile
public import Mathlib.Tactic.Ring
public import Mathlib.Tactic.Abel

/-!
# What a subcore's histograms hold

A word of lane `j` holds the sum of what that lane's elements add to its bin.
-/

@[expose] public section

noncomputable section

namespace Proof.K

open Cert.KernelIdeal Cert.KernelIdeal.Gen
open Idealize.ShloMosaic Idealize.ShloMosaic.ValueIdx
open Proof.Level Finset

/-- The column of lane `j` in trip `k`. -/
def colOf (k : Fin k0_t2_loop.trips) (j : Fin 16) : Fin 512 := ⟨16 * k.val + j.val, by
  have : k.val < 32 := k.isLt
  omega⟩

theorem rowOf_at {α : Type} (o : Fin 2 → Nat) (ho : ∀ a, o a + S1x16.size a ≤ S16x512.size a) (r : Fin 16) (k : Fin k0_t2_loop.trips)
    (he : o = ![r.val, 16 * k.val]) (p : S16x512.Idx → α) (j : Fin 16) : rowOf o ho p (ix2 0 j) = p (ix2 r (colOf k j)) := by
  subst he
  unfold rowOf
  congr 1
  funext a
  apply Fin.ext
  refine (ValueKit.rect_emb_unit_val _ _ _ _ _).trans ?_
  fin_cases a
  · rfl
  · rfl

theorem sum16 (a : BitVec 32) (W : Fin 16 → BitVec 32) :
    (((((((((((((((a + W 0) + W 1) + W 2) + W 3) + W 4) + W 5) + W 6) + W 7) + W 8) + W 9) + W 10) + W 11) + W 12) + W 13) + W 14) + W 15 = a + ∑ r, W r := by
  simp only [Fin.sum_univ_succ, Fin.sum_univ_zero, add_zero, ← add_assoc]
  rfl

/-- What the element at row `r`, trip `k` and lane `j` of a chunk adds to bin `b`. -/
def wAt (p : Vec Ideal S16x512 .f32) (l : Vec Ideal S16x512 .i32) (j : Fin 16) (b : ℕ) (k : Fin k0_t2_loop.trips) (r : Fin 16) : BitVec 32 :=
  wrd (p (ix2 r (colOf k j))) (l (ix2 r (colOf k j))) b

theorem rowHist_wAt (o : Fin 2 → Nat) (ho : ∀ a, o a + S1x16.size a ≤ S16x512.size a) (r : Fin 16) (k : Fin k0_t2_loop.trips)
    (he : o = ![r.val, 16 * k.val]) (p : Vec Ideal S16x512 .f32) (l : Vec Ideal S16x512 .i32)
    (f : Vec Ideal S65552 .i32) (j : Fin 16) (b : Fin 4096) (z : BitVec 32) (hz : (f (cellOf j b) : BitVec 32) = z) :
    (rowHist o ho p l f (cellOf j b) : BitVec 32) = z + wAt p l j b.val k r := by
  refine (rowHist_at o ho p l f j b).trans ?_
  rw [rowOf_at o ho r k he p j, rowOf_at o ho r k he l j, hz]
  rfl

theorem tripHist_at (k : Fin k0_t2_loop.trips) (p : Vec Ideal S16x512 .f32) (l : Vec Ideal S16x512 .i32) (f : Vec Ideal S65552 .i32)
    (j : Fin 16) (b : Fin 4096) :
    (tripHist k p l f (cellOf j b) : BitVec 32) = (f (cellOf j b) : BitVec 32) + ∑ r, wAt p l j b.val k r := by
  rw [← sum16]
  unfold tripHist
  refine rowHist_wAt _ _ 15 k (k0_off18_eq k) p l _ j b _ ?_
  refine rowHist_wAt _ _ 14 k (k0_off17_eq k) p l _ j b _ ?_
  refine rowHist_wAt _ _ 13 k (k0_off16_eq k) p l _ j b _ ?_
  refine rowHist_wAt _ _ 12 k (k0_off15_eq k) p l _ j b _ ?_
  refine rowHist_wAt _ _ 11 k (k0_off14_eq k) p l _ j b _ ?_
  refine rowHist_wAt _ _ 10 k (k0_off13_eq k) p l _ j b _ ?_
  refine rowHist_wAt _ _ 9 k (k0_off12_eq k) p l _ j b _ ?_
  refine rowHist_wAt _ _ 8 k (k0_off11_eq k) p l _ j b _ ?_
  refine rowHist_wAt _ _ 7 k (k0_off10_eq k) p l _ j b _ ?_
  refine rowHist_wAt _ _ 6 k (k0_off9_eq k) p l _ j b _ ?_
  refine rowHist_wAt _ _ 5 k (k0_off8_eq k) p l _ j b _ ?_
  refine rowHist_wAt _ _ 4 k (k0_off7_eq k) p l _ j b _ ?_
  refine rowHist_wAt _ _ 3 k (k0_off6_eq k) p l _ j b _ ?_
  refine rowHist_wAt _ _ 2 k (k0_off5_eq k) p l _ j b _ ?_
  refine rowHist_wAt _ _ 1 k (k0_off4_eq k) p l _ j b _ ?_
  refine rowHist_wAt _ _ 0 k (k0_off3_eq k) p l _ j b _ ?_
  rfl

theorem iter_sum {N : ℕ} {α M : Type} [AddCommMonoid M] (g : Fin N → α → α) (r : α → M) (w : Fin N → M) (h : ∀ k a, r (g k a) = r a + w k) (a : α) :
    r (iter g a N) = r a + ∑ k, w k := by
  have hn : ∀ n, n ≤ N → r (iter g a n) = r a + ∑ k ∈ range n, if h : k < N then w ⟨k, h⟩ else 0 := by
    intro n
    induction n with
    | zero => intro _; simp [iter]
    | succ n ih =>
      intro hn
      rw [sum_range_succ, ← add_assoc, ← ih (by omega), dif_pos (show n < N by omega)]
      exact (congrArg r (iter_succ g a ⟨n, hn⟩)).trans (h _ _)
  rw [hn N le_rfl, Finset.sum_range]
  congr 1
  exact Finset.sum_congr rfl fun k _ => dif_pos k.isLt

theorem chunkHist_at (p : Vec Ideal S16x512 .f32) (l : Vec Ideal S16x512 .i32) (f : Vec Ideal S65552 .i32) (j : Fin 16) (b : Fin 4096) :
    (chunkHist p l f (cellOf j b) : BitVec 32) = (f (cellOf j b) : BitVec 32) + ∑ k, ∑ r, wAt p l j b.val k r :=
  iter_sum (fun k f => tripHist k p l f) (fun f => (f (cellOf j b) : BitVec 32)) _ (fun k f => tripHist_at k p l f j b) f

theorem histN_at (pc : Fin 16 → Vec Ideal S16x512 .f32) (lc : Fin 16 → Vec Ideal S16x512 .i32) (j : Fin 16) (b : Fin 4096) :
    (histN pc lc 16 (cellOf j b) : BitVec 32) = ∑ q, ∑ k, ∑ r, wAt (pc q) (lc q) j b.val k r :=
  (iter_sum (fun q f => chunkHist (pc q) (lc q) f) (fun f => (f (cellOf j b) : BitVec 32)) _ (fun q f => chunkHist_at (pc q) (lc q) f j b) (fun _ => 0#32)).trans
    (zero_add _)

/-- The label at row `r`, trip `k` and lane `j` of a chunk. -/
def labAt (l : Vec Ideal S16x512 .i32) (j : Fin 16) (k : Fin k0_t2_loop.trips) (r : Fin 16) : BitVec 32 := l (ix2 r (colOf k j))

theorem row_labAt (o : Fin 2 → Nat) (ho : ∀ a, o a + S1x16.size a ≤ S16x512.size a) (r : Fin 16) (k : Fin k0_t2_loop.trips)
    (he : o = ![r.val, 16 * k.val]) (l : Vec Ideal S16x512 .i32) (j : Fin 16) :
    (k0_pay1 (F := Ideal) (rowOf o ho l) (ix1 j) : BitVec 32) = labAt l j k r :=
  (pay1_at _ _).trans (rowOf_at o ho r k he l j)

theorem add_two (x y : IVec S16 32) (i : S16.Idx) (a b : BitVec 32) (hx : x i = a) (hy : y i = b) : addi x y i = a + b := by
  subst hx hy; rfl

theorem tree16 (a : BitVec 32) (W : Fin 16 → BitVec 32) :
    a + ((((W 0 + W 1) + (W 2 + W 3)) + ((W 4 + W 5) + (W 6 + W 7))) + (((W 8 + W 9) + (W 10 + W 11)) + ((W 12 + W 13) + (W 14 + W 15)))) = a + ∑ r, W r := by
  rw [← sum16]
  simp only [← add_assoc]

theorem tripAcc_at (k : Fin k0_t2_loop.trips) (l : Vec Ideal S16x512 .i32) (acc : IVec S16 32) (j : Fin 16) :
    tripAcc (F := Ideal) k l acc (ix1 j) = acc (ix1 j) + ∑ r, labAt l j k r := by
  rw [← tree16]
  unfold tripAcc
  refine add_two _ _ _ _ _ rfl ?_
  exact (add_two _ _ _ _ _ (add_two _ _ _ _ _ (add_two _ _ _ _ _ (add_two _ _ _ _ _ (row_labAt _ _ 0 k (k0_off3_eq k) l j) (row_labAt _ _ 1 k (k0_off4_eq k) l j)) (add_two _ _ _ _ _ (row_labAt _ _ 2 k (k0_off5_eq k) l j) (row_labAt _ _ 3 k (k0_off6_eq k) l j))) (add_two _ _ _ _ _ (add_two _ _ _ _ _ (row_labAt _ _ 4 k (k0_off7_eq k) l j) (row_labAt _ _ 5 k (k0_off8_eq k) l j)) (add_two _ _ _ _ _ (row_labAt _ _ 6 k (k0_off9_eq k) l j) (row_labAt _ _ 7 k (k0_off10_eq k) l j)))) (add_two _ _ _ _ _ (add_two _ _ _ _ _ (add_two _ _ _ _ _ (row_labAt _ _ 8 k (k0_off11_eq k) l j) (row_labAt _ _ 9 k (k0_off12_eq k) l j)) (add_two _ _ _ _ _ (row_labAt _ _ 10 k (k0_off13_eq k) l j) (row_labAt _ _ 11 k (k0_off14_eq k) l j))) (add_two _ _ _ _ _ (add_two _ _ _ _ _ (row_labAt _ _ 12 k (k0_off15_eq k) l j) (row_labAt _ _ 13 k (k0_off16_eq k) l j)) (add_two _ _ _ _ _ (row_labAt _ _ 14 k (k0_off17_eq k) l j) (row_labAt _ _ 15 k (k0_off18_eq k) l j)))))

theorem chunkAcc_at (l : Vec Ideal S16x512 .i32) (acc : IVec S16 32) (j : Fin 16) :
    chunkAcc (F := Ideal) l acc (ix1 j) = acc (ix1 j) + ∑ k, ∑ r, labAt l j k r :=
  iter_sum (fun k a => tripAcc (F := Ideal) k l a) (fun a => a (ix1 j)) _ (fun k a => tripAcc_at k l a j) acc

theorem accN_at (lc : Fin 16 → Vec Ideal S16x512 .i32) (j : Fin 16) :
    accN (F := Ideal) lc 16 (ix1 j) = ∑ q, ∑ k, ∑ r, labAt (lc q) j k r :=
  (iter_sum (fun q a => chunkAcc (F := Ideal) (lc q) a) (fun a => a (ix1 j)) _ (fun q a => chunkAcc_at (lc q) a j) k0_pay1635).trans
    (zero_add _)

end Proof.K
-- ==== Proof.CountMerge.lean ====
module

public import proofs.«01_k».proof.Proof.CountTile
public import Mathlib.Tactic.Positivity

/-!
# What a subcore hands on

The counts of a subcore's elements by bin, and how many of each are labelled, for labels which are 0 or 1. A lane has
8192 elements, so a word holds its two counts apart.
-/

@[expose] public section

noncomputable section

namespace Proof.K

open Cert.KernelIdeal Cert.KernelIdeal.Gen
open Idealize.ShloMosaic Idealize.ShloMosaic.ValueIdx
open Proof.Level Finset

/-- Whether an element is in bin `b`, and its label if it is. -/
def inBin (v : Ideal .f32) (l : BitVec 32) (b : ℕ) : ℕ := if lev (errS v l) = b + 1 then 1 else 0
def inLab (v : Ideal .f32) (l : BitVec 32) (b : ℕ) : ℕ := if lev (errS v l) = b + 1 then l.toNat else 0

theorem bit_cases (l : BitVec 32) (hl : l.toNat ≤ 1) : l = 0#32 ∨ l = 1#32 := by
  rcases Nat.le_one_iff_eq_zero_or_eq_one.1 hl with h | h
  · exact Or.inl (BitVec.eq_of_toNat_eq h)
  · exact Or.inr (BitVec.eq_of_toNat_eq h)

theorem wrd_eq (v : Ideal .f32) (l : BitVec 32) (hl : l.toNat ≤ 1) (b : ℕ) :
    wrd v l b = ((inBin v l b + 65536 * inLab v l b : ℕ) : BitVec 32) := by
  unfold wrd inBin inLab
  split_ifs
  · rcases bit_cases l hl with rfl | rfl <;> rfl
  · rfl

theorem inBin_le (v : Ideal .f32) (l : BitVec 32) (b : ℕ) : inBin v l b ≤ 1 := by unfold inBin; split_ifs <;> omega
theorem inLab_le (v : Ideal .f32) (l : BitVec 32) (hl : l.toNat ≤ 1) (b : ℕ) : inLab v l b ≤ 1 := by unfold inLab; split_ifs <;> omega

section lane

variable (pc : Fin 16 → Vec Ideal S16x512 .f32) (lc : Fin 16 → Vec Ideal S16x512 .i32)

/-- A sum over the elements of lane `j`. -/
def laneSum (g : Ideal .f32 → BitVec 32 → ℕ) (j : Fin 16) : ℕ :=
  ∑ q : Fin 16, ∑ k : Fin k0_t2_loop.trips, ∑ r : Fin 16, g (pc q (ix2 r (colOf k j))) (lc q (ix2 r (colOf k j)))

theorem laneSum_le (g : Ideal .f32 → BitVec 32 → ℕ) (hg : ∀ q i, g (pc q i) (lc q i) ≤ 1) (j : Fin 16) : laneSum pc lc g j ≤ 8192 := by
  unfold laneSum
  refine (sum_le_sum fun q _ => sum_le_sum fun k _ => sum_le_sum fun r _ => hg q _).trans ?_
  simp only [sum_const, card_univ, Fintype.card_fin, smul_eq_mul, mul_one]
  show 16 * (32 * 16) ≤ 8192
  norm_num

theorem histN_nat (hl : ∀ q i, ((lc q i : BitVec 32)).toNat ≤ 1) (j : Fin 16) (b : Fin 4096) :
    (histN pc lc 16 (cellOf j b) : BitVec 32)
      = ((laneSum pc lc (fun v l => inBin v l b.val) j + 65536 * laneSum pc lc (fun v l => inLab v l b.val) j : ℕ) : BitVec 32) := by
  rw [histN_at]
  unfold laneSum
  rw [mul_sum, ← sum_add_distrib, Nat.cast_sum]
  refine sum_congr rfl fun q _ => ?_
  rw [mul_sum, ← sum_add_distrib, Nat.cast_sum]
  refine sum_congr rfl fun k _ => ?_
  rw [mul_sum, ← sum_add_distrib, Nat.cast_sum]
  exact sum_congr rfl fun r _ => wrd_eq _ _ (hl q _) _

theorem half_low (c h : ℕ) (hc : c ≤ 8192) (hh : h ≤ 8192) : ((c + 65536 * h : ℕ) : BitVec 32) &&& 65535#32 = (c : BitVec 32) := by
  apply BitVec.eq_of_toNat_eq
  rw [BitVec.toNat_and]
  simp only [BitVec.natCast_eq_ofNat, BitVec.toNat_ofNat]
  have := Nat.and_two_pow_sub_one_eq_mod ((c + 65536 * h) % 2 ^ 32) 16
  norm_num at this ⊢
  rw [this]
  omega

theorem half_high (c h : ℕ) (hc : c ≤ 8192) (hh : h ≤ 8192) : IntOp.shrsi .vector ((c + 65536 * h : ℕ) : BitVec 32) 16#32 = (h : BitVec 32) := by
  apply BitVec.eq_of_toNat_eq
  unfold IntOp.shrsi
  rw [if_pos (by decide)]
  have hm : ((c + 65536 * h : ℕ) : BitVec 32).msb = false := by
    rw [BitVec.msb_eq_decide]
    simp only [BitVec.natCast_eq_ofNat, BitVec.toNat_ofNat]
    rw [decide_eq_false_iff_not]
    norm_num
    omega
  unfold BitVec.sshiftRight'
  rw [BitVec.sshiftRight_eq_of_msb_false hm]
  simp only [BitVec.natCast_eq_ofNat, BitVec.toNat_ofNat, BitVec.toNat_ushiftRight, Nat.shiftRight_eq_div_pow]
  norm_num
  omega

theorem foldl_sum {N : ℕ} (g : Fin N → BitVec 32) : (List.finRange N).foldl (fun a j => a + g j) 0#32 = ∑ j, g j := by
  have h : ∀ (ks : List (Fin N)) (a : BitVec 32), ks.foldl (fun a j => a + g j) a = a + (ks.map g).sum := by
    intro ks
    induction ks with
    | nil => intro a; simp
    | cons k ks ih => intro a; rw [List.foldl_cons, ih, List.map_cons, List.sum_cons, add_assoc]
  rw [h, Fin.sum_univ_def]
  exact zero_add _

theorem cast_toInt (n : ℕ) (h : n < 2147483648) : ((n : BitVec 32)).toInt = (n : ℤ) := by
  rw [BitVec.natCast_eq_ofNat, BitVec.toInt_eq_toNat_of_lt] <;> rw [BitVec.toNat_ofNat, Nat.mod_eq_of_lt (by omega)]
  omega

/-- A sum over all the elements of the subcore. -/
def tileSum (g : Ideal .f32 → BitVec 32 → ℕ) : ℕ := ∑ j, laneSum pc lc g j

theorem tileSum_lt (g : Ideal .f32 → BitVec 32 → ℕ) (hg : ∀ q i, g (pc q i) (lc q i) ≤ 1) : tileSum pc lc g < 2147483648 := by
  have : tileSum pc lc g ≤ 16 * 8192 := by
    unfold tileSum
    refine (sum_le_sum fun j _ => laneSum_le pc lc g hg j).trans ?_
    simp
  omega

theorem lowAt_nat (hl : ∀ q i, ((lc q i : BitVec 32)).toNat ≤ 1) (b : Fin 4096) :
    (lowAt (histN pc lc 16) b).toInt = (tileSum pc lc (fun v l => inBin v l b.val) : ℤ) := by
  rw [← cast_toInt _ (tileSum_lt pc lc _ fun q i => inBin_le _ _ _)]
  refine congrArg BitVec.toInt ?_
  unfold lowAt tileSum
  rw [Nat.cast_sum]
  refine (foldl_sum fun j => (histN pc lc 16 (cellOf j b) : BitVec 32) &&& 65535#32).trans ?_
  refine sum_congr rfl fun j _ => ?_
  rw [histN_nat pc lc hl]
  exact half_low _ _ (laneSum_le pc lc _ (fun q i => inBin_le _ _ _) j) (laneSum_le pc lc _ (fun q i => inLab_le _ _ (hl q i) _) j)

theorem highAt_nat (hl : ∀ q i, ((lc q i : BitVec 32)).toNat ≤ 1) (b : Fin 4096) :
    (highAt (histN pc lc 16) b).toInt = (tileSum pc lc (fun v l => inLab v l b.val) : ℤ) := by
  rw [← cast_toInt _ (tileSum_lt pc lc _ fun q i => inLab_le _ _ (hl q i) _)]
  refine congrArg BitVec.toInt ?_
  unfold highAt tileSum
  rw [Nat.cast_sum]
  refine (foldl_sum fun j => IntOp.shrsi .vector (histN pc lc 16 (cellOf j b) : BitVec 32) 16#32).trans ?_
  refine sum_congr rfl fun j _ => ?_
  rw [histN_nat pc lc hl]
  exact half_high _ _ (laneSum_le pc lc _ (fun q i => inBin_le _ _ _) j) (laneSum_le pc lc _ (fun q i => inLab_le _ _ (hl q i) _) j)

theorem accN_nat (hl : ∀ q i, ((lc q i : BitVec 32)).toNat ≤ 1) (j : Fin 16) :
    (accN (F := Ideal) lc 16 (ix1 j)).toInt = (laneSum pc lc (fun _ l => l.toNat) j : ℤ) := by
  rw [← cast_toInt _ (lt_of_le_of_lt (laneSum_le pc lc _ (fun q i => hl q i) j) (by norm_num))]
  refine congrArg BitVec.toInt ?_
  rw [accN_at]
  unfold laneSum
  rw [Nat.cast_sum]
  refine sum_congr rfl fun q _ => ?_
  rw [Nat.cast_sum]
  refine sum_congr rfl fun k _ => ?_
  rw [Nat.cast_sum]
  refine sum_congr rfl fun r _ => ?_
  rw [BitVec.natCast_eq_ofNat, BitVec.ofNat_toNat, BitVec.setWidth_eq]
  rfl

end lane

end Proof.K
-- ==== Proof.RefLem.lean ====
module

public import Idealize.ShloMosaic.Lib.Routing.Ops
public import Idealize.ShloMosaic.Lib.Routing.OpsSet
public import Idealize.ShloMosaic.Lib.SortFacts
public import Idealize.ShloMosaic.Lib.SortNet.HostSort
public import Idealize.ShloMosaic.Lib.ReduceAll
public import Idealize.ShloMosaic.Lib.Pipeline.Value
public import proofs.«01_k».proof.Proof.Level

/-! The host operations of the reference, read at an element, at any extent. -/

@[expose] public section

noncomputable section

namespace Proof.RefLem

open Idealize.ShloMosaic Idealize.ShloMosaic.Routing Idealize.ShloMosaic.ValueIdx Proof.Level Finset

/-- A left fold of additions of real numbers. -/
theorem foldl_add_coe {ι : Type} (l : List ι) (g : ι → EReal) (f : ι → ℝ) (hg : ∀ a ∈ l, g a = ((f a : ℝ) : EReal))
    (v : EReal) (z : ℝ) (hv : v = (z : EReal)) :
    l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a) (by
      rw [hv, hg a List.mem_cons_self, ← EReal.coe_add]), List.map_cons, List.sum_cons, add_assoc]

theorem sum_window_real (f : ℕ → ℝ) (M j : ℕ) (hj : j ≤ M) :
    ((List.range (M + 1)).map fun w => if M ≤ j + w then f (j + w - M) else 0).sum = ∑ k ∈ range (j + 1), f k := by
  obtain ⟨d, rfl⟩ : ∃ d, M = j + d := ⟨M - j, by omega⟩
  have e : ∀ (n : ℕ) (g : ℕ → ℝ), ((List.range n).map g).sum = ∑ k ∈ range n, g k := fun n g => rfl
  rw [e, show j + d + 1 = d + (j + 1) by omega, Finset.sum_range_add, Finset.sum_eq_zero, zero_add]
  · refine sum_congr rfl fun k hk => ?_
    rw [if_pos (by omega), show j + (d + k) - (j + d) = k by omega]
  · intro k hk
    have := mem_range.1 hk
    rw [if_neg (by omega)]

/-- A running sum read at one place. -/
theorem cum_read {N M : ℕ} (hN : M + 1 = N) (x : (shape1 N).Idx → EReal) (f : ℕ → ℝ) (hx : ∀ i : Fin N, x (ix1 i) = ((f i.val : ℝ) : EReal))
    (init : EReal) (hinit : init = ((0 : ℝ) : EReal)) (h : (shape1 N).ReduceWindows (![N] : Fin 1 → Nat) ![1] ![M] ![0] (shape1 N)) (j : Fin N) :
    Ideal.hostReduceWindowAdd ![N] ![1] ![M] ![0] h x init (ix1 j) = ((∑ k ∈ range (j.val + 1), f k : ℝ) : EReal) := by
  subst hN
  have hj := j.isLt
  unfold Ideal.hostReduceWindowAdd Host.reduceWindow
  refine (foldl_add_coe _ _ (fun n => if M ≤ j.val + n.val then f (j.val + n.val - M) else 0) (fun n _ => ?_) _ 0 hinit).trans ?_
  · have hw : ((shape1 (M + 1)).rowMajor.symm n 0).val = n.val := by rw [symm1]; rfl
    have hn : n.val < M + 1 := (n.cast (numel1 _)).isLt
    dsimp only
    split
    · next hin =>
      have h0 := hin 0
      change M ≤ j.val * 1 + ((shape1 (M + 1)).rowMajor.symm n 0).val
        ∧ j.val * 1 + ((shape1 (M + 1)).rowMajor.symm n 0).val - M < M + 1 at h0
      rw [hw] at h0
      rw [if_pos (by omega)]
      refine (congrArg x (funext fun a => Fin.ext ?_)).trans (hx ⟨j.val + n.val - M, by omega⟩)
      match a with
      | ⟨0, _⟩ =>
        show j.val * 1 + ((shape1 (M + 1)).rowMajor.symm n 0).val - M = j.val + n.val - M
        rw [hw, Nat.mul_one]
    · next hin =>
      rw [if_neg fun hle => hin fun a => by
        match a with
        | ⟨0, _⟩ =>
          show M ≤ j.val * 1 + ((shape1 (M + 1)).rowMajor.symm n 0).val
            ∧ j.val * 1 + ((shape1 (M + 1)).rowMajor.symm n 0).val - M < M + 1
          rw [hw]
          omega]
      exact hinit
  · rw [zero_add, map_finRange_val _ (fun w => if M ≤ j.val + w then f (j.val + w - M) else 0), ← sum_window_real f M j.val (by omega), numel1]

/-- Two operands sorted by the first: the second, read at one place. -/
theorem sort2_read {N : ℕ} {α β : Type} (cmp : α × β → α × β → BitVec 1) (x : (shape1 N).Idx → α) (y : (shape1 N).Idx → β) (r : Fin N) :
    (Host.sort2 (shape1 N) 0 cmp x y).2 (ix1 r) =
      y (ix1 (sortedFrom (fun a b : Fin N => cmp (x (ix1 a), y (ix1 a)) (x (ix1 b), y (ix1 b)) == 1#1) r)) := by
  have hd : 0 < (shape1 N).rank := Nat.zero_lt_one
  have e : ∀ (j : (shape1 N).Idx) (c : Fin N), j.along (⟨0, hd⟩ : Fin (shape1 N).rank) c = ix1 c := fun j c =>
    (Shape.Idx.along_rank1 j c).trans (ofFin_eq_ix1 c)
  have hb : (fun a b : Fin N => cmp (x ((ix1 r).along ⟨0, hd⟩ a), y ((ix1 r).along ⟨0, hd⟩ a))
        (x ((ix1 r).along ⟨0, hd⟩ b), y ((ix1 r).along ⟨0, hd⟩ b)) == 1#1)
      = fun a b : Fin N => cmp (x (ix1 a), y (ix1 a)) (x (ix1 b), y (ix1 b)) == 1#1 := by
    funext a b
    have e1 := e (ix1 r) a
    have e2 := e (ix1 r) b
    exact congrArg₂ (fun i j => cmp (x i, y i) (x j, y j) == 1#1) e1 e2
  unfold Host.sort2
  rw [dif_pos hd]
  exact (congrArg (fun R => y ((ix1 r).along ⟨0, hd⟩ (sortedFrom (n := N) R r))) hb).trans (congrArg y (e _ _))

/-- Sorted in descending order, the levels descend. -/
theorem sorted_desc {N : ℕ} (q : Fin N → ℝ) (h : Fin N → ℕ) (hq : ∀ a b, q a ≤ q b → h a ≤ h b) (R : Fin N → Fin N → Bool)
    (hR : ∀ a b, R a b = decide (q b < q a)) (i j : Fin N) (hij : i < j) : h (sortedFrom R j) ≤ h (sortedFrom R i) := by
  have hn := sortedFrom_noInversion (fun a b => decide (q b < q a)) R ?_ ?_ ?_ i j hij
  · exact hq _ _ (by simpa using hn)
  · intro a b hab; rw [hR] at hab; simp only [decide_eq_true_eq, decide_eq_false_iff_not] at *; linarith
  · intro a b hab; rw [hR]; exact hab
  · intro a b c h1 h2; simp only [decide_eq_false_iff_not] at *; linarith

theorem sorted_bij {N : ℕ} (R : Fin N → Fin N → Bool) : Function.Bijective (sortedFrom R) :=
  ⟨sortedFrom_injective R, sortedFrom_surjective R⟩

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

/-- The sum of a vector into a scalar. -/
theorem sum_read {N : ℕ} (x : (shape1 N).Idx → EReal) (f : Fin N → ℝ) (hx : ∀ i : Fin N, x (ix1 i) = ((f i : ℝ) : EReal))
    (init : EReal) (hinit : init = ((0 : ℝ) : EReal)) (h : (shape1 N).ReducesTo [0] shape0) (j : shape0.Idx) :
    Ideal.hostReduceAdd h x init j = ((∑ i, f i : ℝ) : EReal) := by
  have hs : Subsingleton shape0.Idx := ⟨fun a b => funext fun k => k.elim0⟩
  unfold Ideal.hostReduceAdd
  rw [hinit, Finset.filter_true_of_mem (fun i _ => Subsingleton.elim _ _)]
  have e : ∑ i : (shape1 N).Idx, x i = ∑ i : Fin N, x (ix1 i) :=
    (Fintype.sum_equiv ⟨fun i : (shape1 N).Idx => (i 0 : Fin N), fun a => ix1 a, fun i => (eq_ix1 i).symm, fun a => rfl⟩ _ _
      (fun i => congrArg x (eq_ix1 i)))
  rw [e, EReal.coe_zero, zero_add, coe_sum]
  exact sum_congr rfl fun i _ => hx i

end Proof.RefLem

end
-- ==== Proof.Finish.lean ====
module

public import proofs.«01_k».proof.Proof.Region
public import proofs.«01_k».proof.Proof.Level
public import proofs.«01_k».proof.Proof.RefLem
public import Idealize.ShloMosaic.Lib.Pointwise

/-!
# What the TensorCore's task computes

From the subcores' counts of each bin it makes the counts above each edge, then the Jaccard loss at each edge, and their
sum.
-/

@[expose] public section

noncomputable section

namespace Proof.K

open Cert.KernelIdeal Cert.KernelIdeal.Gen
open Idealize.ShloMosaic
open Proof.Level Proof.RefLem Finset

theorem small_toInt (n : ℕ) (h : n < 1024) : (BitVec.ofNat 32 n).toInt = (n : ℤ) := by
  rw [BitVec.toInt_eq_toNat_of_lt] <;> rw [BitVec.toNat_ofNat, Nat.mod_eq_of_lt (by omega)]
  omega

theorem bool_real (b : Bool) : (FloatOps.sitofp .f32 (BitVec.setWidth 32 (BitVec.ofBool b)) : Ideal .f32) = (((if b then 1 else 0 : ℝ)) : EReal) := by
  show ((((BitVec.setWidth 32 (BitVec.ofBool b)).toInt : ℤ) : ℝ) : EReal) = _
  cases b
  · have : (BitVec.setWidth 32 (BitVec.ofBool false)).toInt = 0 := by decide
    rw [this]; simp
  · have : (BitVec.setWidth 32 (BitVec.ofBool true)).toInt = 1 := by decide
    rw [this]; simp

theorem mask_ge (x j : ℕ) (hx : x < 1024) (hj : j < 1024) :
    (FloatOps.sitofp .f32 (BitVec.setWidth 32 (IntOp.cmpi .sge (BitVec.ofNat 32 x) (BitVec.ofNat 32 j))) : Ideal .f32) = ((if j ≤ x then 1 else 0 : ℝ) : EReal) := by
  have h : IntOp.cmpi .sge (BitVec.ofNat 32 x) (BitVec.ofNat 32 j) = BitVec.ofBool (decide (j ≤ x)) := by
    show BitVec.ofBool ((BitVec.ofNat 32 j).sle (BitVec.ofNat 32 x)) = _
    congr 1
    unfold BitVec.sle
    rw [small_toInt x hx, small_toInt j hj]
    simp
  rw [h, bool_real]
  simp

theorem mask_gt (x i : ℕ) (hx : x < 1024) (hi : i < 1024) :
    (FloatOps.sitofp .f32 (BitVec.setWidth 32 (IntOp.cmpi .sgt (BitVec.ofNat 32 x) (BitVec.ofNat 32 i))) : Ideal .f32) = ((if i < x then 1 else 0 : ℝ) : EReal) := by
  have h : IntOp.cmpi .sgt (BitVec.ofNat 32 x) (BitVec.ofNat 32 i) = BitVec.ofBool (decide (i < x)) := by
    show BitVec.ofBool ((BitVec.ofNat 32 i).slt (BitVec.ofNat 32 x)) = _
    congr 1
    unfold BitVec.slt
    rw [small_toInt x hx, small_toInt i hi]
    simp
  rw [h, bool_real]
  simp

/-- The counts above edge `e`, of counts by subcore and bin. -/
def up (n : Fin 32 → Fin 32 → Fin 128 → ℕ) (e : ℕ) : ℕ := ∑ x : Fin 32, ∑ y : Fin 128, if e ≤ 128 * x.val + y.val then ∑ w, n w x y else 0

theorem split_rows (s : Fin 32 → Fin 128 → ℝ) (i : Fin 32) (j : Fin 128) :
    (∑ y : Fin 128, s i y * (if j.val ≤ y.val then 1 else 0)) + ∑ x : Fin 32, (if i.val < x.val then 1 else 0) * ∑ y, s x y
      = ∑ x : Fin 32, ∑ y : Fin 128, if 128 * i.val + j.val ≤ 128 * x.val + y.val then s x y else 0 := by
  have h : (∑ y : Fin 128, s i y * (if j.val ≤ y.val then 1 else 0)) = ∑ x : Fin 32, if x = i then ∑ y : Fin 128, s x y * (if j.val ≤ y.val then 1 else 0) else 0 := by
    rw [Finset.sum_ite_eq' univ i, if_pos (mem_univ _)]
  rw [h, ← sum_add_distrib]
  refine sum_congr rfl fun x _ => ?_
  rcases lt_trichotomy x i with hlt | heq | hgt
  · have hv : x.val < i.val := hlt
    rw [if_neg (ne_of_lt hlt), if_neg (by omega), zero_mul, add_zero]
    exact (sum_eq_zero fun y _ => if_neg (by have := y.isLt; omega)).symm
  · subst heq
    rw [if_pos rfl, if_neg (lt_irrefl _), zero_mul, add_zero]
    refine sum_congr rfl fun y _ => ?_
    by_cases hy : j.val ≤ y.val
    · rw [if_pos hy, if_pos (by omega), mul_one]
    · rw [if_neg hy, if_neg (by omega), mul_zero]
  · have hv : i.val < x.val := hgt
    rw [if_neg (ne_of_gt hgt), if_pos hv, one_mul, zero_add]
    exact sum_congr rfl fun y _ => (if_pos (by have := j.isLt; omega)).symm

theorem up_real (n : Fin 32 → Fin 32 → Fin 128 → ℕ) (i : Fin 32) (j : Fin 128) :
    (up n (128 * i.val + j.val) : ℝ) = (∑ y : Fin 128, (∑ w, (n w i y : ℝ)) * (if j.val ≤ y.val then 1 else 0))
      + ∑ x : Fin 32, (if i.val < x.val then 1 else 0) * ∑ y, ∑ w, (n w x y : ℝ) := by
  rw [split_rows (fun x y => ∑ w, (n w x y : ℝ))]
  unfold up
  push_cast
  rfl

theorem sums_real (v : Vec Ideal S32x32x128 .i32) (n : Fin 32 → Fin 32 → Fin 128 → ℕ)
    (hn : ∀ w x y, ((v (ix3 w x y) : BitVec 32)).toInt = (n w x y : ℤ)) (x : Fin 32) (y : Fin 128) :
    (∑ w, (FloatOps.sitofp .f32 (v (ix3 w x y) : BitVec 32) : Ideal .f32) : EReal) = ((∑ w, (n w x y : ℝ) : ℝ) : EReal) := by
  rw [coe_sum]
  refine sum_congr rfl fun w _ => ?_
  show ((((v (ix3 w x y) : BitVec 32).toInt : ℤ) : ℝ) : EReal) = _
  rw [hn]
  push_cast
  rfl

theorem up_ideal (v : Vec Ideal S32x32x128 .i32) (n : Fin 32 → Fin 32 → Fin 128 → ℕ)
    (hn : ∀ w x y, ((v (ix3 w x y) : BitVec 32)).toInt = (n w x y : ℤ)) (i : Fin 32) (j : Fin 128) :
    ((∑ x : Fin 128, (∑ w, (FloatOps.sitofp .f32 (v (ix3 w i x) : BitVec 32) : Ideal .f32) : EReal) *
          (FloatOps.sitofp .f32 (BitVec.setWidth 32 (IntOp.cmpi .sge (BitVec.ofNat 32 x.val) (BitVec.ofNat 32 j.val))) : Ideal .f32)) +
      ∑ x : Fin 32, (FloatOps.sitofp .f32 (BitVec.setWidth 32 (IntOp.cmpi .sgt (BitVec.ofNat 32 x.val) (BitVec.ofNat 32 i.val))) : Ideal .f32) *
          ∑ y : Fin 128, (∑ w, (FloatOps.sitofp .f32 (v (ix3 w x y) : BitVec 32) : Ideal .f32) : EReal) : EReal) = ((up n (128 * i.val + j.val) : ℝ) : EReal) := by
  rw [up_real, EReal.coe_add, coe_sum, coe_sum]
  refine congrArg₂ (fun a b : EReal => a + b) ?_ ?_
  · refine sum_congr rfl fun x _ => ?_
    rw [mask_ge _ _ (by have := x.isLt; omega) (by have := j.isLt; omega), sums_real v n hn, EReal.coe_mul]
  · refine sum_congr rfl fun x _ => ?_
    rw [mask_gt _ _ (by have := x.isLt; omega) (by have := i.isLt; omega), EReal.coe_mul, coe_sum]
    refine congrArg (fun b : EReal => ((if i.val < x.val then 1 else 0 : ℝ) : EReal) * b) ?_
    exact sum_congr rfl fun y _ => sums_real v n hn x y

theorem pay5_at (v : Vec Ideal S32x32x128 .i32) (n : Fin 32 → Fin 32 → Fin 128 → ℕ)
    (hn : ∀ w x y, ((v (ix3 w x y) : BitVec 32)).toInt = (n w x y : ℤ)) (i : Fin 32) (j : Fin 128) :
    (k1_pay5 (F := Ideal) v (ix2 i j) : EReal) = ((up n (128 * i.val + j.val) : ℝ) : EReal) := by
  rw [← up_ideal v n hn]
  pointwise [k1_pay5, k1_pay2, k1_pay3, k1_pay4]

theorem pay7_at (v q : Vec Ideal S32x32x128 .i32) (a : Vec Ideal S32x16 .i32) (n h : Fin 32 → Fin 32 → Fin 128 → ℕ) (c : Fin 32 → Fin 16 → ℕ)
    (hn : ∀ w x y, ((v (ix3 w x y) : BitVec 32)).toInt = (n w x y : ℤ)) (hh : ∀ w x y, ((q (ix3 w x y) : BitVec 32)).toInt = (h w x y : ℤ))
    (hc : ∀ w y, ((a (ix2 w y) : BitVec 32)).toInt = (c w y : ℤ)) (i : Fin 32) (j : Fin 128) :
    (k1_pay7 (F := Ideal) v q a (ix2 i j) : EReal)
      = Ideal.div ((up n (128 * i.val + j.val) : ℝ) : EReal)
        ((((∑ w, ∑ y, c w y : ℕ) : ℝ) + (up n (128 * i.val + j.val) : ℝ) - (up h (128 * i.val + j.val) : ℝ) : ℝ) : EReal) := by
  have hs : (∑ w, ∑ y, (FloatOps.sitofp .f32 (a (ix2 w y) : BitVec 32) : Ideal .f32) : EReal) = (((∑ w, ∑ y, c w y : ℕ) : ℝ) : EReal) := by
    push_cast
    rw [coe_sum]
    refine sum_congr rfl fun w _ => ?_
    rw [coe_sum]
    refine sum_congr rfl fun y _ => ?_
    show ((((a (ix2 w y) : BitVec 32).toInt : ℤ) : ℝ) : EReal) = _
    rw [hc]
    push_cast
    rfl
  rw [EReal.coe_sub, EReal.coe_add, ← hs, ← up_ideal q h hh, ← pay5_at v n hn]
  pointwise [k1_pay7, k1_pay2, k1_pay3, k1_pay4]

end Proof.K
-- ==== Proof.FinishAt.lean ====
module

public import proofs.«01_k».proof.Proof.Finish

/-! The TensorCore's result, at an index. -/

@[expose] public section

noncomputable section

namespace Proof.K

open Cert.KernelIdeal Cert.KernelIdeal.Gen
open Idealize.ShloMosaic
open Proof.Level Proof.RefLem Finset

theorem eq_row : ∀ x : Fin 32, IntOp.cmpi .eq (BitVec.ofNat 32 x.val) 0#32 = if x = 0 then 1#1 else 0#1 := by decide
theorem eq_col : ∀ x : Fin 128, IntOp.cmpi .eq (BitVec.ofNat 32 x.val) 0#32 = if x = 0 then 1#1 else 0#1 := by decide

theorem origin (x : Fin 32) (y : Fin 128) (r s : Ideal .f32) :
    Scalar.select (IntOp.andi (IntOp.cmpi .eq (BitVec.ofNat 32 x.val) 0#32) (IntOp.cmpi .eq (BitVec.ofNat 32 y.val) 0#32)) r s
      = if x = 0 then (if y = 0 then r else s) else s := by
  rw [eq_row, eq_col]
  split_ifs <;> rfl

theorem half_ideal : (Ideal.ofBits .f32 1056964608#32 : EReal) = ((1 / 2 : ℝ) : EReal) := by
  rw [← ofBits_half, Ideal.ofBits_def]

theorem width_ideal : (Ideal.ofBits .f32 998244352#32 : EReal) = ((1 / 256 : ℝ) : EReal) := by
  simp [Ideal.ofBits, Ideal.ieee, -EReal.coe_mul]; norm_num

theorem pay1_sum (m : Fin 32 → Fin 128 → EReal) (J : Fin 32 → Fin 128 → ℝ) (hJ : ∀ x y, m x y = ((J x y : ℝ) : EReal)) :
    ((∑ x, ∑ y, m x y) - (Ideal.ofBits .f32 1056964608#32 : EReal) * (∑ x, ∑ y, if x = 0 then (if y = 0 then m x y else 0) else 0))
        * (Ideal.ofBits .f32 998244352#32 : EReal)
      = (((((∑ x, ∑ y, J x y) - 1 / 2 * J 0 0) * (1 / 256) : ℝ)) : EReal) := by
  have h0 : (∑ x, ∑ y, if x = 0 then (if y = 0 then m x y else 0) else 0) = ((J 0 0 : ℝ) : EReal) := by
    rw [Finset.sum_eq_single (0 : Fin 32)]
    · rw [Finset.sum_eq_single (0 : Fin 128)]
      · rw [if_pos rfl, if_pos rfl, hJ]
      · intro y _ hy
        rw [if_pos rfl, if_neg hy]
      · intro h
        exact absurd (mem_univ _) h
    · intro x _ hx
      exact sum_eq_zero fun y _ => if_neg hx
    · intro h
      exact absurd (mem_univ _) h
  have h1 : (∑ x, ∑ y, m x y) = ((∑ x, ∑ y, J x y : ℝ) : EReal) := by
    rw [coe_sum]
    refine sum_congr rfl fun x _ => ?_
    rw [coe_sum]
    exact sum_congr rfl fun y _ => hJ x y
  rw [h0, h1, half_ideal, width_ideal, ← EReal.coe_mul, ← EReal.coe_sub, ← EReal.coe_mul]

theorem pay1_val (c : IVec S32x128 1) (w : FVec Ideal S32x128 .f32) (z : Ideal .f32) (J : Fin 32 → Fin 128 → ℝ)
    (hJ : ∀ x y, (Scalar.select (c (ix2 x y)) (w (ix2 x y)) z : EReal) = ((J x y : ℝ) : EReal)) (i : Fin 8) (j : Fin 128) :
    (k1_pay1 (F := Ideal) c w z (ix2 i j) : EReal) = (((((∑ x, ∑ y, J x y) - 1 / 2 * J 0 0) * (1 / 256) : ℝ)) : EReal) := by
  rw [← pay1_sum _ J hJ]
  pointwise [k1_pay1]
  simp only [origin]

theorem pay6_at (v : Vec Ideal S32x32x128 .i32) (i : S32x128.Idx) :
    k1_pay6 (F := Ideal) v i = FloatOps.cmpf .ogt (k1_pay5 v i) (FloatOps.ofBits .f32 0x3F000000#32 : Ideal .f32) := (rfl)

theorem cmp_half (n : ℕ) : FloatOps.cmpf .ogt (((n : ℝ) : EReal) : Ideal .f32) (FloatOps.ofBits .f32 0x3F000000#32 : Ideal .f32) = if n = 0 then 0#1 else 1#1 := by
  rw [ofBits_half]
  show BitVec.ofBool (decide (((1 / 2 : ℝ) : EReal) < ((n : ℝ) : EReal))) = _
  by_cases h : n = 0
  · subst h
    rw [if_pos rfl, decide_eq_false]
    · rfl
    · rw [EReal.coe_lt_coe_iff]
      norm_num
  · rw [if_neg h, decide_eq_true]
    · rfl
    · rw [EReal.coe_lt_coe_iff]
      have : (1 : ℝ) ≤ n := by exact_mod_cast Nat.one_le_iff_ne_zero.2 h
      linarith

/-- The Jaccard loss at an edge, of the counts above it. -/
def jacOf (n h p : ℕ) : ℝ := if n = 0 then 0 else (n : ℝ) / ((p : ℝ) + n - h)

theorem jac_val (c : BitVec 1) (w z : Ideal .f32) (n h p : ℕ) (hc : c = if n = 0 then 0#1 else 1#1) (hz : (z : EReal) = ((0 : ℝ) : EReal))
    (hw : (w : EReal) = Ideal.div ((n : ℝ) : EReal) (((p : ℝ) + (n : ℝ) - (h : ℝ) : ℝ) : EReal)) (hp : h ≤ p) :
    (Scalar.select c w z : EReal) = ((jacOf n h p : ℝ) : EReal) := by
  unfold jacOf
  by_cases h0 : n = 0
  · rw [if_pos h0]
    refine (select_false c ?_ w z).trans hz
    rw [hc, if_pos h0]
    decide
  · rw [if_neg h0]
    refine (select_true c ?_ w z).trans (hw.trans ?_)
    · rw [hc, if_neg h0]
    · have h1 : (1 : ℝ) ≤ n := by exact_mod_cast Nat.one_le_iff_ne_zero.2 h0
      have h2 : (h : ℝ) ≤ p := by exact_mod_cast hp
      exact div_eq (by linarith)

theorem finish_at (v q : Vec Ideal S32x32x128 .i32) (a : Vec Ideal S32x16 .i32) (n h : Fin 32 → Fin 32 → Fin 128 → ℕ) (c : Fin 32 → Fin 16 → ℕ)
    (hn : ∀ w x y, ((v (ix3 w x y) : BitVec 32)).toInt = (n w x y : ℤ)) (hh : ∀ w x y, ((q (ix3 w x y) : BitVec 32)).toInt = (h w x y : ℤ))
    (hc : ∀ w y, ((a (ix2 w y) : BitVec 32)).toInt = (c w y : ℤ)) (hp : ∀ e, up h e ≤ ∑ w, ∑ y, c w y) (i : Fin 8) (j : Fin 128) :
    (finish (F := Ideal) v q a (ix2 i j) : EReal)
      = (((((∑ x : Fin 32, ∑ y : Fin 128, jacOf (up n (128 * x.val + y.val)) (up h (128 * x.val + y.val)) (∑ w, ∑ y, c w y))
          - 1 / 2 * jacOf (up n 0) (up h 0) (∑ w, ∑ y, c w y)) * (1 / 256) : ℝ)) : EReal) := by
  unfold finish
  refine pay1_val _ _ _ (fun x y => jacOf (up n (128 * x.val + y.val)) (up h (128 * x.val + y.val)) (∑ w, ∑ y, c w y)) (fun x y => ?_) i j
  refine jac_val _ _ _ _ _ _ ?_ ofBits_zero (pay7_at v q a n h c hn hh hc x y) (hp _)
  rw [pay6_at]
  refine Eq.trans ?_ (cmp_half _)
  exact congrArg (fun z : Ideal .f32 => FloatOps.cmpf .ogt z (FloatOps.ofBits .f32 0x3F000000#32 : Ideal .f32)) (pay5_at v n hn x y)

end Proof.K
-- ==== Proof.Edges.lean ====
module

public import proofs.«01_k».proof.Proof.FinishAt

/-! The counts above an edge are sums over the elements above it. -/

@[expose] public section

noncomputable section

namespace Proof.K

open Proof.Math Finset

theorem sum_rows {M : Type} [AddCommMonoid M] (f : ℕ → M) : ∑ x : Fin 32, ∑ y : Fin 128, f (128 * x.val + y.val) = ∑ b ∈ range 4096, f b := by
  have h : ∀ n, ∑ x ∈ range n, ∑ y ∈ range 128, f (128 * x + y) = ∑ b ∈ range (128 * n), f b := by
    intro n
    induction n with
    | zero => simp
    | succ n ih => rw [sum_range_succ, ih, Nat.mul_succ, sum_range_add]
  rw [show (4096 : ℕ) = 128 * 32 from rfl, ← h 32, Finset.sum_range]
  exact sum_congr rfl fun x _ => (Finset.sum_range (fun y => f (128 * x.val + y))).symm

theorem up_sum {ι : Type} [Fintype ι] (L t : ι → ℕ) (hL : ∀ i, L i ≤ 4096) (n : Fin 32 → Fin 32 → Fin 128 → ℕ)
    (hn : ∀ x y, ∑ w, n w x y = ∑ i, if L i = 128 * x.val + y.val + 1 then t i else 0) (e : ℕ) :
    up n e = ∑ i ∈ univ.filter (fun i => e < L i), t i := by
  unfold up
  have h1 : ∀ (x : Fin 32) (y : Fin 128), (if e ≤ 128 * x.val + y.val then ∑ w, n w x y else 0)
      = (fun b => if e ≤ b then ∑ i, (if L i = b + 1 then t i else 0) else 0) (128 * x.val + y.val) := by
    intro x y
    rw [hn]
  rw [sum_congr rfl fun x _ => sum_congr rfl fun y _ => h1 x y, sum_rows (fun b => if e ≤ b then ∑ i, (if L i = b + 1 then t i else 0) else 0)]
  have h2 : ∀ b, (if e ≤ b then ∑ i, (if L i = b + 1 then t i else 0) else 0) = ∑ i, if e ≤ b ∧ L i = b + 1 then t i else 0 := by
    intro b
    by_cases hb : e ≤ b
    · rw [if_pos hb]
      refine sum_congr rfl fun i _ => ?_
      by_cases hi : L i = b + 1
      · rw [if_pos hi, if_pos ⟨hb, hi⟩]
      · rw [if_neg hi, if_neg fun h => hi h.2]
    · rw [if_neg hb]
      exact (sum_eq_zero fun i _ => if_neg fun h => hb h.1).symm
  rw [sum_congr rfl fun b _ => h2 b, sum_comm, sum_filter]
  refine sum_congr rfl fun i _ => ?_
  by_cases hi : e < L i
  · rw [if_pos hi, sum_eq_single (L i - 1)]
    · exact if_pos ⟨by omega, by omega⟩
    · intro b _ hb
      exact if_neg fun h => hb (by omega)
    · intro h
      exact absurd (mem_range.2 (by have := hL i; omega)) h
  · rw [if_neg hi]
    exact sum_eq_zero fun b _ => if_neg fun h => hi (by omega)

theorem loss_eq {ι : Type} [Fintype ι] (L t : ι → ℕ) (n h : Fin 32 → Fin 32 → Fin 128 → ℕ) (p : ℕ)
    (hn : ∀ e, up n e = cnt L e) (hh : ∀ e, up h e = hit L t e) (hp : p = tot t) :
    ((∑ x : Fin 32, ∑ y : Fin 128, jacOf (up n (128 * x.val + y.val)) (up h (128 * x.val + y.val)) p) - 1 / 2 * jacOf (up n 0) (up h 0) p) * (1 / 256)
      = loss L t := by
  subst hp
  unfold loss
  rw [sum_rows (fun b => jacOf (up n b) (up h b) (tot t))]
  simp only [hn, hh]
  rfl

end Proof.K
-- ==== Proof.RefTerm.lean ====
module

public import proofs.«01_k».proof.Defs
public import proofs.«01_k».proof.Proof.Gen.ReferenceIdeal
public import Idealize.ShloMosaic.Lib.StableHlo.RunHlo
public import Idealize.ShloMosaic.Lib.Claim

/-! The reference's run: its result as a chain of named values. -/

@[expose] public section

noncomputable section

namespace Proof.R

open Idealize.ShloMosaic Idealize.SL.Sem
open Cert.ReferenceIdeal Cert.ReferenceIdeal.Gen

abbrev VF := FVec Ideal S4194304 .f32
abbrev VI := IVec S4194304 32

/-- A float, and an integer, everywhere. -/
def bf (b : BitVec 32) : VF := broadcastInDim S4194304 ![] bcast_S_S4194304 (constant (F := Ideal) S_ .f32 b)
def bi (b : BitVec 32) : VI := broadcastInDim S4194304 ![] bcast_S_S4194304 (constantI S_ 32 b)

/-- The errors. -/
def err (v : VF) (l : VI) : VF :=
  subf (bf 0x3F800000#32) (mulf v (subf (mulf (bf 0x40000000#32) (sitofp .f32 l)) (bf 0x3F800000#32)))

/-- The errors at their bins' centres. -/
def quant (e : VF) : VF :=
  select (cmpf .ogt e (bf 0x00000000#32))
    (Host.divf (addf (sitofp .f32 (minsi (fptosi 32 (mulf e (bf 0x43800000#32))) (bi 4095#32))) (bf 0x3F000000#32)) (bf 0x43800000#32))
    (bf 0x00000000#32)

/-- The places in descending order of the errors. -/
def order (q : VF) : VI := (Host.sort2 S4194304 0 (comparator_f32_i32_d0 (F := Ideal)) (Host.negf q) (iotaInDim S4194304 32 0)).2

/-- The places to take from, and which of them are in range. -/
def takeIx (ix : VI) : IVec S4194304x1 32 :=
  broadcastInDim S4194304x1 ![0] bcast_S4194304_S4194304x1_0 (select (cmpi .slt ix (bi 0#32)) (addi ix (bi 4194304#32)) ix)
def takeIn (j : IVec S4194304x1 32) : IVec S4194304x1 1 :=
  andi (cmpi .sge j (broadcastInDim S4194304x1 ![] bcast_S_S4194304x1 (constantI S_ 32 0#32)))
    (cmpi .sle j (broadcastInDim S4194304x1 ![0, 1] bcast_S1x1_S4194304x1_0_1 (broadcastInDim S1x1 ![1] bcast_S1_S1x1_1 (constantI S1 32 4194303#32))))
def takeOk (j : IVec S4194304x1 32) : IVec S4194304 1 :=
  Host.reduce IntOp.andi (takeIn j) (constantI S_ 1 1#1) reducesTo_S4194304x1_S4194304_d1 h_S_

def takeF (x : VF) (ix : VI) : VF :=
  select (takeOk (takeIx ix)) (Host.gather gather_S4194304_S4194304x1_S4194304_n_0_n_n_0_1_1 x (takeIx ix)) (bf 0x7FC00000#32)
def takeI (x : VI) (ix : VI) : VI :=
  select (takeOk (takeIx ix)) (Host.gather gather_S4194304_S4194304x1_S4194304_n_0_n_n_0_1_1 x (takeIx ix)) (bi 2147483648#32)

/-- Running sums, and the sum. -/
def cum (x : VF) : VF :=
  Host.reduceWindowAdd ![4194304] ![1] ![4194303] ![0] x (broadcastInDim S_ ![] bcast_S_S_ (constant (F := Ideal) S_ .f32 0x00000000#32))
    reduceWindows_S4194304_S4194304_w4194304s1p4194303_0 h_S_
def sum0 (x : VF) : FVec Ideal S_ .f32 :=
  Host.reduceAdd x (constant (F := Ideal) S_ .f32 0x00000000#32) reducesTo_S4194304_S_d0 h_S_

/-- The Jaccard losses of the initial segments. -/
def jacc (g : VF) : VF :=
  subf (bf 0x3F800000#32)
    (Host.divf (subf (broadcastInDim S4194304 ![] bcast_S_S4194304 (sum0 g)) (cum g))
      (addf (broadcastInDim S4194304 ![] bcast_S_S4194304 (sum0 g)) (cum (subf (bf 0x3F800000#32) g))))

/-- Their differences. -/
def diffs (j : VF) : VF :=
  concatenate S4194304 0 [⟨S1, extractStridedSlice S1 ![0] j slices_S4194304_S1_0⟩,
    ⟨S4194303, subf (extractStridedSlice S4194303 ![1] j slices_S4194304_S4194303_1) (extractStridedSlice S4194303 ![0] j slices_S4194304_S4194303_0)⟩]
    concatenates_S1_S4194303_S4194304_d0

/-- The loss. -/
def total (v : VF) (l : VI) : FVec Ideal S_ .f32 :=
  sum0 (mulf (maximumf (takeF (quant (err v l)) (order (quant (err v l)))) (bf 0x00000000#32))
    (diffs (jacc (sitofp .f32 (takeI l (order (quant (err v l))))))))

def refOut (A : FVec Ideal S16x512x512 .f32) (B : IVec S16x512x512 32) : FVec Ideal S_ .f32 :=
  total (shapeCast S4194304 A shapeCasts_S16x512x512_S4194304) (shapeCast S4194304 B shapeCasts_S16x512x512_S4194304)

/-! The program, in eight parts. -/

section
variable {F : FTy → Type} [FloatOps F]

def ops1 : List (HloOp τ sig (Elt F)) := [
  StableHlo.reshape main_arg0 main_v0 (rfl : (.f32 : EltTy) = .f32) shapeCasts_S16x512x512_S4194304,
  StableHlo.reshape main_arg1 main_v1 (rfl : (.i32 : EltTy) = .i32) shapeCasts_S16x512x512_S4194304,
  StableHlo.unary main_v1 main_v2 (sitofp .f32 : (⟨S4194304, .i32⟩ : BufTy).Contents (Elt F) → (⟨S4194304, .f32⟩ : BufTy).Contents (Elt F)),
  StableHlo.nullary main_cst (constant S_ .f32 0x40000000#32),
  StableHlo.unary main_cst main_v3 (broadcastInDim S4194304 ![] bcast_S_S4194304 : (⟨S_, .f32⟩ : BufTy).Contents (Elt F) → (⟨S4194304, .f32⟩ : BufTy).Contents (Elt F)),
  StableHlo.binary main_v3 main_v2 main_v4 (mulf : (⟨S4194304, .f32⟩ : BufTy).Contents (Elt F) → (⟨S4194304, .f32⟩ : BufTy).Contents (Elt F) → (⟨S4194304, .f32⟩ : BufTy).Contents (Elt F)),
  StableHlo.nullary main_cst_0 (constant S_ .f32 0x3F800000#32),
  StableHlo.unary main_cst_0 main_v5 (broadcastInDim S4194304 ![] bcast_S_S4194304 : (⟨S_, .f32⟩ : BufTy).Contents (Elt F) → (⟨S4194304, .f32⟩ : BufTy).Contents (Elt F)),
  StableHlo.binary main_v4 main_v5 main_v6 (subf : (⟨S4194304, .f32⟩ : BufTy).Contents (Elt F) → (⟨S4194304, .f32⟩ : BufTy).Contents (Elt F) → (⟨S4194304, .f32⟩ : BufTy).Contents (Elt F)),
  StableHlo.binary main_v0 main_v6 main_v7 (mulf : (⟨S4194304, .f32⟩ : BufTy).Contents (Elt F) → (⟨S4194304, .f32⟩ : BufTy).Contents (Elt F) → (⟨S4194304, .f32⟩ : BufTy).Contents (Elt F)),
  StableHlo.nullary main_cst_1 (constant S_ .f32 0x3F800000#32),
  StableHlo.unary main_cst_1 main_v8 (broadcastInDim S4194304 ![] bcast_S_S4194304 : (⟨S_, .f32⟩ : BufTy).Contents (Elt F) → (⟨S4194304, .f32⟩ : BufTy).Contents (Elt F)),
  StableHlo.binary main_v8 main_v7 main_v9 (subf : (⟨S4194304, .f32⟩ : BufTy).Contents (Elt F) → (⟨S4194304, .f32⟩ : BufTy).Contents (Elt F) → (⟨S4194304, .f32⟩ : BufTy).Contents (Elt F))]

def ops2 : List (HloOp τ sig (Elt F)) := [
  StableHlo.nullary main_cst_2 (constant S_ .f32 0x43800000#32),
  StableHlo.unary main_cst_2 main_v10 (broadcastInDim S4194304 ![] bcast_S_S4194304 : (⟨S_, .f32⟩ : BufTy).Contents (Elt F) → (⟨S4194304, .f32⟩ : BufTy).Contents (Elt F)),
  StableHlo.binary main_v9 main_v10 main_v11 (mulf : (⟨S4194304, .f32⟩ : BufTy).Contents (Elt F) → (⟨S4194304, .f32⟩ : BufTy).Contents (Elt F) → (⟨S4194304, .f32⟩ : BufTy).Contents (Elt F)),
  StableHlo.unary main_v11 main_v12 (fptosi 32 : (⟨S4194304, .f32⟩ : BufTy).Contents (Elt F) → (⟨S4194304, .i32⟩ : BufTy).Contents (Elt F)),
  StableHlo.nullary main_c (constantI S_ 32 4095#32),
  StableHlo.unary main_c main_v13 (broadcastInDim S4194304 ![] bcast_S_S4194304 : (⟨S_, .i32⟩ : BufTy).Contents (Elt F) → (⟨S4194304, .i32⟩ : BufTy).Contents (Elt F)),
  StableHlo.binary main_v12 main_v13 main_v14 (minsi : (⟨S4194304, .i32⟩ : BufTy).Contents (Elt F) → (⟨S4194304, .i32⟩ : BufTy).Contents (Elt F) → (⟨S4194304, .i32⟩ : BufTy).Contents (Elt F)),
  StableHlo.nullary main_cst_3 (constant S_ .f32 0x00000000#32),
  StableHlo.unary main_cst_3 main_v15 (broadcastInDim S4194304 ![] bcast_S_S4194304 : (⟨S_, .f32⟩ : BufTy).Contents (Elt F) → (⟨S4194304, .f32⟩ : BufTy).Contents (Elt F)),
  StableHlo.binary main_v9 main_v15 main_v16 (cmpf .ogt : (⟨S4194304, .f32⟩ : BufTy).Contents (Elt F) → (⟨S4194304, .f32⟩ : BufTy).Contents (Elt F) → (⟨S4194304, .i1⟩ : BufTy).Contents (Elt F)),
  StableHlo.unary main_v14 main_v17 (sitofp .f32 : (⟨S4194304, .i32⟩ : BufTy).Contents (Elt F) → (⟨S4194304, .f32⟩ : BufTy).Contents (Elt F)),
  StableHlo.nullary main_cst_4 (constant S_ .f32 0x3F000000#32),
  StableHlo.unary main_cst_4 main_v18 (broadcastInDim S4194304 ![] bcast_S_S4194304 : (⟨S_, .f32⟩ : BufTy).Contents (Elt F) → (⟨S4194304, .f32⟩ : BufTy).Contents (Elt F)),
  StableHlo.binary main_v17 main_v18 main_v19 (addf : (⟨S4194304, .f32⟩ : BufTy).Contents (Elt F) → (⟨S4194304, .f32⟩ : BufTy).Contents (Elt F) → (⟨S4194304, .f32⟩ : BufTy).Contents (Elt F)),
  StableHlo.nullary main_cst_5 (constant S_ .f32 0x43800000#32),
  StableHlo.unary main_cst_5 main_v20 (broadcastInDim S4194304 ![] bcast_S_S4194304 : (⟨S_, .f32⟩ : BufTy).Contents (Elt F) → (⟨S4194304, .f32⟩ : BufTy).Contents (Elt F)),
  StableHlo.binary main_v19 main_v20 main_v21 (Host.divf : (⟨S4194304, .f32⟩ : BufTy).Contents (Elt F) → (⟨S4194304, .f32⟩ : BufTy).Contents (Elt F) → (⟨S4194304, .f32⟩ : BufTy).Contents (Elt F)),
  StableHlo.nullary main_cst_6 (constant S_ .f32 0x00000000#32),
  StableHlo.TRef.unary (.of main_cst_6 : StableHlo.TRef sig ⟨S_, .f32⟩) main_call0.v0 id,
  StableHlo.TRef.unary main_call0.v0 main_call0.v1 (broadcastInDim S4194304 ![] bcast_S_S4194304),
  StableHlo.TRef.ternary (.of main_v16 : StableHlo.TRef sig ⟨S4194304, .i1⟩) (.of main_v21 : StableHlo.TRef sig ⟨S4194304, .f32⟩) main_call0.v1 main_call0.v2 select]

def ops3 : List (HloOp τ sig (Elt F)) := [
  StableHlo.unary main_v22 main_v23 (Host.negf : (⟨S4194304, .f32⟩ : BufTy).Contents (Elt F) → (⟨S4194304, .f32⟩ : BufTy).Contents (Elt F)),
  StableHlo.TRef.nullary main_call1.v0 (iotaInDim S4194304 32 0),
  StableHlo.TRef.binary (.of main_v23 : StableHlo.TRef sig ⟨S4194304, .f32⟩) main_call1.v0 main_call1.v1_0 (fun x y => (Host.sort2 S4194304 0 comparator_f32_i32_d0 x y).1),
  StableHlo.TRef.binary (.of main_v23 : StableHlo.TRef sig ⟨S4194304, .f32⟩) main_call1.v0 main_call1.v1_1 (fun x y => (Host.sort2 S4194304 0 comparator_f32_i32_d0 x y).2)]

def ops4a : List (HloOp τ sig (Elt F)) := [
  StableHlo.TRef.nullary main_call2.c (constantI S_ 32 0#32),
  StableHlo.TRef.unary main_call2.c main_call2.v0 (broadcastInDim S4194304 ![] bcast_S_S4194304),
  StableHlo.TRef.binary (.of main_v24 : StableHlo.TRef sig ⟨S4194304, .i32⟩) main_call2.v0 main_call2.v1 (cmpi .slt),
  StableHlo.TRef.nullary main_call2.c_0 (constantI S_ 32 4194304#32),
  StableHlo.TRef.unary main_call2.c_0 main_call2.v2 (broadcastInDim S4194304 ![] bcast_S_S4194304),
  StableHlo.TRef.binary (.of main_v24 : StableHlo.TRef sig ⟨S4194304, .i32⟩) main_call2.v2 main_call2.v3 addi,
  StableHlo.TRef.ternary main_call2.v1 main_call2.v3 (.of main_v24 : StableHlo.TRef sig ⟨S4194304, .i32⟩) main_call2.call0.v0 select,
  StableHlo.TRef.unary main_call2.call0.v0 main_call2.v5 (broadcastInDim S4194304x1 ![0] bcast_S4194304_S4194304x1_0)]

def ops4b : List (HloOp τ sig (Elt F)) := [
  StableHlo.TRef.nullary main_call2.c_1 (constantI S1 32 4194303#32),
  StableHlo.TRef.nullary main_call2.c_2 (constantI S_ 32 0#32),
  StableHlo.TRef.unary main_call2.c_2 main_call2.v6 (broadcastInDim S4194304x1 ![] bcast_S_S4194304x1),
  StableHlo.TRef.binary main_call2.v5 main_call2.v6 main_call2.v7 (cmpi .sge),
  StableHlo.TRef.unary main_call2.c_1 main_call2.v8 (broadcastInDim S1x1 ![1] bcast_S1_S1x1_1),
  StableHlo.TRef.unary main_call2.v8 main_call2.v9 (broadcastInDim S4194304x1 ![0, 1] bcast_S1x1_S4194304x1_0_1),
  StableHlo.TRef.binary main_call2.v5 main_call2.v9 main_call2.v10 (cmpi .sle),
  StableHlo.TRef.binary main_call2.v7 main_call2.v10 main_call2.v11 andi]

def ops4d : List (HloOp τ sig (Elt F)) := [
  StableHlo.TRef.nullary main_call2.c_3 (constantI S_ 1 1#1),
  StableHlo.TRef.binary main_call2.v11 main_call2.c_3 main_call2.v12 (fun x v => Host.reduce IntOp.andi x v reducesTo_S4194304x1_S4194304_d1 h_S_)]

def ops4c : List (HloOp τ sig (Elt F)) := [
  StableHlo.TRef.binary (.of main_v22 : StableHlo.TRef sig ⟨S4194304, .f32⟩) main_call2.v5 main_call2.v13 (fun x i => Host.gather gather_S4194304_S4194304x1_S4194304_n_0_n_n_0_1_1 x i),
  StableHlo.TRef.nullary main_call2.cst (constant S_ .f32 0x7FC00000#32),
  StableHlo.TRef.unary main_call2.cst main_call2.v14 (broadcastInDim S4194304 ![] bcast_S_S4194304),
  StableHlo.TRef.ternary main_call2.v12 main_call2.v13 main_call2.v14 main_call2.v15 select]

def ops5a : List (HloOp τ sig (Elt F)) := [
  StableHlo.TRef.nullary main_call3.c (constantI S_ 32 0#32),
  StableHlo.TRef.unary main_call3.c main_call3.v0 (broadcastInDim S4194304 ![] bcast_S_S4194304),
  StableHlo.TRef.binary (.of main_v24 : StableHlo.TRef sig ⟨S4194304, .i32⟩) main_call3.v0 main_call3.v1 (cmpi .slt),
  StableHlo.TRef.nullary main_call3.c_0 (constantI S_ 32 4194304#32),
  StableHlo.TRef.unary main_call3.c_0 main_call3.v2 (broadcastInDim S4194304 ![] bcast_S_S4194304),
  StableHlo.TRef.binary (.of main_v24 : StableHlo.TRef sig ⟨S4194304, .i32⟩) main_call3.v2 main_call3.v3 addi,
  StableHlo.TRef.ternary main_call3.v1 main_call3.v3 (.of main_v24 : StableHlo.TRef sig ⟨S4194304, .i32⟩) main_call3.call0.v0 select,
  StableHlo.TRef.unary main_call3.call0.v0 main_call3.v5 (broadcastInDim S4194304x1 ![0] bcast_S4194304_S4194304x1_0)]

def ops5b : List (HloOp τ sig (Elt F)) := [
  StableHlo.TRef.nullary main_call3.c_1 (constantI S1 32 4194303#32),
  StableHlo.TRef.nullary main_call3.c_2 (constantI S_ 32 0#32),
  StableHlo.TRef.unary main_call3.c_2 main_call3.v6 (broadcastInDim S4194304x1 ![] bcast_S_S4194304x1),
  StableHlo.TRef.binary main_call3.v5 main_call3.v6 main_call3.v7 (cmpi .sge),
  StableHlo.TRef.unary main_call3.c_1 main_call3.v8 (broadcastInDim S1x1 ![1] bcast_S1_S1x1_1),
  StableHlo.TRef.unary main_call3.v8 main_call3.v9 (broadcastInDim S4194304x1 ![0, 1] bcast_S1x1_S4194304x1_0_1),
  StableHlo.TRef.binary main_call3.v5 main_call3.v9 main_call3.v10 (cmpi .sle),
  StableHlo.TRef.binary main_call3.v7 main_call3.v10 main_call3.v11 andi]

def ops5d : List (HloOp τ sig (Elt F)) := [
  StableHlo.TRef.nullary main_call3.c_3 (constantI S_ 1 1#1),
  StableHlo.TRef.binary main_call3.v11 main_call3.c_3 main_call3.v12 (fun x v => Host.reduce IntOp.andi x v reducesTo_S4194304x1_S4194304_d1 h_S_)]

def ops5c : List (HloOp τ sig (Elt F)) := [
  StableHlo.TRef.binary (.of main_v1 : StableHlo.TRef sig ⟨S4194304, .i32⟩) main_call3.v5 main_call3.v13 (fun x i => Host.gather gather_S4194304_S4194304x1_S4194304_n_0_n_n_0_1_1 x i),
  StableHlo.TRef.nullary main_call3.c_4 (constantI S_ 32 2147483648#32),
  StableHlo.TRef.unary main_call3.c_4 main_call3.v14 (broadcastInDim S4194304 ![] bcast_S_S4194304),
  StableHlo.TRef.ternary main_call3.v12 main_call3.v13 main_call3.v14 main_call3.v15 select]

def ops6 : List (HloOp τ sig (Elt F)) := [
  StableHlo.unary main_v26 main_v27 (sitofp .f32 : (⟨S4194304, .i32⟩ : BufTy).Contents (Elt F) → (⟨S4194304, .f32⟩ : BufTy).Contents (Elt F)),
  StableHlo.nullary main_cst_7 (constant S_ .f32 0x00000000#32),
  StableHlo.binary main_v27 main_cst_7 main_v28 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
  StableHlo.TRef.nullary main_call4.call0.cst (constant S_ .f32 0x00000000#32),
  StableHlo.TRef.unary main_call4.call0.cst main_call4.call0.v0 (broadcastInDim S_ ![] bcast_S_S_),
  StableHlo.TRef.binary (.of main_v27 : StableHlo.TRef sig ⟨S4194304, .f32⟩) main_call4.call0.v0 main_call4.call0.v1 (fun x v => Host.reduceWindowAdd ![4194304] ![1] ![4194303] ![0] x v reduceWindows_S4194304_S4194304_w4194304s1p4194303_0 h_S_),
  StableHlo.unary main_v28 main_v30 (broadcastInDim S4194304 ![] bcast_S_S4194304 : (⟨S_, .f32⟩ : BufTy).Contents (Elt F) → (⟨S4194304, .f32⟩ : BufTy).Contents (Elt F)),
  StableHlo.binary main_v30 main_v29 main_v31 (subf : (⟨S4194304, .f32⟩ : BufTy).Contents (Elt F) → (⟨S4194304, .f32⟩ : BufTy).Contents (Elt F) → (⟨S4194304, .f32⟩ : BufTy).Contents (Elt F)),
  StableHlo.nullary main_cst_8 (constant S_ .f32 0x3F800000#32),
  StableHlo.unary main_cst_8 main_v32 (broadcastInDim S4194304 ![] bcast_S_S4194304 : (⟨S_, .f32⟩ : BufTy).Contents (Elt F) → (⟨S4194304, .f32⟩ : BufTy).Contents (Elt F)),
  StableHlo.binary main_v32 main_v27 main_v33 (subf : (⟨S4194304, .f32⟩ : BufTy).Contents (Elt F) → (⟨S4194304, .f32⟩ : BufTy).Contents (Elt F) → (⟨S4194304, .f32⟩ : BufTy).Contents (Elt F)),
  StableHlo.TRef.nullary main_call5.call0.cst (constant S_ .f32 0x00000000#32),
  StableHlo.TRef.unary main_call5.call0.cst main_call5.call0.v0 (broadcastInDim S_ ![] bcast_S_S_),
  StableHlo.TRef.binary (.of main_v33 : StableHlo.TRef sig ⟨S4194304, .f32⟩) main_call5.call0.v0 main_call5.call0.v1 (fun x v => Host.reduceWindowAdd ![4194304] ![1] ![4194303] ![0] x v reduceWindows_S4194304_S4194304_w4194304s1p4194303_0 h_S_),
  StableHlo.unary main_v28 main_v35 (broadcastInDim S4194304 ![] bcast_S_S4194304 : (⟨S_, .f32⟩ : BufTy).Contents (Elt F) → (⟨S4194304, .f32⟩ : BufTy).Contents (Elt F)),
  StableHlo.binary main_v35 main_v34 main_v36 (addf : (⟨S4194304, .f32⟩ : BufTy).Contents (Elt F) → (⟨S4194304, .f32⟩ : BufTy).Contents (Elt F) → (⟨S4194304, .f32⟩ : BufTy).Contents (Elt F)),
  StableHlo.binary main_v31 main_v36 main_v37 (Host.divf : (⟨S4194304, .f32⟩ : BufTy).Contents (Elt F) → (⟨S4194304, .f32⟩ : BufTy).Contents (Elt F) → (⟨S4194304, .f32⟩ : BufTy).Contents (Elt F)),
  StableHlo.nullary main_cst_9 (constant S_ .f32 0x3F800000#32),
  StableHlo.unary main_cst_9 main_v38 (broadcastInDim S4194304 ![] bcast_S_S4194304 : (⟨S_, .f32⟩ : BufTy).Contents (Elt F) → (⟨S4194304, .f32⟩ : BufTy).Contents (Elt F)),
  StableHlo.binary main_v38 main_v37 main_v39 (subf : (⟨S4194304, .f32⟩ : BufTy).Contents (Elt F) → (⟨S4194304, .f32⟩ : BufTy).Contents (Elt F) → (⟨S4194304, .f32⟩ : BufTy).Contents (Elt F))]

def ops7 : List (HloOp τ sig (Elt F)) := [
  StableHlo.unary main_v39 main_v40 ((extractStridedSlice S1 ![0] · slices_S4194304_S1_0) : (⟨S4194304, .f32⟩ : BufTy).Contents (Elt F) → (⟨S1, .f32⟩ : BufTy).Contents (Elt F)),
  StableHlo.unary main_v39 main_v41 ((extractStridedSlice S4194303 ![1] · slices_S4194304_S4194303_1) : (⟨S4194304, .f32⟩ : BufTy).Contents (Elt F) → (⟨S4194303, .f32⟩ : BufTy).Contents (Elt F)),
  StableHlo.unary main_v39 main_v42 ((extractStridedSlice S4194303 ![0] · slices_S4194304_S4194303_0) : (⟨S4194304, .f32⟩ : BufTy).Contents (Elt F) → (⟨S4194303, .f32⟩ : BufTy).Contents (Elt F)),
  StableHlo.binary main_v41 main_v42 main_v43 (subf : (⟨S4194303, .f32⟩ : BufTy).Contents (Elt F) → (⟨S4194303, .f32⟩ : BufTy).Contents (Elt F) → (⟨S4194303, .f32⟩ : BufTy).Contents (Elt F)),
  StableHlo.binary main_v40 main_v43 main_v44 ((fun a b => concatenate S4194304 0 [⟨S1, a⟩, ⟨S4194303, b⟩] concatenates_S1_S4194303_S4194304_d0) : (⟨S1, .f32⟩ : BufTy).Contents (Elt F) → (⟨S4194303, .f32⟩ : BufTy).Contents (Elt F) → (⟨S4194304, .f32⟩ : BufTy).Contents (Elt F))]

def ops8 : List (HloOp τ sig (Elt F)) := [
  StableHlo.nullary main_cst_10 (constant S_ .f32 0x00000000#32),
  StableHlo.unary main_cst_10 main_v45 (broadcastInDim S4194304 ![] bcast_S_S4194304 : (⟨S_, .f32⟩ : BufTy).Contents (Elt F) → (⟨S4194304, .f32⟩ : BufTy).Contents (Elt F)),
  StableHlo.binary main_v25 main_v45 main_v46 (maximumf : (⟨S4194304, .f32⟩ : BufTy).Contents (Elt F) → (⟨S4194304, .f32⟩ : BufTy).Contents (Elt F) → (⟨S4194304, .f32⟩ : BufTy).Contents (Elt F)),
  StableHlo.binary main_v46 main_v44 main_v47 (mulf : (⟨S4194304, .f32⟩ : BufTy).Contents (Elt F) → (⟨S4194304, .f32⟩ : BufTy).Contents (Elt F) → (⟨S4194304, .f32⟩ : BufTy).Contents (Elt F)),
  StableHlo.nullary main_cst_11 (constant S_ .f32 0x00000000#32),
  StableHlo.binary main_v47 main_cst_11 main_v48 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F))]

end

theorem cast_self {α : Type} (h : α = α) (a : α) : cast h a = a := (rfl)

abbrev Va := Valuation τ sig (Elt Ideal)

open StableHlo in
theorem after_two (l₁ l₂ : List (HloOp τ sig (Elt Ideal))) (V : Va) : after (l₁ ++ l₂) V = after l₂ (after l₁ V) := by
  induction l₁ generalizing V with
  | nil => rfl
  | cons o l ih => exact ih _

set_option maxHeartbeats 4000000 in
theorem st4a_call2_v5 (V : Va) : StableHlo.after (ops4a (F := Ideal)) V (Proc.devRef .tc main_call2_v5) = takeIx (V (Proc.devRef .tc main_v24)) := by
  unfold ops4a; after_results; rfl
set_option maxHeartbeats 4000000 in
theorem st4a_v22 (V : Va) : StableHlo.after (ops4a (F := Ideal)) V (Proc.devRef .tc main_v22) = V (Proc.devRef .tc main_v22) := by
  unfold ops4a; after_results
set_option maxHeartbeats 4000000 in
theorem st4b_call2_v11 (V : Va) : StableHlo.after (ops4b (F := Ideal)) V (Proc.devRef .tc main_call2_v11) = takeIn (V (Proc.devRef .tc main_call2_v5)) := by
  unfold ops4b; after_results; rfl
set_option maxHeartbeats 4000000 in
theorem st4d_call2_v12 (V : Va) : StableHlo.after (ops4d (F := Ideal)) V (Proc.devRef .tc main_call2_v12) = Host.reduce IntOp.andi (V (Proc.devRef .tc main_call2_v11)) (constantI S_ 1 1#1) reducesTo_S4194304x1_S4194304_d1 h_S_ := by
  unfold ops4d; after_results
  simp only [StableHlo.TRef.ofBuf, StableHlo.TRef.toBuf, cast_cast, cast_self]
set_option maxHeartbeats 4000000 in
theorem st4b_v22 (V : Va) : StableHlo.after (ops4b (F := Ideal)) V (Proc.devRef .tc main_v22) = V (Proc.devRef .tc main_v22) := by
  unfold ops4b; after_results
set_option maxHeartbeats 4000000 in
theorem st4b_call2_v5 (V : Va) : StableHlo.after (ops4b (F := Ideal)) V (Proc.devRef .tc main_call2_v5) = V (Proc.devRef .tc main_call2_v5) := by
  unfold ops4b; after_results
set_option maxHeartbeats 4000000 in
theorem st4d_v22 (V : Va) : StableHlo.after (ops4d (F := Ideal)) V (Proc.devRef .tc main_v22) = V (Proc.devRef .tc main_v22) := by
  unfold ops4d; after_results
set_option maxHeartbeats 4000000 in
theorem st4d_call2_v5 (V : Va) : StableHlo.after (ops4d (F := Ideal)) V (Proc.devRef .tc main_call2_v5) = V (Proc.devRef .tc main_call2_v5) := by
  unfold ops4d; after_results
set_option maxHeartbeats 4000000 in
theorem st4c_v25 (V : Va) : StableHlo.after (ops4c (F := Ideal)) V (Proc.devRef .tc main_v25) = select (V (Proc.devRef .tc main_call2_v12)) (Host.gather gather_S4194304_S4194304x1_S4194304_n_0_n_n_0_1_1 (V (Proc.devRef .tc main_v22)) (V (Proc.devRef .tc main_call2_v5))) (bf 0x7FC00000#32) := by
  unfold ops4c; after_results; rfl
set_option maxHeartbeats 4000000 in
theorem st4a_v24 (V : Va) : StableHlo.after (ops4a (F := Ideal)) V (Proc.devRef .tc main_v24) = V (Proc.devRef .tc main_v24) := by
  unfold ops4a; after_results
set_option maxHeartbeats 4000000 in
theorem st4a_v1 (V : Va) : StableHlo.after (ops4a (F := Ideal)) V (Proc.devRef .tc main_v1) = V (Proc.devRef .tc main_v1) := by
  unfold ops4a; after_results
set_option maxHeartbeats 4000000 in
theorem st4b_v24 (V : Va) : StableHlo.after (ops4b (F := Ideal)) V (Proc.devRef .tc main_v24) = V (Proc.devRef .tc main_v24) := by
  unfold ops4b; after_results
set_option maxHeartbeats 4000000 in
theorem st4b_v1 (V : Va) : StableHlo.after (ops4b (F := Ideal)) V (Proc.devRef .tc main_v1) = V (Proc.devRef .tc main_v1) := by
  unfold ops4b; after_results
set_option maxHeartbeats 4000000 in
theorem st4d_v24 (V : Va) : StableHlo.after (ops4d (F := Ideal)) V (Proc.devRef .tc main_v24) = V (Proc.devRef .tc main_v24) := by
  unfold ops4d; after_results
set_option maxHeartbeats 4000000 in
theorem st4d_v1 (V : Va) : StableHlo.after (ops4d (F := Ideal)) V (Proc.devRef .tc main_v1) = V (Proc.devRef .tc main_v1) := by
  unfold ops4d; after_results
set_option maxHeartbeats 4000000 in
theorem st4c_v24 (V : Va) : StableHlo.after (ops4c (F := Ideal)) V (Proc.devRef .tc main_v24) = V (Proc.devRef .tc main_v24) := by
  unfold ops4c; after_results
set_option maxHeartbeats 4000000 in
theorem st4c_v1 (V : Va) : StableHlo.after (ops4c (F := Ideal)) V (Proc.devRef .tc main_v1) = V (Proc.devRef .tc main_v1) := by
  unfold ops4c; after_results
set_option maxHeartbeats 4000000 in
theorem st5a_call3_v5 (V : Va) : StableHlo.after (ops5a (F := Ideal)) V (Proc.devRef .tc main_call3_v5) = takeIx (V (Proc.devRef .tc main_v24)) := by
  unfold ops5a; after_results; rfl
set_option maxHeartbeats 4000000 in
theorem st5a_v1 (V : Va) : StableHlo.after (ops5a (F := Ideal)) V (Proc.devRef .tc main_v1) = V (Proc.devRef .tc main_v1) := by
  unfold ops5a; after_results
set_option maxHeartbeats 4000000 in
theorem st5b_call3_v11 (V : Va) : StableHlo.after (ops5b (F := Ideal)) V (Proc.devRef .tc main_call3_v11) = takeIn (V (Proc.devRef .tc main_call3_v5)) := by
  unfold ops5b; after_results; rfl
set_option maxHeartbeats 4000000 in
theorem st5d_call3_v12 (V : Va) : StableHlo.after (ops5d (F := Ideal)) V (Proc.devRef .tc main_call3_v12) = Host.reduce IntOp.andi (V (Proc.devRef .tc main_call3_v11)) (constantI S_ 1 1#1) reducesTo_S4194304x1_S4194304_d1 h_S_ := by
  unfold ops5d; after_results
  simp only [StableHlo.TRef.ofBuf, StableHlo.TRef.toBuf, cast_cast, cast_self]
set_option maxHeartbeats 4000000 in
theorem st5b_v1 (V : Va) : StableHlo.after (ops5b (F := Ideal)) V (Proc.devRef .tc main_v1) = V (Proc.devRef .tc main_v1) := by
  unfold ops5b; after_results
set_option maxHeartbeats 4000000 in
theorem st5b_call3_v5 (V : Va) : StableHlo.after (ops5b (F := Ideal)) V (Proc.devRef .tc main_call3_v5) = V (Proc.devRef .tc main_call3_v5) := by
  unfold ops5b; after_results
set_option maxHeartbeats 4000000 in
theorem st5d_v1 (V : Va) : StableHlo.after (ops5d (F := Ideal)) V (Proc.devRef .tc main_v1) = V (Proc.devRef .tc main_v1) := by
  unfold ops5d; after_results
set_option maxHeartbeats 4000000 in
theorem st5d_call3_v5 (V : Va) : StableHlo.after (ops5d (F := Ideal)) V (Proc.devRef .tc main_call3_v5) = V (Proc.devRef .tc main_call3_v5) := by
  unfold ops5d; after_results
set_option maxHeartbeats 4000000 in
theorem st5c_v26 (V : Va) : StableHlo.after (ops5c (F := Ideal)) V (Proc.devRef .tc main_v26) = select (V (Proc.devRef .tc main_call3_v12)) (Host.gather gather_S4194304_S4194304x1_S4194304_n_0_n_n_0_1_1 (V (Proc.devRef .tc main_v1)) (V (Proc.devRef .tc main_call3_v5))) (bi 2147483648#32) := by
  unfold ops5c; after_results; rfl
set_option maxHeartbeats 4000000 in
theorem st5a_v25 (V : Va) : StableHlo.after (ops5a (F := Ideal)) V (Proc.devRef .tc main_v25) = V (Proc.devRef .tc main_v25) := by
  unfold ops5a; after_results
set_option maxHeartbeats 4000000 in
theorem st5b_v25 (V : Va) : StableHlo.after (ops5b (F := Ideal)) V (Proc.devRef .tc main_v25) = V (Proc.devRef .tc main_v25) := by
  unfold ops5b; after_results
set_option maxHeartbeats 4000000 in
theorem st5d_v25 (V : Va) : StableHlo.after (ops5d (F := Ideal)) V (Proc.devRef .tc main_v25) = V (Proc.devRef .tc main_v25) := by
  unfold ops5d; after_results
set_option maxHeartbeats 4000000 in
theorem st5c_v25 (V : Va) : StableHlo.after (ops5c (F := Ideal)) V (Proc.devRef .tc main_v25) = V (Proc.devRef .tc main_v25) := by
  unfold ops5c; after_results

set_option maxHeartbeats 4000000 in
theorem st1_v9 (V : Va) : StableHlo.after (ops1 (F := Ideal)) V (Proc.devRef .tc main_v9) = err (shapeCast S4194304 (V (Proc.devRef .tc main_arg0)) shapeCasts_S16x512x512_S4194304) (shapeCast S4194304 (V (Proc.devRef .tc main_arg1)) shapeCasts_S16x512x512_S4194304) := by
  unfold ops1; after_results; rfl
set_option maxHeartbeats 4000000 in
theorem st1_v1 (V : Va) : StableHlo.after (ops1 (F := Ideal)) V (Proc.devRef .tc main_v1) = shapeCast S4194304 (V (Proc.devRef .tc main_arg1)) shapeCasts_S16x512x512_S4194304 := by
  unfold ops1; after_results; rfl
set_option maxHeartbeats 4000000 in
theorem st2_v22 (V : Va) : StableHlo.after (ops2 (F := Ideal)) V (Proc.devRef .tc main_v22) = quant (V (Proc.devRef .tc main_v9)) := by
  unfold ops2; after_results; rfl
set_option maxHeartbeats 4000000 in
theorem st2_v1 (V : Va) : StableHlo.after (ops2 (F := Ideal)) V (Proc.devRef .tc main_v1) = V (Proc.devRef .tc main_v1) := by
  unfold ops2; after_results
set_option maxHeartbeats 4000000 in
theorem st3_v24 (V : Va) : StableHlo.after (ops3 (F := Ideal)) V (Proc.devRef .tc main_v24) = order (V (Proc.devRef .tc main_v22)) := by
  unfold ops3; after_results; rfl
set_option maxHeartbeats 4000000 in
theorem st3_v22 (V : Va) : StableHlo.after (ops3 (F := Ideal)) V (Proc.devRef .tc main_v22) = V (Proc.devRef .tc main_v22) := by
  unfold ops3; after_results
set_option maxHeartbeats 4000000 in
theorem st3_v1 (V : Va) : StableHlo.after (ops3 (F := Ideal)) V (Proc.devRef .tc main_v1) = V (Proc.devRef .tc main_v1) := by
  unfold ops3; after_results
set_option maxHeartbeats 4000000 in
theorem st6_v39 (V : Va) : StableHlo.after (ops6 (F := Ideal)) V (Proc.devRef .tc main_v39) = jacc (sitofp .f32 (V (Proc.devRef .tc main_v26))) := by
  unfold ops6; after_results; rfl
set_option maxHeartbeats 4000000 in
theorem st6_v25 (V : Va) : StableHlo.after (ops6 (F := Ideal)) V (Proc.devRef .tc main_v25) = V (Proc.devRef .tc main_v25) := by
  unfold ops6; after_results
set_option maxHeartbeats 4000000 in
theorem st7_v44 (V : Va) : StableHlo.after (ops7 (F := Ideal)) V (Proc.devRef .tc main_v44) = diffs (V (Proc.devRef .tc main_v39)) := by
  unfold ops7; after_results; rfl
set_option maxHeartbeats 4000000 in
theorem st7_v25 (V : Va) : StableHlo.after (ops7 (F := Ideal)) V (Proc.devRef .tc main_v25) = V (Proc.devRef .tc main_v25) := by
  unfold ops7; after_results
set_option maxHeartbeats 4000000 in
theorem st8_v48 (V : Va) : StableHlo.after (ops8 (F := Ideal)) V (Proc.devRef .tc main_v48) = sum0 (mulf (maximumf (V (Proc.devRef .tc main_v25)) (bf 0x00000000#32)) (V (Proc.devRef .tc main_v44))) := by
  unfold ops8; after_results; rfl

def opsAll {F : FTy → Type} [FloatOps F] : List (HloOp τ sig (Elt F)) := ops1 ++ (ops2 ++ (ops3 ++ (ops4a ++ (ops4b ++ (ops4d ++ (ops4c ++ (ops5a ++ (ops5b ++ (ops5d ++ (ops5c ++ (ops6 ++ (ops7 ++ ops8))))))))))))

set_option maxHeartbeats 4000000 in
theorem main_seq : ∀ d, StableHlo.IsSeq (main (F := Ideal) d) (opsAll (F := Ideal)) := by
  unfold opsAll ops1 ops2 ops3 ops4a ops4b ops4d ops4c ops5a ops5b ops5d ops5c ops6 ops7 ops8
  simp only [List.cons_append, List.nil_append]
  hlo_seq

set_option maxHeartbeats 4000000 in
theorem after_v48 (V : Va) : StableHlo.after (opsAll (F := Ideal)) V (Proc.devRef .tc main_v48) =
    refOut (V (Proc.devRef .tc main_arg0)) (V (Proc.devRef .tc main_arg1)) := by
  unfold opsAll
  simp only [after_two]
  rw [st8_v48, st7_v44, st7_v25, st6_v39, st6_v25, st5c_v26, st5d_call3_v12, st5b_call3_v11, st5d_v1, st5b_v1, st5d_call3_v5, st5b_call3_v5, st5a_call3_v5, st5a_v1, st5c_v25, st5d_v25, st5b_v25, st5a_v25, st4c_v25, st4d_call2_v12, st4b_call2_v11, st4d_v22, st4b_v22, st4d_call2_v5, st4b_call2_v5, st4a_call2_v5, st4a_v22, st4c_v24, st4d_v24, st4b_v24, st4a_v24, st4c_v1, st4d_v1, st4b_v1, st4a_v1, st3_v24, st3_v22, st3_v1, st2_v22, st2_v1, st1_v9, st1_v1]
  rfl

set_option maxHeartbeats 4000000 in
theorem after_arg0 (V : Va) : StableHlo.after (opsAll (F := Ideal)) V (Proc.devRef .tc main_arg0) = V (Proc.devRef .tc main_arg0) := by
  unfold opsAll ops1 ops2 ops3 ops4a ops4b ops4d ops4c ops5a ops5b ops5d ops5c ops6 ops7 ops8
  simp only [List.cons_append, List.nil_append]
  after_results

set_option maxHeartbeats 4000000 in
theorem after_arg1 (V : Va) : StableHlo.after (opsAll (F := Ideal)) V (Proc.devRef .tc main_arg1) = V (Proc.devRef .tc main_arg1) := by
  unfold opsAll ops1 ops2 ops3 ops4a ops4b ops4d ops4c ops5a ops5b ops5d ops5c ops6 ops7 ops8
  simp only [List.cons_append, List.nil_append]
  after_results

set_option maxHeartbeats 8000000 in
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      ∀ c : Dev Cert.ReferenceIdeal.nD, r.2.mem (c.tc.loc main_v48) = refOut (m (c.tc.loc main_arg0)) (m (c.tc.loc main_arg1))
        ∧ r.2.mem (c.tc.loc main_arg0) = m (c.tc.loc main_arg0) ∧ r.2.mem (c.tc.loc main_arg1) = m (c.tc.loc main_arg1) := by
  refine (StableHlo.run_hlo (ops := opsAll (F := Ideal)) _ _ main_seq (by decide) (by decide) ?_ ?_ m g).mono ?_
  · unfold opsAll ops1 ops2 ops3 ops4a ops4b ops4d ops4c ops5a ops5b ops5d ops5c ops6 ops7 ops8
    simp
  · unfold opsAll ops1 ops2 ops3 ops4a ops4b ops4d ops4c ops5a ops5b ops5d ops5c ops6 ops7 ops8
    simp only [List.cons_append, List.nil_append]
    intro _ h; (repeat (cases h with | head => rfl | tail _ h => ?_)); exact nomatch h
  · intro r h c
    exact ⟨(h c main_v48).trans (after_v48 _), (h c main_arg0).trans (after_arg0 _), (h c main_arg1).trans (after_arg1 _)⟩

end Proof.R

end
-- ==== Proof.RefVal.lean ====
module

public import proofs.«01_k».proof.Proof.RefTerm
public import proofs.«01_k».proof.Proof.RefLem

/-! The reference's value: the loss counted by levels. -/

@[expose] public section

noncomputable section

namespace Proof.R

open Idealize.ShloMosaic Idealize.ShloMosaic.Routing Idealize.ShloMosaic.ValueIdx
open Cert.ReferenceIdeal Cert.ReferenceIdeal.Gen
open Proof.Level Proof.RefLem Proof.Math Finset

abbrev N : ℕ := 4194304

theorem err_at (v : VF) (l : VI) (i : S4194304.Idx) : err v l i = errS (v i) (l i) := (rfl)

theorem quant_at (e : VF) (i : S4194304.Idx) : quant e i = ((cen (lev (e i)) : ℝ) : EReal) := (show quant e i = _ from rfl).trans (centre (e i))

theorem comparator_eq (l r : Ideal .f32 × BitVec 32) :
    comparator_f32_i32_d0 (F := Ideal) l r = BitVec.ofBool (decide ((l.1 : EReal) < r.1)) := by
  have key : ∀ x : Ideal .f32, Scalar.select (FloatOps.cmpf .une x x) (FloatOps.ofBits .f32 0x7FC00000#32 : Ideal .f32)
      (Scalar.select (FloatOps.cmpf .oeq x (FloatOps.ofBits .f32 0x00000000#32 : Ideal .f32)) (FloatOps.ofBits .f32 0x00000000#32 : Ideal .f32) x) = x := by
    intro x
    rw [select_false _ (by
      show BitVec.ofBool (decide ((x : EReal) ≠ x)) ≠ 1#1
      simp)]
    rw [Ideal.ofBits_def, Ideal.ofBits_zero_f32]
    by_cases h : (x : EReal) = 0
    · rw [select_true _ (by
        show BitVec.ofBool (decide ((x : EReal) = 0)) = 1#1
        simp [h])]
      exact h.symm
    · exact select_false _ (by
        show BitVec.ofBool (decide ((x : EReal) = 0)) ≠ 1#1
        simp [h]) _ _
  show FloatOps.cmpfTotal .lt (Scalar.select _ _ (Scalar.select _ _ l.1)) (Scalar.select _ _ (Scalar.select _ _ r.1)) = _
  rw [key l.1, key r.1]
  rfl

/-- The places in descending order. -/
def srt (qr : Fin N → ℝ) : Fin N → Fin N := sortedFrom fun a b => decide (qr b < qr a)

theorem order_at (q : VF) (qr : Fin N → ℝ) (hq : ∀ i, q (ix1 i) = ((qr i : ℝ) : EReal)) (i : Fin N) :
    order q (ix1 i) = BitVec.ofNat 32 (srt qr i).val := by
  have h1 := sort2_read (N := N) (comparator_f32_i32_d0 (F := Ideal)) (Host.negf q) (iotaInDim S4194304 32 0) i
  refine h1.trans ?_
  have h2 : (fun a b : Fin N => comparator_f32_i32_d0 (F := Ideal) (Host.negf q (ix1 a), iotaInDim S4194304 32 0 (ix1 a))
      (Host.negf q (ix1 b), iotaInDim S4194304 32 0 (ix1 b)) == 1#1) = fun a b => decide (qr b < qr a) := by
    funext a b
    rw [comparator_eq]
    have ha : (Host.negf q (ix1 a) : EReal) = ((-qr a : ℝ) : EReal) := by
      rw [EReal.coe_neg, ← hq a]; rfl
    have hb : (Host.negf q (ix1 b) : EReal) = ((-qr b : ℝ) : EReal) := by
      rw [EReal.coe_neg, ← hq b]; rfl
    show (BitVec.ofBool (decide ((Host.negf q (ix1 a) : EReal) < Host.negf q (ix1 b))) == 1#1) = _
    rw [ha, hb]
    by_cases h : qr b < qr a
    · have h' : ((-qr a : ℝ) : EReal) < ((-qr b : ℝ) : EReal) := EReal.coe_lt_coe_iff.2 (by linarith)
      rw [decide_eq_true h', decide_eq_true h]; rfl
    · have h' : ¬ ((-qr a : ℝ) : EReal) < ((-qr b : ℝ) : EReal) := fun hc => h (by have := EReal.coe_lt_coe_iff.1 hc; linarith)
      rw [decide_eq_false h', decide_eq_false h]; rfl
  rw [h2]
  rfl

/-! Taking at places in range. -/

theorem toInt_small (n : ℕ) (h : n < 4194304) : (BitVec.ofNat 32 n).toInt = (n : ℤ) := by
  rw [BitVec.toInt_eq_toNat_of_lt] <;> rw [BitVec.toNat_ofNat, Nat.mod_eq_of_lt (by omega)]
  omega

theorem takeIx_at (ix : VI) (b : Fin N → Fin N) (h : ∀ p, ix (ix1 p) = BitVec.ofNat 32 (b p).val) (p : Fin N) :
    takeIx ix (ix2 p (0 : Fin 1)) = BitVec.ofNat 32 (b p).val := by
  unfold takeIx
  refine (bcCol (n := N) bcast_S4194304_S4194304x1_0 _ p).trans ?_
  show Scalar.select (IntOp.cmpi .slt (ix (ix1 p)) 0#32) _ (ix (ix1 p)) = _
  rw [select_false]
  · exact h p
  · rw [h p]
    have := toInt_small _ (b p).isLt
    have h0 : ¬ (((b p).val : ℤ) < 0) := by omega
    simp only [IntOp.cmpi, BitVec.slt, this, BitVec.toInt_zero]
    rw [decide_eq_false h0]
    decide

theorem takeOk_at (j : IVec S4194304x1 32) (b : Fin N → Fin N) (h : ∀ p, j (ix2 p (0 : Fin 1)) = BitVec.ofNat 32 (b p).val) (p : S4194304.Idx) :
    takeOk j p = 1#1 := by
  unfold takeOk
  refine Host.reduce_andi_one _ _ _ _ _ rfl fun i => ?_
  have hi : i = ix2 (n0 := N) (n1 := 1) (i 0) 0 := by
    funext d
    match d with
    | ⟨0, _⟩ => rfl
    | ⟨1, _⟩ => exact Subsingleton.elim (α := Fin 1) _ _
  have e := h (i 0)
  have hb : (b (i 0)).val < 4194304 := (b (i 0)).isLt
  have hz := toInt_small _ hb
  show IntOp.andi (IntOp.cmpi .sge (j i) 0#32) (IntOp.cmpi .sle (j i) 4194303#32) = 1#1
  have e' : j i = BitVec.ofNat 32 (b (i 0)).val := (congrArg j hi).trans e
  rw [e']
  have h1 : IntOp.cmpi .sge (BitVec.ofNat 32 (b (i 0)).val) 0#32 = 1#1 := by
    simp [IntOp.cmpi, BitVec.slt, BitVec.sle, hz]
  have h2 : IntOp.cmpi .sle (BitVec.ofNat 32 (b (i 0)).val) 4194303#32 = 1#1 := by
    have : (4194303#32 : BitVec 32).toInt = 4194303 := by decide
    have h3 : ((b (i 0)).val : ℤ) ≤ 4194303 := by omega
    simp only [IntOp.cmpi, BitVec.slt, BitVec.sle, hz, this]
    rw [decide_eq_true h3]
    decide
  rw [h1, h2]; rfl

theorem takeF_at (x : VF) (ix : VI) (b : Fin N → Fin N) (h : ∀ p, ix (ix1 p) = BitVec.ofNat 32 (b p).val) (p : Fin N) :
    takeF x ix (ix1 p) = x (ix1 (b p)) := by
  unfold takeF
  show Scalar.select (takeOk (takeIx ix) (ix1 p)) _ _ = _
  rw [select_true _ (takeOk_at _ b (takeIx_at ix b h) _)]
  exact gather_take1 (N := N) (n := N) gather_S4194304_S4194304x1_S4194304_n_0_n_n_0_1_1 rfl rfl rfl rfl x _ p (b p) (takeIx_at ix b h p) (by norm_num)

theorem takeI_at (x : VI) (ix : VI) (b : Fin N → Fin N) (h : ∀ p, ix (ix1 p) = BitVec.ofNat 32 (b p).val) (p : Fin N) :
    takeI x ix (ix1 p) = x (ix1 (b p)) := by
  unfold takeI
  show Scalar.select (takeOk (takeIx ix) (ix1 p)) _ _ = _
  rw [select_true _ (takeOk_at _ b (takeIx_at ix b h) _)]
  exact gather_take1 (N := N) (n := N) gather_S4194304_S4194304x1_S4194304_n_0_n_n_0_1_1 rfl rfl rfl rfl x _ p (b p) (takeIx_at ix b h p) (by norm_num)

/-! The sums. -/

theorem cum_at (x : VF) (f : ℕ → ℝ) (hx : ∀ i : Fin N, x (ix1 i) = ((f i.val : ℝ) : EReal)) (j : Fin N) :
    cum x (ix1 j) = ((∑ k ∈ range (j.val + 1), f k : ℝ) : EReal) := by
  unfold cum Host.reduceWindowAdd
  exact cum_read (N := N) (M := 4194303) (by norm_num) x f hx _ ofBits_zero reduceWindows_S4194304_S4194304_w4194304s1p4194303_0 j

theorem sum0_at (x : VF) (f : Fin N → ℝ) (hx : ∀ i : Fin N, x (ix1 i) = ((f i : ℝ) : EReal)) (j : S_.Idx) :
    sum0 x j = ((∑ i, f i : ℝ) : EReal) :=
  sum_read (N := N) x f hx _ ofBits_zero reducesTo_S4194304_S_d0 j

end Proof.R

end
-- ==== Proof.RefDiff.lean ====
module

public import proofs.«01_k».proof.Proof.RefVal

/-! Differences of neighbours. -/

@[expose] public section

noncomputable section

namespace Proof.R

open Idealize.ShloMosaic Idealize.ShloMosaic.Routing Idealize.ShloMosaic.ValueIdx
open Cert.ReferenceIdeal Cert.ReferenceIdeal.Gen
open Proof.Level Proof.RefLem Proof.Math Finset

theorem diffs_at (j : VF) (r : ℕ → ℝ) (hj : ∀ i : Fin N, j (ix1 i) = ((r (i.val + 1) : ℝ) : EReal)) (h0 : r 0 = 0) (i : Fin N) :
    diffs j (ix1 i) = ((r (i.val + 1) - r i.val : ℝ) : EReal) := by
  have hi : i.val < 4194304 := i.isLt
  unfold diffs
  by_cases hz : i.val = 0
  · refine (concatenate_pair_apply_left (s₁ := S1) (s₂ := S4194303) (0 : Fin S4194304.rank) _ _ _ (ix1 i) rfl (ix1 (0 : Fin 1)) (fun b => ?_)).trans ?_
    · match b with
      | ⟨0, _⟩ => exact hz.symm
    · refine (slice1 (m := N) (n := 1) 0 j slices_S4194304_S1_0 0 (by norm_num)).trans ?_
      rw [hj]
      show ((r (0 + 0 + 1) : ℝ) : EReal) = _
      rw [hz, h0, sub_zero]
  · refine (concatenate_pair_apply_right (s₁ := S1) (s₂ := S4194303) (0 : Fin S4194304.rank) _ _ _ (ix1 i) rfl rfl (ix1 (⟨i.val - 1, by omega⟩ : Fin 4194303)) (fun b hb => ?_) ?_).trans ?_
    · exact absurd (Subsingleton.elim (α := Fin 1) _ _) hb
    · show i.val - 1 + 1 = i.val
      omega
    · show (extractStridedSlice S4194303 ![1] j slices_S4194304_S4194303_1 (ix1 (⟨i.val - 1, by omega⟩ : Fin 4194303)) : EReal)
        - extractStridedSlice S4194303 ![0] j slices_S4194304_S4194303_0 (ix1 (⟨i.val - 1, by omega⟩ : Fin 4194303)) = _
      have e1 := slice1 (m := N) (n := 4194303) 1 j slices_S4194304_S4194303_1 ⟨i.val - 1, by omega⟩ (by show 1 + (i.val - 1) < 4194304; omega)
      have e2 := slice1 (m := N) (n := 4194303) 0 j slices_S4194304_S4194303_0 ⟨i.val - 1, by omega⟩ (by show 0 + (i.val - 1) < 4194304; omega)
      rw [e1, e2, hj, hj, ← EReal.coe_sub]
      show ((r (1 + (i.val - 1) + 1) - r (0 + (i.val - 1) + 1) : ℝ) : EReal) = _
      rw [show 1 + (i.val - 1) + 1 = i.val + 1 by omega, show 0 + (i.val - 1) + 1 = i.val by omega]

end Proof.R

end
-- ==== Proof.RefJac.lean ====
module

public import proofs.«01_k».proof.Proof.RefVal

/-! The Jaccard losses of the initial segments. -/

@[expose] public section

noncomputable section

namespace Proof.R

open Idealize.ShloMosaic Idealize.ShloMosaic.Routing Idealize.ShloMosaic.ValueIdx
open Cert.ReferenceIdeal Cert.ReferenceIdeal.Gen
open Proof.Level Proof.RefLem Proof.Math Finset

/-! The Jaccard losses of the initial segments, and their differences. -/

theorem sub_at (b : BitVec 32) (g : VF) (i : S4194304.Idx) : subf (bf b) g i = (FloatOps.ofBits .f32 b : Ideal .f32) - (g i : EReal) := (rfl)

theorem jacc_shape (x y z w : VF) (i : S4194304.Idx) : subf x (Host.divf (subf y z) (addf y w)) i =
    (FloatOps.subf (x i) (FloatOps.hostDivf (FloatOps.subf (y i) (z i)) (FloatOps.addf (y i) (w i))) : Ideal .f32) := (rfl)

theorem jacc_def (g : VF) : jacc g = subf (bf 0x3F800000#32)
    (Host.divf (subf (broadcastInDim S4194304 ![] bcast_S_S4194304 (sum0 g)) (cum g))
      (addf (broadcastInDim S4194304 ![] bcast_S_S4194304 (sum0 g)) (cum (subf (bf 0x3F800000#32) g)))) := (rfl)

theorem bf_at (b : BitVec 32) (i : S4194304.Idx) : bf b i = (FloatOps.ofBits .f32 b : Ideal .f32) := (rfl)

section
variable (t : Fin N → ℕ) (π : Fin N → Fin N)

/-- The label at a place of the sorted order, as a function of the place's number. -/
def lab (k : ℕ) : ℝ := if h : k < N then (t (π ⟨k, h⟩) : ℝ) else 0

theorem lab_val (i : Fin N) : lab t π i.val = (t (π i) : ℝ) := by
  unfold lab; rw [dif_pos i.isLt]

theorem sum_lab (n : ℕ) (hn : n ≤ N) : ∑ k ∈ range n, lab t π k = (pre t π n : ℝ) := by
  unfold pre
  rw [Nat.cast_sum]
  refine (sum_bij (fun (j : Fin N) _ => j.val) ?_ ?_ ?_ ?_).symm
  · intro j hj; exact mem_range.2 (mem_filter.1 hj).2
  · intro a _ b _ hab; exact Fin.ext hab
  · intro k hk; exact ⟨⟨k, (mem_range.1 hk).trans_le hn⟩, mem_filter.2 ⟨mem_univ _, mem_range.1 hk⟩, rfl⟩
  · intro j _; exact (lab_val t π j).symm

theorem sum_tot (hπ : Function.Bijective π) : ∑ i : Fin N, lab t π i.val = (tot t : ℝ) := by
  unfold tot
  rw [Nat.cast_sum]
  exact (sum_congr rfl fun i _ => lab_val t π i).trans (hπ.sum_comp (fun i => (t i : ℝ)))

theorem pre_le_tot (hπ : Function.Bijective π) (n : ℕ) : pre t π n ≤ tot t := by
  unfold pre tot
  rw [← hπ.sum_comp t]
  exact sum_le_sum_of_subset (filter_subset _ _)

theorem pre_le (ht : ∀ i, t i ≤ 1) (n : ℕ) (hn : n ≤ N) : pre t π n ≤ n := by
  have h := sum_lab t π n hn
  have h2 : ∑ k ∈ range n, lab t π k ≤ ∑ k ∈ range n, (1 : ℝ) := by
    refine sum_le_sum fun k _ => ?_
    unfold lab
    split
    · exact_mod_cast ht _
    · norm_num
  rw [h] at h2
  simp only [sum_const, card_range, nsmul_eq_mul, mul_one] at h2
  exact_mod_cast h2

theorem jacc_at (g : VF) (hg : ∀ i : Fin N, g (ix1 i) = ((lab t π i.val : ℝ) : EReal)) (hπ : Function.Bijective π) (ht : ∀ i, t i ≤ 1) (i : Fin N) :
    jacc g (ix1 i) = ((jr t π (i.val + 1) : ℝ) : EReal) := by
  have hi : i.val + 1 ≤ N := i.isLt
  have hs : sum0 g ix0 = ((tot t : ℝ) : EReal) := by
    rw [sum0_at g (fun i => lab t π i.val) hg, sum_tot t π hπ]
  have hc : cum g (ix1 i) = ((pre t π (i.val + 1) : ℝ) : EReal) := by
    rw [cum_at g (lab t π) hg, sum_lab t π _ hi]
  have hd : cum (subf (bf 0x3F800000#32) g) (ix1 i) = (((i.val + 1 : ℕ) - pre t π (i.val + 1) : ℝ) : EReal) := by
    rw [cum_at _ (fun k => 1 - lab t π k), sum_sub_distrib, sum_lab t π _ hi, sum_const, card_range, nsmul_eq_mul, mul_one]
    intro k
    rw [sub_at, hg k, ofBits_one, EReal.coe_sub]
  have hb : ∀ x : FVec Ideal S_ .f32, broadcastInDim S4194304 ![] bcast_S_S4194304 x (ix1 i) = x ix0 := fun x => bc0 bcast_S_S4194304 x _
  have hne : ((tot t : ℝ) + ((i.val + 1 : ℕ) - pre t π (i.val + 1))) ≠ 0 := by
    have h1 := pre_le_tot t π hπ (i.val + 1)
    have h2 : (pre t π (i.val + 1) : ℝ) ≤ tot t := by exact_mod_cast h1
    have h3 : (0 : ℝ) ≤ (i.val : ℝ) := Nat.cast_nonneg _
    push_cast
    intro hh
    linarith
  rw [jacc_def, jacc_shape, bf_at, Ideal.subf_def, Ideal.hostDivf_def, Ideal.subf_def, Ideal.addf_def, hb, hs, hc, hd, ofBits_one, ← EReal.coe_sub, ← EReal.coe_add, div_eq hne, ← EReal.coe_sub]
  unfold jr
  rw [if_neg (Nat.succ_ne_zero _)]

end

end Proof.R

end
-- ==== Proof.RefTotal.lean ====
module

public import proofs.«01_k».proof.Proof.RefDiff
public import proofs.«01_k».proof.Proof.RefJac

/-! The reference's value: the loss counted by levels. -/

@[expose] public section

noncomputable section

namespace Proof.R

open Idealize.ShloMosaic Idealize.ShloMosaic.Routing Idealize.ShloMosaic.ValueIdx
open Cert.ReferenceIdeal Cert.ReferenceIdeal.Gen
open Proof.Level Proof.RefLem Proof.Math Finset

theorem cen_nonneg (n : ℕ) : 0 ≤ cen n := by
  unfold cen
  split
  · exact le_refl _
  · have : (1 : ℝ) ≤ n := by exact_mod_cast Nat.one_le_iff_ne_zero.2 ‹_›
    apply div_nonneg <;> linarith

theorem cen_mono {a b : ℕ} (h : cen a ≤ cen b) : a ≤ b := by
  unfold cen at h
  split at h
  · omega
  · split at h
    · have : (1 : ℝ) ≤ a := by exact_mod_cast Nat.one_le_iff_ne_zero.2 ‹_›
      rw [div_le_iff₀ (by norm_num)] at h
      linarith
    · rw [div_le_div_iff_of_pos_right (by norm_num)] at h
      have : (a : ℝ) ≤ b := by linarith
      exact_mod_cast this

theorem prod_at (a b c : VF) (i : S4194304.Idx) : mulf (maximumf a b) c i = (max (a i : EReal) (b i) * (c i : EReal) : EReal) := (rfl)
theorem sitofp_at (a : VI) (i : S4194304.Idx) : sitofp (F := Ideal) .f32 a i = (((a i).toInt : ℝ) : EReal) := (rfl)

/-- The levels and the labels of the elements in a line. -/
def hOf (v : VF) (l : VI) (i : Fin N) : ℕ := lev (errS (v (ix1 i)) (l (ix1 i)))
def tOf (l : VI) (i : Fin N) : ℕ := (l (ix1 i)).toNat

theorem total_at (v : VF) (l : VI) (hl : ∀ i, (l i).toNat ≤ 1) (j : S_.Idx) : total v l j = ((loss (hOf v l) (tOf l) : ℝ) : EReal) := by
  have hq : ∀ i : Fin N, quant (err v l) (ix1 i) = ((cen (hOf v l i) : ℝ) : EReal) := fun i => by
    rw [quant_at, err_at]; rfl
  have hord := order_at (quant (err v l)) (fun i => cen (hOf v l i)) hq
  have hbij : Function.Bijective (srt fun i => cen (hOf v l i)) := sorted_bij _
  have ht : ∀ i, tOf l i ≤ 1 := fun i => hl _
  have hg : ∀ i : Fin N, sitofp (F := Ideal) .f32 (takeI l (order (quant (err v l)))) (ix1 i) = ((lab (tOf l) (srt fun i => cen (hOf v l i)) i.val : ℝ) : EReal) := by
    intro i
    rw [lab_val]
    rw [sitofp_at, takeI_at l _ _ hord i]
    have h1 := hl (ix1 (srt (fun i => cen (hOf v l i)) i))
    rw [BitVec.toInt_eq_toNat_of_lt (by omega)]
    rfl
  have hdf := diffs_at (jacc (sitofp .f32 (takeI l (order (quant (err v l)))))) (jr (tOf l) (srt fun i => cen (hOf v l i)))
    (fun i => jacc_at (tOf l) _ _ hg hbij ht i) (by unfold jr; rw [if_pos rfl])
  unfold total
  refine (sum0_at _ (fun i => cen (hOf v l (srt (fun i => cen (hOf v l i)) i)) *
    (jr (tOf l) (srt fun i => cen (hOf v l i)) (i.val + 1) - jr (tOf l) (srt fun i => cen (hOf v l i)) i.val)) (fun i => ?_) j).trans ?_
  · rw [prod_at, bf_at, hdf, takeF_at _ _ _ hord i, hq, ofBits_zero, max_eq_left (EReal.coe_le_coe_iff.2 (cen_nonneg _)), ← EReal.coe_mul]
  · rw [sorted_loss (hOf v l) (tOf l) _ hbij (fun a b hab => sorted_desc _ (hOf v l) (fun a b h => cen_mono h) _ (fun _ _ => rfl) a b hab) ht (fun i => lev_le _)]

end Proof.R

end
-- ==== Proof.KernelVal.lean ====
module

public import proofs.«01_k».proof.Proof.CountMerge
public import proofs.«01_k».proof.Proof.Edges
public import proofs.«01_k».proof.Proof.RefTotal
public import proofs.«01_k».proof.Proof.Main

/-!
# The kernel's value

The subcores' elements, by subcore, chunk, trip, row and lane, are all the elements of the images once each.
-/

@[expose] public section

noncomputable section

namespace Proof.K

open Cert.KernelIdeal Cert.KernelIdeal.Gen
open Idealize.ShloMosaic
open Proof.Level Proof.Math Finset

theorem emb_chunk (L : grid0.Coords) (q : Fin 16) (x : Fin 16) (y : Fin 512) (s : Fin 16) (r : Fin 512) (hs : s.val = (L 1).val)
    (hr : r.val = 256 * (L 0).val + 16 * q.val + x.val) :
    (chunkOf aP L q).view.emb (ValueIdx.ix2 x y) = (ValueIdx.ix3 s r y : S16x512x512.Idx) := by
  have h : (chunkOf aP L q).view.emb (ValueIdx.ix2 x y)
      = (Rect.unit (s := S16x512x512) (k0_off2 L (BitVec.ofNat 32 (16 * q.val))) S1x16x512.size (k0_off2_inb L q)).emb (ValueIdx.ix3 (⟨0, Nat.one_pos⟩ : Fin 1) x y) :=
    congrArg (Rect.unit (s := S16x512x512) (k0_off2 L (BitVec.ofNat 32 (16 * q.val))) S1x16x512.size (k0_off2_inb L q)).emb (ValueIdx.reshapeEquiv_ix2_1ab _ x y)
  rw [h]
  funext a
  apply Fin.ext
  refine (ValueKit.rect_emb_unit_val _ _ _ _ _).trans ?_
  rw [congrFun (k0_off2_eq L q) a]
  match a with
  | 0 => show (L 1).val + 0 = s.val; omega
  | 1 => show 256 * (L 0).val + 16 * q.val + x.val = r.val; omega
  | 2 => show 0 + y.val = y.val; omega

theorem emb_chunkL (L : grid0.Coords) (q : Fin 16) (x : Fin 16) (y : Fin 512) (s : Fin 16) (r : Fin 512) (hs : s.val = (L 1).val)
    (hr : r.val = 256 * (L 0).val + 16 * q.val + x.val) :
    (chunkOf aL L q).view.emb (ValueIdx.ix2 x y) = (ValueIdx.ix3 s r y : S16x512x512.Idx) := by
  have h : (chunkOf aL L q).view.emb (ValueIdx.ix2 x y)
      = (Rect.unit (s := S16x512x512) (k0_off2 L (BitVec.ofNat 32 (16 * q.val))) S1x16x512.size (k0_off2_inb L q)).emb (ValueIdx.ix3 (⟨0, Nat.one_pos⟩ : Fin 1) x y) :=
    congrArg (Rect.unit (s := S16x512x512) (k0_off2 L (BitVec.ofNat 32 (16 * q.val))) S1x16x512.size (k0_off2_inb L q)).emb (ValueIdx.reshapeEquiv_ix2_1ab _ x y)
  rw [h]
  funext a
  apply Fin.ext
  refine (ValueKit.rect_emb_unit_val _ _ _ _ _).trans ?_
  rw [congrFun (k0_off2_eq L q) a]
  match a with
  | 0 => show (L 1).val + 0 = s.val; omega
  | 1 => show 256 * (L 0).val + 16 * q.val + x.val = r.val; omega
  | 2 => show 0 + y.val = y.val; omega

/-- The image, the row and the column of an element of subcore `w`. -/
def imgOf (w : Fin 32) : Fin 16 := ⟨w.val / 2, by omega⟩
def rowIn (w : Fin 32) (q r : Fin 16) : Fin 512 := ⟨256 * (w.val % 2) + 16 * q.val + r.val, by omega⟩

variable (d : Dev nD)

theorem pcOf_at (A : Vec Ideal S16x512x512 .f32) (w : Fin 32) (q r : Fin 16) (y : Fin 512) :
    pcOf (F := Ideal) d (placeOf w) A q (ValueIdx.ix2 r y) = A (ValueIdx.ix3 (imgOf w) (rowIn w q r) y) :=
  congrArg A (emb_chunk (placeOf w) q r y (imgOf w) (rowIn w q r) rfl rfl)

theorem lcOf_at (B : Vec Ideal S16x512x512 .i32) (w : Fin 32) (q r : Fin 16) (y : Fin 512) :
    lcOf (F := Ideal) d (placeOf w) B q (ValueIdx.ix2 r y) = B (ValueIdx.ix3 (imgOf w) (rowIn w q r) y) :=
  congrArg B (emb_chunkL (placeOf w) q r y (imgOf w) (rowIn w q r) rfl rfl)

/-- An element's number. -/
def flat (w : Fin 32) (j q : Fin 16) (k : Fin k0_t2_loop.trips) (r : Fin 16) : Fin 4194304 :=
  ⟨(256 * w.val + 16 * q.val + r.val) * 512 + (16 * k.val + j.val), by
    have : k.val < 32 := k.isLt
    omega⟩

theorem flat_at {α : Type} (A : S16x512x512.Idx → α) (h : S16x512x512.ShapeCasts Cert.ReferenceIdeal.S4194304) (w : Fin 32) (j q : Fin 16) (k : Fin k0_t2_loop.trips) (r : Fin 16) :
    shapeCast Cert.ReferenceIdeal.S4194304 A h (ValueIdx.ix1 (flat w j q k r)) = A (ValueIdx.ix3 (imgOf w) (rowIn w q r) (colOf k j)) :=
  shapeCast_apply A h _ _ (by
    rw [Shape.rowMajor_val_three, Shape.rowMajor_val_one]
    show ((w.val / 2) * 512 + (256 * (w.val % 2) + 16 * q.val + r.val)) * 512 + (16 * k.val + j.val) = (256 * w.val + 16 * q.val + r.val) * 512 + (16 * k.val + j.val)
    omega)

theorem sum_flat (f : Fin 4194304 → ℕ) : ∑ w, ∑ j, ∑ q, ∑ k, ∑ r, f (flat w j q k r) = ∑ i, f i := by
  have hb : Function.Bijective (fun p : Fin 32 × Fin 16 × Fin 16 × Fin k0_t2_loop.trips × Fin 16 => flat p.1 p.2.1 p.2.2.1 p.2.2.2.1 p.2.2.2.2) := by
    rw [Fintype.bijective_iff_injective_and_card]
    constructor
    · rintro ⟨w, j, q, k, r⟩ ⟨w', j', q', k', r'⟩ h
      have h1 : (256 * w.val + 16 * q.val + r.val) * 512 + (16 * k.val + j.val) = (256 * w'.val + 16 * q'.val + r'.val) * 512 + (16 * k'.val + j'.val) := congrArg Fin.val h
      have hk : k.val < 32 := k.isLt
      have hk' : k'.val < 32 := k'.isLt
      have e1 : w = w' := Fin.ext (by omega)
      have e2 : j = j' := Fin.ext (by omega)
      have e3 : q = q' := Fin.ext (by omega)
      have e4 : k = k' := Fin.ext (by omega)
      have e5 : r = r' := Fin.ext (by omega)
      rw [e1, e2, e3, e4, e5]
    · simp only [Fintype.card_prod, Fintype.card_fin]
      show 32 * (16 * (16 * (32 * 16))) = 4194304
      norm_num
  rw [← hb.sum_comp f]
  simp only [Fintype.sum_prod_type]

variable (A : Vec Ideal S16x512x512 .f32) (B : Vec Ideal S16x512x512 .i32) (hc : S16x512x512.ShapeCasts Cert.ReferenceIdeal.S4194304)

/-- The images as vectors. -/
abbrev vF : Proof.R.VF := shapeCast Cert.ReferenceIdeal.S4194304 A hc
abbrev lF : Proof.R.VI := shapeCast Cert.ReferenceIdeal.S4194304 B hc

theorem sum_tiles (g : Ideal .f32 → BitVec 32 → ℕ) :
    ∑ w, tileSum (pcOf (F := Ideal) d (placeOf w) A) (lcOf (F := Ideal) d (placeOf w) B) g
      = ∑ i : Fin 4194304, g (vF A hc (ValueIdx.ix1 i)) (lF B hc (ValueIdx.ix1 i)) := by
  rw [← sum_flat (fun i => g (vF A hc (ValueIdx.ix1 i)) (lF B hc (ValueIdx.ix1 i)))]
  refine sum_congr rfl fun w _ => ?_
  unfold tileSum laneSum
  refine sum_congr rfl fun j _ => sum_congr rfl fun q _ => sum_congr rfl fun k _ => sum_congr rfl fun r _ => ?_
  exact congrArg₂ g ((pcOf_at d A w q r (colOf k j)).trans (flat_at A hc w j q k r).symm) ((lcOf_at d B w q r (colOf k j)).trans (flat_at B hc w j q k r).symm)

theorem lcOf_bit (hB : ∀ i, ((B i : BitVec 32)).toNat ≤ 1) (w : Fin 32) (q : Fin 16) (i : S16x512.Idx) :
    ((lcOf (F := Ideal) d (placeOf w) B q i : BitVec 32)).toNat ≤ 1 := by
  have e : lcOf (F := Ideal) d (placeOf w) B q i = B ((chunkOf aL (placeOf w) q).view.emb i) := (rfl)
  rw [e]
  exact hB _

/-- The counts the subcores hand on. -/
abbrev nOf (w x : Fin 32) (y : Fin 128) : ℕ := tileSum (pcOf (F := Ideal) d (placeOf w) A) (lcOf (F := Ideal) d (placeOf w) B) (fun v l => inBin v l (128 * x.val + y.val))
abbrev qOf (w x : Fin 32) (y : Fin 128) : ℕ := tileSum (pcOf (F := Ideal) d (placeOf w) A) (lcOf (F := Ideal) d (placeOf w) B) (fun v l => inLab v l (128 * x.val + y.val))
abbrev cOf (w : Fin 32) (y : Fin 16) : ℕ := laneSum (pcOf (F := Ideal) d (placeOf w) A) (lcOf (F := Ideal) d (placeOf w) B) (fun _ l => l.toNat) y

theorem nOf_up (e : ℕ) : up (nOf d A B) e = cnt (Proof.R.hOf (vF A hc) (lF B hc)) e := by
  unfold cnt
  rw [Finset.card_eq_sum_ones]
  exact up_sum (Proof.R.hOf (vF A hc) (lF B hc)) (fun _ => 1) (fun i => lev_le _) (nOf d A B)
    (fun x y => sum_tiles d A B hc (fun v l => inBin v l (128 * x.val + y.val))) e

theorem qOf_up (e : ℕ) : up (qOf d A B) e = hit (Proof.R.hOf (vF A hc) (lF B hc)) (Proof.R.tOf (lF B hc)) e :=
  up_sum (Proof.R.hOf (vF A hc) (lF B hc)) (Proof.R.tOf (lF B hc)) (fun i => lev_le _) (qOf d A B)
    (fun x y => sum_tiles d A B hc (fun v l => inLab v l (128 * x.val + y.val))) e

theorem cOf_tot : ∑ w, ∑ y, cOf d A B w y = tot (Proof.R.tOf (lF B hc)) :=
  sum_tiles d A B hc (fun _ l => l.toNat)

theorem low_tile (pc : Fin 16 → Vec Ideal S16x512 .f32) (lc : Fin 16 → Vec Ideal S16x512 .i32) (hl : ∀ q i, ((lc q i : BitVec 32)).toNat ≤ 1)
    (x : Fin 32) (y : Fin 128) (b : Fin 4096) (hb : b.val = 128 * x.val + y.val) (z : BitVec 32) (hz : z = lowAt (F := Ideal) (histN pc lc 16) b) :
    z.toInt = (tileSum pc lc (fun v l => inBin v l (128 * x.val + y.val)) : ℤ) := by
  rw [hz, lowAt_nat pc lc hl, hb]
theorem high_tile (pc : Fin 16 → Vec Ideal S16x512 .f32) (lc : Fin 16 → Vec Ideal S16x512 .i32) (hl : ∀ q i, ((lc q i : BitVec 32)).toNat ≤ 1)
    (x : Fin 32) (y : Fin 128) (b : Fin 4096) (hb : b.val = 128 * x.val + y.val) (z : BitVec 32) (hz : z = highAt (F := Ideal) (histN pc lc 16) b) :
    z.toInt = (tileSum pc lc (fun v l => inLab v l (128 * x.val + y.val)) : ℤ) := by
  rw [hz, highAt_nat pc lc hl, hb]
theorem acc_tile (pc : Fin 16 → Vec Ideal S16x512 .f32) (lc : Fin 16 → Vec Ideal S16x512 .i32) (hl : ∀ q i, ((lc q i : BitVec 32)).toNat ≤ 1)
    (y : Fin 16) (z : BitVec 32) (hz : z = accN (F := Ideal) lc 16 (ValueIdx.ix1 y)) :
    z.toInt = (laneSum pc lc (fun _ l => l.toNat) y : ℤ) := by
  rw [hz, accN_nat pc lc hl]

variable (m : (ℓ : Loc nD τ sig) → Buf (Elt Ideal) ℓ)

theorem resN_at (w x : Fin 32) (y : Fin 128) : (resN (F := Ideal) m d (ix3 w x y) : BitVec 32)
    = lowAt (F := Ideal) (histN (pcOf (F := Ideal) d (placeOf w) (m (pLoc d))) (lcOf (F := Ideal) d (placeOf w) (m (lLoc d))) 16) (binAt (i2 x y)) := (rfl)
theorem resQ_at (w x : Fin 32) (y : Fin 128) : (resQ (F := Ideal) m d (ix3 w x y) : BitVec 32)
    = highAt (F := Ideal) (histN (pcOf (F := Ideal) d (placeOf w) (m (pLoc d))) (lcOf (F := Ideal) d (placeOf w) (m (lLoc d))) 16) (binAt (i2 x y)) := (rfl)
theorem resA_at (w : Fin 32) (y : Fin 16) : (resA (F := Ideal) m d (ix2 w y) : BitVec 32)
    = accN (F := Ideal) (lcOf (F := Ideal) d (placeOf w) (m (lLoc d))) 16 (ValueIdx.ix1 y) := (rfl)

/-- The TensorCore's result, for labels which are 0 or 1. -/
theorem fin_at (hB : ∀ i : S16x512x512.Idx, ((m (lLoc d) i : BitVec 32)).toNat ≤ 1) (i : Fin 8) (j : Fin 128) :
    (fin (F := Ideal) m d (ix2 i j) : EReal)
      = ((loss (Proof.R.hOf (vF (m (pLoc d)) hc) (lF (m (lLoc d)) hc)) (Proof.R.tOf (lF (m (lLoc d)) hc)) : ℝ) : EReal) := by
  have hn : ∀ (w x : Fin 32) (y : Fin 128), ((resN (F := Ideal) m d (ix3 w x y) : BitVec 32)).toInt = (nOf d (m (pLoc d)) (m (lLoc d)) w x y : ℤ) := fun w x y =>
    low_tile _ _ (lcOf_bit d (m (lLoc d)) hB w) x y (binAt (i2 x y)) rfl _ (resN_at d m w x y)
  have hq : ∀ (w x : Fin 32) (y : Fin 128), ((resQ (F := Ideal) m d (ix3 w x y) : BitVec 32)).toInt = (qOf d (m (pLoc d)) (m (lLoc d)) w x y : ℤ) := fun w x y =>
    high_tile _ _ (lcOf_bit d (m (lLoc d)) hB w) x y (binAt (i2 x y)) rfl _ (resQ_at d m w x y)
  have ha : ∀ (w : Fin 32) (y : Fin 16), ((resA (F := Ideal) m d (ix2 w y) : BitVec 32)).toInt = (cOf d (m (pLoc d)) (m (lLoc d)) w y : ℤ) := fun w y =>
    acc_tile (pcOf (F := Ideal) d (placeOf w) (m (pLoc d))) _ (lcOf_bit d (m (lLoc d)) hB w) y _ (resA_at d m w y)
  rw [← loss_eq _ _ _ _ _ (nOf_up d (m (pLoc d)) (m (lLoc d)) hc) (qOf_up d (m (pLoc d)) (m (lLoc d)) hc) (cOf_tot d (m (pLoc d)) (m (lLoc d)) hc)]
  refine finish_at _ _ _ _ _ _ hn hq ha (fun e => ?_) i j
  rw [qOf_up d _ _ hc, cOf_tot d _ _ hc]
  exact hit_le_tot _ _ e

end Proof.K
-- ==== Proof.Labels.lean ====
module

public import proofs.«01_k».proof.Pre_labels_are_bits
public import Idealize.ShloMosaic.Lib.ReduceAll

/-! The precondition: every label is 0 or 1. -/

@[expose] public section

noncomputable section

namespace Proof.Labels

open Idealize.ShloMosaic Cert.Pre_labels_are_bits

instance facts : Cert.Pre_labels_are_bits.Facts where
  bcast_S_S16x512x512 := by decide
  reducesTo_S16x512x512_S_d0_1_2 := by decide
  h_S_ := by decide

instance : Subsingleton S_.Idx := ⟨fun a b => funext fun i => i.elim0⟩

/-- A word which is at least 0 and at most 1, read as a signed number, is 0 or 1. -/
theorem bit_of (x : BitVec 32) (h0 : IntOp.cmpi .sge x 0#32 = 1#1) (h1 : IntOp.cmpi .sle x 1#32 = 1#1) : x.toNat ≤ 1 := by
  have a := IntOp.cmpi_sge.1 h0
  have b := IntOp.cmpi_sle.1 h1
  have e0 : (0#32 : BitVec 32).toInt = 0 := by decide
  have e1 : (1#32 : BitVec 32).toInt = 1 := by decide
  rw [e0] at a
  rw [e1] at b
  rw [BitVec.toInt_eq_toNat_cond] at a b
  have := x.isLt
  split at a <;> omega

/-- What the precondition says of each label. -/
theorem labels_le {F : FTy → Type} [FloatOps F] (A : FVec F S16x512x512 .f32) (B : IVec S16x512x512 32)
    (h : Cert.Pre_labels_are_bits.fn A B = fun _ => 1#1) (i : S16x512x512.Idx) : (B i).toNat ≤ 1 := by
  have e := Host.reduce_andi_all _ _ _ _ (fun a => a.elim0) (congrFun h (fun a => a.elim0)) i
  have e' := IntOp.andi_eq_one.1 e
  exact bit_of (B i) e'.1 e'.2

end Proof.Labels

end
-- ==== Proof.OutAt.lean ====
module

public import proofs.«01_k».proof.Proof.Main
public import Idealize.ShloMosaic.Lib.Pointwise
public import Idealize.ShloMosaic.Lib.StableHlo.Run

/-! The program's result is the first element of what the TensorCore writes. -/

@[expose] public section

noncomputable section

namespace Proof.K

open Cert.KernelIdeal Cert.KernelIdeal.Gen
open Idealize.ShloMosaic

variable {F : FTy → Type} [FloatOps F]

/-- The first element, cut out and given the shape of a scalar. -/
theorem first_at {α : Type} (X : S8x128.Idx → α) (i : S_.Idx) :
    shapeCast S_ (extractStridedSlice S1x1 ![0, 0] X slices_S8x128_S1x1_0_0) shapeCasts_S1x1_S_ i = X (ix2 (0 : Fin 8) (0 : Fin 128)) := by
  rw [shapeCast_apply _ shapeCasts_S1x1_S_ i (ix2 (0 : Fin 1) (0 : Fin 1)) (by
    have h1 : (S1x1.rowMajor (ix2 (0 : Fin 1) (0 : Fin 1))).val < 1 := (S1x1.rowMajor _).isLt.trans_eq (by decide)
    have h2 : (S_.rowMajor i).val < 1 := (S_.rowMajor _).isLt.trans_eq (by decide)
    omega)]
  unfold extractStridedSlice
  refine congrArg X (funext fun a => Fin.ext ?_)
  match a with
  | 0 => rfl
  | 1 => rfl

theorem out_eq (m : (ℓ : Loc nD τ sig) → Buf (Elt F) ℓ) (d : Dev nD) :
    out m d = shapeCast S_ (extractStridedSlice S1x1 ![0, 0] (fin m d) slices_S8x128_S1x1_0_0) shapeCasts_S1x1_S_ := by
  unfold out
  refine (StableHlo.reshape_result main_v2 main_v3 rfl shapeCasts_S1x1_S_ _ _ _).trans ?_
  refine congrArg (fun z : S1x1.Idx → Elt F .f32 => shapeCast S_ z shapeCasts_S1x1_S_) ?_
  refine (StableHlo.unary_result main_v1 main_v2 _ _ _ _).trans ?_
  exact congrArg (fun z : S8x128.Idx → Elt F .f32 => extractStridedSlice S1x1 ![0, 0] z slices_S8x128_S1x1_0_0) (V1_1 m d)

theorem out_at (m : (ℓ : Loc nD τ sig) → Buf (Elt F) ℓ) (d : Dev nD) (i : S_.Idx) :
    out m d i = fin m d (ix2 (0 : Fin 8) (0 : Fin 128)) :=
  (congrFun (out_eq m d) i).trans (first_at (fin m d) i)

end Proof.K

end
-- ==== Proof.Algebraic.lean ====
module

public import proofs.«01_k».proof.Defs
public import proofs.«01_k».proof.Proof.FrameKernel
public import proofs.«01_k».proof.Proof.KernelVal
public import proofs.«01_k».proof.Proof.Labels
public import proofs.«01_k».proof.Proof.OutAt
public import proofs.«01_k».proof.Proof.RefTerm
public import proofs.«01_k».proof.Proof.RefTotal

/-! The kernel and the reference have one result. -/

@[expose] public section

noncomputable section

namespace Proof.K

open Idealize.ShloMosaic Idealize.SL.Sem

/-- The reference's result is the kernel's, of the same images and labels which are 0 or 1. -/
theorem ref_eq (m : (ℓ : Loc Cert.KernelIdeal.nD Cert.KernelIdeal.τ Cert.KernelIdeal.sig) → Buf (Elt Ideal) ℓ) (c : Dev Cert.KernelIdeal.nD)
    (hB : ∀ i : Cert.KernelIdeal.S16x512x512.Idx, ((m (lLoc c) i : BitVec 32)).toNat ≤ 1) (j : Cert.ReferenceIdeal.S_.Idx) :
    (Proof.R.refOut (m (pLoc c)) (m (lLoc c)) j : EReal) = (out (F := Ideal) m c j : EReal) := by
  refine (Proof.R.total_at (vF (m (pLoc c)) Cert.ReferenceIdeal.Gen.shapeCasts_S16x512x512_S4194304)
    (lF (m (lLoc c)) Cert.ReferenceIdeal.Gen.shapeCasts_S16x512x512_S4194304) (fun i => hB _) j).trans ?_
  exact ((out_at (F := Ideal) m c j).trans
    (fin_at c Cert.ReferenceIdeal.Gen.shapeCasts_S16x512x512_S4194304 m hB 0 0)).symm

/-- The labels the precondition allows. -/
theorem bits_of_pre (m : (ℓ : Loc Cert.KernelIdeal.nD Cert.KernelIdeal.τ Cert.KernelIdeal.sig) → Buf (Elt Ideal) ℓ)
    (h : Cert.Pre_KernelIdeal_labels_are_bits m) (c : Dev Cert.KernelIdeal.nD) (i : Cert.KernelIdeal.S16x512x512.Idx) :
    ((m (lLoc c) i : BitVec 32)).toNat ≤ 1 :=
  Proof.Labels.labels_le (F := Ideal) _ _ (h c) i

theorem algebraic : Cert.algebraic_KernelIdeal_ReferenceIdeal_pre_labels_are_bits := by
  intro m g m' g' hpre hm
  refine ⟨fun c => out (F := Ideal) m c, ?_, ?_⟩
  · exact (θ_run Cert.KernelIdeal.defs _ _).mono (fun _ h c => ⟨(h.1 c).2.2, (h.1 c).1, (h.1 c).2.1⟩) (run_main (F := Ideal) m g)
  · refine (θ_run Cert.ReferenceIdeal.defs _ _).mono (fun r h c => ⟨(h c).1.trans ?_, (h c).2.1, (h c).2.2⟩) (Proof.R.run_reference m' g')
    refine (congrArg₂ Proof.R.refOut (hm c).1 (hm c).2).trans ?_
    exact funext fun j => ref_eq m c (bits_of_pre m hpre c) j

end Proof.K

end
-- ==== Proof.lean ====
module

public import proofs.«01_k».proof.Defs
public import proofs.«01_k».proof.Proof.FrameKernel
public import proofs.«01_k».proof.Proof.FrameRef
public import proofs.«01_k».proof.Proof.Algebraic

/-! The claims, each from its own module. -/

@[expose] public section

noncomputable section

namespace Cert.Proof

theorem claim : Cert.Claim :=
  ⟨Cert.Kernel.Gen.facts, Cert.KernelIdeal.Gen.facts, Cert.ReferenceIdeal.Gen.facts, _root_.Proof.Labels.facts,
    _root_.Proof.K.frame_kernel, _root_.Proof.K.frame_kernelIdeal, fun m g _ => _root_.Proof.K.frame_kernelIdeal m g trivial,
    _root_.Proof.R.frame_reference, fun m g _ => _root_.Proof.R.frame_reference m g trivial, trivial, _root_.Proof.K.algebraic⟩

end Cert.Proof

end
